-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_in_range : Cert.Pre_experts_in_range.Facts] (m : (ℓ : Loc Cert.Kernel3.nD Cert.Kernel3.τ Cert.Kernel3.sig) → Buf (Elt Bits) ℓ) : Prop :=
  ∀ c : Dev Cert.Kernel3.nD,
    (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_experts_in_range : Cert.Pre_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_in_range [hPre_experts_in_range : Cert.Pre_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_cached [hPre_finite_cached : Cert.Pre_finite_cached.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_cached.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_cached [hPre_finite_cached : Cert.Pre_finite_cached.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_cached.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_experts_in_range : Cert.Pre_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_experts_in_range [hReference3Ideal : Cert.Reference3Ideal.Facts] [hPre_experts_in_range : Cert.Pre_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_cached [hKernel6Ideal : Cert.Kernel6Ideal.Facts] [hPre_finite_cached : Cert.Pre_finite_cached.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_cached m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_cached [hReference6Ideal : Cert.Reference6Ideal.Facts] [hPre_finite_cached : Cert.Pre_finite_cached.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_cached m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)) (v5 : (c : Dev Cert.Kernel2Ideal.nD) → Buf (Elt Ideal) ((c.tc : Thread Cert.Kernel2Ideal.nD Cert.Kernel2Ideal.τ).loc Cert.Kernel2Ideal.main_v12_5)) (v6 : (c : Dev Cert.Kernel2Ideal.nD) → Buf (Elt Ideal) ((c.tc : Thread Cert.Kernel2Ideal.nD Cert.Kernel2Ideal.τ).loc Cert.Kernel2Ideal.main_v12_6)) (v7 : (c : Dev Cert.Kernel2Ideal.nD) → Buf (Elt Ideal) ((c.tc : Thread Cert.Kernel2Ideal.nD Cert.Kernel2Ideal.τ).loc Cert.Kernel2Ideal.main_v12_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_v12_5) = v5 c
          ∧ r.2.mem ((c.tc : Thread Cert.Kernel2Ideal.nD Cert.Kernel2Ideal.τ).loc Cert.Kernel2Ideal.main_v12_6) = v6 c
          ∧ r.2.mem ((c.tc : Thread Cert.Kernel2Ideal.nD Cert.Kernel2Ideal.τ).loc Cert.Kernel2Ideal.main_v12_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v15) = v3 c
          ∧ r.2.mem ((c.tc : Thread Cert.Reference2Ideal.nD Cert.Reference2Ideal.τ).loc Cert.Reference2Ideal.main_v29) = v4 c
          ∧ r.2.mem ((c.tc : Thread Cert.Reference2Ideal.nD Cert.Reference2Ideal.τ).loc Cert.Reference2Ideal.main_v22) = v5 c
          ∧ r.2.mem ((c.tc : Thread Cert.Reference2Ideal.nD Cert.Reference2Ideal.τ).loc Cert.Reference2Ideal.main_v23) = v6 c
          ∧ r.2.mem ((c.tc : Thread Cert.Reference2Ideal.nD Cert.Reference2Ideal.τ).loc Cert.Reference2Ideal.main_v27) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v260) = v0 c
          ∧ r.2.mem ((c.tc : Thread Cert.Reference5Ideal.nD Cert.Reference5Ideal.τ).loc Cert.Reference5Ideal.main_v231) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite_cached [hKernel6Ideal : Cert.Kernel6Ideal.Facts] [hReference6Ideal : Cert.Reference6Ideal.Facts] [hPre_finite_cached : Cert.Pre_finite_cached.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_cached m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v95_0)) (v1 : (c : Dev Cert.Kernel7Ideal.nD) → Buf (Elt Ideal) ((c.tc : Thread Cert.Kernel7Ideal.nD Cert.Kernel7Ideal.τ).loc Cert.Kernel7Ideal.main_v95_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v95_0) = v0 c
          ∧ r.2.mem ((c.tc : Thread Cert.Kernel7Ideal.nD Cert.Kernel7Ideal.τ).loc Cert.Kernel7Ideal.main_v95_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v92) = v0 c
          ∧ r.2.mem ((c.tc : Thread Cert.Reference7Ideal.nD Cert.Reference7Ideal.τ).loc Cert.Reference7Ideal.main_v95) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_arguments : Cert.Pre_finite_arguments.Facts) (hPre_experts_in_range : Cert.Pre_experts_in_range.Facts) (hPre_finite_cached : Cert.Pre_finite_cached.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_in_range := hPre_experts_in_range)
    ∧ quiescent_Kernel3Ideal (hKernel3Ideal := hKernel3Ideal) (hPre_experts_in_range := hPre_experts_in_range)
    ∧ quiescent_Reference3Ideal (hReference3Ideal := hReference3Ideal)
    ∧ quiescent_Reference3Ideal_pre_experts_in_range (hReference3Ideal := hReference3Ideal) (hPre_experts_in_range := hPre_experts_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_cached (hKernel6Ideal := hKernel6Ideal) (hPre_finite_cached := hPre_finite_cached)
    ∧ quiescent_Reference6Ideal (hReference6Ideal := hReference6Ideal)
    ∧ quiescent_Reference6Ideal_pre_finite_cached (hReference6Ideal := hReference6Ideal) (hPre_finite_cached := hPre_finite_cached)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_in_range := hPre_experts_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_cached (hKernel6Ideal := hKernel6Ideal) (hReference6Ideal := hReference6Ideal) (hPre_finite_cached := hPre_finite_cached)
    ∧ preserves_Kernel7_Kernel7Ideal
    ∧ algebraic_Kernel7Ideal_Reference7Ideal (hKernel7Ideal := hKernel7Ideal) (hReference7Ideal := hReference7Ideal)
-- ==== Pre_experts_in_range.lean ====
abbrev S288 : Shape := ⟨1, ![288]⟩
abbrev S147456x1024 : Shape := ⟨2, ![147456, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : FVec F S147456x1024 .f32) (main_arg2 : FVec F S32x1024x512 .f32) (main_arg3 : FVec F S32x1024x512 .f32) (main_arg4 : FVec F S32x512x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_finite_arguments.lean ====
abbrev S32x2048x256 : Shape := ⟨3, ![32, 2048, 256]⟩
abbrev S4x257 : Shape := ⟨2, ![4, 257]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S4x257 : S_.BroadcastsInDim S4x257 (![] : Fin 0 → Fin S4x257.rank)
  reducesTo_S4x257_S_d0_1 : S4x257.ReducesTo [0, 1] S_

variable [Facts]

def fn {F : FTy → Type} [FloatOps F] (main_arg0 : FVec F S32x2048x256 .f32) (main_arg1 : FVec F S32x2048x256 .f32) (main_arg2 : FVec F S32x2048x256 .f32) (main_arg3 : FVec F S4x257 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x2048x256 .f32 := Host.absf main_arg1
  let main_cst_0 : FVec F S_ .f32 := constant S_ .f32 0x7F800000#32
  let main_v5 : FVec F S32x2048x256 .f32 := broadcastInDim S32x2048x256 ![] bcast_S_S32x2048x256 main_cst_0
  let main_v6 : IVec S32x2048x256 1 := cmpf .olt main_v4 main_v5
  let main_c_1 : IVec S_ 1 := constantI S_ 1 1#1
  let main_v7 : IVec S_ 1 := (fun x v => Host.reduce IntOp.andi x v reducesTo_S32x2048x256_S_d0_1_2 h_S_) main_v6 main_c_1
  let main_v8 : IVec S_ 1 := andi main_v3 main_v7
  let main_v9 : FVec F S4x257 .f32 := Host.absf main_arg3
  let main_cst_2 : FVec F S_ .f32 := constant S_ .f32 0x7F800000#32
  let main_v10 : FVec F S4x257 .f32 := broadcastInDim S4x257 ![] bcast_S_S4x257 main_cst_2
  let main_v11 : IVec S4x257 1 := cmpf .olt main_v9 main_v10
  let main_c_3 : IVec S_ 1 := constantI S_ 1 1#1
  let main_v12 : IVec S_ 1 := (fun x v => Host.reduce IntOp.andi x v reducesTo_S4x257_S_d0_1 h_S_) main_v11 main_c_3
  let main_v13 : IVec S_ 1 := andi main_v8 main_v12
  main_v13
-- ==== Pre_finite_cached.lean ====
abbrev S16x64x256 : Shape := ⟨3, ![16, 64, 256]⟩
abbrev S16x512x4x64 : Shape := ⟨4, ![16, 512, 4, 64]⟩
abbrev S4x257 : Shape := ⟨2, ![4, 257]⟩
abbrev S_ : Shape := ⟨0, ![]⟩

class Facts : Prop where
  bcast_S_S16x64x256 : S_.BroadcastsInDim S16x64x256 (![] : Fin 0 → Fin S16x64x256.rank)
  reducesTo_S16x64x256_S_d0_1_2 : S16x64x256.ReducesTo [0, 1, 2] S_
  h_S_ : 0 < S_.numel
  bcast_S_S16x512x4x64 : S_.BroadcastsInDim S16x512x4x64 (![] : Fin 0 → Fin S16x512x4x64.rank)
  reducesTo_S16x512x4x64_S_d0_1_2_3 : S16x512x4x64.ReducesTo [0, 1, 2, 3] S_
  bcast_S_S4x257 : S_.BroadcastsInDim S4x257 (![] : Fin 0 → Fin S4x257.rank)
  reducesTo_S4x257_S_d0_1 : S4x257.ReducesTo [0, 1] S_

variable [Facts]

def fn_part1 {F : FTy → Type} [FloatOps F] (main_v13 : IVec S_ 1) (main_v16 : IVec S4x257 1) : IVec S_ 1 :=
  let main_c_5 : IVec S_ 1 := constantI S_ 1 1#1
  let main_v17 : IVec S_ 1 := (fun x v => Host.reduce IntOp.andi x v reducesTo_S4x257_S_d0_1 h_S_) main_v16 main_c_5
  let main_v18 : IVec S_ 1 := andi main_v13 main_v17
  main_v18

def fn {F : FTy → Type} [FloatOps F] (main_arg0 : FVec F S16x64x256 .f32) (main_arg1 : FVec F S16x64x256 .f32) (main_arg2 : FVec F S16x64x256 .f32) (main_arg3 : FVec F S16x512x4x64 .f32) (main_arg4 : FVec F S16x512x4x64 .f32) (main_arg5 : FVec F S4x257 .f32) : IVec S_ 1 :=
  let main_v0 : FVec F S16x64x256 .f32 := Host.absf main_arg0
  let main_cst : FVec F S_ .f32 := constant S_ .f32 0x7F800000#32
  let main_v1 : FVec F S16x64x256 .f32 := broadcastInDim S16x64x256 ![] bcast_S_S16x64x256 main_cst
  let main_v2 : IVec S16x64x256 1 := cmpf .olt main_v0 main_v1
  let main_c : IVec S_ 1 := constantI S_ 1 1#1
  let main_v3 : IVec S_ 1 := (fun x v => Host.reduce IntOp.andi x v reducesTo_S16x64x256_S_d0_1_2 h_S_) main_v2 main_c
  let main_v4 : FVec F S16x64x256 .f32 := Host.absf main_arg1
  let main_cst_0 : FVec F S_ .f32 := constant S_ .f32 0x7F800000#32
  let main_v5 : FVec F S16x64x256 .f32 := broadcastInDim S16x64x256 ![] bcast_S_S16x64x256 main_cst_0
  let main_v6 : IVec S16x64x256 1 := cmpf .olt main_v4 main_v5
  let main_c_1 : IVec S_ 1 := constantI S_ 1 1#1
  let main_v7 : IVec S_ 1 := (fun x v => Host.reduce IntOp.andi x v reducesTo_S16x64x256_S_d0_1_2 h_S_) main_v6 main_c_1
  let main_v8 : IVec S_ 1 := andi main_v3 main_v7
  let main_v9 : FVec F S16x512x4x64 .f32 := Host.absf main_arg3
  let main_cst_2 : FVec F S_ .f32 := constant S_ .f32 0x7F800000#32
  let main_v10 : FVec F S16x512x4x64 .f32 := broadcastInDim S16x512x4x64 ![] bcast_S_S16x512x4x64 main_cst_2
  let main_v11 : IVec S16x512x4x64 1 := cmpf .olt main_v9 main_v10
  let main_c_3 : IVec S_ 1 := constantI S_ 1 1#1
  let main_v12 : IVec S_ 1 := (fun x v => Host.reduce IntOp.andi x v reducesTo_S16x512x4x64_S_d0_1_2_3 h_S_) main_v11 main_c_3
  let main_v13 : IVec S_ 1 := andi main_v8 main_v12
  let main_v14 : FVec F S4x257 .f32 := Host.absf main_arg5
  let main_cst_4 : FVec F S_ .f32 := constant S_ .f32 0x7F800000#32
  let main_v15 : FVec F S4x257 .f32 := broadcastInDim S4x257 ![] bcast_S_S4x257 main_cst_4
  let main_v16 : IVec S4x257 1 := cmpf .olt main_v14 main_v15
  fn_part1 (F := F) main_v13 main_v16
-- ==== Kernel.lean ====
abbrev S32x2048x256 : Shape := ⟨3, ![32, 2048, 256]⟩
abbrev S4x257 : Shape := ⟨2, ![4, 257]⟩
abbrev S_ : Shape := ⟨0, ![]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S4x64x768 : Shape := ⟨3, ![4, 64, 768]⟩
abbrev S4x256x768 : Shape := ⟨3, ![4, 256, 768]⟩
abbrev S1x256x256 : Shape := ⟨3, ![1, 256, 256]⟩
abbrev S1x2048x256 : Shape := ⟨3, ![1, 2048, 256]⟩
abbrev S2560x256 : Shape := ⟨2, ![2560, 256]⟩
abbrev S512x256 : Shape := ⟨2, ![512, 256]⟩
abbrev S2048x256 : Shape := ⟨2, ![2048, 256]⟩
abbrev S768x256 : Shape := ⟨2, ![768, 256]⟩
abbrev S256x256 : Shape := ⟨2, ![256, 256]⟩
abbrev S256x768 : Shape := ⟨2, ![256, 768]⟩
abbrev S256x64 : Shape := ⟨2, ![256, 64]⟩
abbrev S768x64 : Shape := ⟨2, ![768, 64]⟩
abbrev S1x256x768 : Shape := ⟨3, ![1, 256, 768]⟩
abbrev S256 : Shape := ⟨1, ![256]⟩
abbrev S256x1 : Shape := ⟨2, ![256, 1]⟩

abbrev nBuf : Space → Nat
  | .hbm => 51
  | .vmem => 11
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048x256, .f32⟩
  | .hbm, ⟨3, _⟩ => ⟨S4x257, .f32⟩
  | .hbm, ⟨4, _⟩ => ⟨S_, .f32⟩
  | .hbm, ⟨5, _⟩ => ⟨S32x2048x256, .f32⟩
  | .hbm, ⟨6, _⟩ => ⟨S32x2048x256, .f32⟩
  | .hbm, ⟨7, _⟩ => ⟨S64, .i32⟩
  | .hbm, ⟨8, _⟩ => ⟨S64x1, .i32⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S576, .i32⟩
  | .hbm, ⟨13, _⟩ => ⟨S1x576, .i32⟩
  | .hbm, ⟨14, _⟩ => ⟨S64x576, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i1⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S64x576, .i32⟩
  | .hbm, ⟨35, _⟩ => ⟨S64x576x1, .i32⟩
  | .hbm, ⟨36, _⟩ => ⟨S4x64x576, .f32⟩
  | .hbm, ⟨37, _⟩ => ⟨S_, .f32⟩
  | .hbm, ⟨38, _⟩ => ⟨S_, .f32⟩
  | .hbm, ⟨39, _⟩ => ⟨S4x64x768, .f32⟩
  | .hbm, ⟨40, _⟩ => ⟨S_, .f32⟩
  | .hbm, ⟨41, _⟩ => ⟨S_, .f32⟩
  | .hbm, ⟨42, _⟩ => ⟨S4x64x768, .f32⟩
  | .hbm, ⟨43, _⟩ => ⟨S_, .f32⟩
  | .hbm, ⟨44, _⟩ => ⟨S_, .f32⟩
  | .hbm, ⟨45, _⟩ => ⟨S4x64x768, .f32⟩
  | .hbm, ⟨46, _⟩ => ⟨S_, .f32⟩
  | .hbm, ⟨47, _⟩ => ⟨S_, .f32⟩
  | .hbm, ⟨48, _⟩ => ⟨S4x64x768, .f32⟩
  | .hbm, ⟨49, _⟩ => ⟨S4x256x768, .f32⟩
  | .hbm, ⟨50, _⟩ => ⟨S32x2048x256, .f32⟩
  | .local _ .vmem, ⟨0, _⟩ => ⟨S1x256x256, .f32⟩
  | .local _ .vmem, ⟨1, _⟩ => ⟨S1x256x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S4x256x768, .f32⟩
  | .local _ .vmem, ⟨7, _⟩ => ⟨S1x256x256, .f32⟩
  | .local _ .vmem, ⟨8, _⟩ => ⟨S1x256x256, .f32⟩
  | .local _ .vmem, ⟨9, _⟩ => ⟨S2560x256, .bf16⟩
  | .local _ .vmem, ⟨10, _⟩ => ⟨S2560x256, .bf16⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_call1_v0 : Ref sig .tc := ⟨.hbm, 38, rfl⟩
abbrev main_v21 : Ref sig .tc := ⟨.hbm, 39, rfl⟩
abbrev main_cst_6 : Ref sig .tc := ⟨.hbm, 40, rfl⟩
abbrev main_call2_v0 : Ref sig .tc := ⟨.hbm, 41, rfl⟩
abbrev main_v22 : Ref sig .tc := ⟨.hbm, 42, rfl⟩
abbrev main_cst_7 : Ref sig .tc := ⟨.hbm, 43, rfl⟩
abbrev main_call3_v0 : Ref sig .tc := ⟨.hbm, 44, rfl⟩
abbrev main_v23 : Ref sig .tc := ⟨.hbm, 45, rfl⟩
abbrev main_cst_8 : Ref sig .tc := ⟨.hbm, 46, rfl⟩
abbrev main_call4_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x2048x256 : Shape := ⟨3, ![32, 2048, 256]⟩
abbrev S4x257 : Shape := ⟨2, ![4, 257]⟩
abbrev S32x2048x4x64 : Shape := ⟨4, ![32, 2048, 4, 64]⟩
abbrev S_ : Shape := ⟨0, ![]⟩
abbrev S32x512x4x64 : Shape := ⟨4, ![32, 512, 4, 64]⟩
abbrev S32x2560x4x64 : Shape := ⟨4, ![32, 2560, 4, 64]⟩
abbrev S32x40x64x4x64 : Shape := ⟨5, ![32, 40, 64, 4, 64]⟩
abbrev S32x32x64x4x64 : Shape := ⟨5, ![32, 32, 64, 4, 64]⟩
abbrev S32x32x576x4x64 : Shape := ⟨5, ![32, 32, 576, 4, 64]⟩
abbrev S32x32x4x64x576 : Shape := ⟨5, ![32, 32, 4, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S1x1x4x64x576 : Shape := ⟨5, ![1, 1, 4, 64, 576]⟩
abbrev S32 : Shape := ⟨1, ![32]⟩
abbrev S32x1 : Shape := ⟨2, ![32, 1]⟩
abbrev S32x576 : Shape := ⟨2, ![32, 576]⟩
abbrev S1x32x1x1x576 : Shape := ⟨5, ![1, 32, 1, 1, 576]⟩
abbrev S32x32x4x64 : Shape := ⟨4, ![32, 32, 4, 64]⟩
abbrev S32x32x4x64x1 : Shape := ⟨5, ![32, 32, 4, 64, 1]⟩
abbrev S32x32x4x64x64 : Shape := ⟨5, ![32, 32, 4, 64, 64]⟩

abbrev nBuf : Space → Nat
  | .hbm => 125
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048x256, .f32⟩
  | .hbm, ⟨3, _⟩ => ⟨S4x257, .f32⟩
  | .hbm, ⟨4, _⟩ => ⟨S32x2048x4x64, .f32⟩
  | .hbm, ⟨5, _⟩ => ⟨S32x2048x4x64, .f32⟩
  | .hbm, ⟨6, _⟩ => ⟨S32x2048x4x64, .f32⟩
  | .hbm, ⟨7, _⟩ => ⟨S_, .f32⟩
  | .hbm, ⟨8, _⟩ => ⟨S32x512x4x64, .f32⟩
  | .hbm, ⟨9, _⟩ => ⟨S32x2560x4x64, .f32⟩
  | .hbm, ⟨10, _⟩ => ⟨S32x40x64x4x64, .f32⟩
  | .hbm, ⟨11, _⟩ => ⟨S32x32x64x4x64, .f32⟩
  | .hbm, ⟨12, _⟩ => ⟨S32x32x64x4x64, .f32⟩
  | .hbm, ⟨13, _⟩ => ⟨S32x32x64x4x64, .f32⟩
  | .hbm, ⟨14, _⟩ => ⟨S32x32x64x4x64, .f32⟩
  | .hbm, ⟨15, _⟩ => ⟨S32x32x64x4x64, .f32⟩
  | .hbm, ⟨16, _⟩ => ⟨S32x32x64x4x64, .f32⟩
  | .hbm, ⟨17, _⟩ => ⟨S32x32x64x4x64, .f32⟩
  | .hbm, ⟨18, _⟩ => ⟨S32x32x64x4x64, .f32⟩
  | .hbm, ⟨19, _⟩ => ⟨S32x32x64x4x64, .f32⟩
  | .hbm, ⟨20, _⟩ => ⟨S32x32x576x4x64, .f32⟩
  | .hbm, ⟨21, _⟩ => ⟨S32x2560x4x64, .f32⟩
  | .hbm, ⟨22, _⟩ => ⟨S32x40x64x4x64, .f32⟩
  | .hbm, ⟨23, _⟩ => ⟨S32x32x64x4x64, .f32⟩
  | .hbm, ⟨24, _⟩ => ⟨S32x32x64x4x64, .f32⟩
  | .hbm, ⟨25, _⟩ => ⟨S32x32x64x4x64, .f32⟩
  | .hbm, ⟨26, _⟩ => ⟨S32x32x64x4x64, .f32⟩
  | .hbm, ⟨27, _⟩ => ⟨S32x32x64x4x64, .f32⟩
  | .hbm, ⟨28, _⟩ => ⟨S32x32x64x4x64, .f32⟩
  | .hbm, ⟨29, _⟩ => ⟨S32x32x64x4x64, .f32⟩
  | .hbm, ⟨30, _⟩ => ⟨S32x32x64x4x64, .f32⟩
  | .hbm, ⟨31, _⟩ => ⟨S32x32x64x4x64, .f32⟩
  | .hbm, ⟨32, _⟩ => ⟨S32x32x576x4x64, .f32⟩
  | .hbm, ⟨33, _⟩ => ⟨S32x32x64x4x64, .f32⟩
  | .hbm, ⟨34, _⟩ => ⟨S32x32x4x64x576, .f32⟩
  | .hbm, ⟨35, _⟩ => ⟨S_, .f32⟩
  | .hbm, ⟨36, _⟩ => ⟨S32x32x4x64x576, .f32⟩
  | .hbm, ⟨37, _⟩ => ⟨S32x32x4x64x576, .f32⟩
  | .hbm, ⟨38, _⟩ => ⟨S64, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S576, .i32⟩
  | .hbm, ⟨44, _⟩ => ⟨S1x576, .i32⟩
  | .hbm, ⟨45, _⟩ => ⟨S64x576, .i32⟩
  | .hbm, ⟨46, _⟩ => ⟨S64x576, .i32⟩
  | .hbm, ⟨47, _⟩ => ⟨S64x576, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S64x576, .i32⟩
  | .hbm, ⟨52, _⟩ => ⟨S64x576, .i32⟩
  | .hbm, ⟨53, _⟩ => ⟨S_, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i1⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S64x576, .i32⟩
  | .hbm, ⟨66, _⟩ => ⟨S64x576x1, .i32⟩
  | .hbm, ⟨67, _⟩ => ⟨S4x64x576, .f32⟩
  | .hbm, ⟨68, _⟩ => ⟨S1x1x4x64x576, .f32⟩
  | .hbm, ⟨69, _⟩ => ⟨S32x32x4x64x576, .f32⟩
  | .hbm, ⟨70, _⟩ => ⟨S32x32x4x64x576, .f32⟩
  | .hbm, ⟨71, _⟩ => ⟨S32, .i32⟩
  | .hbm, ⟨72, _⟩ => ⟨S32x1, .i32⟩
  | .hbm, ⟨73, _⟩ => ⟨S_, .i32⟩
  | .hbm, ⟨74, _⟩ => ⟨S32x1, .i32⟩
  | .hbm, ⟨75, _⟩ => ⟨S32x1, .i32⟩
  | .hbm, ⟨76, _⟩ => ⟨S576, .i32⟩
  | .hbm, ⟨77, _⟩ => ⟨S1x576, .i32⟩
  | .hbm, ⟨78, _⟩ => ⟨S_, .i32⟩
  | .hbm, ⟨79, _⟩ => ⟨S_, .i32⟩
  | .hbm, ⟨80, _⟩ => ⟨S1x576, .i32⟩
  | .hbm, ⟨81, _⟩ => ⟨S1x576, .i32⟩
  | .hbm, ⟨82, _⟩ => ⟨S1x576, .i32⟩
  | .hbm, ⟨83, _⟩ => ⟨S_, .i32⟩
  | .hbm, ⟨84, _⟩ => ⟨S1x576, .i32⟩
  | .hbm, ⟨85, _⟩ => ⟨S1x576, .i1⟩
  | .hbm, ⟨86, _⟩ => ⟨S1x576, .i32⟩
  | .hbm, ⟨87, _⟩ => ⟨S1x576, .i32⟩
  | .hbm, ⟨88, _⟩ => ⟨S_, .i32⟩
  | .hbm, ⟨89, _⟩ => ⟨S1x576, .i32⟩
  | .hbm, ⟨90, _⟩ => ⟨S1x576, .i1⟩
  | .hbm, ⟨91, _⟩ => ⟨S1x576, .i1⟩
  | .hbm, ⟨92, _⟩ => ⟨S_, .i32⟩
  | .hbm, ⟨93, _⟩ => ⟨S1x576, .i32⟩
  | .hbm, ⟨94, _⟩ => ⟨S1x576, .i32⟩
  | .hbm, ⟨95, _⟩ => ⟨S1x576, .i32⟩
  | .hbm, ⟨96, _⟩ => ⟨S32x576, .i32⟩
  | .hbm, ⟨97, _⟩ => ⟨S32x576, .i32⟩
  | .hbm, ⟨98, _⟩ => ⟨S32x576, .i32⟩
  | .hbm, ⟨99, _⟩ => ⟨S_, .i32⟩
  | .hbm, ⟨100, _⟩ => ⟨S32x576, .i32⟩
  | .hbm, ⟨101, _⟩ => ⟨S32x576, .i1⟩
  | .hbm, ⟨102, _⟩ => ⟨S1x32x1x1x576, .i1⟩
  | .hbm, ⟨103, _⟩ => ⟨S_, .f32⟩
  | .hbm, ⟨104, _⟩ => ⟨S_, .f32⟩
  | .hbm, ⟨105, _⟩ => ⟨S32x32x4x64x576, .i1⟩
  | .hbm, ⟨106, _⟩ => ⟨S32x32x4x64x576, .f32⟩
  | .hbm, ⟨107, _⟩ => ⟨S32x32x4x64x576, .f32⟩
  | .hbm, ⟨108, _⟩ => ⟨S_, .f32⟩
  | .hbm, ⟨109, _⟩ => ⟨S32x32x4x64, .f32⟩
  | .hbm, ⟨110, _⟩ => ⟨S_, .f32⟩
  | .hbm, ⟨111, _⟩ => ⟨S32x32x4x64, .f32⟩
  | .hbm, ⟨112, _⟩ => ⟨S32x32x4x64, .f32⟩
  | .hbm, ⟨113, _⟩ => ⟨S32x32x4x64x1, .f32⟩
  | .hbm, ⟨114, _⟩ => ⟨S32x32x4x64x576, .f32⟩
  | .hbm, ⟨115, _⟩ => ⟨S32x32x4x64x576, .f32⟩
  | .hbm, ⟨116, _⟩ => ⟨S32x32x4x64x576, .f32⟩
  | .hbm, ⟨117, _⟩ => ⟨S_, .f32⟩
  | .hbm, ⟨118, _⟩ => ⟨S32x32x4x64, .f32⟩
  | .hbm, ⟨119, _⟩ => ⟨S32x32x4x64x1, .f32⟩
  | .hbm, ⟨120, _⟩ => ⟨S32x32x4x64x576, .f32⟩
  | .hbm, ⟨121, _⟩ => ⟨S32x32x4x64x576, .f32⟩
  | .hbm, ⟨122, _⟩ => ⟨S32x32x4x64x64, .f32⟩
  | .hbm, ⟨123, _⟩ => ⟨S32x32x64x4x64, .f32⟩
  | .hbm, ⟨124, _⟩ => ⟨S32x2048x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_1 : Ref sig .tc := ⟨.hbm, 48, rfl⟩
abbrev main_c_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v41 : Ref sig .tc := ⟨.hbm, 55, rfl⟩
abbrev main_c_3 : Ref sig .tc := ⟨.hbm, 56, rfl⟩
abbrev main_v42 : Ref sig .tc := ⟨.hbm, 57, rfl⟩
abbrev main_v43 : Ref sig .tc := ⟨.hbm, 58, rfl⟩
abbrev main_c_4 : Ref sig .tc := ⟨.hbm, 59, rfl⟩
abbrev main_v44 : Ref sig .tc := ⟨.hbm, 60, rfl⟩
abbrev main_v45 : Ref sig .tc := ⟨.hbm, 61, rfl⟩
abbrev main_c_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_7 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_c : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_0 : Ref sig .tc := ⟨.hbm, 92, rfl⟩
abbrev main_call1_v12 : Ref sig .tc := ⟨.hbm, 93, rfl⟩
abbrev main_call1_v13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_8 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_9 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v67 : Ref sig .tc := ⟨.hbm, 107, rfl⟩
abbrev main_cst_10 : Ref sig .tc := ⟨.hbm, 108, rfl⟩
abbrev main_v68 : Ref sig .tc := ⟨.hbm, 109, rfl⟩
abbrev main_cst_11 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_12 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x2308 : Shape := ⟨2, ![1024, 2308]⟩
abbrev S1024x256 : Shape := ⟨2, ![1024, 256]⟩
abbrev S1024x512 : Shape := ⟨2, ![1024, 512]⟩
abbrev S1024x4 : Shape := ⟨2, ![1024, 4]⟩
abbrev S_ : Shape := ⟨0, ![]⟩
abbrev S1024x128 : Shape := ⟨2, ![1024, 128]⟩
abbrev S1024x2432 : Shape := ⟨2, ![1024, 2432]⟩
abbrev S1x1024 : Shape := ⟨2, ![1, 1024]⟩
abbrev S32x2048x256 : Shape := ⟨3, ![32, 2048, 256]⟩
abbrev S32x2048x512 : Shape := ⟨3, ![32, 2048, 512]⟩
abbrev S32x2048x128 : Shape := ⟨3, ![32, 2048, 128]⟩
abbrev S4x2048x2048 : Shape := ⟨3, ![4, 2048, 2048]⟩
abbrev S1x512x1024 : Shape := ⟨3, ![1, 512, 1024]⟩
abbrev S1x512x256 : Shape := ⟨3, ![1, 512, 256]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S512x128 : Shape := ⟨2, ![512, 128]⟩

abbrev nBuf : Space → Nat
  | .hbm => 25
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2308, .f32⟩
  | .hbm, ⟨3, _⟩ => ⟨S1024x256, .f32⟩
  | .hbm, ⟨4, _⟩ => ⟨S1024x512, .f32⟩
  | .hbm, ⟨5, _⟩ => ⟨S1024x4, .f32⟩
  | .hbm, ⟨6, _⟩ => ⟨S1024x512, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x2432, .f32⟩
  | .hbm, ⟨15, _⟩ => ⟨S1024x2432, .bf16⟩
  | .hbm, ⟨16, _⟩ => ⟨S1x1024, .f32⟩
  | .hbm, ⟨17, _⟩ => ⟨S32x2048x256, .f32⟩
  | .hbm, ⟨18, _⟩ => ⟨S32x2048x512, .f32⟩
  | .hbm, ⟨19, _⟩ => ⟨S32x2048x128, .f32⟩
  | .hbm, ⟨20, _⟩ => ⟨S32x2048x512, .f32⟩
  | .hbm, ⟨21, _⟩ => ⟨S32x2048x256, .f32⟩
  | .hbm, ⟨22, _⟩ => ⟨S32x2048x256, .f32⟩
  | .hbm, ⟨23, _⟩ => ⟨S32x2048x256, .f32⟩
  | .hbm, ⟨24, _⟩ => ⟨S4x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2432, .bf16⟩
  | .local _ .vmem, ⟨4, _⟩ => ⟨S1x512x256, .f32⟩
  | .local _ .vmem, ⟨5, _⟩ => ⟨S1x512x256, .f32⟩
  | .local _ .vmem, ⟨6, _⟩ => ⟨S1x512x512, .f32⟩
  | .local _ .vmem, ⟨7, _⟩ => ⟨S1x512x512, .f32⟩
  | .local _ .vmem, ⟨8, _⟩ => ⟨S1x512x128, .f32⟩
  | .local _ .vmem, ⟨9, _⟩ => ⟨S1x512x128, .f32⟩
  | .local _ .vmem, ⟨10, _⟩ => ⟨S1x512x512, .f32⟩
  | .local _ .vmem, ⟨11, _⟩ => ⟨S1x512x512, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S32x2048x1024 : Shape := ⟨3, ![32, 2048, 1024]⟩
abbrev S1024 : Shape := ⟨1, ![1024]⟩
abbrev S1024x2308 : Shape := ⟨2, ![1024, 2308]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2308 : Shape := ⟨3, ![32, 2048, 2308]⟩
abbrev S32x2048x772 : Shape := ⟨3, ![32, 2048, 772]⟩
abbrev S32x2048x512 : Shape := ⟨3, ![32, 2048, 512]⟩
abbrev S32x2048x768 : Shape := ⟨3, ![32, 2048, 768]⟩
abbrev S32x2048x256 : Shape := ⟨3, ![32, 2048, 256]⟩
abbrev S32x2048x4 : Shape := ⟨3, ![32, 2048, 4]⟩
abbrev S32x2048x128 : Shape := ⟨3, ![32, 2048, 128]⟩
abbrev S4x8x2048x256 : Shape := ⟨4, ![4, 8, 2048, 256]⟩
abbrev S4x2048x8x256 : Shape := ⟨4, ![4, 2048, 8, 256]⟩
abbrev S4x2048x2048 : Shape := ⟨3, ![4, 2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2308, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x2308, .f32⟩
  | .hbm, ⟨20, _⟩ => ⟨S32x2048x772, .f32⟩
  | .hbm, ⟨21, _⟩ => ⟨S32x2048x512, .f32⟩
  | .hbm, ⟨22, _⟩ => ⟨S32x2048x768, .f32⟩
  | .hbm, ⟨23, _⟩ => ⟨S32x2048x256, .f32⟩
  | .hbm, ⟨24, _⟩ => ⟨S32x2048x256, .f32⟩
  | .hbm, ⟨25, _⟩ => ⟨S32x2048x512, .f32⟩
  | .hbm, ⟨26, _⟩ => ⟨S32x2048x4, .f32⟩
  | .hbm, ⟨27, _⟩ => ⟨S32x2048x256, .f32⟩
  | .hbm, ⟨28, _⟩ => ⟨S32x2048x256, .f32⟩
  | .hbm, ⟨29, _⟩ => ⟨S32x2048x256, .f32⟩
  | .hbm, ⟨30, _⟩ => ⟨S_, .i32⟩
  | .hbm, ⟨31, _⟩ => ⟨S_, .f32⟩
  | .hbm, ⟨32, _⟩ => ⟨S32x2048x128, .f32⟩
  | .hbm, ⟨33, _⟩ => ⟨S4x8x2048x256, .f32⟩
  | .hbm, ⟨34, _⟩ => ⟨S4x2048x8x256, .f32⟩
  | .hbm, ⟨35, _⟩ => ⟨S4x2048x2048, .f32⟩
  | .hbm, ⟨36, _⟩ => ⟨S_, .f32⟩
  | .hbm, ⟨37, _⟩ => ⟨S32x2048x256, .f32⟩
  | .hbm, ⟨38, _⟩ => ⟨S32x2048x256, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel3.lean ====
abbrev S288 : Shape := ⟨1, ![288]⟩
abbrev S147456x1024 : Shape := ⟨2, ![147456, 1024]⟩
abbrev S32x1024x512 : Shape := ⟨3, ![32, 1024, 512]⟩
abbrev S32x512x1024 : Shape := ⟨3, ![32, 512, 1024]⟩
abbrev S512x1024 : Shape := ⟨2, ![512, 1024]⟩
abbrev S1x1024x512 : Shape := ⟨3, ![1, 1024, 512]⟩
abbrev S1 : Shape := ⟨1, ![1]⟩
abbrev S1x512x1024 : Shape := ⟨3, ![1, 512, 1024]⟩
abbrev S512x512 : Shape := ⟨2, ![512, 512]⟩
abbrev S1x512x512 : Shape := ⟨3, ![1, 512, 512]⟩

abbrev nBuf : Space → Nat
  | .hbm => 9
  | .vmem => 10
  | .smem => 1
  | _ => 0

abbrev bufTy : (tb : Table) → Fin (tcTables nBuf tb) → BufTy
  | .hbm, ⟨0, _⟩ => ⟨S147456x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S147456x1024, .bf16⟩
  | .hbm, ⟨5, _⟩ => ⟨S32x1024x512, .bf16⟩
  | .hbm, ⟨6, _⟩ => ⟨S32x1024x512, .bf16⟩
  | .hbm, ⟨7, _⟩ => ⟨S32x512x1024, .bf16⟩
  | .hbm, ⟨8, _⟩ => ⟨S147456x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .smem, ⟨0, _⟩ => ⟨S288, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S288 : Shape := ⟨1, ![288]⟩
abbrev S147456x1024 : Shape := ⟨2, ![147456, 1024]⟩
abbrev S32x1024x512 : Shape := ⟨3, ![32, 1024, 512]⟩
abbrev S32x512x1024 : Shape := ⟨3, ![32, 512, 1024]⟩
abbrev S288x512x1024 : Shape := ⟨3, ![288, 512, 1024]⟩
abbrev S_ : Shape := ⟨0, ![]⟩
abbrev S288x1 : Shape := ⟨2, ![288, 1]⟩
abbrev S288x1024x512 : Shape := ⟨3, ![288, 1024, 512]⟩
abbrev S288x512x512 : Shape := ⟨3, ![288, 512, 512]⟩

abbrev nBuf : Space → Nat
  | .hbm => 47
  | .vmem => 0
  | .smem => 0
  | _ => 0

abbrev bufTy : (tb : Table) → Fin (tcTables nBuf tb) → BufTy
  | .hbm, ⟨0, _⟩ => ⟨S288, .i32⟩
  | .hbm, ⟨1, _⟩ => ⟨S147456x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S288x512x1024, .f32⟩
  | .hbm, ⟨6, _⟩ => ⟨S_, .i32⟩
  | .hbm, ⟨7, _⟩ => ⟨S288, .i32⟩
  | .hbm, ⟨8, _⟩ => ⟨S288, .i1⟩
  | .hbm, ⟨9, _⟩ => ⟨S_, .i32⟩
  | .hbm, ⟨10, _⟩ => ⟨S288, .i32⟩
  | .hbm, ⟨11, _⟩ => ⟨S288, .i32⟩
  | .hbm, ⟨12, _⟩ => ⟨S288, .i32⟩
  | .hbm, ⟨13, _⟩ => ⟨S288x1, .i32⟩
  | .hbm, ⟨14, _⟩ => ⟨S288x1024x512, .f32⟩
  | .hbm, ⟨15, _⟩ => ⟨S288x512x512, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x1024x512, .f32⟩
  | .hbm, ⟨25, _⟩ => ⟨S288x512x512, .f32⟩
  | .hbm, ⟨26, _⟩ => ⟨S288x512x512, .f32⟩
  | .hbm, ⟨27, _⟩ => ⟨S288x512x512, .f32⟩
  | .hbm, ⟨28, _⟩ => ⟨S_, .f32⟩
  | .hbm, ⟨29, _⟩ => ⟨S288x512x512, .f32⟩
  | .hbm, ⟨30, _⟩ => ⟨S288x512x512, .f32⟩
  | .hbm, ⟨31, _⟩ => ⟨S_, .f32⟩
  | .hbm, ⟨32, _⟩ => ⟨S288x512x512, .f32⟩
  | .hbm, ⟨33, _⟩ => ⟨S288x512x512, .f32⟩
  | .hbm, ⟨34, _⟩ => ⟨S288x512x512, .f32⟩
  | .hbm, ⟨35, _⟩ => ⟨S288x512x512, .f32⟩
  | .hbm, ⟨36, _⟩ => ⟨S_, .i32⟩
  | .hbm, ⟨37, _⟩ => ⟨S288, .i32⟩
  | .hbm, ⟨38, _⟩ => ⟨S288, .i1⟩
  | .hbm, ⟨39, _⟩ => ⟨S_, .i32⟩
  | .hbm, ⟨40, _⟩ => ⟨S288, .i32⟩
  | .hbm, ⟨41, _⟩ => ⟨S288, .i32⟩
  | .hbm, ⟨42, _⟩ => ⟨S288, .i32⟩
  | .hbm, ⟨43, _⟩ => ⟨S288x1, .i32⟩
  | .hbm, ⟨44, _⟩ => ⟨S288x512x1024, .f32⟩
  | .hbm, ⟨45, _⟩ => ⟨S288x512x1024, .f32⟩
  | .hbm, ⟨46, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x2048x256 : Shape := ⟨3, ![32, 2048, 256]⟩
abbrev S1024x1024 : Shape := ⟨2, ![1024, 1024]⟩
abbrev S1024 : Shape := ⟨1, ![1024]⟩
abbrev S1024x4 : Shape := ⟨2, ![1024, 4]⟩
abbrev S4x1024x8 : Shape := ⟨3, ![4, 1024, 8]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S512x512 : Shape := ⟨2, ![512, 512]⟩
abbrev S4x8x2048x256 : Shape := ⟨4, ![4, 8, 2048, 256]⟩
abbrev S4x2048x8x256 : Shape := ⟨4, ![4, 2048, 8, 256]⟩
abbrev S4x2048x2048 : Shape := ⟨3, ![4, 2048, 2048]⟩
abbrev S1x1024 : Shape := ⟨2, ![1, 1024]⟩
abbrev S32x2048x128 : Shape := ⟨3, ![32, 2048, 128]⟩
abbrev S8x128 : Shape := ⟨2, ![8, 128]⟩
abbrev S1x512x1024 : Shape := ⟨3, ![1, 512, 1024]⟩
abbrev S1x512x256 : Shape := ⟨3, ![1, 512, 256]⟩
abbrev S1x512x128 : Shape := ⟨3, ![1, 512, 128]⟩
abbrev S1x128 : Shape := ⟨2, ![1, 128]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S128 : Shape := ⟨1, ![128]⟩

abbrev nBuf : Space → Nat
  | .hbm => 36
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x256, .f32⟩
  | .hbm, ⟨3, _⟩ => ⟨S32x2048x256, .f32⟩
  | .hbm, ⟨4, _⟩ => ⟨S32x2048x256, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4x1024x8, .f32⟩
  | .hbm, ⟨9, _⟩ => ⟨S1024x4x8, .f32⟩
  | .hbm, ⟨10, _⟩ => ⟨S1024x32, .f32⟩
  | .hbm, ⟨11, _⟩ => ⟨S1024x36, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S_, .bf16⟩
  | .hbm, ⟨17, _⟩ => ⟨S512x512, .bf16⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S_, .bf16⟩
  | .hbm, ⟨25, _⟩ => ⟨S512x512, .bf16⟩
  | .hbm, ⟨26, _⟩ => ⟨S512x512, .bf16⟩
  | .hbm, ⟨27, _⟩ => ⟨S4x8x2048x256, .f32⟩
  | .hbm, ⟨28, _⟩ => ⟨S4x2048x8x256, .f32⟩
  | .hbm, ⟨29, _⟩ => ⟨S4x2048x2048, .f32⟩
  | .hbm, ⟨30, _⟩ => ⟨S1024x1024, .bf16⟩
  | .hbm, ⟨31, _⟩ => ⟨S1x1024, .f32⟩
  | .hbm, ⟨32, _⟩ => ⟨S32x2048x1024, .f32⟩
  | .hbm, ⟨33, _⟩ => ⟨S32x2048x1024, .bf16⟩
  | .hbm, ⟨34, _⟩ => ⟨S32x2048x128, .f32⟩
  | .hbm, ⟨35, _⟩ => ⟨S8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S512x512, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x128, .f32⟩
  | .local _ .vmem, ⟨19, _⟩ => ⟨S1x512x128, .f32⟩
  | .local _ .vmem, ⟨20, _⟩ => ⟨S8x128, .f32⟩
  | .local _ .vmem, ⟨21, _⟩ => ⟨S1x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_v12_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference4Ideal.lean ====
abbrev S32x2048x1024 : Shape := ⟨3, ![32, 2048, 1024]⟩
abbrev S32x2048x256 : Shape := ⟨3, ![32, 2048, 256]⟩
abbrev S1024x1024 : Shape := ⟨2, ![1024, 1024]⟩
abbrev S1024 : Shape := ⟨1, ![1024]⟩
abbrev S1024x4 : Shape := ⟨2, ![1024, 4]⟩
abbrev S4x1024x8 : Shape := ⟨3, ![4, 1024, 8]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x256, .f32⟩
  | .hbm, ⟨3, _⟩ => ⟨S32x2048x256, .f32⟩
  | .hbm, ⟨4, _⟩ => ⟨S32x2048x256, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4x1024x8, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel5.lean ====
abbrev S32x2048x512 : Shape := ⟨3, ![32, 2048, 512]⟩
abbrev S32x30x256 : Shape := ⟨3, ![32, 30, 256]⟩
abbrev S31x256 : Shape := ⟨2, ![31, 256]⟩
abbrev S256 : Shape := ⟨1, ![256]⟩
abbrev S256x256 : Shape := ⟨2, ![256, 256]⟩
abbrev S_ : Shape := ⟨0, ![]⟩
abbrev S32x32x256 : Shape := ⟨3, ![32, 32, 256]⟩
abbrev S32x256 : Shape := ⟨2, ![32, 256]⟩
abbrev S1x256 : Shape := ⟨2, ![1, 256]⟩
abbrev S32x2048x256 : Shape := ⟨3, ![32, 2048, 256]⟩
abbrev S1x256x512 : Shape := ⟨3, ![1, 256, 512]⟩
abbrev S1x32x256 : Shape := ⟨3, ![1, 32, 256]⟩
abbrev S1x256x256 : Shape := ⟨3, ![1, 256, 256]⟩
abbrev S288x256 : Shape := ⟨2, ![288, 256]⟩
abbrev S256x512 : Shape := ⟨2, ![256, 512]⟩
abbrev S64x256 : Shape := ⟨2, ![64, 256]⟩
abbrev S64 : Shape := ⟨1, ![64]⟩
abbrev S64x1 : Shape := ⟨2, ![64, 1]⟩
abbrev S1x64x256 : Shape := ⟨3, ![1, 64, 256]⟩

abbrev nBuf : Space → Nat
  | .hbm => 21
  | .vmem => 15
  | .smem => 0
  | _ => 0

abbrev bufTy : (tb : Table) → Fin (tcTables nBuf tb) → BufTy
  | .hbm, ⟨0, _⟩ => ⟨S32x2048x512, .f32⟩
  | .hbm, ⟨1, _⟩ => ⟨S32x30x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S_, .f32⟩
  | .hbm, ⟨10, _⟩ => ⟨S32x32x256, .f32⟩
  | .hbm, ⟨11, _⟩ => ⟨S_, .i32⟩
  | .hbm, ⟨12, _⟩ => ⟨S_, .f32⟩
  | .hbm, ⟨13, _⟩ => ⟨S32x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S256x256, .bf16⟩
  | .hbm, ⟨18, _⟩ => ⟨S1x256, .f32⟩
  | .hbm, ⟨19, _⟩ => ⟨S32x2048x256, .f32⟩
  | .hbm, ⟨20, _⟩ => ⟨S32x32x256, .f32⟩
  | .local _ .vmem, ⟨0, _⟩ => ⟨S1x256x512, .f32⟩
  | .local _ .vmem, ⟨1, _⟩ => ⟨S1x256x512, .f32⟩
  | .local _ .vmem, ⟨2, _⟩ => ⟨S1x32x256, .f32⟩
  | .local _ .vmem, ⟨3, _⟩ => ⟨S1x32x256, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x256x256, .f32⟩
  | .local _ .vmem, ⟨11, _⟩ => ⟨S1x256x256, .f32⟩
  | .local _ .vmem, ⟨12, _⟩ => ⟨S1x32x256, .f32⟩
  | .local _ .vmem, ⟨13, _⟩ => ⟨S1x32x256, .f32⟩
  | .local _ .vmem, ⟨14, _⟩ => ⟨S288x256, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32 : BitVec 32 := 7#32
  let v953 : BitVec 1 := Scalar.cmpi .eq arg1 c7_i32
  let v954 : BitVec 32 := Scalar.extui v953
  let c0_i32_465 : BitVec 32 := 0#32
  let v955 : BitVec 1 := Scalar.cmpi .ne v954 c0_i32_465
  v955

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S32x2048x512 : Shape := ⟨3, ![32, 2048, 512]⟩
abbrev S32x30x256 : Shape := ⟨3, ![32, 30, 256]⟩
abbrev S31x256 : Shape := ⟨2, ![31, 256]⟩
abbrev S256 : Shape := ⟨1, ![256]⟩
abbrev S256x256 : Shape := ⟨2, ![256, 256]⟩
abbrev S32x2048x256 : Shape := ⟨3, ![32, 2048, 256]⟩
abbrev S_ : Shape := ⟨0, ![]⟩
abbrev S32x2078x256 : Shape := ⟨3, ![32, 2078, 256]⟩
abbrev S1x256 : Shape := ⟨2, ![1, 256]⟩
abbrev S1x1x256 : Shape := ⟨3, ![1, 1, 256]⟩
abbrev S32x32x256 : Shape := ⟨3, ![32, 32, 256]⟩
abbrev S32x2048 : Shape := ⟨2, ![32, 2048]⟩
abbrev S32x2048x1 : Shape := ⟨3, ![32, 2048, 1]⟩

abbrev nBuf : Space → Nat
  | .hbm => 285
  | .vmem => 0
  | .smem => 0
  | _ => 0

abbrev hbmTy0_0 (i : Nat) : BufTy := match i % 128 with
  | 0 => ⟨S32x2048x512, .f32⟩
  | 1 => ⟨S32x30x256, .f32⟩
  | 2 => ⟨S31x256, .f32⟩
  | 3 => ⟨S256, .f32⟩
  | 4 => ⟨S256, .f32⟩
  | 5 => ⟨S256, .f32⟩
  | 6 => ⟨S256x256, .f32⟩
  | 7 => ⟨S256, .f32⟩
  | 8 => ⟨S32x2048x256, .f32⟩
  | 9 => ⟨S32x2048x256, .f32⟩
  | 10 => ⟨S32x2048x256, .f32⟩
  | 11 => ⟨S32x2048x256, .f32⟩
  | 12 => ⟨S_, .f32⟩
  | 13 => ⟨S32x2048x256, .f32⟩
  | 14 => ⟨S32x2048x256, .f32⟩
  | 15 => ⟨S_, .f32⟩
  | 16 => ⟨S32x2048x256, .f32⟩
  | 17 => ⟨S32x2048x256, .f32⟩
  | 18 => ⟨S32x2048x256, .f32⟩
  | 19 => ⟨S32x2078x256, .f32⟩
  | 20 => ⟨S32x2048x256, .f32⟩
  | 21 => ⟨S1x256, .f32⟩
  | 22 => ⟨S256, .f32⟩
  | 23 => ⟨S1x1x256, .f32⟩
  | 24 => ⟨S32x2048x256, .f32⟩
  | 25 => ⟨S32x2048x256, .f32⟩
  | 26 => ⟨S_, .f32⟩
  | 27 => ⟨S32x2048x256, .f32⟩
  | 28 => ⟨S32x2048x256, .f32⟩
  | 29 => ⟨S32x2048x256, .f32⟩
  | 30 => ⟨S1x256, .f32⟩
  | 31 => ⟨S256, .f32⟩
  | 32 => ⟨S1x1x256, .f32⟩
  | 33 => ⟨S32x2048x256, .f32⟩
  | 34 => ⟨S32x2048x256, .f32⟩
  | 35 => ⟨S32x2048x256, .f32⟩
  | 36 => ⟨S32x2048x256, .f32⟩
  | 37 => ⟨S1x256, .f32⟩
  | 38 => ⟨S256, .f32⟩
  | 39 => ⟨S1x1x256, .f32⟩
  | 40 => ⟨S32x2048x256, .f32⟩
  | 41 => ⟨S32x2048x256, .f32⟩
  | 42 => ⟨S32x2048x256, .f32⟩
  | 43 => ⟨S32x2048x256, .f32⟩
  | 44 => ⟨S1x256, .f32⟩
  | 45 => ⟨S256, .f32⟩
  | 46 => ⟨S1x1x256, .f32⟩
  | 47 => ⟨S32x2048x256, .f32⟩
  | 48 => ⟨S32x2048x256, .f32⟩
  | 49 => ⟨S32x2048x256, .f32⟩
  | 50 => ⟨S32x2048x256, .f32⟩
  | 51 => ⟨S1x256, .f32⟩
  | 52 => ⟨S256, .f32⟩
  | 53 => ⟨S1x1x256, .f32⟩
  | 54 => ⟨S32x2048x256, .f32⟩
  | 55 => ⟨S32x2048x256, .f32⟩
  | 56 => ⟨S32x2048x256, .f32⟩
  | 57 => ⟨S32x2048x256, .f32⟩
  | 58 => ⟨S1x256, .f32⟩
  | 59 => ⟨S256, .f32⟩
  | 60 => ⟨S1x1x256, .f32⟩
  | 61 => ⟨S32x2048x256, .f32⟩
  | 62 => ⟨S32x2048x256, .f32⟩
  | 63 => ⟨S32x2048x256, .f32⟩
  | 64 => ⟨S32x2048x256, .f32⟩
  | 65 => ⟨S1x256, .f32⟩
  | 66 => ⟨S256, .f32⟩
  | 67 => ⟨S1x1x256, .f32⟩
  | 68 => ⟨S32x2048x256, .f32⟩
  | 69 => ⟨S32x2048x256, .f32⟩
  | 70 => ⟨S32x2048x256, .f32⟩
  | 71 => ⟨S32x2048x256, .f32⟩
  | 72 => ⟨S1x256, .f32⟩
  | 73 => ⟨S256, .f32⟩
  | 74 => ⟨S1x1x256, .f32⟩
  | 75 => ⟨S32x2048x256, .f32⟩
  | 76 => ⟨S32x2048x256, .f32⟩
  | 77 => ⟨S32x2048x256, .f32⟩
  | 78 => ⟨S32x2048x256, .f32⟩
  | 79 => ⟨S1x256, .f32⟩
  | 80 => ⟨S256, .f32⟩
  | 81 => ⟨S1x1x256, .f32⟩
  | 82 => ⟨S32x2048x256, .f32⟩
  | 83 => ⟨S32x2048x256, .f32⟩
  | 84 => ⟨S32x2048x256, .f32⟩
  | 85 => ⟨S32x2048x256, .f32⟩
  | 86 => ⟨S1x256, .f32⟩
  | 87 => ⟨S256, .f32⟩
  | 88 => ⟨S1x1x256, .f32⟩
  | 89 => ⟨S32x2048x256, .f32⟩
  | 90 => ⟨S32x2048x256, .f32⟩
  | 91 => ⟨S32x2048x256, .f32⟩
  | 92 => ⟨S32x2048x256, .f32⟩
  | 93 => ⟨S1x256, .f32⟩
  | 94 => ⟨S256, .f32⟩
  | 95 => ⟨S1x1x256, .f32⟩
  | 96 => ⟨S32x2048x256, .f32⟩
  | 97 => ⟨S32x2048x256, .f32⟩
  | 98 => ⟨S32x2048x256, .f32⟩
  | 99 => ⟨S32x2048x256, .f32⟩
  | 100 => ⟨S1x256, .f32⟩
  | 101 => ⟨S256, .f32⟩
  | 102 => ⟨S1x1x256, .f32⟩
  | 103 => ⟨S32x2048x256, .f32⟩
  | 104 => ⟨S32x2048x256, .f32⟩
  | 105 => ⟨S32x2048x256, .f32⟩
  | 106 => ⟨S32x2048x256, .f32⟩
  | 107 => ⟨S1x256, .f32⟩
  | 108 => ⟨S256, .f32⟩
  | 109 => ⟨S1x1x256, .f32⟩
  | 110 => ⟨S32x2048x256, .f32⟩
  | 111 => ⟨S32x2048x256, .f32⟩
  | 112 => ⟨S32x2048x256, .f32⟩
  | 113 => ⟨S32x2048x256, .f32⟩
  | 114 => ⟨S1x256, .f32⟩
  | 115 => ⟨S256, .f32⟩
  | 116 => ⟨S1x1x256, .f32⟩
  | 117 => ⟨S32x2048x256, .f32⟩
  | 118 => ⟨S32x2048x256, .f32⟩
  | 119 => ⟨S32x2048x256, .f32⟩
  | 120 => ⟨S32x2048x256, .f32⟩
  | 121 => ⟨S1x256, .f32⟩
  | 122 => ⟨S256, .f32⟩
  | 123 => ⟨S1x1x256, .f32⟩
  | 124 => ⟨S32x2048x256, .f32⟩
  | 125 => ⟨S32x2048x256, .f32⟩
  | 126 => ⟨S32x2048x256, .f32⟩
  | 127 => ⟨S32x2048x256, .f32⟩
  | _ => ⟨S32x2048x512, .f32⟩

abbrev hbmTy0_1 (i : Nat) : BufTy := match i % 128 with
  | 0 => ⟨S1x256, .f32⟩
  | 1 => ⟨S256, .f32⟩
  | 2 => ⟨S1x1x256, .f32⟩
  | 3 => ⟨S32x2048x256, .f32⟩
  | 4 => ⟨S32x2048x256, .f32⟩
  | 5 => ⟨S32x2048x256, .f32⟩
  | 6 => ⟨S32x2048x256, .f32⟩
  | 7 => ⟨S1x256, .f32⟩
  | 8 => ⟨S256, .f32⟩
  | 9 => ⟨S1x1x256, .f32⟩
  | 10 => ⟨S32x2048x256, .f32⟩
  | 11 => ⟨S32x2048x256, .f32⟩
  | 12 => ⟨S32x2048x256, .f32⟩
  | 13 => ⟨S32x2048x256, .f32⟩
  | 14 => ⟨S1x256, .f32⟩
  | 15 => ⟨S256, .f32⟩
  | 16 => ⟨S1x1x256, .f32⟩
  | 17 => ⟨S32x2048x256, .f32⟩
  | 18 => ⟨S32x2048x256, .f32⟩
  | 19 => ⟨S32x2048x256, .f32⟩
  | 20 => ⟨S32x2048x256, .f32⟩
  | 21 => ⟨S1x256, .f32⟩
  | 22 => ⟨S256, .f32⟩
  | 23 => ⟨S1x1x256, .f32⟩
  | 24 => ⟨S32x2048x256, .f32⟩
  | 25 => ⟨S32x2048x256, .f32⟩
  | 26 => ⟨S32x2048x256, .f32⟩
  | 27 => ⟨S32x2048x256, .f32⟩
  | 28 => ⟨S1x256, .f32⟩
  | 29 => ⟨S256, .f32⟩
  | 30 => ⟨S1x1x256, .f32⟩
  | 31 => ⟨S32x2048x256, .f32⟩
  | 32 => ⟨S32x2048x256, .f32⟩
  | 33 => ⟨S32x2048x256, .f32⟩
  | 34 => ⟨S32x2048x256, .f32⟩
  | 35 => ⟨S1x256, .f32⟩
  | 36 => ⟨S256, .f32⟩
  | 37 => ⟨S1x1x256, .f32⟩
  | 38 => ⟨S32x2048x256, .f32⟩
  | 39 => ⟨S32x2048x256, .f32⟩
  | 40 => ⟨S32x2048x256, .f32⟩
  | 41 => ⟨S32x2048x256, .f32⟩
  | 42 => ⟨S1x256, .f32⟩
  | 43 => ⟨S256, .f32⟩
  | 44 => ⟨S1x1x256, .f32⟩
  | 45 => ⟨S32x2048x256, .f32⟩
  | 46 => ⟨S32x2048x256, .f32⟩
  | 47 => ⟨S32x2048x256, .f32⟩
  | 48 => ⟨S32x2048x256, .f32⟩
  | 49 => ⟨S1x256, .f32⟩
  | 50 => ⟨S256, .f32⟩
  | 51 => ⟨S1x1x256, .f32⟩
  | 52 => ⟨S32x2048x256, .f32⟩
  | 53 => ⟨S32x2048x256, .f32⟩
  | 54 => ⟨S32x2048x256, .f32⟩
  | 55 => ⟨S32x2048x256, .f32⟩
  | 56 => ⟨S1x256, .f32⟩
  | 57 => ⟨S256, .f32⟩
  | 58 => ⟨S1x1x256, .f32⟩
  | 59 => ⟨S32x2048x256, .f32⟩
  | 60 => ⟨S32x2048x256, .f32⟩
  | 61 => ⟨S32x2048x256, .f32⟩
  | 62 => ⟨S32x2048x256, .f32⟩
  | 63 => ⟨S1x256, .f32⟩
  | 64 => ⟨S256, .f32⟩
  | 65 => ⟨S1x1x256, .f32⟩
  | 66 => ⟨S32x2048x256, .f32⟩
  | 67 => ⟨S32x2048x256, .f32⟩
  | 68 => ⟨S32x2048x256, .f32⟩
  | 69 => ⟨S32x2048x256, .f32⟩
  | 70 => ⟨S1x256, .f32⟩
  | 71 => ⟨S256, .f32⟩
  | 72 => ⟨S1x1x256, .f32⟩
  | 73 => ⟨S32x2048x256, .f32⟩
  | 74 => ⟨S32x2048x256, .f32⟩
  | 75 => ⟨S32x2048x256, .f32⟩
  | 76 => ⟨S32x2048x256, .f32⟩
  | 77 => ⟨S1x256, .f32⟩
  | 78 => ⟨S256, .f32⟩
  | 79 => ⟨S1x1x256, .f32⟩
  | 80 => ⟨S32x2048x256, .f32⟩
  | 81 => ⟨S32x2048x256, .f32⟩
  | 82 => ⟨S32x2048x256, .f32⟩
  | 83 => ⟨S32x2048x256, .f32⟩
  | 84 => ⟨S1x256, .f32⟩
  | 85 => ⟨S256, .f32⟩
  | 86 => ⟨S1x1x256, .f32⟩
  | 87 => ⟨S32x2048x256, .f32⟩
  | 88 => ⟨S32x2048x256, .f32⟩
  | 89 => ⟨S32x2048x256, .f32⟩
  | 90 => ⟨S32x2048x256, .f32⟩
  | 91 => ⟨S1x256, .f32⟩
  | 92 => ⟨S256, .f32⟩
  | 93 => ⟨S1x1x256, .f32⟩
  | 94 => ⟨S32x2048x256, .f32⟩
  | 95 => ⟨S32x2048x256, .f32⟩
  | 96 => ⟨S32x2048x256, .f32⟩
  | 97 => ⟨S32x2048x256, .f32⟩
  | 98 => ⟨S1x256, .f32⟩
  | 99 => ⟨S256, .f32⟩
  | 100 => ⟨S1x1x256, .f32⟩
  | 101 => ⟨S32x2048x256, .f32⟩
  | 102 => ⟨S32x2048x256, .f32⟩
  | 103 => ⟨S32x2048x256, .f32⟩
  | 104 => ⟨S32x2048x256, .f32⟩
  | 105 => ⟨S1x256, .f32⟩
  | 106 => ⟨S256, .f32⟩
  | 107 => ⟨S1x1x256, .f32⟩
  | 108 => ⟨S32x2048x256, .f32⟩
  | 109 => ⟨S32x2048x256, .f32⟩
  | 110 => ⟨S32x2048x256, .f32⟩
  | 111 => ⟨S1x1x256, .f32⟩
  | 112 => ⟨S32x2048x256, .f32⟩
  | 113 => ⟨S32x2048x256, .f32⟩
  | 114 => ⟨S32x32x256, .f32⟩
  | 115 => ⟨S_, .f32⟩
  | 116 => ⟨S32x2048, .f32⟩
  | 117 => ⟨S32x2048x1, .f32⟩
  | 118 => ⟨S_, .f32⟩
  | 119 => ⟨S32x2048x1, .f32⟩
  | 120 => ⟨S32x2048x1, .f32⟩
  | 121 => ⟨S32x2048x256, .f32⟩
  | 122 => ⟨S32x2048x256, .f32⟩
  | 123 => ⟨S32x2048x256, .f32⟩
  | 124 => ⟨S_, .f32⟩
  | 125 => ⟨S32x2048, .f32⟩
  | 126 => ⟨S32x2048x1, .f32⟩
  | 127 => ⟨S_, .f32⟩
  | _ => ⟨S32x2048x512, .f32⟩

abbrev hbmTy0_2 (i : Nat) : BufTy := match i % 128 with
  | 0 => ⟨S32x2048x1, .f32⟩
  | 1 => ⟨S32x2048x1, .f32⟩
  | 2 => ⟨S32x2048x256, .f32⟩
  | 3 => ⟨S32x2048x256, .f32⟩
  | 4 => ⟨S_, .f32⟩
  | 5 => ⟨S32x2048x1, .f32⟩
  | 6 => ⟨S32x2048x1, .f32⟩
  | 7 => ⟨S32x2048x1, .f32⟩
  | 8 => ⟨S32x2048x256, .f32⟩
  | 9 => ⟨S32x2048x256, .f32⟩
  | 10 => ⟨S1x1x256, .f32⟩
  | 11 => ⟨S32x2048x256, .f32⟩
  | 12 => ⟨S32x2048x256, .f32⟩
  | 13 => ⟨S1x1x256, .f32⟩
  | 14 => ⟨S32x2048x256, .f32⟩
  | 15 => ⟨S32x2048x256, .f32⟩
  | 16 => ⟨S32x2048x256, .f32⟩
  | 17 => ⟨S32x2048x256, .f32⟩
  | 18 => ⟨S_, .f32⟩
  | 19 => ⟨S32x2048x256, .f32⟩
  | 20 => ⟨S32x2048x256, .f32⟩
  | 21 => ⟨S_, .f32⟩
  | 22 => ⟨S32x2048x256, .f32⟩
  | 23 => ⟨S32x2048x256, .f32⟩
  | 24 => ⟨S32x2048x256, .f32⟩
  | 25 => ⟨S32x2048x256, .f32⟩
  | 26 => ⟨S1x1x256, .f32⟩
  | 27 => ⟨S32x2048x256, .f32⟩
  | 28 => ⟨S32x2048x256, .f32⟩
  | _ => ⟨S32x2048x512, .f32⟩

abbrev hbmTy (i : Nat) : BufTy := match i / 128 with
  | 0 => hbmTy0_0 i
  | 1 => hbmTy0_1 i
  | 2 => hbmTy0_2 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_cst_2 : Ref sig .tc := ⟨.hbm, 243, rfl⟩
abbrev main_v232 : Ref sig .tc := ⟨.hbm, 244, rfl⟩
abbrev main_v233 : Ref sig .tc := ⟨.hbm, 245, rfl⟩
abbrev main_cst_3 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_cst_4 : Ref sig .tc := ⟨.hbm, 252, rfl⟩
abbrev main_v239 : Ref sig .tc := ⟨.hbm, 253, rfl⟩
abbrev main_v240 : Ref sig .tc := ⟨.hbm, 254, rfl⟩
abbrev main_cst_5 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_cst_6 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩

abbrev nD : Nat := 1
abbrev τ : Topo := Topo.v7x

variable {F : FTy → Type} [FloatOps F]
-- ==== Kernel6.lean ====
abbrev S16x64x256 : Shape := ⟨3, ![16, 64, 256]⟩
abbrev S16x512x4x64 : Shape := ⟨4, ![16, 512, 4, 64]⟩
abbrev S4x257 : Shape := ⟨2, ![4, 257]⟩
abbrev S16x512x256 : Shape := ⟨3, ![16, 512, 256]⟩
abbrev S_ : Shape := ⟨0, ![]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S1x64x256 : Shape := ⟨3, ![1, 64, 256]⟩
abbrev S1x512x256 : Shape := ⟨3, ![1, 512, 256]⟩
abbrev S576x256 : Shape := ⟨2, ![576, 256]⟩
abbrev S512x256 : Shape := ⟨2, ![512, 256]⟩
abbrev S64x256 : Shape := ⟨2, ![64, 256]⟩
abbrev S64x64 : Shape := ⟨2, ![64, 64]⟩
abbrev S576x64 : Shape := ⟨2, ![576, 64]⟩
abbrev S1x64x576 : Shape := ⟨3, ![1, 64, 576]⟩

abbrev nBuf : Space → Nat
  | .hbm => 45
  | .vmem => 15
  | .smem => 0
  | _ => 0

abbrev bufTy : (tb : Table) → Fin (tcTables nBuf tb) → BufTy
  | .hbm, ⟨0, _⟩ => ⟨S16x64x256, .f32⟩
  | .hbm, ⟨1, _⟩ => ⟨S16x64x256, .f32⟩
  | .hbm, ⟨2, _⟩ => ⟨S16x64x256, .f32⟩
  | .hbm, ⟨3, _⟩ => ⟨S16x512x4x64, .f32⟩
  | .hbm, ⟨4, _⟩ => ⟨S16x512x4x64, .f32⟩
  | .hbm, ⟨5, _⟩ => ⟨S4x257, .f32⟩
  | .hbm, ⟨6, _⟩ => ⟨S16x512x256, .f32⟩
  | .hbm, ⟨7, _⟩ => ⟨S16x512x256, .f32⟩
  | .hbm, ⟨8, _⟩ => ⟨S_, .f32⟩
  | .hbm, ⟨9, _⟩ => ⟨S16x64x256, .f32⟩
  | .hbm, ⟨10, _⟩ => ⟨S16x64x256, .f32⟩
  | .hbm, ⟨11, _⟩ => ⟨S64, .i32⟩
  | .hbm, ⟨12, _⟩ => ⟨S64x1, .i32⟩
  | .hbm, ⟨13, _⟩ => ⟨S_, .i32⟩
  | .hbm, ⟨14, _⟩ => ⟨S64x1, .i32⟩
  | .hbm, ⟨15, _⟩ => ⟨S64x1, .i32⟩
  | .hbm, ⟨16, _⟩ => ⟨S576, .i32⟩
  | .hbm, ⟨17, _⟩ => ⟨S1x576, .i32⟩
  | .hbm, ⟨18, _⟩ => ⟨S64x576, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S64x576, .i32⟩
  | .hbm, ⟨34, _⟩ => ⟨S64x576, .i1⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S64x576, .i32⟩
  | .hbm, ⟨39, _⟩ => ⟨S64x576x1, .i32⟩
  | .hbm, ⟨40, _⟩ => ⟨S4x64x576, .f32⟩
  | .hbm, ⟨41, _⟩ => ⟨S_, .f32⟩
  | .hbm, ⟨42, _⟩ => ⟨S_, .f32⟩
  | .hbm, ⟨43, _⟩ => ⟨S4x64x576, .f32⟩
  | .hbm, ⟨44, _⟩ => ⟨S16x64x256, .f32⟩
  | .local _ .vmem, ⟨0, _⟩ => ⟨S1x64x256, .f32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S4x64x576, .f32⟩
  | .local _ .vmem, ⟨11, _⟩ => ⟨S1x64x256, .f32⟩
  | .local _ .vmem, ⟨12, _⟩ => ⟨S1x64x256, .f32⟩
  | .local _ .vmem, ⟨13, _⟩ => ⟨S576x256, .bf16⟩
  | .local _ .vmem, ⟨14, _⟩ => ⟨S576x256, .bf16⟩
  | _, _ => ⟨S16x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_call1_v0 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c64_i32 : BitVec 32 := 64#32
  let v3 : BitVec 32 := Scalar.muli arg1 c64_i32
  v3
def k0_off1 (i : grid0.Coords) : Fin 2 → Nat :=
  let arg1 : BitVec 32 := BitVec.ofNat 32 (i 1).val
  let c64_i32 : BitVec 32 := 64#32
  let v3 : BitVec 32 := Scalar.muli arg1 c64_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16x64x256 : Shape := ⟨3, ![16, 64, 256]⟩
abbrev S16x512x4x64 : Shape := ⟨4, ![16, 512, 4, 64]⟩
abbrev S4x257 : Shape := ⟨2, ![4, 257]⟩
abbrev S16x64x4x64 : Shape := ⟨4, ![16, 64, 4, 64]⟩
abbrev S16x576x4x64 : Shape := ⟨4, ![16, 576, 4, 64]⟩
abbrev S16x4x64x576 : Shape := ⟨4, ![16, 4, 64, 576]⟩
abbrev S_ : Shape := ⟨0, ![]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S1x4x64x576 : Shape := ⟨4, ![1, 4, 64, 576]⟩
abbrev S16x4x64 : Shape := ⟨3, ![16, 4, 64]⟩
abbrev S16x4x64x1 : Shape := ⟨4, ![16, 4, 64, 1]⟩
abbrev S16x4x64x64 : Shape := ⟨4, ![16, 4, 64, 64]⟩

abbrev nBuf : Space → Nat
  | .hbm => 65
  | .vmem => 0
  | .smem => 0
  | _ => 0

abbrev bufTy : (tb : Table) → Fin (tcTables nBuf tb) → BufTy
  | .hbm, ⟨0, _⟩ => ⟨S16x64x256, .f32⟩
  | .hbm, ⟨1, _⟩ => ⟨S16x64x256, .f32⟩
  | .hbm, ⟨2, _⟩ => ⟨S16x64x256, .f32⟩
  | .hbm, ⟨3, _⟩ => ⟨S16x512x4x64, .f32⟩
  | .hbm, ⟨4, _⟩ => ⟨S16x512x4x64, .f32⟩
  | .hbm, ⟨5, _⟩ => ⟨S4x257, .f32⟩
  | .hbm, ⟨6, _⟩ => ⟨S16x64x4x64, .f32⟩
  | .hbm, ⟨7, _⟩ => ⟨S16x64x4x64, .f32⟩
  | .hbm, ⟨8, _⟩ => ⟨S16x64x4x64, .f32⟩
  | .hbm, ⟨9, _⟩ => ⟨S16x576x4x64, .f32⟩
  | .hbm, ⟨10, _⟩ => ⟨S16x576x4x64, .f32⟩
  | .hbm, ⟨11, _⟩ => ⟨S16x4x64x576, .f32⟩
  | .hbm, ⟨12, _⟩ => ⟨S_, .f32⟩
  | .hbm, ⟨13, _⟩ => ⟨S16x4x64x576, .f32⟩
  | .hbm, ⟨14, _⟩ => ⟨S16x4x64x576, .f32⟩
  | .hbm, ⟨15, _⟩ => ⟨S64, .i32⟩
  | .hbm, ⟨16, _⟩ => ⟨S64x1, .i32⟩
  | .hbm, ⟨17, _⟩ => ⟨S_, .i32⟩
  | .hbm, ⟨18, _⟩ => ⟨S64x1, .i32⟩
  | .hbm, ⟨19, _⟩ => ⟨S64x1, .i32⟩
  | .hbm, ⟨20, _⟩ => ⟨S576, .i32⟩
  | .hbm, ⟨21, _⟩ => ⟨S1x576, .i32⟩
  | .hbm, ⟨22, _⟩ => ⟨S64x576, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S_, .i32⟩
  | .hbm, ⟨34, _⟩ => ⟨S64x576, .i32⟩
  | .hbm, ⟨35, _⟩ => ⟨S64x576, .i32⟩
  | .hbm, ⟨36, _⟩ => ⟨S_, .i32⟩
  | .hbm, ⟨37, _⟩ => ⟨S64x576, .i32⟩
  | .hbm, ⟨38, _⟩ => ⟨S64x576, .i1⟩
  | .hbm, ⟨39, _⟩ => ⟨S_, .i32⟩
  | .hbm, ⟨40, _⟩ => ⟨S64x576, .i32⟩
  | .hbm, ⟨41, _⟩ => ⟨S64x576, .i32⟩
  | .hbm, ⟨42, _⟩ => ⟨S64x576, .i32⟩
  | .hbm, ⟨43, _⟩ => ⟨S64x576x1, .i32⟩
  | .hbm, ⟨44, _⟩ => ⟨S4x64x576, .f32⟩
  | .hbm, ⟨45, _⟩ => ⟨S1x4x64x576, .f32⟩
  | .hbm, ⟨46, _⟩ => ⟨S16x4x64x576, .f32⟩
  | .hbm, ⟨47, _⟩ => ⟨S16x4x64x576, .f32⟩
  | .hbm, ⟨48, _⟩ => ⟨S_, .f32⟩
  | .hbm, ⟨49, _⟩ => ⟨S16x4x64, .f32⟩
  | .hbm, ⟨50, _⟩ => ⟨S_, .f32⟩
  | .hbm, ⟨51, _⟩ => ⟨S16x4x64, .f32⟩
  | .hbm, ⟨52, _⟩ => ⟨S16x4x64, .f32⟩
  | .hbm, ⟨53, _⟩ => ⟨S16x4x64x1, .f32⟩
  | .hbm, ⟨54, _⟩ => ⟨S16x4x64x576, .f32⟩
  | .hbm, ⟨55, _⟩ => ⟨S16x4x64x576, .f32⟩
  | .hbm, ⟨56, _⟩ => ⟨S16x4x64x576, .f32⟩
  | .hbm, ⟨57, _⟩ => ⟨S_, .f32⟩
  | .hbm, ⟨58, _⟩ => ⟨S16x4x64, .f32⟩
  | .hbm, ⟨59, _⟩ => ⟨S16x4x64x1, .f32⟩
  | .hbm, ⟨60, _⟩ => ⟨S16x4x64x576, .f32⟩
  | .hbm, ⟨61, _⟩ => ⟨S16x4x64x576, .f32⟩
  | .hbm, ⟨62, _⟩ => ⟨S16x4x64x64, .f32⟩
  | .hbm, ⟨63, _⟩ => ⟨S16x64x4x64, .f32⟩
  | .hbm, ⟨64, _⟩ => ⟨S16x64x256, .f32⟩
  | _, _ => ⟨S16x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel7.lean ====
abbrev S16x64x256 : Shape := ⟨3, ![16, 64, 256]⟩
abbrev S16x16x64 : Shape := ⟨3, ![16, 16, 64]⟩
abbrev S16x64 : Shape := ⟨2, ![16, 64]⟩
abbrev S16 : Shape := ⟨1, ![16]⟩
abbrev S16x64x16 : Shape := ⟨3, ![16, 64, 16]⟩
abbrev S16x16 : Shape := ⟨2, ![16, 16]⟩
abbrev S256x512 : Shape := ⟨2, ![256, 512]⟩
abbrev S512 : Shape := ⟨1, ![512]⟩
abbrev S16x1 : Shape := ⟨2, ![16, 1]⟩
abbrev S_ : Shape := ⟨0, ![]⟩
abbrev S16x64x1 : Shape := ⟨3, ![16, 64, 1]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1024 : Shape := ⟨1, ![1024]⟩
abbrev S2048 : Shape := ⟨1, ![2048]⟩
abbrev S1x2048 : Shape := ⟨2, ![1, 2048]⟩
abbrev S8x2048 : Shape := ⟨2, ![8, 2048]⟩
abbrev S2x8x1024 : Shape := ⟨3, ![2, 8, 1024]⟩
abbrev S2x8x2048 : Shape := ⟨3, ![2, 8, 2048]⟩
abbrev S2x8x64x256 : Shape := ⟨4, ![2, 8, 64, 256]⟩
abbrev S2x64x8x256 : Shape := ⟨4, ![2, 64, 8, 256]⟩
abbrev S2x512x256 : Shape := ⟨3, ![2, 512, 256]⟩
abbrev S1x256 : Shape := ⟨2, ![1, 256]⟩
abbrev S1x512 : Shape := ⟨2, ![1, 512]⟩
abbrev S1x512x256 : Shape := ⟨3, ![1, 512, 256]⟩
abbrev S1x8x2048 : Shape := ⟨3, ![1, 8, 2048]⟩
abbrev S512x2048 : Shape := ⟨2, ![512, 2048]⟩
abbrev S512x256 : Shape := ⟨2, ![512, 256]⟩
abbrev S8x1024 : Shape := ⟨2, ![8, 1024]⟩
abbrev S512x512 : Shape := ⟨2, ![512, 512]⟩

abbrev nBuf : Space → Nat
  | .hbm => 113
  | .vmem => 16
  | .smem => 0
  | _ => 0

abbrev bufTy : (tb : Table) → Fin (tcTables nBuf tb) → BufTy
  | .hbm, ⟨0, _⟩ => ⟨S16x64x256, .f32⟩
  | .hbm, ⟨1, _⟩ => ⟨S16x16x64, .f32⟩
  | .hbm, ⟨2, _⟩ => ⟨S16x16x64, .f32⟩
  | .hbm, ⟨3, _⟩ => ⟨S16x64, .f32⟩
  | .hbm, ⟨4, _⟩ => ⟨S16x64, .f32⟩
  | .hbm, ⟨5, _⟩ => ⟨S16, .f32⟩
  | .hbm, ⟨6, _⟩ => ⟨S16x64x16, .f32⟩
  | .hbm, ⟨7, _⟩ => ⟨S16x64x16, .f32⟩
  | .hbm, ⟨8, _⟩ => ⟨S16x16x64, .f32⟩
  | .hbm, ⟨9, _⟩ => ⟨S16x16x64, .f32⟩
  | .hbm, ⟨10, _⟩ => ⟨S16x16, .f32⟩
  | .hbm, ⟨11, _⟩ => ⟨S256x512, .f32⟩
  | .hbm, ⟨12, _⟩ => ⟨S512, .f32⟩
  | .hbm, ⟨13, _⟩ => ⟨S16, .f32⟩
  | .hbm, ⟨14, _⟩ => ⟨S16x1, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S_, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S_, .f32⟩
  | .hbm, ⟨38, _⟩ => ⟨S16x64, .f32⟩
  | .hbm, ⟨39, _⟩ => ⟨S16x64, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S16x64x1, .f32⟩
  | .hbm, ⟨44, _⟩ => ⟨S16x64x16, .f32⟩
  | .hbm, ⟨45, _⟩ => ⟨S16x64x16, .f32⟩
  | .hbm, ⟨46, _⟩ => ⟨S16x64x1, .f32⟩
  | .hbm, ⟨47, _⟩ => ⟨S16x64x16, .f32⟩
  | .hbm, ⟨48, _⟩ => ⟨S16x64x16, .f32⟩
  | .hbm, ⟨49, _⟩ => ⟨S16x64x16, .f32⟩
  | .hbm, ⟨50, _⟩ => ⟨S16x64x1, .f32⟩
  | .hbm, ⟨51, _⟩ => ⟨S16x64x16, .f32⟩
  | .hbm, ⟨52, _⟩ => ⟨S16x64x16, .f32⟩
  | .hbm, ⟨53, _⟩ => ⟨S16x64x1, .f32⟩
  | .hbm, ⟨54, _⟩ => ⟨S16x64x16, .f32⟩
  | .hbm, ⟨55, _⟩ => ⟨S16x64x16, .f32⟩
  | .hbm, ⟨56, _⟩ => ⟨S16x64x16, .f32⟩
  | .hbm, ⟨57, _⟩ => ⟨S16x16, .i32⟩
  | .hbm, ⟨58, _⟩ => ⟨S16x16, .i32⟩
  | .hbm, ⟨59, _⟩ => ⟨S_, .i32⟩
  | .hbm, ⟨60, _⟩ => ⟨S16x16, .i32⟩
  | .hbm, ⟨61, _⟩ => ⟨S16x16, .i32⟩
  | .hbm, ⟨62, _⟩ => ⟨S16x16, .i1⟩
  | .hbm, ⟨63, _⟩ => ⟨S16x16, .f32⟩
  | .hbm, ⟨64, _⟩ => ⟨S16x16x64, .f32⟩
  | .hbm, ⟨65, _⟩ => ⟨S16x16x1x64, .f32⟩
  | .hbm, ⟨66, _⟩ => ⟨S16x1x16x1, .f32⟩
  | .hbm, ⟨67, _⟩ => ⟨S16x16x16x64, .f32⟩
  | .hbm, ⟨68, _⟩ => ⟨S16x16x16x64, .f32⟩
  | .hbm, ⟨69, _⟩ => ⟨S16x16x16x64, .f32⟩
  | .hbm, ⟨70, _⟩ => ⟨S256x1024, .f32⟩
  | .hbm, ⟨71, _⟩ => ⟨S16x16x64, .f32⟩
  | .hbm, ⟨72, _⟩ => ⟨S16x16x1x64, .f32⟩
  | .hbm, ⟨73, _⟩ => ⟨S16x1x16x1, .f32⟩
  | .hbm, ⟨74, _⟩ => ⟨S16x16x16x64, .f32⟩
  | .hbm, ⟨75, _⟩ => ⟨S16x16x16x64, .f32⟩
  | .hbm, ⟨76, _⟩ => ⟨S16x16x16x64, .f32⟩
  | .hbm, ⟨77, _⟩ => ⟨S256x1024, .f32⟩
  | .hbm, ⟨78, _⟩ => ⟨S256x2048, .f32⟩
  | .hbm, ⟨79, _⟩ => ⟨S256x2048, .bf16⟩
  | .hbm, ⟨80, _⟩ => ⟨S16x64x16, .f32⟩
  | .hbm, ⟨81, _⟩ => ⟨S16x64x1x16, .f32⟩
  | .hbm, ⟨82, _⟩ => ⟨S16x1x16x1, .f32⟩
  | .hbm, ⟨83, _⟩ => ⟨S16x64x16x16, .f32⟩
  | .hbm, ⟨84, _⟩ => ⟨S16x64x16x16, .f32⟩
  | .hbm, ⟨85, _⟩ => ⟨S16x64x16x16, .f32⟩
  | .hbm, ⟨86, _⟩ => ⟨S1024x256, .f32⟩
  | .hbm, ⟨87, _⟩ => ⟨S16x64x16, .f32⟩
  | .hbm, ⟨88, _⟩ => ⟨S16x64x1x16, .f32⟩
  | .hbm, ⟨89, _⟩ => ⟨S16x1x16x1, .f32⟩
  | .hbm, ⟨90, _⟩ => ⟨S16x64x16x16, .f32⟩
  | .hbm, ⟨91, _⟩ => ⟨S16x64x16x16, .f32⟩
  | .hbm, ⟨92, _⟩ => ⟨S16x64x16x16, .f32⟩
  | .hbm, ⟨93, _⟩ => ⟨S1024x256, .f32⟩
  | .hbm, ⟨94, _⟩ => ⟨S1024x256, .f32⟩
  | .hbm, ⟨95, _⟩ => ⟨S2048x256, .f32⟩
  | .hbm, ⟨96, _⟩ => ⟨S2048x256, .bf16⟩
  | .hbm, ⟨97, _⟩ => ⟨S1024, .f32⟩
  | .hbm, ⟨98, _⟩ => ⟨S1024, .f32⟩
  | .hbm, ⟨99, _⟩ => ⟨S2048, .f32⟩
  | .hbm, ⟨100, _⟩ => ⟨S1x2048, .f32⟩
  | .hbm, ⟨101, _⟩ => ⟨S8x2048, .f32⟩
  | .hbm, ⟨102, _⟩ => ⟨S2x8x1024, .f32⟩
  | .hbm, ⟨103, _⟩ => ⟨S2x8x1024, .f32⟩
  | .hbm, ⟨104, _⟩ => ⟨S2x8x2048, .f32⟩
  | .hbm, ⟨105, _⟩ => ⟨S2x8x64x256, .f32⟩
  | .hbm, ⟨106, _⟩ => ⟨S2x64x8x256, .f32⟩
  | .hbm, ⟨107, _⟩ => ⟨S2x512x256, .f32⟩
  | .hbm, ⟨108, _⟩ => ⟨S1x256, .f32⟩
  | .hbm, ⟨109, _⟩ => ⟨S256x512, .bf16⟩
  | .hbm, ⟨110, _⟩ => ⟨S1x512, .f32⟩
  | .hbm, ⟨111, _⟩ => ⟨S2x512x256, .f32⟩
  | .hbm, ⟨112, _⟩ => ⟨S2x8x2048, .f32⟩
  | .local _ .vmem, ⟨0, _⟩ => ⟨S1x512x256, .f32⟩
  | .local _ .vmem, ⟨1, _⟩ => ⟨S1x512x256, .f32⟩
  | .local _ .vmem, ⟨2, _⟩ => ⟨S1x8x2048, .f32⟩
  | .local _ .vmem, ⟨3, _⟩ => ⟨S1x8x2048, .f32⟩
  | .local _ .vmem, ⟨4, _⟩ => ⟨S256x2048, .bf16⟩
  | .local _ .vmem, ⟨5, _⟩ => ⟨S2048x256, .bf16⟩
  | .local _ .vmem, ⟨6, _⟩ => ⟨S8x2048, .f32⟩
  | .local _ .vmem, ⟨7, _⟩ => ⟨S1x256, .f32⟩
  | .local _ .vmem, ⟨8, _⟩ => ⟨S256x512, .bf16⟩
  | .local _ .vmem, ⟨9, _⟩ => ⟨S1x512, .f32⟩
  | .local _ .vmem, ⟨10, _⟩ => ⟨S1x512x256, .f32⟩
  | .local _ .vmem, ⟨11, _⟩ => ⟨S1x512x256, .f32⟩
  | .local _ .vmem, ⟨12, _⟩ => ⟨S1x8x2048, .f32⟩
  | .local _ .vmem, ⟨13, _⟩ => ⟨S1x8x2048, .f32⟩
  | .local _ .vmem, ⟨14, _⟩ => ⟨S512x2048, .f32⟩
  | .local _ .vmem, ⟨15, _⟩ => ⟨S8x2048, .f32⟩
  | _, _ => ⟨S16x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95_0 : Ref sig .tc := ⟨.hbm, 111, rfl⟩
abbrev main_v95_1 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 1], ![false, false]⟩

@[reducible] def k0_t1_loop : Scf.Loop 32 :=
  let c0_i32_14 : BitVec 32 := 0#32
  let c64_i32 : BitVec 32 := 64#32
  let v18 : BitVec 32 := Scalar.addi c0_i32_14 c64_i32
  let c1_i32 : BitVec 32 := 1#32
  ⟨c0_i32_14, v18, c1_i32⟩
def k0_mult1 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c8_i32 : BitVec 32 := 8#32
  let v73 : BitVec 32 := Scalar.muli arg14 c8_i32
  v73
def k0_off1 (k0_t1 : Fin k0_t1_loop.trips) : Fin 2 → Nat :=
  let c0_i32_14 : BitVec 32 := 0#32
  let c1_i32 : BitVec 32 := 1#32
  let arg14 : BitVec 32 := Scf.iv c0_i32_14 c1_i32 k0_t1
  let c8_i32 : BitVec 32 := 8#32
  let v73 : BitVec 32 := Scalar.muli arg14 c8_i32
  let v74 : BitVec 32 := v73
  let v75 : Index := Scalar.indexCast v74
  let c0_44 : Index := 0#32
  ![v75.toNat, 0]
def k0_off2 (k0_t1 : Fin k0_t1_loop.trips) : Fin 2 → Nat :=
  let c0_i32_14 : BitVec 32 := 0#32
  let c1_i32 : BitVec 32 := 1#32
  let arg14 : BitVec 32 := Scf.iv c0_i32_14 c1_i32 k0_t1
  let c8_i32 : BitVec 32 := 8#32
  let v73 : BitVec 32 := Scalar.muli arg14 c8_i32
  let v74 : BitVec 32 := v73
  let v77 : Index := Scalar.indexCast v74
  let c1024_45 : Index := 1024#32
  ![v77.toNat, 1024]
def k0_cond2 (i : grid0.Coords) : BitVec 1 :=
  let arg1 : BitVec 32 := BitVec.ofNat 32 (i 1).val
  let c0_i32_42 : BitVec 32 := 0#32
  let v70 : BitVec 1 := Scalar.cmpi .eq arg1 c0_i32_42
  let v71 : BitVec 32 := Scalar.extui v70
  let c0_i32_43 : BitVec 32 := 0#32
  let v72 : BitVec 1 := Scalar.cmpi .ne v71 c0_i32_43
  v72

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference7Ideal.lean ====
abbrev S16x64x256 : Shape := ⟨3, ![16, 64, 256]⟩
abbrev S16x16x64 : Shape := ⟨3, ![16, 16, 64]⟩
abbrev S16x64 : Shape := ⟨2, ![16, 64]⟩
abbrev S16 : Shape := ⟨1, ![16]⟩
abbrev S16x64x16 : Shape := ⟨3, ![16, 64, 16]⟩
abbrev S16x16 : Shape := ⟨2, ![16, 16]⟩
abbrev S256x512 : Shape := ⟨2, ![256, 512]⟩
abbrev S512 : Shape := ⟨1, ![512]⟩
abbrev S16x64x16x16 : Shape := ⟨4, ![16, 64, 16, 16]⟩
abbrev S16x1 : Shape := ⟨2, ![16, 1]⟩
abbrev S_ : Shape := ⟨0, ![]⟩
abbrev S16x64x1 : Shape := ⟨3, ![16, 64, 1]⟩
abbrev S16x64x16x64 : Shape := ⟨4, ![16, 64, 16, 64]⟩
abbrev S64x16x16x64 : Shape := ⟨4, ![64, 16, 16, 64]⟩
abbrev S1x16x16x64 : Shape := ⟨4, ![1, 16, 16, 64]⟩
abbrev S1x16x64 : Shape := ⟨3, ![1, 16, 64]⟩
abbrev S16x16x64x16 : Shape := ⟨4, ![16, 16, 64, 16]⟩
abbrev S1x1x16x16 : Shape := ⟨4, ![1, 1, 16, 16]⟩
abbrev S16x64x512 : Shape := ⟨3, ![16, 64, 512]⟩
abbrev S1x1x512 : Shape := ⟨3, ![1, 1, 512]⟩
abbrev S2x8x64x256 : Shape := ⟨4, ![2, 8, 64, 256]⟩
abbrev S2x64x8x256 : Shape := ⟨4, ![2, 64, 8, 256]⟩
abbrev S2x512x256 : Shape := ⟨3, ![2, 512, 256]⟩
abbrev S2x8x1024 : Shape := ⟨3, ![2, 8, 1024]⟩
abbrev S2x8x2048 : Shape := ⟨3, ![2, 8, 2048]⟩

abbrev nBuf : Space → Nat
  | .hbm => 168
  | .vmem => 0
  | .smem => 0
  | _ => 0

abbrev hbmTy0_0 (i : Nat) : BufTy := match i % 128 with
  | 0 => ⟨S16x64x256, .f32⟩
  | 1 => ⟨S16x16x64, .f32⟩
  | 2 => ⟨S16x16x64, .f32⟩
  | 3 => ⟨S16x64, .f32⟩
  | 4 => ⟨S16x64, .f32⟩
  | 5 => ⟨S16, .f32⟩
  | 6 => ⟨S16x64x16, .f32⟩
  | 7 => ⟨S16x64x16, .f32⟩
  | 8 => ⟨S16x16x64, .f32⟩
  | 9 => ⟨S16x16x64, .f32⟩
  | 10 => ⟨S16x16, .f32⟩
  | 11 => ⟨S256x512, .f32⟩
  | 12 => ⟨S512, .f32⟩
  | 13 => ⟨S16x64x16x16, .f32⟩
  | 14 => ⟨S16, .f32⟩
  | 15 => ⟨S16x1, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S_, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S_, .f32⟩
  | 39 => ⟨S16x64, .f32⟩
  | 40 => ⟨S16x64, .f32⟩
  | 41 => ⟨S16x64, .f32⟩
  | 42 => ⟨S16x64, .f32⟩
  | 43 => ⟨S16x64, .f32⟩
  | 44 => ⟨S16x64x1, .f32⟩
  | 45 => ⟨S16x64x16, .f32⟩
  | 46 => ⟨S16x64x16, .f32⟩
  | 47 => ⟨S16x64x1, .f32⟩
  | 48 => ⟨S16x64x16, .f32⟩
  | 49 => ⟨S16x64x16, .f32⟩
  | 50 => ⟨S16x64x16, .f32⟩
  | 51 => ⟨S16x64x1, .f32⟩
  | 52 => ⟨S16x64x16, .f32⟩
  | 53 => ⟨S16x64x16, .f32⟩
  | 54 => ⟨S16x64x1, .f32⟩
  | 55 => ⟨S16x64x16, .f32⟩
  | 56 => ⟨S16x64x16, .f32⟩
  | 57 => ⟨S16x64x16, .f32⟩
  | 58 => ⟨S16x64x16x64, .f32⟩
  | 59 => ⟨S16x64x16x64, .f32⟩
  | 60 => ⟨S16x64x16x64, .f32⟩
  | 61 => ⟨S16x64x16x64, .f32⟩
  | 62 => ⟨S64x16x16x64, .f32⟩
  | 63 => ⟨S64x16x16x64, .f32⟩
  | 64 => ⟨S_, .f32⟩
  | 65 => ⟨S64x16x16x64, .f32⟩
  | 66 => ⟨S_, .f32⟩
  | 67 => ⟨S64x16x16x64, .f32⟩
  | 68 => ⟨S_, .i32⟩
  | 69 => ⟨S64x16x16x64, .f32⟩
  | 70 => ⟨S64x16x16x64, .f32⟩
  | 71 => ⟨S16x64, .f32⟩
  | 72 => ⟨S16x64, .f32⟩
  | 73 => ⟨S_, .i32⟩
  | 74 => ⟨S16x16x64, .f32⟩
  | 75 => ⟨S16x16x64, .f32⟩
  | 76 => ⟨S64x16x16x64, .f32⟩
  | 77 => ⟨S64x16x16x64, .f32⟩
  | 78 => ⟨S_, .i32⟩
  | 79 => ⟨S_, .i1⟩
  | 80 => ⟨S_, .i32⟩
  | 81 => ⟨S_, .i32⟩
  | 82 => ⟨S_, .i32⟩
  | 83 => ⟨S1x16x16x64, .f32⟩
  | 84 => ⟨S16x16x64, .f32⟩
  | 85 => ⟨S_, .i32⟩
  | 86 => ⟨S_, .i32⟩
  | 87 => ⟨S_, .i32⟩
  | 88 => ⟨S1x16x16x64, .f32⟩
  | 89 => ⟨S16x16x64, .f32⟩
  | 90 => ⟨S1x16x64, .f32⟩
  | 91 => ⟨S16x16x64, .f32⟩
  | 92 => ⟨S16x16x64, .f32⟩
  | 93 => ⟨S1x16x64, .f32⟩
  | 94 => ⟨S16x16x64, .f32⟩
  | 95 => ⟨S16x16x64, .f32⟩
  | 96 => ⟨S16x16x64, .f32⟩
  | 97 => ⟨S16x16x64, .f32⟩
  | 98 => ⟨S1x16x64, .f32⟩
  | 99 => ⟨S16x16x64, .f32⟩
  | 100 => ⟨S16x16x64, .f32⟩
  | 101 => ⟨S1x16x64, .f32⟩
  | 102 => ⟨S16x16x64, .f32⟩
  | 103 => ⟨S16x16x64, .f32⟩
  | 104 => ⟨S16x16x64, .f32⟩
  | 105 => ⟨S16x16x64, .f32⟩
  | 106 => ⟨S1x16x16x64, .f32⟩
  | 107 => ⟨S_, .i32⟩
  | 108 => ⟨S_, .i32⟩
  | 109 => ⟨S_, .i32⟩
  | 110 => ⟨S64x16x16x64, .f32⟩
  | 111 => ⟨S1x16x16x64, .f32⟩
  | 112 => ⟨S_, .i32⟩
  | 113 => ⟨S_, .i32⟩
  | 114 => ⟨S_, .i32⟩
  | 115 => ⟨S64x16x16x64, .f32⟩
  | 116 => ⟨S_, .i32⟩
  | 117 => ⟨S_, .i32⟩
  | 118 => ⟨S16x16x64x16, .f32⟩
  | 119 => ⟨S16x64x16x16, .f32⟩
  | 120 => ⟨S16x16x64, .f32⟩
  | 121 => ⟨S16x16x64x16, .f32⟩
  | 122 => ⟨S16x64x16x16, .f32⟩
  | 123 => ⟨S16x64x16x16, .f32⟩
  | 124 => ⟨S16x64x16x16, .f32⟩
  | 125 => ⟨S1x1x16x16, .f32⟩
  | 126 => ⟨S16x64x16x16, .f32⟩
  | 127 => ⟨S16x64x16x16, .f32⟩
  | _ => ⟨S16x64x256, .f32⟩

abbrev hbmTy0_1 (i : Nat) : BufTy := match i % 128 with
  | 0 => ⟨S16x64x16x16, .f32⟩
  | 1 => ⟨S16x64x256, .f32⟩
  | 2 => ⟨S16x64x256, .f32⟩
  | 3 => ⟨S16x64x256, .f32⟩
  | 4 => ⟨S_, .f32⟩
  | 5 => ⟨S16x64x256, .f32⟩
  | 6 => ⟨S16x64x256, .f32⟩
  | 7 => ⟨S16x64x256, .f32⟩
  | 8 => ⟨S_, .f32⟩
  | 9 => ⟨S16x64x256, .f32⟩
  | 10 => ⟨S16x64x256, .f32⟩
  | 11 => ⟨S16x64x256, .f32⟩
  | 12 => ⟨S_, .f32⟩
  | 13 => ⟨S16x64x256, .f32⟩
  | 14 => ⟨S16x64x256, .f32⟩
  | 15 => ⟨S_, .f32⟩
  | 16 => ⟨S16x64x256, .f32⟩
  | 17 => ⟨S16x64x256, .f32⟩
  | 18 => ⟨S16x64x256, .f32⟩
  | 19 => ⟨S16x64x512, .f32⟩
  | 20 => ⟨S1x1x512, .f32⟩
  | 21 => ⟨S16x64x512, .f32⟩
  | 22 => ⟨S16x64x512, .f32⟩
  | 23 => ⟨S16x64x256, .f32⟩
  | 24 => ⟨S16x64x256, .f32⟩
  | 25 => ⟨S16x64x256, .f32⟩
  | 26 => ⟨S16x64x256, .f32⟩
  | 27 => ⟨S_, .f32⟩
  | 28 => ⟨S16x64x256, .f32⟩
  | 29 => ⟨S16x64x256, .f32⟩
  | 30 => ⟨S_, .f32⟩
  | 31 => ⟨S16x64x256, .f32⟩
  | 32 => ⟨S16x64x256, .f32⟩
  | 33 => ⟨S16x64x256, .f32⟩
  | 34 => ⟨S2x8x64x256, .f32⟩
  | 35 => ⟨S2x64x8x256, .f32⟩
  | 36 => ⟨S2x512x256, .f32⟩
  | 37 => ⟨S2x8x1024, .f32⟩
  | 38 => ⟨S2x8x1024, .f32⟩
  | 39 => ⟨S2x8x2048, .f32⟩
  | _ => ⟨S16x64x256, .f32⟩

abbrev hbmTy (i : Nat) : BufTy := match i / 128 with
  | 0 => hbmTy0_0 i
  | 1 => hbmTy0_1 i
  | _ => ⟨S16x64x256, .f32⟩

abbrev bufTy : (tb : Table) → Fin (tcTables nBuf tb) → BufTy
  | .hbm, ⟨i, _⟩ => hbmTy i
  | _, _ => ⟨S16x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_1 : Ref sig .tc := ⟨.hbm, 64, rfl⟩
abbrev main_v49 : Ref sig .tc := ⟨.hbm, 65, rfl⟩
abbrev main_cst_2 : Ref sig .tc := ⟨.hbm, 66, rfl⟩
abbrev main_v50 : Ref sig .tc := ⟨.hbm, 67, rfl⟩
abbrev main_c : Ref sig .tc := ⟨.hbm, 68, rfl⟩
abbrev main_v51_0 : Ref sig .tc := ⟨.hbm, 69, rfl⟩
abbrev main_v51_1 : Ref sig .tc := ⟨.hbm, 70, rfl⟩
abbrev main_v51_2 : Ref sig .tc := ⟨.hbm, 71, rfl⟩
abbrev main_v51_3 : Ref sig .tc := ⟨.hbm, 72, rfl⟩
abbrev main_v51_4 : Ref sig .tc := ⟨.hbm, 73, rfl⟩
abbrev main_v51_5 : Ref sig .tc := ⟨.hbm, 74, rfl⟩
abbrev main_v51_6 : Ref sig .tc := ⟨.hbm, 75, rfl⟩
abbrev main_v51_7 : Ref sig .tc := ⟨.hbm, 76, rfl⟩
abbrev main_v51_8 : Ref sig .tc := ⟨.hbm, 77, rfl⟩
abbrev main_while0c_c_17 : Ref sig .tc := ⟨.hbm, 78, rfl⟩
abbrev main_while0c_v96 : Ref sig .tc := ⟨.hbm, 79, rfl⟩
abbrev main_while0b_call0_c : Ref sig .tc := ⟨.hbm, 80, rfl⟩
abbrev main_while0b_call0_c_0 : Ref sig .tc := ⟨.hbm, 81, rfl⟩
abbrev main_while0b_call0_c_1 : Ref sig .tc := ⟨.hbm, 82, rfl⟩
abbrev main_while0b_call0_v0 : Ref sig .tc := ⟨.hbm, 83, rfl⟩
abbrev main_while0b_v96 : Ref sig .tc := ⟨.hbm, 84, rfl⟩
abbrev main_while0b_call1_c : Ref sig .tc := ⟨.hbm, 85, rfl⟩
abbrev main_while0b_call1_c_0 : Ref sig .tc := ⟨.hbm, 86, rfl⟩
abbrev main_while0b_call1_c_1 : Ref sig .tc := ⟨.hbm, 87, rfl⟩
abbrev main_while0b_call1_v0 : Ref sig .tc := ⟨.hbm, 88, rfl⟩
abbrev main_while0b_v97 : Ref sig .tc := ⟨.hbm, 89, rfl⟩
abbrev main_while0b_v98 : Ref sig .tc := ⟨.hbm, 90, rfl⟩
abbrev main_while0b_v99 : Ref sig .tc := ⟨.hbm, 91, rfl⟩
abbrev main_while0b_v100 : Ref sig .tc := ⟨.hbm, 92, rfl⟩
abbrev main_while0b_v101 : Ref sig .tc := ⟨.hbm, 93, rfl⟩
abbrev main_while0b_v102 : Ref sig .tc := ⟨.hbm, 94, rfl⟩
abbrev main_while0b_v103 : Ref sig .tc := ⟨.hbm, 95, rfl⟩
abbrev main_while0b_v104 : Ref sig .tc := ⟨.hbm, 96, rfl⟩
abbrev main_while0b_v105 : Ref sig .tc := ⟨.hbm, 97, rfl⟩
abbrev main_while0b_v106 : Ref sig .tc := ⟨.hbm, 98, rfl⟩
abbrev main_while0b_v107 : Ref sig .tc := ⟨.hbm, 99, rfl⟩
abbrev main_while0b_v108 : Ref sig .tc := ⟨.hbm, 100, rfl⟩
abbrev main_while0b_v109 : Ref sig .tc := ⟨.hbm, 101, rfl⟩
abbrev main_while0b_v110 : Ref sig .tc := ⟨.hbm, 102, rfl⟩
abbrev main_while0b_v111 : Ref sig .tc := ⟨.hbm, 103, rfl⟩
abbrev main_while0b_v112 : Ref sig .tc := ⟨.hbm, 104, rfl⟩
abbrev main_while0b_v113 : Ref sig .tc := ⟨.hbm, 105, rfl⟩
abbrev main_while0b_call2_v0 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_call2_c_1 : Ref sig .tc := ⟨.hbm, 109, rfl⟩
abbrev main_while0b_v114 : Ref sig .tc := ⟨.hbm, 110, rfl⟩
abbrev main_while0b_call3_v0 : Ref sig .tc := ⟨.hbm, 111, rfl⟩
abbrev main_while0b_call3_c : Ref sig .tc := ⟨.hbm, 112, rfl⟩
abbrev main_while0b_call3_c_0 : Ref sig .tc := ⟨.hbm, 113, rfl⟩
abbrev main_while0b_call3_c_1 : Ref sig .tc := ⟨.hbm, 114, rfl⟩
abbrev main_while0b_v115 : Ref sig .tc := ⟨.hbm, 115, rfl⟩
abbrev main_while0b_c_17 : Ref sig .tc := ⟨.hbm, 116, rfl⟩
abbrev main_while0b_v116 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_cst_3 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_cst_4 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_cst_5 : Ref sig .tc := ⟨.hbm, 140, rfl⟩
abbrev main_v72 : Ref sig .tc := ⟨.hbm, 141, rfl⟩
abbrev main_v73 : Ref sig .tc := ⟨.hbm, 142, rfl⟩
abbrev main_cst_6 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_7 : Ref sig .tc := ⟨.hbm, 155, rfl⟩
abbrev main_v85 : Ref sig .tc := ⟨.hbm, 156, rfl⟩
abbrev main_v86 : Ref sig .tc := ⟨.hbm, 157, rfl⟩
abbrev main_cst_8 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩

abbrev nD : Nat := 1
abbrev τ : Topo := Topo.v7x

variable {F : FTy → Type} [FloatOps F]

abbrev main_while0_count : Scf.Loop 32 := ⟨0#32, 64#32, 1#32⟩
-- ==== Proof.AttnMath.lean ====
module

public import Idealize.ShloMosaic.PureOps.Ideal
public import Idealize.ShloMosaic.PureOps.Ideal.Laws

/-! The mathematics of one row of attention over the extended reals: the kernel's and the reference's weights agree on
    scores that are not all infinite, and scores of −∞ may be left out. -/

@[expose] public section

noncomputable section

namespace Cert.AttnMath

open Idealize.ShloMosaic

/-- The greatest score, −∞ of none. -/
def top {n : ℕ} (s : Fin n → EReal) : EReal := Finset.univ.fold max ⊥ s

/-- The exponential of a score, less the greatest. -/
def weight {n : ℕ} (s : Fin n → EReal) (k : Fin n) : EReal := Ideal.exp (s k - top s)

/-- The sum of the exponentials. -/
def mass {n : ℕ} (s : Fin n → EReal) : EReal := ∑ k, weight s k

/-- The kernel's row: each value by its exponential times the reciprocal of the sum. -/
def attend {n : ℕ} (s v : Fin n → EReal) : EReal := ∑ k, weight s k * Ideal.div 1 (mass s) * v k

/-- The reference's row: each value by its exponential divided by the sum. -/
def attendR {n : ℕ} (s v : Fin n → EReal) : EReal := ∑ k, v k * Ideal.div (weight s k) (mass s)

/-- The largest score is the supremum. -/
theorem top_eq_sup {n : ℕ} (s : Fin n → EReal) : top s = Finset.univ.sup s := rfl

/-- No score exceeds the largest. -/
theorem le_top' {n : ℕ} (s : Fin n → EReal) (k : Fin n) : s k ≤ top s := by
  rw [top_eq_sup]
  exact Finset.le_sup (Finset.mem_univ k)

/-- The largest score is below every bound of the scores. -/
theorem top_le {n : ℕ} (s : Fin n → EReal) (x : EReal) (h : ∀ k, s k ≤ x) : top s ≤ x := by
  rw [top_eq_sup]
  exact Finset.sup_le fun k _ => h k

/-- The exponential of minus infinity is zero. -/
theorem exp_bot : Ideal.exp ⊥ = 0 := rfl

/-- An exponential is not negative. -/
theorem exp_nonneg (x : EReal) : 0 ≤ Ideal.exp x := by
  induction x with
  | bot => exact le_refl _
  | top => exact le_top
  | coe r => exact EReal.coe_nonneg.2 (Real.exp_pos r).le

/-- A score of −∞ has no weight. -/
theorem weight_bot {n : ℕ} (s : Fin n → EReal) (k : Fin n) (h : s k = ⊥) : weight s k = 0 := by
  unfold weight
  rw [h, sub_eq_add_neg, EReal.bot_add, exp_bot]

section band
variable {n N : ℕ} (e : Fin n → Fin N) (he : Function.Injective e) (S V : Fin N → EReal) (s v : Fin n → EReal)
  (hs : ∀ k, S (e k) = s k) (hv : ∀ k, V (e k) = v k) (ho : ∀ k, k ∉ Set.range e → S k = ⊥)
include hs ho

/-- The largest score of the window is that of the band. -/
theorem top_band : top S = top s := by
  refine le_antisymm (top_le S _ fun k => ?_) (top_le s _ fun k => (hs k).symm.le.trans (le_top' S (e k)))
  by_cases h : k ∈ Set.range e
  · obtain ⟨j, rfl⟩ := h
    exact (hs j).le.trans (le_top' s j)
  · rw [ho k h]
    exact bot_le

/-- A key's exponential is the same in the window and in the band. -/
theorem weight_band (k : Fin n) : weight S (e k) = weight s k := by
  unfold weight
  rw [hs, top_band e S s hs ho]

include he

/-- The sum of the exponentials is the same in the window and in the band. -/
theorem mass_band : mass S = mass s := by
  unfold mass
  refine (Fintype.sum_of_injective e he _ _ (fun k h => weight_bot S k (ho k h)) fun k => ?_).symm
  exact (weight_band e S s hs ho k).symm

include hv

/-- Scores of −∞ outside of a band may be left out, with their values. -/
theorem attend_band : attend S V = attend s v := by
  unfold attend
  refine (Fintype.sum_of_injective e he _ _ (fun k h => ?_) fun k => ?_).symm
  · show weight S k * _ * _ = 0
    rw [weight_bot S k (ho k h), zero_mul, zero_mul]
  · show _ = weight S (e k) * _ * V (e k)
    rw [weight_band e S s hs ho k, mass_band e he S s hs ho, hv]

end band

/-- With a finite score, and none of +∞, the sum of the exponentials is not zero. -/
theorem mass_ne_zero {n : ℕ} (s : Fin n → EReal) (ht : ∀ k, s k ≠ ⊤) (k₀ : Fin n) (hb : s k₀ ≠ ⊥) : mass s ≠ 0 := by
  obtain ⟨k, -, hk⟩ := Finset.exists_mem_eq_sup (Finset.univ : Finset (Fin n)) ⟨k₀, Finset.mem_univ k₀⟩ s
  have hk' : top s = s k := (top_eq_sup s).trans hk
  have h1 : s k ≠ ⊥ := fun h => hb (le_bot_iff.1 ((le_top' s k₀).trans (hk'.trans h).le))
  have hw : weight s k = 1 := by
    unfold weight
    rw [hk']
    lift s k to ℝ using ⟨ht k, h1⟩ with r
    rw [← EReal.coe_sub, sub_self]
    show ((Real.exp 0 : ℝ) : EReal) = 1
    rw [Real.exp_zero, EReal.coe_one]
  have : (1 : EReal) ≤ mass s := hw.symm.le.trans (Finset.single_le_sum (f := weight s) (fun j _ => exp_nonneg _) (Finset.mem_univ k))
  exact (lt_of_lt_of_le zero_lt_one this).ne'

/-- Where the sum of the exponentials is not zero, both rows are the same. -/
theorem attend_eq {n : ℕ} (s v : Fin n → EReal) (h : mass s ≠ 0) : attend s v = attendR s v := by
  unfold attend attendR
  refine Finset.sum_congr rfl fun k _ => ?_
  simp only [Ideal.div, if_neg h, one_mul]
  rw [mul_comm]

/-- A scale that is real and not negative comes out of a sum. -/
theorem scale_sum {n : ℕ} (c : EReal) (h0 : 0 ≤ c) (ht : c ≠ ⊤) (q k : Fin n → EReal) : ∑ e, q e * c * k e = (∑ e, q e * k e) * c := by
  have h : ∀ t : Finset (Fin n), ∑ e ∈ t, q e * c * k e = (∑ e ∈ t, q e * k e) * c := by
    classical
    intro t
    induction t using Finset.induction_on with
    | empty => simp
    | insert a t ha ih =>
      rw [Finset.sum_insert ha, Finset.sum_insert ha, ih, mul_comm (_ + _) c, EReal.left_distrib_of_nonneg_of_ne_top h0 ht,
        mul_comm c, mul_comm c, mul_right_comm]
  exact h _

/-- A sum of finitely many finite numbers is finite. -/
theorem sum_finite {n : ℕ} (f : Fin n → EReal) (h : ∀ k, f k ≠ ⊥ ∧ f k ≠ ⊤) : (∑ k, f k) ≠ ⊥ ∧ (∑ k, f k) ≠ ⊤ := by
  choose g hg using fun k => (⟨(f k).toReal, (EReal.coe_toReal (h k).2 (h k).1)⟩ : ∃ r : ℝ, (r : EReal) = f k)
  have : (∑ k, f k) = ((∑ k, g k : ℝ) : EReal) := by
    simp only [← hg]
    induction (Finset.univ : Finset (Fin n)) using Finset.induction_on with
    | empty => simp
    | insert a t ha ih => rw [Finset.sum_insert ha, Finset.sum_insert ha, EReal.coe_add, ih]
  rw [this]
  exact ⟨EReal.coe_ne_bot _, EReal.coe_ne_top _⟩

/-- A product of two finite numbers is finite. -/
theorem mul_finite (x y : EReal) (hx : x ≠ ⊥ ∧ x ≠ ⊤) (hy : y ≠ ⊥ ∧ y ≠ ⊤) : x * y ≠ ⊥ ∧ x * y ≠ ⊤ := by
  lift x to ℝ using ⟨hx.2, hx.1⟩
  lift y to ℝ using ⟨hy.2, hy.1⟩
  rw [← EReal.coe_mul]
  exact ⟨EReal.coe_ne_bot _, EReal.coe_ne_top _⟩

/-- A sum of two finite numbers is finite. -/
theorem add_finite (x y : EReal) (hx : x ≠ ⊥ ∧ x ≠ ⊤) (hy : y ≠ ⊥ ∧ y ≠ ⊤) : x + y ≠ ⊥ ∧ x + y ≠ ⊤ := by
  lift x to ℝ using ⟨hx.2, hx.1⟩
  lift y to ℝ using ⟨hy.2, hy.1⟩
  rw [← EReal.coe_add]
  exact ⟨EReal.coe_ne_bot _, EReal.coe_ne_top _⟩

/-- A number whose absolute value is below +∞ is finite. -/
theorem finite_of_abs (x : EReal) (h : max x (-x) < ⊤) : x ≠ ⊥ ∧ x ≠ ⊤ := by
  refine ⟨fun e => ?_, fun e => ?_⟩
  · rw [e] at h; simp at h
  · rw [e] at h; simp at h

/-- The words for −∞ and for one eighth. -/
theorem word_bot : Ideal.ofBits .f32 0xFF800000#32 = ⊥ := by simp [Ideal.ofBits, Ideal.ieee]

end Cert.AttnMath
-- ==== Proof.ProjBody.lean ====
module

public import proofs.«01_k».proof.Proof.Gen.Kernel2Ideal.Value
public import Idealize.ShloMosaic.Lib.Pointwise.Tactic
public import Idealize.ShloMosaic.PureOps.Ideal.Laws
public import Idealize.ShloMosaic.Lib.Pipeline.ValueKit
public import Idealize.ShloMosaic.Lib.ValueIdx

/-! The input projection: what the kernel's body computes at an element of each of its eight output blocks. -/

@[expose] public section

set_option maxRecDepth 16384

noncomputable section

namespace Cert.ProjBody

open Idealize.ShloMosaic Idealize.ShloMosaic.TcCoe
open Cert.Kernel2Ideal Cert.Kernel2Ideal.Gen

/-- One row normalised by its root mean square and scaled, at a column. -/
def nrm (X G : Fin 1024 → EReal) (k : Fin 1024) : EReal :=
  X k * Ideal.rsqrt (Ideal.div (∑ j, X j * X j) (Ideal.ofBits .f32 0x44800000#32) + Ideal.ofBits .f32 0x358637BD#32) * G k

/-- One normalised row against one column of weights. -/
def proj (X G W : Fin 1024 → EReal) : EReal := ∑ k, nrm X G k * W k

/-- The normalised rows the body computes once. -/
theorem pay2_apply (v0 : Vec Ideal S1x512x1024 .f32) (v2 : Vec Ideal S1x1024 .f32) (r : Fin 512) (k : Fin 1024) :
    k0_pay2 (F := Ideal) v0 v2 (ix2 r k) = nrm (fun k => v0 (ix3 0 r k)) (fun k => v2 (ix2 0 k)) k := by
  pointwise [k0_pay2]
  rfl

/-- The same rows, read from the whole blocks. -/
theorem pay11_apply (x0 : Vec Ideal S1x512x1024 .f32) (x1 : Vec Ideal S1x1024 .f32) (x2 : Vec Ideal S1024x2432 .bf16) (r : Fin 512) (k : Fin 1024) :
    k0_pay11 (F := Ideal) x0 x1 x2 (ix2 r k) = nrm (fun k => x0 (ix3 0 r k)) (fun k => x1 (ix2 0 k)) k := by
  refine (pay2_apply (View.ld x0 r0_0) (View.ld x1 r0_1) r k).trans ?_
  have e0 : View.ld x0 r0_0 = x0 := View.ld_unit_lit _ x0 (by decide)
  have e1 : View.ld x1 r0_1 = x1 := View.ld_unit_lit _ x1 (by decide)
  rw [e0, e1]

/-- The gate block, at an element. -/
theorem out3_apply (x0 : Vec Ideal S1x512x1024 .f32) (x1 : Vec Ideal S1x1024 .f32) (x2 : Vec Ideal S1024x2432 .bf16) (r : Fin 512) (n : Fin 256) :
    out0_3 (F := Ideal) x0 x1 x2 (ix3 0 r n) = proj (fun k => x0 (ix3 0 r k)) (fun k => x1 (ix2 0 k)) (fun k => x2 (ix2 k ⟨n.val, by omega⟩)) := by
  frame_out
  pointwise [k0_pay3]
  unfold proj
  exact Finset.sum_congr rfl fun k _ => by rw [pay2_apply]

/-- The scan input block, at an element. -/
theorem out4_apply (x0 : Vec Ideal S1x512x1024 .f32) (x1 : Vec Ideal S1x1024 .f32) (x2 : Vec Ideal S1024x2432 .bf16) (r : Fin 512) (n : Fin 512) :
    out0_4 (F := Ideal) x0 x1 x2 (ix3 0 r n) = proj (fun k => x0 (ix3 0 r k)) (fun k => x1 (ix2 0 k)) (fun k => x2 (ix2 k ⟨256 + n.val, by omega⟩)) := by
  frame_out
  pointwise [k0_pay4]
  unfold proj
  exact Finset.sum_congr rfl fun k _ => by rw [pay2_apply]

/-- The step block, at an element. -/
theorem out5_apply (x0 : Vec Ideal S1x512x1024 .f32) (x1 : Vec Ideal S1x1024 .f32) (x2 : Vec Ideal S1024x2432 .bf16) (r : Fin 512) (n : Fin 128) :
    out0_5 (F := Ideal) x0 x1 x2 (ix3 0 r n) = proj (fun k => x0 (ix3 0 r k)) (fun k => x1 (ix2 0 k)) (fun k => x2 (ix2 k ⟨2304 + n.val, by omega⟩)) := by
  frame_out
  pointwise [k0_pay1]
  unfold proj
  exact Finset.sum_congr rfl fun k _ => by rw [pay11_apply]

/-- The convolution block, at an element. -/
theorem out6_apply (x0 : Vec Ideal S1x512x1024 .f32) (x1 : Vec Ideal S1x1024 .f32) (x2 : Vec Ideal S1024x2432 .bf16) (r : Fin 512) (n : Fin 512) :
    out0_6 (F := Ideal) x0 x1 x2 (ix3 0 r n) = proj (fun k => x0 (ix3 0 r k)) (fun k => x1 (ix2 0 k)) (fun k => x2 (ix2 k ⟨768 + n.val, by omega⟩)) := by
  frame_out
  pointwise [k0_pay6, k0_pay5]
  unfold proj
  exact Finset.sum_congr rfl fun k _ => by rw [pay2_apply]

/-- The query block, at an element. -/
theorem out7_apply (x0 : Vec Ideal S1x512x1024 .f32) (x1 : Vec Ideal S1x1024 .f32) (x2 : Vec Ideal S1024x2432 .bf16) (r : Fin 512) (n : Fin 256) :
    out0_7 (F := Ideal) x0 x1 x2 (ix3 0 r n) = proj (fun k => x0 (ix3 0 r k)) (fun k => x1 (ix2 0 k)) (fun k => x2 (ix2 k ⟨1280 + n.val, by omega⟩)) * Ideal.ofBits .f32 0x3E000000#32 := by
  frame_out
  pointwise [k0_pay7]
  refine congrArg (· * _) ?_
  unfold proj
  exact Finset.sum_congr rfl fun k _ => by rw [pay11_apply]

/-- The key block, at an element. -/
theorem out8_apply (x0 : Vec Ideal S1x512x1024 .f32) (x1 : Vec Ideal S1x1024 .f32) (x2 : Vec Ideal S1024x2432 .bf16) (r : Fin 512) (n : Fin 256) :
    out0_8 (F := Ideal) x0 x1 x2 (ix3 0 r n) = proj (fun k => x0 (ix3 0 r k)) (fun k => x1 (ix2 0 k)) (fun k => x2 (ix2 k ⟨1536 + n.val, by omega⟩)) := by
  frame_out
  pointwise [k0_pay8]
  unfold proj
  exact Finset.sum_congr rfl fun k _ => by rw [pay11_apply]

/-- The value block, at an element. -/
theorem out9_apply (x0 : Vec Ideal S1x512x1024 .f32) (x1 : Vec Ideal S1x1024 .f32) (x2 : Vec Ideal S1024x2432 .bf16) (r : Fin 512) (n : Fin 256) :
    out0_9 (F := Ideal) x0 x1 x2 (ix3 0 r n) = proj (fun k => x0 (ix3 0 r k)) (fun k => x1 (ix2 0 k)) (fun k => x2 (ix2 k ⟨1792 + n.val, by omega⟩)) := by
  frame_out
  pointwise [k0_pay9]
  unfold proj
  exact Finset.sum_congr rfl fun k _ => by rw [pay11_apply]

/-- The second scan block, at an element. -/
theorem out10_apply (x0 : Vec Ideal S1x512x1024 .f32) (x1 : Vec Ideal S1x1024 .f32) (x2 : Vec Ideal S1024x2432 .bf16) (r : Fin 512) (n : Fin 256) :
    out0_10 (F := Ideal) x0 x1 x2 (ix3 0 r n) = proj (fun k => x0 (ix3 0 r k)) (fun k => x1 (ix2 0 k)) (fun k => x2 (ix2 k ⟨2048 + n.val, by omega⟩)) := by
  frame_out
  pointwise [k0_pay10]
  unfold proj
  exact Finset.sum_congr rfl fun k _ => by rw [pay11_apply]

end Cert.ProjBody
-- ==== Proof.AttnBody.lean ====
module

public import proofs.«01_k».proof.Proof.AttnMath
public import proofs.«01_k».proof.Proof.ProjBody
public import proofs.«01_k».proof.Proof.Gen.KernelIdeal.Value

/-! Attention: what the kernel's body computes at an element of its output block. -/

@[expose] public section

set_option maxRecDepth 16384

noncomputable section

namespace Cert.AttnBody

open Idealize.ShloMosaic Idealize.ShloMosaic.TcCoe
open Cert.KernelIdeal Cert.KernelIdeal.Gen Cert.ProjBody Cert.AttnMath

/-- A query row's scores over the window: products with the keys plus the bias where the mask is set, −∞ elsewhere. -/
def scores {n : ℕ} (q : Fin 64 → EReal) (k : Fin n → Fin 64 → EReal) (b : Fin n → EReal) (M : Fin n → BitVec 1) (j : Fin n) : EReal :=
  if M j = 1#1 then (∑ e, q e * k j e) + b j else ⊥

/-- One head's weights, as the body computes them. -/
def headW (q : FVec Ideal S256x64 .bf16) (k : FVec Ideal S768x64 .bf16) (M : IVec S256x768 1) (b : Vec Ideal S1x256x768 .f32) : FVec Ideal S256x768 .bf16 :=
  have s : FVec Ideal S256x768 .f32 := select M (addf (matmul dot_S256x64_S768x64_S256x768_1_1_0_0_n_n none q k (constant S256x768 .f32 0x00000000#32))
    (shapeCast S256x768 b shapeCasts_S1x256x768_S256x768)) (broadcast S256x768 (Scalar.ofBits .f32 0xFF800000#32))
  have t : FVec Ideal S256 .f32 := multiReduction .maximumf [1] S256 s 0xFF800000#32 reduces_S256x768_S256 (.inl rfl) rfl
  have e : FVec Ideal S256x768 .f32 := exp (subf s (broadcastTo S256x768 (shapeCast S256x1 t shapeCasts_S256_S256x1) broadcasts_S256x1_S256x768))
  have z : FVec Ideal S256 .f32 := multiReduction .add [1] S256 e 0x00000000#32 reduces_S256x768_S256 (.inl rfl) rfl
  truncf .bf16 (mulf e (broadcastTo S256x768 (divf (broadcast S256x1 (Scalar.ofBits .f32 0x3F800000#32)) (shapeCast S256x1 z shapeCasts_S256_S256x1))
    broadcasts_S256x1_S256x768)) bitsLt_bf16_f32

/-- One head's weights at an element. -/
theorem headW_apply (q : FVec Ideal S256x64 .bf16) (k : FVec Ideal S768x64 .bf16) (M : IVec S256x768 1) (b : Vec Ideal S1x256x768 .f32) (r : Fin 256) (j : Fin 768)
    (s : Fin 768 → EReal) (hs : s = scores (fun e => q (ix2 r e)) (fun j e => k (ix2 j e)) (fun j => b (ix3 0 r j)) (fun j => M (ix2 r j))) :
    headW q k M b (ix2 r j) = weight s j * Ideal.div 1 (mass s) := by
  subst hs
  unfold weight mass weight
  pointwise [headW]
  rw [word_bot]
  rfl

/-- A column of a head among the 256. -/
def hd (h : Fin 4) (e : Fin 64) : Fin 256 := ⟨64 * h.val + e.val, by omega⟩

/-- One head's product with its values. -/
def headO (w : FVec Ideal S256x768 .bf16) (v : FVec Ideal S768x64 .bf16) : FVec Ideal S256x64 .f32 :=
  matmul dot_S256x768_S768x64_S256x64_1_0_0_1_n_n none w v (constant S256x64 .f32 0x00000000#32)

/-- The product at an element. -/
theorem headO_apply (w : FVec Ideal S256x768 .bf16) (v : FVec Ideal S768x64 .bf16) (r : Fin 256) (e : Fin 64) :
    headO w v (ix2 r e) = ∑ k, w (ix2 r k) * v (ix2 k e) := by
  pointwise [headO]

/-- The four heads side by side. -/
def side (a0 a1 a2 a3 : FVec Ideal S256x64 .f32) : FVec Ideal S1x256x256 .f32 :=
  shapeCast S1x256x256 (concatenate S256x256 1 [⟨S256x64, a0⟩, ⟨S256x64, a1⟩, ⟨S256x64, a2⟩, ⟨S256x64, a3⟩]
    concatenates_S256x64_S256x64_S256x64_S256x64_S256x256_d1) shapeCasts_S256x256_S1x256x256

/-- An element of the four heads side by side. -/
theorem side_apply (a0 a1 a2 a3 : FVec Ideal S256x64 .f32) (r : Fin 256) (h : Fin 4) (e : Fin 64) :
    side a0 a1 a2 a3 (ix3 0 r (hd h e)) = (![a0, a1, a2, a3] h) (ix2 r e) := by
  have he := e.isLt
  have h1 : ∀ (a : FVec Ideal S256x64 .f32) (k k' : Fin 64), k.val = k'.val → a (ix2 r k) = a (ix2 r k') := fun a k k' q => by rw [Fin.ext q]
  pointwise [side]
  match h with
  | ⟨0, q⟩ =>
    have hv : (hd ⟨0, q⟩ e).val = e.val := by show 64 * 0 + e.val = e.val; omega
    rw [dif_pos (by omega)]
    exact h1 a0 _ _ hv
  | ⟨1, q⟩ =>
    have hv : (hd ⟨1, q⟩ e).val = 64 + e.val := rfl
    rw [dif_neg (by omega), dif_pos (by omega)]
    exact h1 a1 _ _ (by show (hd ⟨1, q⟩ e).val - 64 = e.val; omega)
  | ⟨2, q⟩ =>
    have hv : (hd ⟨2, q⟩ e).val = 128 + e.val := rfl
    rw [dif_neg (by omega), dif_neg (by omega), dif_pos (by omega)]
    exact h1 a2 _ _ (by show (hd ⟨2, q⟩ e).val - 64 - 64 = e.val; omega)
  | ⟨3, q⟩ =>
    have hv : (hd ⟨3, q⟩ e).val = 192 + e.val := rfl
    rw [dif_neg (by omega), dif_neg (by omega), dif_neg (by omega)]
    exact h1 a3 _ _ (by show (hd ⟨3, q⟩ e).val - 64 - 64 - 64 = e.val; omega)

/-- The mask's words. -/
theorem mask_word : ∀ (c : Fin 8) (k : Fin 768), (IntOp.cmpi .sge (BitVec.ofNat 32 k.val) (512#32 - BitVec.ofNat 32 c.val * 256#32) = 1#1) ↔ 512 ≤ 256 * c.val + k.val := by
  decide +kernel

/-- The mask at a grid point: set where the key's place in the batch entry, counted with the 512 rows before it, is at least 512. -/
theorem pay7_apply (i : grid0.Coords) (r : Fin 256) (k : Fin 768) : (k0_pay7 i (ix2 r k) = 1#1) ↔ 512 ≤ 256 * (i 1).val + k.val := by
  refine Iff.trans ?_ (mask_word (i 1) k)
  refine iff_of_eq (congrArg (· = 1#1) ?_)
  pointwise [k0_pay7]
  rfl

/-- What the body stores at a grid point, over the queries' block, the windows of keys and values, and the heads' biases. -/
def blk (i : grid0.Coords) (x : Vec Ideal S1x256x256 .f32) (K V : Vec Ideal S768x256 .bf16) (b0 b1 b2 b3 : Vec Ideal S1x256x768 .f32) : FVec Ideal S1x256x256 .f32 :=
  k0_pay1 K V (k0_pay6 x) (k0_pay7 i) (k0_pay10 (k0_pay8 i K x b0) (k0_pay9 V) (constant S256x64 .f32 0x00000000#32)) (k0_pay11 K V (k0_pay6 x) (k0_pay7 i) b1)
    (k0_pay12 K (k0_pay6 x) (k0_pay7 i) b2) b3

/-- One head of it, from the head's slices of queries, keys and values. -/
theorem head_apply (i : grid0.Coords) (x : Vec Ideal S1x256x256 .f32) (K V : Vec Ideal S768x256 .bf16) (b : Vec Ideal S1x256x768 .f32)
    (q : FVec Ideal S256x64 .bf16) (k v : FVec Ideal S768x64 .bf16) (h : Fin 4)
    (hq : ∀ r e, q (ix2 r e) = x (ix3 0 r (hd h e))) (hk : ∀ j e, k (ix2 j e) = K (ix2 j (hd h e))) (hv : ∀ j e, v (ix2 j e) = V (ix2 j (hd h e)))
    (r : Fin 256) (e : Fin 64) :
    headO (headW q k (k0_pay7 i) b) v (ix2 r e) = attend (scores (fun e => x (ix3 0 r (hd h e))) (fun j e => K (ix2 j (hd h e))) (fun j => b (ix3 0 r j)) (fun j => k0_pay7 i (ix2 r j)))
      (fun j => V (ix2 j (hd h e))) := by
  rw [headO_apply]
  unfold attend
  refine Finset.sum_congr rfl fun j _ => ?_
  rw [hv]
  refine congrArg (· * V (ix2 j (hd h e))) (headW_apply q k (k0_pay7 i) b r j _ ?_)
  congr 1
  · exact funext fun e => (hq r e).symm
  · exact funext fun j => funext fun e => (hk j e).symm

/-- The block at an element. -/
theorem blk_apply (i : grid0.Coords) (x : Vec Ideal S1x256x256 .f32) (K V : Vec Ideal S768x256 .bf16) (b0 b1 b2 b3 : Vec Ideal S1x256x768 .f32) (r : Fin 256) (h : Fin 4) (e : Fin 64) :
    blk i x K V b0 b1 b2 b3 (ix3 0 r (hd h e)) = attend (scores (fun e => x (ix3 0 r (hd h e))) (fun j e => K (ix2 j (hd h e))) (fun j => (![b0, b1, b2, b3] h) (ix3 0 r j))
      (fun j => k0_pay7 i (ix2 r j))) (fun j => V (ix2 j (hd h e))) := by
  have e0 : blk i x K V b0 b1 b2 b3 = side
      (headO (headW (extractStridedSlice S256x64 ![0, 0] (k0_pay6 x) slices_S256x256_o0_0_S256x64) (extractStridedSlice S768x64 ![0, 0] K slices_S768x256_o0_0_S768x64) (k0_pay7 i) b0)
        (extractStridedSlice S768x64 ![0, 0] V slices_S768x256_o0_0_S768x64))
      (headO (headW (extractStridedSlice S256x64 ![0, 64] (k0_pay6 x) slices_S256x256_o0_64_S256x64) (extractStridedSlice S768x64 ![0, 64] K slices_S768x256_o0_64_S768x64) (k0_pay7 i) b1)
        (extractStridedSlice S768x64 ![0, 64] V slices_S768x256_o0_64_S768x64))
      (headO (headW (extractStridedSlice S256x64 ![0, 128] (k0_pay6 x) slices_S256x256_o0_128_S256x64) (extractStridedSlice S768x64 ![0, 128] K slices_S768x256_o0_128_S768x64) (k0_pay7 i) b2)
        (extractStridedSlice S768x64 ![0, 128] V slices_S768x256_o0_128_S768x64))
      (headO (headW (extractStridedSlice S256x64 ![0, 192] (k0_pay6 x) slices_S256x256_o0_192_S256x64) (extractStridedSlice S768x64 ![0, 192] K slices_S768x256_o0_192_S768x64) (k0_pay7 i) b3)
        (extractStridedSlice S768x64 ![0, 192] V slices_S768x256_o0_192_S768x64)) := rfl
  rw [e0, side_apply]
  have hx : ∀ (r j : Fin 256), k0_pay6 x (ix2 r j) = x (ix3 0 r j) := fun r j => by pointwise [k0_pay6]
  have g : ∀ {n : ℕ} (y : (⟨2, ![n, 256]⟩ : Shape).Idx → EReal) (r : Fin n) (k k' : Fin 256), k.val = k'.val → y (ix2 r k) = y (ix2 r k') :=
    fun y r k k' q => by rw [Fin.ext q]
  match h with
  | ⟨0, _⟩ =>
    refine head_apply i x K V b0 _ _ _ 0 (fun r e => ?_) (fun j e => ?_) (fun j e => ?_) r e
    · rw [← hx]; pointwise []; exact g (k0_pay6 x) _ _ _ (by show e.val = 64 * 0 + e.val; omega)
    · pointwise []; exact g K _ _ _ (by show e.val = 64 * 0 + e.val; omega)
    · pointwise []; exact g V _ _ _ (by show e.val = 64 * 0 + e.val; omega)
  | ⟨1, _⟩ =>
    refine head_apply i x K V b1 _ _ _ 1 (fun r e => ?_) (fun j e => ?_) (fun j e => ?_) r e
    · rw [← hx]; pointwise []; rfl
    · pointwise []; rfl
    · pointwise []; rfl
  | ⟨2, _⟩ =>
    refine head_apply i x K V b2 _ _ _ 2 (fun r e => ?_) (fun j e => ?_) (fun j e => ?_) r e
    · rw [← hx]; pointwise []; rfl
    · pointwise []; rfl
    · pointwise []; rfl
  | ⟨3, _⟩ =>
    refine head_apply i x K V b3 _ _ _ 3 (fun r e => ?_) (fun j e => ?_) (fun j e => ?_) r e
    · rw [← hx]; pointwise []; rfl
    · pointwise []; rfl
    · pointwise []; rfl

variable (m : (ℓ : Loc nD τ sig) → Buf (Elt Ideal) ℓ)

/-- The window of 768 rows that a grid point reads of a scratch of 2560. -/
def window (i : grid0.Coords) (X : Vec Ideal S2560x256 .bf16) : Vec Ideal S768x256 .bf16 :=
  View.ld X (Rect.unit (s := S2560x256) (k0_off1 i) S768x256.size (k0_off1_inb i))

/-- The place of the window's first row. -/
theorem off_val : ∀ t : Fin grid0.N, k0_off1 (grid0.coords t) = ![256 * (t.val % 8), 0] := by decide +kernel

/-- The second coordinate of a grid point is its number modulo 8. -/
theorem coord_val : ∀ t : Fin grid0.N, (grid0.coords t 1).val = t.val % 8 := by decide +kernel

/-- The window at an element. -/
theorem window_apply (t : Fin cfg0.N) (X : Vec Ideal S2560x256 .bf16) (k : Fin 768) (j : Fin 256) :
    window (grid0.coords t) X (ix2 k j) = X (ix2 ⟨256 * (t.val % 8) + k.val, by omega⟩ j) := by
  show X _ = X _
  congr 1
  funext a
  apply Fin.ext
  show k0_off1 (grid0.coords t) a + 1 * (ix2 k j a).val = _
  rw [off_val t]
  match a with
  | ⟨0, _⟩ => show 256 * (t.val % 8) + 1 * k.val = 256 * (t.val % 8) + k.val; omega
  | ⟨1, _⟩ => show 0 + 1 * j.val = j.val; omega

/-- One head's biases, of the four staged. -/
def bias (B : Vec Ideal S4x256x768 .f32) : Fin 4 → Vec Ideal S1x256x768 .f32 :=
  ![View.ld B (Rect.unit ![0, 0, 0] ![1, 256, 768] inb_S4x256x768_S1x256x768_0_0_0), View.ld B (Rect.unit ![1, 0, 0] ![1, 256, 768] inb_S4x256x768_S1x256x768_1_0_0),
    View.ld B (Rect.unit ![2, 0, 0] ![1, 256, 768] inb_S4x256x768_S1x256x768_2_0_0), View.ld B (Rect.unit ![3, 0, 0] ![1, 256, 768] inb_S4x256x768_S1x256x768_3_0_0)]

/-- An element of a head's biases. -/
theorem bias_apply (B : Vec Ideal S4x256x768 .f32) (h : Fin 4) (r : Fin 256) (k : Fin 768) : bias B h (ix3 0 r k) = B (ix3 h r k) := by
  match h with
  | ⟨0, _⟩ => exact congrArg B (funext fun a => Fin.ext (by match a with | ⟨0, _⟩ => rfl | ⟨1, _⟩ => show 0 + 1 * r.val = r.val; omega | ⟨2, _⟩ => show 0 + 1 * k.val = k.val; omega))
  | ⟨1, _⟩ => exact congrArg B (funext fun a => Fin.ext (by match a with | ⟨0, _⟩ => rfl | ⟨1, _⟩ => show 0 + 1 * r.val = r.val; omega | ⟨2, _⟩ => show 0 + 1 * k.val = k.val; omega))
  | ⟨2, _⟩ => exact congrArg B (funext fun a => Fin.ext (by match a with | ⟨0, _⟩ => rfl | ⟨1, _⟩ => show 0 + 1 * r.val = r.val; omega | ⟨2, _⟩ => show 0 + 1 * k.val = k.val; omega))
  | ⟨3, _⟩ => exact congrArg B (funext fun a => Fin.ext (by match a with | ⟨0, _⟩ => rfl | ⟨1, _⟩ => show 0 + 1 * r.val = r.val; omega | ⟨2, _⟩ => show 0 + 1 * k.val = k.val; omega))

/-- A batch entry's rows after 512 rows of zeros. -/
def padBlk (X : Vec Ideal S1x2048x256 .f32) (n : Fin 2560) (j : Fin 256) : EReal := if h : n.val < 512 then 0 else X (ix3 0 ⟨n.val - 512, by omega⟩ j)

/-- What two stores leave, of 512 rows and of the 2048 below them. -/
def rows (z : FVec Ideal S512x256 .bf16) (x : FVec Ideal S2048x256 .bf16) : Vec Ideal S2560x256 .bf16 :=
  View.canon (Val := Elt Ideal) (s := S2560x256) (e := .bf16) [⟨Rect.unit ![512, 0] ![2048, 256] inb_S2560x256_S2048x256_512_0, x⟩, ⟨Rect.unit ![0, 0] ![512, 256] inb_S2560x256_S512x256_0_0, z⟩]

/-- Two stores, of 512 rows and of the 2048 below them, at an element. -/
theorem rows_apply (z : FVec Ideal S512x256 .bf16) (x : FVec Ideal S2048x256 .bf16) (X : Vec Ideal S1x2048x256 .f32) (n : Fin 2560) (j : Fin 256)
    (hz : ∀ r j, z (ix2 r j) = 0) (hx : ∀ r j, x (ix2 r j) = X (ix3 0 r j)) :
    rows z x (ix2 n j) = padBlk X n j := by
  unfold padBlk rows
  by_cases h : n.val < 512
  · rw [dif_pos h]
    refine (View.canon_cons_of_not_mem _ _ ?_).trans ?_
    · intro hm
      obtain ⟨y, hy⟩ := (Rect.unit (s := S2560x256) ![512, 0] ![2048, 256] inb_S2560x256_S2048x256_512_0).exists_idx_of_mem hm
      have : 512 + 1 * (y 0).val = n.val := congrArg (fun i : S2560x256.Idx => (i 0).val) hy
      omega
    · have e : (ix2 n j : S2560x256.Idx) = (Rect.unit (s := S2560x256) ![0, 0] ![512, 256] inb_S2560x256_S512x256_0_0).emb (ix2 ⟨n.val, h⟩ j) := by
        funext a
        apply Fin.ext
        match a with
        | ⟨0, _⟩ => show n.val = 0 + 1 * n.val; omega
        | ⟨1, _⟩ => show j.val = 0 + 1 * j.val; omega
      rw [e]
      exact (View.canon_cons_emb _ _ _ _).trans (hz _ _)
  · rw [dif_neg h]
    have e : (ix2 n j : S2560x256.Idx) = (Rect.unit (s := S2560x256) ![512, 0] ![2048, 256] inb_S2560x256_S2048x256_512_0).emb (ix2 ⟨n.val - 512, by omega⟩ j) := by
      funext a
      apply Fin.ext
      match a with
      | ⟨0, _⟩ => show n.val = 512 + 1 * (n.val - 512); omega
      | ⟨1, _⟩ => show j.val = 0 + 1 * j.val; omega
    rw [e]
    exact (View.canon_cons_emb _ _ _ _).trans (hx _ _)

/-- The first scratch after the first point of a batch entry. -/
theorem keys_A (c : Dev nD) (t : Fin cfg0.N) (h0 : t.val % 8 = 0) : (outsAt0 m c t.val t.isLt).2.1 = rows k0_pay2 (k0_pay4 (iblk m c 1 t)) := by
  rw [outsAt0_A m c t h0]
  dsimp only
  unfold sout0_A_0
  frame_out

/-- The second scratch after the first point of a batch entry. -/
theorem values_A (c : Dev nD) (t : Fin cfg0.N) (h0 : t.val % 8 = 0) : (outsAt0 m c t.val t.isLt).2.2 = rows k0_pay3 (k0_pay5 (iblk m c 2 t)) := by
  rw [outsAt0_A m c t h0]
  dsimp only
  unfold sout0_A_1
  frame_out

/-- At the other points both scratches stay. -/
theorem scratch_B (c : Dev nD) (t : Fin cfg0.N) (h0 : ¬t.val % 8 = 0) : (outsAt0 m c t.val t.isLt).2 = (outsAt0 m c (t.val - 1) (Nat.lt_of_le_of_lt (Nat.sub_le _ _) t.isLt)).2 := by
  rw [outsAt0_B m c t h0]
  rfl

/-- What the first point of a batch entry stores. -/
theorem point_A (c : Dev nD) (t : Fin cfg0.N) (h0 : t.val % 8 = 0) : (dats m 0 c).after 4 t =
    blk (grid0.coords t) (iblk m c 0 t) (window (grid0.coords t) (rows k0_pay2 (k0_pay4 (iblk m c 1 t)))) (window (grid0.coords t) (rows k0_pay3 (k0_pay5 (iblk m c 2 t))))
      (bias (iblk m c 3 t) 0) (bias (iblk m c 3 t) 1) (bias (iblk m c 3 t) 2) (bias (iblk m c 3 t) 3) := by
  rw [after0_4, outsAt0_A m c t h0]
  dsimp only
  unfold out0_A_4
  frame_out
  unfold blk window
  rfl

/-- What another point stores, over the scratches that the point before left. -/
theorem point_B (c : Dev nD) (t : Fin cfg0.N) (h0 : ¬t.val % 8 = 0) : (dats m 0 c).after 4 t =
    blk (grid0.coords t) (iblk m c 0 t) (window (grid0.coords t) (outsAt0 m c (t.val - 1) (Nat.lt_of_le_of_lt (Nat.sub_le _ _) t.isLt)).2.1)
      (window (grid0.coords t) (outsAt0 m c (t.val - 1) (Nat.lt_of_le_of_lt (Nat.sub_le _ _) t.isLt)).2.2)
      (bias (iblk m c 3 t) 0) (bias (iblk m c 3 t) 1) (bias (iblk m c 3 t) 2) (bias (iblk m c 3 t) 3) := by
  rw [after0_4, outsAt0_B m c t h0]
  dsimp only
  unfold out0_B_4
  frame_out
  generalize outsAt0 m c (t.val - 1) (Nat.lt_of_le_of_lt (Nat.sub_le _ _) t.isLt) = o
  have e1 : View.read (Elt Ideal) (View.whole cc0_scratch0) ((Memref.isWhole_whole cc0_scratch0).unread o.2.1) = o.2.1 := Memref.IsWhole.read_unread _ _
  have e2 : View.read (Elt Ideal) (View.whole cc0_scratch1) ((Memref.isWhole_whole cc0_scratch1).unread o.2.2) = o.2.2 := Memref.IsWhole.read_unread _ _
  unfold blk window
  rw [e1, e2]
  rfl

/-- What a grid point stores, over the rows that the scratches hold after it. -/
theorem point_eq (c : Dev nD) (t : Fin cfg0.N) : (dats m 0 c).after 4 t =
    blk (grid0.coords t) (iblk m c 0 t) (window (grid0.coords t) (outsAt0 m c t.val t.isLt).2.1) (window (grid0.coords t) (outsAt0 m c t.val t.isLt).2.2)
      (bias (iblk m c 3 t) 0) (bias (iblk m c 3 t) 1) (bias (iblk m c 3 t) 2) (bias (iblk m c 3 t) 3) := by
  by_cases h0 : t.val % 8 = 0
  · rw [keys_A m c t h0, values_A m c t h0]
    exact point_A m c t h0
  · rw [scratch_B m c t h0]
    exact point_B m c t h0

/-- At the first point of a batch entry the first scratch gets the entry's keys. -/
theorem scratchK_A (c : Dev nD) (t : Fin cfg0.N) (h0 : t.val % 8 = 0) (n : Fin 2560) (j : Fin 256) : (outsAt0 m c t.val t.isLt).2.1 (ix2 n j) = padBlk (iblk m c 1 t) n j := by
  rw [keys_A m c t h0]
  refine rows_apply _ _ _ n j (fun r j => ?_) (fun r j => ?_)
  · pointwise [k0_pay2]
  · pointwise [k0_pay4]

/-- The second scratch gets the entry's values. -/
theorem scratchV_A (c : Dev nD) (t : Fin cfg0.N) (h0 : t.val % 8 = 0) (n : Fin 2560) (j : Fin 256) : (outsAt0 m c t.val t.isLt).2.2 (ix2 n j) = padBlk (iblk m c 2 t) n j := by
  rw [values_A m c t h0]
  refine rows_apply _ _ _ n j (fun r j => ?_) (fun r j => ?_)
  · pointwise [k0_pay3]
  · pointwise [k0_pay5]

end Cert.AttnBody
-- ==== Proof.AttnHost.lean ====
module

public import proofs.«01_k».proof.Proof.AttnBody
public import proofs.«01_k».proof.Proof.Gen.ReferenceIdeal.Read

/-! Attention: what the kernel's call finds in its arrays, the scaled queries and the biases. -/

@[expose] public section

set_option maxRecDepth 16384

noncomputable section

namespace Cert.AttnHost

open Idealize.ShloMosaic Idealize.ShloMosaic.TcCoe
open Cert.KernelIdeal Cert.KernelIdeal.Gen Cert.ProjBody Cert.AttnMath Cert.AttnBody

variable (m : (ℓ : Loc nD τ sig) → Buf (Elt Ideal) ℓ)

/-- The arguments of a run. -/
abbrev Q (c : Dev nD) : S32x2048x256.Idx → EReal := m ((c.tc : Thread nD τ).loc main_arg0)
abbrev K (c : Dev nD) : S32x2048x256.Idx → EReal := m ((c.tc : Thread nD τ).loc main_arg1)
abbrev W (c : Dev nD) : S32x2048x256.Idx → EReal := m ((c.tc : Thread nD τ).loc main_arg2)
abbrev T (c : Dev nD) : S4x257.Idx → EReal := m ((c.tc : Thread nD τ).loc main_arg3)

/-- One eighth. -/
abbrev scale : EReal := Ideal.ofBits .f32 0x3E000000#32

/-- The band of biases, of 64 rows and 576 keys, that the table gives. -/
abbrev band (x : S4x257.Idx → EReal) : S4x64x576.Idx → EReal := Cert.ReferenceIdeal.Read.val_main_v50 (F := Ideal) x

/-- The biases of 256 rows over 768 keys: the band at four places, −∞ elsewhere. -/
def biases (B : S4x64x576.Idx → EReal) : S4x256x768.Idx → EReal :=
  have z : FVec Ideal S_ .f32 := constant S_ .f32 0xFF800000#32
  concatenate (α := EReal) S4x256x768 1
    [⟨S4x64x768, pad S4x64x768 ![0, 0, 0] ![0, 0, 192] ![0, 0, 0] B z pads_S4x64x576_S4x64x768_000_000_01920 h_S_⟩,
      ⟨S4x64x768, pad S4x64x768 ![0, 0, 64] ![0, 0, 128] ![0, 0, 0] B z pads_S4x64x576_S4x64x768_000_000_641280 h_S_⟩,
      ⟨S4x64x768, pad S4x64x768 ![0, 0, 128] ![0, 0, 64] ![0, 0, 0] B z pads_S4x64x576_S4x64x768_000_000_128640 h_S_⟩,
      ⟨S4x64x768, pad S4x64x768 ![0, 0, 192] ![0, 0, 0] ![0, 0, 0] B z pads_S4x64x576_S4x64x768_000_000_19200 h_S_⟩]
    concatenates_S4x64x768_S4x64x768_S4x64x768_S4x64x768_S4x256x768_d1

/-- The queries that the call stages are the arguments, scaled. -/
theorem V_q (c : Dev nD) (b : Fin 32) (r : Fin 2048) (j : Fin 256) : (V m c main_v1 : S32x2048x256.Idx → EReal) (ix3 b r j) = Q m c (ix3 b r j) * scale := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- The band that the host makes of the table. -/
theorem V_band (c : Dev nD) : (V m c main_v20 : S4x64x576.Idx → EReal) = band (T m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- Four arrays joined, by the four. -/
theorem join {a b d e a' b' d' e' : S4x64x768.Idx → EReal} (h₀ : a = a') (h₁ : b = b') (h₂ : d = d') (h₃ : e = e') :
    concatenate (α := EReal) S4x256x768 1 [⟨S4x64x768, a⟩, ⟨S4x64x768, b⟩, ⟨S4x64x768, d⟩, ⟨S4x64x768, e⟩] concatenates_S4x64x768_S4x64x768_S4x64x768_S4x64x768_S4x256x768_d1
      = concatenate (α := EReal) S4x256x768 1 [⟨S4x64x768, a'⟩, ⟨S4x64x768, b'⟩, ⟨S4x64x768, d'⟩, ⟨S4x64x768, e'⟩] concatenates_S4x64x768_S4x64x768_S4x64x768_S4x64x768_S4x256x768_d1 := by
  rw [h₀, h₁, h₂, h₃]

/-- Operations in two parts, the second from what the first leaves. -/
theorem after_parts (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons o l ih => exact ih _

/-- The biases, from the band: the host's last operations. -/
theorem tail_bias (U : Valuation τ sig (Elt Ideal)) (hz : U (Proc.tc.devRef main_cst_5) = constant (F := Ideal) S_ .f32 0xFF800000#32) :
    StableHlo.after (List.flatten [hostOps0_3, hostOps0_4, hostOps0_5, hostOps0_6, hostOps0_7, hostOps0_8, hostOps0_9, hostOps0_10]) U (Proc.tc.devRef main_v25) = biases (U (Proc.tc.devRef main_v20)) := by
  simp only [hostOps0_3, hostOps0_4, hostOps0_5, hostOps0_6, hostOps0_7, hostOps0_8, hostOps0_9, hostOps0_10, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  unfold biases
  refine join ?_ ?_ ?_ ?_ <;> dsimp only [Matrix.cons_val]
  all_goals rw [← StableHlo.after_nil (HloOp.result _ _)]
  all_goals after_results
  all_goals first | rfl | (rw [hz]; rfl)

/-- The later host operations keep the band. -/
theorem tail_band (U : Valuation τ sig (Elt Ideal)) :
    StableHlo.after (List.flatten [hostOps0_3, hostOps0_4, hostOps0_5, hostOps0_6, hostOps0_7, hostOps0_8, hostOps0_9, hostOps0_10]) U (Proc.tc.devRef main_v20) = U (Proc.tc.devRef main_v20) := by
  simp only [hostOps0_3, hostOps0_4, hostOps0_5, hostOps0_6, hostOps0_7, hostOps0_8, hostOps0_9, hostOps0_10, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results

/-- The biases that the call stages are the four shifted bands, one below the other. -/
theorem V_bias (c : Dev nD) : (V m c main_v25 : S4x256x768.Idx → EReal) = biases (band (T m c)) := by
  have hV (b) : V m c b = (StableHlo.after (List.flatten [hostOps0_3, hostOps0_4, hostOps0_5, hostOps0_6, hostOps0_7, hostOps0_8, hostOps0_9, hostOps0_10]) (StableHlo.after (List.flatten [hostOps0, hostOps0_1, hostOps0_2]) (fun b => m (c, b)))) (Proc.tc.devRef b) := congrFun ( after_parts _ _ _) _
  have hz : StableHlo.after (List.flatten [hostOps0, hostOps0_1, hostOps0_2]) (fun b => m (c, b)) (Proc.tc.devRef main_cst_5) = constant (F := Ideal) S_ .f32 0xFF800000#32 := by
    simp only [hostOps0, hostOps0_1, hostOps0_2, List.flatten_cons, List.flatten_nil, List.append_nil, List.cons_append, List.nil_append,
      StableHlo.TRef.ternary, StableHlo.TRef.binary, StableHlo.TRef.nullary, StableHlo.TRef.unary, StableHlo.TRef.toBuf, StableHlo.TRef.ofBuf, cast_eq]
    after_results
  rw [← V_band]
  exact (hV _).trans ((tail_bias _ hz).trans (congrArg biases ((tail_band _).symm.trans (hV main_v20).symm)))

end Cert.AttnHost
-- ==== Proof.AttnFinal.lean ====
module

public import proofs.«01_k».proof.Proof.AttnHost

/-! Attention: the kernel's output after the run, element by element. -/

@[expose] public section

set_option maxRecDepth 16384

noncomputable section

namespace Cert.AttnFinal

open Idealize.ShloMosaic Idealize.ShloMosaic.TcCoe
open Cert.KernelIdeal Cert.KernelIdeal.Gen Cert.ProjBody Cert.AttnMath Cert.AttnBody Cert.AttnHost

/-- A batch entry's rows with 512 zero rows before them. -/
def padR (X : S32x2048x256.Idx → EReal) (b : Fin 32) (n : Fin 2560) (j : Fin 256) : EReal :=
  if h : n.val < 512 then 0 else X (ix3 b ⟨n.val - 512, by omega⟩ j)

/-- A query's scores over the window of 768 keys that begins at its block's first row. -/
def kScore (q k : S32x2048x256.Idx → EReal) (B : S4x256x768.Idx → EReal) (b : Fin 32) (c : Fin 8) (r : Fin 256) (h : Fin 4) (j : Fin 768) : EReal :=
  if 512 ≤ 256 * c.val + j.val then
    (∑ e, q (ix3 b ⟨256 * c.val + r.val, by omega⟩ (hd h e)) * scale * padR k b ⟨256 * c.val + j.val, by omega⟩ (hd h e)) + B (ix3 h r j)
  else ⊥

/-- An element of the kernel's output. -/
def kAt (q k v : S32x2048x256.Idx → EReal) (B : S4x256x768.Idx → EReal) (b : Fin 32) (c : Fin 8) (r : Fin 256) (h : Fin 4) (e : Fin 64) : EReal :=
  attend (kScore q k B b c r h) (fun j => padR v b ⟨256 * c.val + j.val, by omega⟩ (hd h e))

/-- The kernel's output. -/
def kOut (q k v : S32x2048x256.Idx → EReal) (B : S4x256x768.Idx → EReal) : S32x2048x256.Idx → EReal := fun i =>
  kAt q k v B (i 0) ⟨(i 1).val / 256, by have h : (i 1).val < 2048 := (i 1).isLt; omega⟩ ⟨(i 1).val % 256, by omega⟩
    ⟨(i 2).val / 64, by have h : (i 2).val < 256 := (i 2).isLt; omega⟩ ⟨(i 2).val % 64, by omega⟩

/-- The array at row `256 c + r` and lane `e` of head `h`. -/
theorem kOut_apply (q k v : S32x2048x256.Idx → EReal) (B : S4x256x768.Idx → EReal) (b : Fin 32) (c : Fin 8) (r : Fin 256) (h : Fin 4) (e : Fin 64) :
    kOut q k v B (ix3 b ⟨256 * c.val + r.val, by omega⟩ (hd h e)) = kAt q k v B b c r h e := by
  show kAt q k v B b ⟨(256 * c.val + r.val) / 256, _⟩ ⟨(256 * c.val + r.val) % 256, _⟩ ⟨(64 * h.val + e.val) / 64, _⟩ ⟨(64 * h.val + e.val) % 64, _⟩ = _
  congr 1 <;> apply Fin.ext <;> dsimp only <;> omega

variable (m : (ℓ : Loc nD τ sig) → Buf (Elt Ideal) ℓ)

/-- A grid point's batch entry and block. -/
def bOf (t : Fin cfg0.N) : Fin 32 := ⟨t.val / 8, by have h : t.val < 256 := t.isLt; omega⟩
def cOf (t : Fin cfg0.N) : Fin 8 := ⟨t.val % 8, by omega⟩

/-- Where an element of a block of 256 rows lies. -/
theorem place (t : Fin cfg0.N) (e : S1x256x256.Idx → S32x2048x256.Idx)
    (he : ∀ y a, (e y a).val = ![t.val / 8, t.val % 8, 0] a * ![1, 256, 256] a + (y a).val) (r j : Fin 256) :
    e (ix3 0 r j) = ix3 (bOf t) ⟨256 * (cOf t).val + r.val, by have := (cOf t).isLt; omega⟩ j := by
  funext a
  apply Fin.ext
  rw [he]
  match a with
  | ⟨0, _⟩ => show t.val / 8 * 1 + 0 = t.val / 8; omega
  | ⟨1, _⟩ => show t.val % 8 * 256 + r.val = 256 * (t.val % 8) + r.val; omega
  | ⟨2, _⟩ => show 0 * 256 + j.val = j.val; omega

/-- Where an element of a batch entry's block lies. -/
theorem placeB (t : Fin cfg0.N) (e : S1x2048x256.Idx → S32x2048x256.Idx)
    (he : ∀ y a, (e y a).val = ![t.val / 8, 0, 0] a * ![1, 2048, 256] a + (y a).val) (r : Fin 2048) (j : Fin 256) :
    e (ix3 0 r j) = ix3 (bOf t) r j := by
  funext a
  apply Fin.ext
  rw [he]
  match a with
  | ⟨0, _⟩ => show t.val / 8 * 1 + 0 = t.val / 8; omega
  | ⟨1, _⟩ => show 0 * 2048 + r.val = r.val; omega
  | ⟨2, _⟩ => show 0 * 256 + j.val = j.val; omega

/-- The queries' block at a grid point: the block's queries, scaled. -/
theorem iblk0 (c : Dev nD) (t : Fin cfg0.N) (r j : Fin 256) :
    iblk m c 0 t (ix3 0 r j) = Q m c (ix3 (bOf t) ⟨256 * (cOf t).val + r.val, by have := (cOf t).isLt; omega⟩ j) * scale := by
  show V m c main_v1 (((cfg0.win 0).blk t).view.emb (ix3 0 r j)) = _
  refine (congrArg (V m c main_v1) (place t (fun y => ((cfg0.win 0).blk t).view.emb y) (fun y a => ?_) r j)).trans (V_q m c _ _ _)
  refine (Pipeline.Window.rect_emb_val (cfg0.win 0) t y a).trans ?_
  have hx : (cfg0.win 0).index t = ![t.val / 8, t.val % 8, 0] :=
    (by decide +kernel : ∀ t : Fin grid0.N, cc0_transform_0 (grid0.coords t) = ![t.val / 8, t.val % 8, 0]) t
  rw [hx]

/-- The keys' block at a grid point. -/
theorem iblk1 (c : Dev nD) (t : Fin cfg0.N) (r : Fin 2048) (j : Fin 256) : iblk m c 1 t (ix3 0 r j) = K m c (ix3 (bOf t) r j) := by
  show V m c main_arg1 (((cfg0.win 1).blk t).view.emb (ix3 0 r j)) = _
  rw [V_main_arg1]
  refine congrArg (K m c) (placeB t (fun y => ((cfg0.win 1).blk t).view.emb y) (fun y a => ?_) r j)
  refine (Pipeline.Window.rect_emb_val (cfg0.win 1) t y a).trans ?_
  have hx : (cfg0.win 1).index t = ![t.val / 8, 0, 0] :=
    (by decide +kernel : ∀ t : Fin grid0.N, cc0_transform_1 (grid0.coords t) = ![t.val / 8, 0, 0]) t
  rw [hx]

/-- The values' block at a grid point. -/
theorem iblk2 (c : Dev nD) (t : Fin cfg0.N) (r : Fin 2048) (j : Fin 256) : iblk m c 2 t (ix3 0 r j) = W m c (ix3 (bOf t) r j) := by
  show V m c main_arg2 (((cfg0.win 2).blk t).view.emb (ix3 0 r j)) = _
  rw [V_main_arg2]
  refine congrArg (W m c) (placeB t (fun y => ((cfg0.win 2).blk t).view.emb y) (fun y a => ?_) r j)
  refine (Pipeline.Window.rect_emb_val (cfg0.win 2) t y a).trans ?_
  have hx : (cfg0.win 2).index t = ![t.val / 8, 0, 0] :=
    (by decide +kernel : ∀ t : Fin grid0.N, cc0_transform_2 (grid0.coords t) = ![t.val / 8, 0, 0]) t
  rw [hx]

/-- The biases' block at a grid point: all of them. -/
theorem iblk3 (c : Dev nD) (t : Fin cfg0.N) (h : Fin 4) (r : Fin 256) (k : Fin 768) : iblk m c 3 t (ix3 h r k) = biases (band (T m c)) (ix3 h r k) := by
  show V m c main_v25 (((cfg0.win 3).blk t).view.emb (ix3 h r k)) = _
  rw [← V_bias m c]
  refine congrArg (V m c main_v25) ?_
  funext a
  apply Fin.ext
  refine (Pipeline.Window.rect_emb_val (cfg0.win 3) t (ix3 h r k) a).trans ?_
  have hx : (cfg0.win 3).index t = ![0, 0, 0] :=
    (by decide +kernel : ∀ t : Fin grid0.N, cc0_transform_3 (grid0.coords t) = ![0, 0, 0]) t
  rw [hx]
  match a with
  | ⟨0, _⟩ => show 0 * 4 + h.val = h.val; omega
  | ⟨1, _⟩ => show 0 * 256 + r.val = r.val; omega
  | ⟨2, _⟩ => show 0 * 768 + k.val = k.val; omega

/-- The scratch buffers at a grid point hold the keys and the values of the point's batch entry. -/
theorem scratch (c : Dev nD) (n : Fin 2560) (j : Fin 256) : ∀ s : ℕ, ∀ hs : s < cfg0.N,
    (outsAt0 m c s hs).2.1 (ix2 n j) = padR (K m c) (bOf ⟨s, hs⟩) n j ∧ (outsAt0 m c s hs).2.2 (ix2 n j) = padR (W m c) (bOf ⟨s, hs⟩) n j := by
  intro s
  induction s using Nat.strong_induction_on with
  | _ s ih =>
    intro hs
    by_cases h0 : s % 8 = 0
    · refine ⟨(scratchK_A m c ⟨s, hs⟩ h0 n j).trans ?_, (scratchV_A m c ⟨s, hs⟩ h0 n j).trans ?_⟩
      · unfold padBlk padR
        split
        · rfl
        · exact iblk1 m c _ _ _
      · unfold padBlk padR
        split
        · rfl
        · exact iblk2 m c _ _ _
    · have e := scratch_B m c ⟨s, hs⟩ h0
      have hb : bOf ⟨s - 1, Nat.lt_of_le_of_lt (Nat.sub_le _ _) hs⟩ = bOf ⟨s, hs⟩ := by
        apply Fin.ext
        show (s - 1) / 8 = s / 8
        omega
      have i := ih (s - 1) (by omega) (Nat.lt_of_le_of_lt (Nat.sub_le _ _) hs)
      rw [hb] at i
      exact ⟨(congrFun (congrArg Prod.fst e) _).trans i.1, (congrFun (congrArg Prod.snd e) _).trans i.2⟩

/-- Four values listed, at one of the four places. -/
theorem pick {α : Type} (f : Fin 4 → α) (h : Fin 4) : (![f 0, f 1, f 2, f 3] : Fin 4 → α) h = f h := by
  match h with
  | ⟨0, _⟩ => rfl
  | ⟨1, _⟩ => rfl
  | ⟨2, _⟩ => rfl
  | ⟨3, _⟩ => rfl

/-- What a grid point leaves of the output, at an element. -/
theorem left4 (c : Dev nD) (t : Fin cfg0.N) (r : Fin 256) (h : Fin 4) (e : Fin 64) :
    (dats m 0 c).after 4 t (ix3 0 r (hd h e)) = kAt (Q m c) (K m c) (W m c) (biases (band (T m c))) (bOf t) (cOf t) r h e := by
  refine (congrFun (point_eq m c t) _).trans ?_
  rw [blk_apply]
  unfold kAt
  refine congr (congrArg attend (funext fun k => ?_)) (funext fun k => ?_)
  · unfold scores kScore
    refine if_congr ((pay7_apply _ _ _).trans (by rw [coord_val]; exact Iff.rfl)) ?_ rfl
    refine congr (congrArg HAdd.hAdd (Finset.sum_congr rfl fun e _ => ?_)) ?_
    · refine congr (congrArg HMul.hMul (iblk0 m c t r _)) ?_
      exact (window_apply t _ _ _).trans (scratch m c _ _ _ _).1
    · exact (congrFun (pick (bias (iblk m c 3 t)) h) _).trans ((bias_apply _ _ _ _).trans (iblk3 m c t h r k))
  · exact (window_apply t _ _ _).trans (scratch m c _ _ _ _).2

/-- An index of an output block as its row, head and column. -/
theorem split_idx (y : S1x256x256.Idx) : ∃ (r : Fin 256) (h : Fin 4) (e : Fin 64), y = ix3 0 r (hd h e) := by
  have h2 : (y 2).val < 256 := (y 2).isLt
  refine ⟨y 1, ⟨(y 2).val / 64, by omega⟩, ⟨(y 2).val % 64, by omega⟩, ?_⟩
  funext a
  apply Fin.ext
  match a with
  | ⟨0, _⟩ =>
    have h0 : (y 0).val < 1 := (y 0).isLt
    show (y 0).val = 0
    omega
  | ⟨1, _⟩ => rfl
  | ⟨2, _⟩ => show (y 2).val = 64 * ((y 2).val / 64) + (y 2).val % 64; omega

/-- The output after the run. -/
theorem final4 (c : Dev nD) : (dats m 0 c).arrAt 4 cfg0.N = kOut (Q m c) (K m c) (W m c) (biases (band (T m c))) := by
  generalize hR : kOut (Q m c) (K m c) (W m c) (biases (band (T m c))) = R
  refine (dats m 0 c).arrAt_eq_of_covers 4 R (by decide +kernel) (fun t hf y => ?_)
  obtain ⟨r, h, n, hy⟩ := split_idx y
  have e := place t (fun y => ((cfg0.win 4).blk t).view.emb y) (fun y a => by
    refine (Pipeline.Window.rect_emb_val (cfg0.win 4) t y a).trans ?_
    have hx : (cfg0.win 4).index t = ![t.val / 8, t.val % 8, 0] :=
      (by decide +kernel : ∀ t : Fin grid0.N, cc0_transform_4 (grid0.coords t) = ![t.val / 8, t.val % 8, 0]) t
    rw [hx]) r (hd h n)
  rw [(congrArg _ hy).trans e, ← hR]
  blk_simp
  rw [hy]
  exact (left4 m c t r h n).trans (kOut_apply _ _ _ _ _ _ _ _ _).symm

end Cert.AttnFinal
-- ==== Proof.AttnRef.lean ====
module

public import proofs.«01_k».proof.Proof.AttnFinal

/-! Attention: an element of the reference. -/

@[expose] public section

set_option maxRecDepth 16384

noncomputable section

namespace Cert.AttnRef

open Idealize.ShloMosaic Idealize.ShloMosaic.TcCoe
open Cert.ReferenceIdeal Cert.ReferenceIdeal.Gen Cert.ReferenceIdeal.Read Cert.ProjBody Cert.AttnMath Cert.AttnBody Cert.AttnFinal

/-- A prompt array. -/
abbrev A : Type := S32x2048x256.Idx → EReal

/-- The padded keys, before they are cut. -/
theorem v4_apply (x : A) (b : Fin 32) (n : Fin 2560) (h : Fin 4) (e : Fin 64) : val_main_v4 (F := Ideal) x (ix4 b n h e) = padR x b n (hd h e) := by
  have hb := b.isLt
  have hh := h.isLt
  have he := e.isLt
  unfold padR
  pointwise [val_main_v4, val_main_v3, val_main_cst]
  split
  · rfl
  · rename_i hn
    rw [val_main_v1_apply]
    congr 1
    funext a
    apply Fin.ext
    match a with
    | ⟨0, _⟩ => show (((b.val * 2048 + (n.val - 512)) * 4 + h.val) * 64 + e.val) / 524288 = b.val; omega
    | ⟨1, _⟩ => show (((b.val * 2048 + (n.val - 512)) * 4 + h.val) * 64 + e.val) / 256 % 2048 = n.val - 512; omega
    | ⟨2, _⟩ => show (((b.val * 2048 + (n.val - 512)) * 4 + h.val) * 64 + e.val) % 256 = 64 * h.val + e.val; omega

/-- The padded keys in chunks of 64. -/
theorem v5_apply (x : A) (b : Fin 32) (n : Fin 40) (p : Fin 64) (h : Fin 4) (e : Fin 64) :
    val_main_v5 (F := Ideal) x (ix5 b n p h e) = padR x b ⟨64 * n.val + p.val, by omega⟩ (hd h e) := by
  have hb := b.isLt
  have hn := n.isLt
  have hp := p.isLt
  have hh := h.isLt
  have he := e.isLt
  rw [val_main_v5_apply, ← v4_apply]
  congr 1
  funext a
  apply Fin.ext
  match a with
  | ⟨0, _⟩ => show ((((b.val * 40 + n.val) * 64 + p.val) * 4 + h.val) * 64 + e.val) / 655360 = b.val; omega
  | ⟨1, _⟩ => show ((((b.val * 40 + n.val) * 64 + p.val) * 4 + h.val) * 64 + e.val) / 256 % 2560 = 64 * n.val + p.val; omega
  | ⟨2, _⟩ => show ((((b.val * 40 + n.val) * 64 + p.val) * 4 + h.val) * 64 + e.val) / 64 % 4 = h.val; omega
  | ⟨3, _⟩ => show ((((b.val * 40 + n.val) * 64 + p.val) * 4 + h.val) * 64 + e.val) % 64 = e.val; omega

/-- The keys of a chunk's band: nine chunks side by side. -/
theorem v15_apply (x : A) (b c : Fin 32) (k : Fin 576) (h : Fin 4) (e : Fin 64) :
    val_main_v15 (F := Ideal) x (ix5 b c k h e) = padR x b ⟨64 * c.val + k.val, by omega⟩ (hd h e) := by
  have hk := k.isLt
  have five : ∀ (i : S32x40x64x4x64.Idx) (n : Fin 40) (p : Fin 64), (i 0).val = b.val → (i 1).val = n.val → (i 2).val = p.val → (i 3).val = h.val → (i 4).val = e.val →
      64 * n.val + p.val = 64 * c.val + k.val → val_main_v5 (F := Ideal) x i = padR x b ⟨64 * c.val + k.val, by omega⟩ (hd h e) := by
    intro i n p h0 h1 h2 h3 h4 hn
    have hi : i = ix5 b n p h e := by
      funext a
      match a with
      | ⟨0, _⟩ => exact Fin.ext h0
      | ⟨1, _⟩ => exact Fin.ext h1
      | ⟨2, _⟩ => exact Fin.ext h2
      | ⟨3, _⟩ => exact Fin.ext h3
      | ⟨4, _⟩ => exact Fin.ext h4
    rw [hi, v5_apply]
    congr 1
    exact Fin.ext hn
  have hc := c.isLt
  pointwise [val_main_v15]
  split
  · exact (val_main_v6_apply _ _).trans (five _ ⟨c.val, by omega⟩ ⟨k.val, by omega⟩ rfl rfl rfl rfl rfl rfl)
  split
  · exact (val_main_v7_apply _ _).trans (five _ ⟨1 + c.val, by omega⟩ ⟨k.val - 64, by omega⟩ rfl rfl rfl rfl rfl (by dsimp only; omega))
  split
  · exact (val_main_v8_apply _ _).trans (five _ ⟨2 + c.val, by omega⟩ ⟨k.val - 64 - 64, by omega⟩ rfl rfl rfl rfl rfl (by dsimp only; omega))
  split
  · exact (val_main_v9_apply _ _).trans (five _ ⟨3 + c.val, by omega⟩ ⟨k.val - 64 - 64 - 64, by omega⟩ rfl rfl rfl rfl rfl (by dsimp only; omega))
  split
  · exact (val_main_v10_apply _ _).trans (five _ ⟨4 + c.val, by omega⟩ ⟨k.val - 64 - 64 - 64 - 64, by omega⟩ rfl rfl rfl rfl rfl (by dsimp only; omega))
  split
  · exact (val_main_v11_apply _ _).trans (five _ ⟨5 + c.val, by omega⟩ ⟨k.val - 64 - 64 - 64 - 64 - 64, by omega⟩ rfl rfl rfl rfl rfl (by dsimp only; omega))
  split
  · exact (val_main_v12_apply _ _).trans (five _ ⟨6 + c.val, by omega⟩ ⟨k.val - 64 - 64 - 64 - 64 - 64 - 64, by omega⟩ rfl rfl rfl rfl rfl (by dsimp only; omega))
  split
  · exact (val_main_v13_apply _ _).trans (five _ ⟨7 + c.val, by omega⟩ ⟨k.val - 64 - 64 - 64 - 64 - 64 - 64 - 64, by omega⟩ rfl rfl rfl rfl rfl (by dsimp only; omega))
  · exact (val_main_v14_apply _ _).trans (five _ ⟨8 + c.val, by omega⟩ ⟨k.val - 64 - 64 - 64 - 64 - 64 - 64 - 64 - 64, by omega⟩ rfl rfl rfl rfl rfl (by dsimp only; omega))

/-- The values are cut as the keys are. -/
theorem v27_eq (x : A) : val_main_v27 (F := Ideal) x = val_main_v15 (F := Ideal) x := rfl

/-- The chunk of a key within the band. -/
theorem v60_apply : ∀ k : Fin 576, val_main_v60 (F := Ideal) (ix2 0 k) = BitVec.ofNat 32 (k.val / 64) := by decide +kernel

/-- The number of a query chunk less the eight chunks before it. -/
theorem v57_apply : ∀ c : Fin 32, val_main_v57 (F := Ideal) (ix2 c 0) = IntOp.subi (BitVec.ofNat 32 c.val) 8#32 := by decide +kernel

/-- The signed comparison of the mask, over the natural numbers. -/
theorem cmp_mask : ∀ (c : Fin 32) (d : Fin 9),
    IntOp.cmpi .sge (IntOp.addi (IntOp.subi (BitVec.ofNat 32 c.val) 8#32) (BitVec.ofNat 32 d.val)) 0#32 = if 8 ≤ c.val + d.val then 1#1 else 0#1 := by decide +kernel

/-- A key is seen where its chunk is at or after the first. -/
theorem v65_apply (c : Fin 32) (k : Fin 576) : val_main_v65 (F := Ideal) (ix2 c k) = if 512 ≤ 64 * c.val + k.val then 1#1 else 0#1 := by
  have hk := k.isLt
  have h61 : val_main_v61 (F := Ideal) (ix2 c k) = IntOp.subi (BitVec.ofNat 32 c.val) 8#32 := by
    rw [val_main_v61_apply, ← v57_apply]
    congr 1
    funext a
    match a with
    | ⟨0, _⟩ => rfl
    | ⟨1, _⟩ => rfl
  have h62 : val_main_v62 (F := Ideal) (ix2 c k) = BitVec.ofNat 32 (k.val / 64) := by
    rw [val_main_v62_apply, ← v60_apply]
    congr 1
    funext a
    match a with
    | ⟨0, _⟩ => rfl
    | ⟨1, _⟩ => rfl
  have h64 : val_main_v64 (F := Ideal) (ix2 c k) = 0#32 := val_main_v64_apply _
  rw [val_main_v65_apply, val_main_v63_apply, h61, h62, h64]
  refine (cmp_mask c ⟨k.val / 64, by omega⟩).trans (if_congr ?_ rfl rfl)
  show 8 ≤ c.val + k.val / 64 ↔ _
  omega

/-- A query's scores over its chunk's band of 576 keys. -/
def rScore (q k : A) (B : S4x64x576.Idx → EReal) (b c : Fin 32) (r : Fin 64) (h : Fin 4) (j : Fin 576) : EReal :=
  if 512 ≤ 64 * c.val + j.val then
    (∑ e, q (ix3 b ⟨64 * c.val + r.val, by omega⟩ (hd h e)) * padR k b ⟨64 * c.val + j.val, by omega⟩ (hd h e)) * AttnHost.scale + B (ix3 h r j)
  else ⊥

/-- The queries by head. -/
theorem v0_apply (x : A) (b : Fin 32) (n : Fin 2048) (h : Fin 4) (e : Fin 64) : val_main_v0 (F := Ideal) x (ix4 b n h e) = x (ix3 b n (hd h e)) := by
  have hb := b.isLt
  have hn := n.isLt
  have hh := h.isLt
  have he := e.isLt
  rw [val_main_v0_apply]
  congr 1
  funext a
  apply Fin.ext
  match a with
  | ⟨0, _⟩ => show (((b.val * 2048 + n.val) * 4 + h.val) * 64 + e.val) / 524288 = b.val; omega
  | ⟨1, _⟩ => show (((b.val * 2048 + n.val) * 4 + h.val) * 64 + e.val) / 256 % 2048 = n.val; omega
  | ⟨2, _⟩ => show (((b.val * 2048 + n.val) * 4 + h.val) * 64 + e.val) % 256 = 64 * h.val + e.val; omega

/-- The queries in chunks. -/
theorem v28_apply (x : A) (b c : Fin 32) (r : Fin 64) (h : Fin 4) (e : Fin 64) :
    val_main_v28 (F := Ideal) x (ix5 b c r h e) = x (ix3 b ⟨64 * c.val + r.val, by omega⟩ (hd h e)) := by
  have hb := b.isLt
  have hc := c.isLt
  have hr := r.isLt
  have hh := h.isLt
  have he := e.isLt
  rw [val_main_v28_apply, ← v0_apply x b ⟨64 * c.val + r.val, by omega⟩ h e]
  congr 1
  funext a
  apply Fin.ext
  match a with
  | ⟨0, _⟩ => show ((((b.val * 32 + c.val) * 64 + r.val) * 4 + h.val) * 64 + e.val) / 524288 = b.val; omega
  | ⟨1, _⟩ => show ((((b.val * 32 + c.val) * 64 + r.val) * 4 + h.val) * 64 + e.val) / 256 % 2048 = 64 * c.val + r.val; omega
  | ⟨2, _⟩ => show ((((b.val * 32 + c.val) * 64 + r.val) * 4 + h.val) * 64 + e.val) / 64 % 4 = h.val; omega
  | ⟨3, _⟩ => show ((((b.val * 32 + c.val) * 64 + r.val) * 4 + h.val) * 64 + e.val) % 64 = e.val; omega

/-- The reference's scores. -/
theorem v67_apply (x0 x1 : A) (x3 : S4x257.Idx → EReal) (b c : Fin 32) (h : Fin 4) (r : Fin 64) (k : Fin 576) :
    val_main_v67 (F := Ideal) x0 x1 x3 (ix5 b c h r k) = rScore x0 x1 (AttnHost.band x3) b c r h k := by
  have hm : val_main_call2_v1 (F := Ideal) (ix5 b c h r k) = if 512 ≤ 64 * c.val + k.val then 1#1 else 0#1 := by
    rw [val_main_call2_v1_apply, val_main_v66_apply, ← v65_apply]
    congr 1
    funext a
    match a with
    | ⟨0, _⟩ => rfl
    | ⟨1, _⟩ => rfl
  have hz : val_main_call2_v2 (F := Ideal) (ix5 b c h r k) = ⊥ := (val_main_call2_v2_apply _).trans word_bot
  have hB : val_main_v52 (F := Ideal) x3 (ix5 b c h r k) = AttnHost.band x3 (ix3 h r k) := by
    rw [val_main_v52_apply, val_main_v51_apply]
    congr 1
    funext a
    match a with
    | ⟨0, _⟩ => rfl
    | ⟨1, _⟩ => rfl
    | ⟨2, _⟩ => rfl
  have hS : val_main_v31 (F := Ideal) x0 x1 (ix5 b c h r k) =
      (∑ e, x0 (ix3 b ⟨64 * c.val + r.val, by omega⟩ (hd h e)) * padR x1 b ⟨64 * c.val + k.val, by omega⟩ (hd h e)) * AttnHost.scale := by
    rw [val_main_v31_apply, val_main_v29_apply]
    refine congrArg₂ (fun u w : EReal => u * w) (Finset.sum_congr rfl fun e _ => ?_) (val_main_v30_apply _)
    refine congrArg₂ (fun u w : EReal => u * w) ((congrArg _ ?_).trans (v28_apply x0 b c r h e)) ((congrArg _ ?_).trans (v15_apply x1 b c k h e))
    all_goals
      funext a
      match a with
      | ⟨0, _⟩ => rfl
      | ⟨1, _⟩ => rfl
      | ⟨2, _⟩ => rfl
      | ⟨3, _⟩ => rfl
      | ⟨4, _⟩ => rfl
  unfold rScore
  rw [val_main_v67_apply, val_main_v53_apply, hm, hz, hB, hS]
  by_cases h0 : 512 ≤ 64 * c.val + k.val
  · rw [if_pos h0, if_pos h0]; rfl
  · rw [if_neg h0, if_neg h0]; rfl

/-- A row's greatest score. -/
theorem v70_apply (x0 x1 : A) (x3 : S4x257.Idx → EReal) (b c : Fin 32) (h : Fin 4) (r : Fin 64) :
    val_main_v70 (F := Ideal) x0 x1 x3 (ix4 b c h r) = top (rScore x0 x1 (AttnHost.band x3) b c r h) := by
  have h69 : val_main_v69 (F := Ideal) (ix4 b c h r) = ⊥ := (val_main_v69_apply _).trans word_bot
  have h68 : val_main_v68 (F := Ideal) x0 x1 x3 (ix4 b c h r) = top (fun k => val_main_v67 (F := Ideal) x0 x1 x3 (ix5 b c h r k)) := by
    unfold top
    rw [← word_bot]
    pointwise [val_main_v68, val_main_cst_10]
  rw [val_main_v70_apply, h69, h68]
  refine (bot_sup_eq _).trans (congrArg top (funext fun k => v67_apply x0 x1 x3 b c h r k))

/-- A row's exponentials. -/
theorem v74_apply (x0 x1 : A) (x3 : S4x257.Idx → EReal) (b c : Fin 32) (h : Fin 4) (r : Fin 64) (k : Fin 576) :
    val_main_v74 (F := Ideal) x0 x1 x3 (ix5 b c h r k) = weight (rScore x0 x1 (AttnHost.band x3) b c r h) k := by
  have h72 : val_main_v72 (F := Ideal) x0 x1 x3 (ix5 b c h r k) = top (rScore x0 x1 (AttnHost.band x3) b c r h) := by
    rw [val_main_v72_apply, val_main_v71_apply, ← v70_apply]
    congr 1
    funext a
    match a with
    | ⟨0, _⟩ => rfl
    | ⟨1, _⟩ => rfl
    | ⟨2, _⟩ => rfl
    | ⟨3, _⟩ => rfl
  rw [val_main_v74_apply, val_main_v73_apply, h72, v67_apply]
  rfl

/-- A row's softmax. -/
theorem v78_apply (x0 x1 : A) (x3 : S4x257.Idx → EReal) (b c : Fin 32) (h : Fin 4) (r : Fin 64) (k : Fin 576) :
    val_main_v78 (F := Ideal) x0 x1 x3 (ix5 b c h r k)
      = Ideal.div (weight (rScore x0 x1 (AttnHost.band x3) b c r h) k) (mass (rScore x0 x1 (AttnHost.band x3) b c r h)) := by
  have h77 : val_main_v77 (F := Ideal) x0 x1 x3 (ix5 b c h r k) = mass (rScore x0 x1 (AttnHost.band x3) b c r h) := by
    rw [val_main_v77_apply, val_main_v76_apply, val_main_v75_apply]
    have z : val_main_cst_12 (F := Ideal) (Shape.Idx.first h_S_) = 0 := Ideal.ofBits_zero_f32
    rw [z, zero_add]
    unfold mass
    refine Finset.sum_congr rfl fun j _ => ?_
    rw [← v74_apply]
    congr 1
    funext a
    match a with
    | ⟨0, _⟩ => rfl
    | ⟨1, _⟩ => rfl
    | ⟨2, _⟩ => rfl
    | ⟨3, _⟩ => rfl
    | ⟨4, _⟩ => rfl
  rw [val_main_v78_apply, h77, v74_apply]
  rfl

/-- The reference's output at an element. -/
theorem v81_apply (x0 x1 x2 : A) (x3 : S4x257.Idx → EReal) (b c : Fin 32) (r : Fin 64) (h : Fin 4) (e : Fin 64) :
    val_main_v81 (F := Ideal) x0 x1 x2 x3 (ix3 b ⟨64 * c.val + r.val, by omega⟩ (hd h e))
      = attendR (rScore x0 x1 (AttnHost.band x3) b c r h) (fun k => padR x2 b ⟨64 * c.val + k.val, by omega⟩ (hd h e)) := by
  have hb := b.isLt
  have hc := c.isLt
  have hr := r.isLt
  have hh := h.isLt
  have he := e.isLt
  have hi : idx_main_v80 (idx_main_v81 (ix3 b ⟨64 * c.val + r.val, by omega⟩ (hd h e))) = ix5 b c h e r := by
    funext a
    apply Fin.ext
    match a with
    | ⟨0, _⟩ => show ((b.val * 2048 + (64 * c.val + r.val)) * 256 + (64 * h.val + e.val)) / 524288 = b.val; omega
    | ⟨1, _⟩ => show ((b.val * 2048 + (64 * c.val + r.val)) * 256 + (64 * h.val + e.val)) / 16384 % 32 = c.val; omega
    | ⟨2, _⟩ => show ((b.val * 2048 + (64 * c.val + r.val)) * 256 + (64 * h.val + e.val)) / 64 % 4 = h.val; omega
    | ⟨3, _⟩ => show ((b.val * 2048 + (64 * c.val + r.val)) * 256 + (64 * h.val + e.val)) % 64 = e.val; omega
    | ⟨4, _⟩ => show ((b.val * 2048 + (64 * c.val + r.val)) * 256 + (64 * h.val + e.val)) / 256 % 64 = r.val; omega
  rw [val_main_v81_apply, val_main_v80_apply, hi, val_main_v79_apply]
  unfold attendR
  refine Finset.sum_congr rfl fun k _ => ?_
  rw [v27_eq]
  refine congrArg₂ (fun u w : EReal => u * w) ((congrArg _ ?_).trans (v15_apply x2 b c k h e)) ((congrArg _ ?_).trans (v78_apply x0 x1 x3 b c h r k))
  all_goals
    funext a
    match a with
    | ⟨0, _⟩ => rfl
    | ⟨1, _⟩ => rfl
    | ⟨2, _⟩ => rfl
    | ⟨3, _⟩ => rfl
    | ⟨4, _⟩ => rfl

end Cert.AttnRef
-- ==== Proof.AttnMeet.lean ====
module

public import proofs.«01_k».proof.Proof.AttnRef

/-! Attention: on finite queries, keys and table the kernel's output is the reference's. -/

@[expose] public section

set_option maxRecDepth 16384

noncomputable section

namespace Cert.AttnMeet

open Idealize.ShloMosaic Idealize.ShloMosaic.TcCoe
open Cert.KernelIdeal Cert.KernelIdeal.Gen Cert.ProjBody Cert.AttnMath Cert.AttnBody Cert.AttnHost Cert.AttnFinal Cert.AttnRef

/-- The biases of a block's row: its chunk's band at the chunk's place, −∞ elsewhere. -/
theorem biases_apply (B : S4x64x576.Idx → EReal) (h : Fin 4) (i : Fin 4) (q : Fin 64) (k : Fin 768) :
    biases B (ix3 h ⟨64 * i.val + q.val, by omega⟩ k) = if g : 64 * i.val ≤ k.val ∧ k.val - 64 * i.val < 576 then B (ix3 h q ⟨k.val - 64 * i.val, g.2⟩) else ⊥ := by
  rw [← word_bot]
  match i with
  | ⟨0, p⟩ => pointwise [biases]
  | ⟨1, p⟩ => pointwise [biases]
  | ⟨2, p⟩ =>
    have h1 : ¬128 + q.val < 64 := by omega
    have h2 : ¬128 + q.val - 64 < 64 := by omega
    have h3 : 128 + q.val - 64 - 64 < 64 := by omega
    have e : (⟨128 + q.val - 64 - 64, h3⟩ : Fin 64) = q := Fin.ext (by dsimp only; omega)
    pointwise [biases]
    rw [dif_neg h1, dif_neg h2, dif_pos h3]
    exact dite_congr (propext ⟨fun f => f.2, fun g => And.intro h3 g⟩) (fun g => congrArg (fun a => B (ix3 h a ⟨k.val - 128, g.2⟩)) e) (fun _ => rfl)
  | ⟨3, p⟩ =>
    have h1 : ¬192 + q.val < 64 := by omega
    have h2 : ¬192 + q.val - 64 < 64 := by omega
    have h3 : ¬192 + q.val - 64 - 64 < 64 := by omega
    have h4 : 192 + q.val - 64 - 64 - 64 < 64 := by omega
    have e : (⟨192 + q.val - 64 - 64 - 64, h4⟩ : Fin 64) = q := Fin.ext (by dsimp only; omega)
    pointwise [biases]
    rw [dif_neg h1, dif_neg h2, dif_neg h3]
    exact dite_congr (propext ⟨fun f => f.2, fun g => And.intro h4 g⟩) (fun g => congrArg (fun a => B (ix3 h a ⟨k.val - 192, g.2⟩)) e) (fun _ => rfl)

/-- One eighth is finite and not negative. -/
theorem scale_eq : scale = ((1 / 8 : ℝ) : EReal) := by
  simp [scale, Ideal.ofBits, Ideal.ieee]
  rw [← EReal.coe_mul]
  exact congrArg _ (by norm_num)

/-- The scale is not negative. -/
theorem scale_nonneg : 0 ≤ scale := by
  rw [scale_eq]
  exact EReal.coe_nonneg.2 (by norm_num)

/-- The scale is a real number. -/
theorem scale_finite : scale ≠ ⊥ ∧ scale ≠ ⊤ := by
  rw [scale_eq]
  exact ⟨EReal.coe_ne_bot _, EReal.coe_ne_top _⟩

/-- An element of the band is one of the table. -/
theorem band_mem (x : S4x257.Idx → EReal) (i : S4x64x576.Idx) : ∃ j, band x i = x j := ⟨_, rfl⟩

/-- Every element is finite. -/
def Fin' {S : Shape} (x : S.Idx → EReal) : Prop := ∀ i, x i ≠ ⊥ ∧ x i ≠ ⊤

/-- Finite rows stay finite with zeros before them. -/
theorem padR_finite (x : A) (h : Fin' x) (b : Fin 32) (n : Fin 2560) (j : Fin 256) : padR x b n j ≠ ⊥ ∧ padR x b n j ≠ ⊤ := by
  unfold padR
  split
  · exact ⟨EReal.coe_ne_bot 0, EReal.coe_ne_top 0⟩
  · exact h _

section row

variable (q k v : A) (x : S4x257.Idx → EReal) (hq : Fin' q) (hk : Fin' k) (hx : Fin' x) (b : Fin 32) (h : Fin 4) (r : Fin 64)

include hq hk hx in
/-- A seen key's score is finite. -/
theorem seen_finite (c : Fin 32) (j : Fin 576) (hj : 512 ≤ 64 * c.val + j.val) :
    rScore q k (band x) b c r h j ≠ ⊥ ∧ rScore q k (band x) b c r h j ≠ ⊤ := by
  unfold rScore
  rw [if_pos hj]
  refine add_finite _ _ (mul_finite _ _ (sum_finite _ fun e => mul_finite _ _ (hq _) (padR_finite k hk _ _ _)) scale_finite) ?_
  obtain ⟨i, hi⟩ := band_mem x (ix3 h r j)
  rw [hi]
  exact hx i

include hq hk hx in
/-- A row's exponentials have a sum that is not zero: key 512 of the band is always seen. -/
theorem row_mass (c : Fin 32) : mass (rScore q k (band x) b c r h) ≠ 0 := by
  refine mass_ne_zero _ (fun j => ?_) ⟨512, by omega⟩ (seen_finite q k x hq hk hx b h r c _ (by dsimp only; omega)).1
  by_cases hj : 512 ≤ 64 * c.val + j.val
  · exact (seen_finite q k x hq hk hx b h r c j hj).2
  · unfold rScore
    rw [if_neg hj]
    exact bot_ne_top

/-- Where a chunk's band lies in its block's window. -/
def inWindow (i : Fin 4) (j : Fin 576) : Fin 768 := ⟨64 * i.val + j.val, by omega⟩

/-- Two keys of a band lie at two places of the window. -/
theorem inWindow_injective (i : Fin 4) : Function.Injective (inWindow i) := fun a b e => by
  have h := congrArg Fin.val e
  apply Fin.ext
  simp only [inWindow] at h
  omega

/-- The kernel's scores of a row, over the band, are the reference's. -/
theorem score_in (c : Fin 8) (i : Fin 4) (j : Fin 576) :
    kScore q k (biases (band x)) b c ⟨64 * i.val + r.val, by omega⟩ h (inWindow i j) = rScore q k (band x) b ⟨4 * c.val + i.val, by omega⟩ r h j := by
  unfold kScore rScore
  have e1 : (⟨256 * c.val + (64 * i.val + r.val), by omega⟩ : Fin 2048) = ⟨64 * (4 * c.val + i.val) + r.val, by omega⟩ := Fin.ext (by dsimp only; omega)
  have e2 : (⟨256 * c.val + (64 * i.val + j.val), by omega⟩ : Fin 2560) = ⟨64 * (4 * c.val + i.val) + j.val, by omega⟩ := Fin.ext (by dsimp only; omega)
  refine if_congr ?_ ?_ rfl
  · show 512 ≤ 256 * c.val + (64 * i.val + j.val) ↔ 512 ≤ 64 * (4 * c.val + i.val) + j.val
    omega
  · refine congrArg₂ (fun u w : EReal => u + w) ?_ ?_
    · rw [← scale_sum scale scale_nonneg scale_finite.2]
      refine Finset.sum_congr rfl fun e _ => ?_
      exact congrArg₂ (fun u w : EReal => u * scale * w) (congrArg (fun n => q (ix3 b n (hd h e))) e1) (congrArg (fun n => padR k b n (hd h e)) e2)
    · rw [biases_apply, dif_pos ⟨by show 64 * i.val ≤ 64 * i.val + j.val; omega, by show 64 * i.val + j.val - 64 * i.val < 576; omega⟩]
      congr 2
      apply Fin.ext
      show 64 * i.val + j.val - 64 * i.val = j.val
      omega

/-- Outside the band they are −∞. -/
theorem score_out (c : Fin 8) (i : Fin 4) (j : Fin 768) (hj : j ∉ Set.range (inWindow i)) :
    kScore q k (biases (band x)) b c ⟨64 * i.val + r.val, by omega⟩ h j = ⊥ := by
  unfold kScore
  split
  · rw [biases_apply, dif_neg, EReal.add_bot]
    intro g
    exact hj ⟨⟨j.val - 64 * i.val, g.2⟩, Fin.ext (by show 64 * i.val + (j.val - 64 * i.val) = j.val; omega)⟩
  · rfl

include hq hk hx in
/-- An element of the kernel's output is the reference's row. -/
theorem row_eq (c : Fin 8) (i : Fin 4) (e : Fin 64) :
    kAt q k v (biases (band x)) b c ⟨64 * i.val + r.val, by omega⟩ h e
      = attendR (rScore q k (band x) b ⟨4 * c.val + i.val, by omega⟩ r h) (fun j => padR v b ⟨64 * (4 * c.val + i.val) + j.val, by omega⟩ (hd h e)) := by
  unfold kAt
  refine (attend_band (inWindow i) (inWindow_injective i) _ _ _ (fun j => padR v b ⟨64 * (4 * c.val + i.val) + j.val, by omega⟩ (hd h e))
    (fun j => score_in q k x b h r c i j) (fun j => ?_) (fun j hj => score_out q k x b h r c i j hj)).trans (attend_eq _ _ (row_mass q k x hq hk hx b h r _))
  exact congrArg (fun n => padR v b n (hd h e)) (Fin.ext (by show 256 * c.val + (64 * i.val + j.val) = 64 * (4 * c.val + i.val) + j.val; omega))

end row

/-- On finite queries, keys and table the two outputs are one. -/
theorem meet (q k v : A) (x : S4x257.Idx → EReal) (hq : Fin' q) (hk : Fin' k) (hx : Fin' x) :
    Cert.ReferenceIdeal.Read.val_main_v81 (F := Ideal) q k v x = kOut q k v (biases (band x)) := by
  funext y
  have h0 : (y 0).val < 32 := (y 0).isLt
  have h1 : (y 1).val < 2048 := (y 1).isLt
  have h2 : (y 2).val < 256 := (y 2).isLt
  have hR : y = ix3 ⟨(y 0).val, h0⟩ ⟨64 * ((4 * ((y 1).val / 256) + (y 1).val % 256 / 64)) + (y 1).val % 64, by omega⟩ (hd ⟨(y 2).val / 64, by omega⟩ ⟨(y 2).val % 64, by omega⟩) := by
    funext a
    apply Fin.ext
    match a with
    | ⟨0, _⟩ => rfl
    | ⟨1, _⟩ => show (y 1).val = 64 * ((4 * ((y 1).val / 256) + (y 1).val % 256 / 64)) + (y 1).val % 64; omega
    | ⟨2, _⟩ => show (y 2).val = 64 * ((y 2).val / 64) + (y 2).val % 64; omega
  have hK : y = ix3 ⟨(y 0).val, h0⟩ ⟨256 * ((y 1).val / 256) + (64 * ((y 1).val % 256 / 64) + (y 1).val % 64), by omega⟩ (hd ⟨(y 2).val / 64, by omega⟩ ⟨(y 2).val % 64, by omega⟩) := by
    funext a
    apply Fin.ext
    match a with
    | ⟨0, _⟩ => rfl
    | ⟨1, _⟩ => show (y 1).val = 256 * ((y 1).val / 256) + (64 * ((y 1).val % 256 / 64) + (y 1).val % 64); omega
    | ⟨2, _⟩ => show (y 2).val = 64 * ((y 2).val / 64) + (y 2).val % 64; omega
  refine (congrArg _ hR).trans ?_
  refine (v81_apply q k v x ⟨(y 0).val, h0⟩ ⟨4 * ((y 1).val / 256) + (y 1).val % 256 / 64, by omega⟩ ⟨(y 1).val % 64, by omega⟩ ⟨(y 2).val / 64, by omega⟩ ⟨(y 2).val % 64, by omega⟩).trans ?_
  refine (row_eq q k v x hq hk hx ⟨(y 0).val, h0⟩ ⟨(y 2).val / 64, by omega⟩ ⟨(y 1).val % 64, by omega⟩ ⟨(y 1).val / 256, by omega⟩ ⟨(y 1).val % 256 / 64, by omega⟩ ⟨(y 2).val % 64, by omega⟩).symm.trans ?_
  refine (kOut_apply q k v (biases (band x)) ⟨(y 0).val, h0⟩ ⟨(y 1).val / 256, by omega⟩ ⟨64 * ((y 1).val % 256 / 64) + (y 1).val % 64, by omega⟩ ⟨(y 2).val / 64, by omega⟩ ⟨(y 2).val % 64, by omega⟩).symm.trans ?_
  exact (congrArg _ hK).symm

end Cert.AttnMeet
-- ==== Proof.AttnPre.lean ====
module

public import proofs.«01_k».proof.Pre_finite_arguments
public import proofs.«01_k».proof.Proof.AttnMath
public import Idealize.ShloMosaic.Lib.ReduceAll

/-! The attention's precondition, read: every query, every key and every entry of the table is a real number. -/

@[expose] public section

set_option maxRecDepth 16384

noncomputable section

namespace Cert.AttnPre

open Idealize.ShloMosaic Idealize.SL.Sem
open Cert.Pre_finite_arguments Cert.AttnMath

/-- The shapes the precondition's operations name fit together. -/
instance facts : Cert.Pre_finite_arguments.Facts where
  bcast_S_S32x2048x256 := by decide
  reducesTo_S32x2048x256_S_d0_1_2 := by decide
  h_S_ := by decide
  bcast_S_S4x257 := by decide
  reducesTo_S4x257_S_d0_1 := by decide

/-- A scalar has one index. -/
instance scalar : Subsingleton S_.Idx := ⟨fun a b => funext fun i => i.elim0⟩

/-- The bit pattern the precondition compares with is infinity. -/
theorem infinity : Ideal.ofBits .f32 0x7F800000#32 = ⊤ := by simp [Ideal.ofBits, Ideal.ieee]

/-- An element whose absolute value compares below infinity is a real number. -/
theorem finite_of_cmp (x : EReal) (h : FloatOps.cmpf (F := Ideal) (φ := .f32) .olt (FloatOps.hostAbsf (F := Ideal) (φ := .f32) x) (Ideal.ofBits .f32 0x7F800000#32) = 1#1) : x ≠ ⊥ ∧ x ≠ ⊤ := by
  rw [infinity] at h
  refine finite_of_abs x ?_
  by_contra g
  have : FloatOps.cmpf (F := Ideal) (φ := .f32) .olt (FloatOps.hostAbsf (F := Ideal) (φ := .f32) x) (⊤ : EReal) = 0#1 := by
    show BitVec.ofBool (decide (max x (-x) < (⊤ : EReal))) = 0#1
    rw [decide_eq_false g]; rfl
  rw [this] at h
  exact absurd h (by decide)

/-- The precondition makes the queries, the keys and the table finite. -/
theorem finite (q k v : S32x2048x256.Idx → EReal) (x : S4x257.Idx → EReal)
    (h : Cert.Pre_finite_arguments.fn (F := Ideal) q k v x = fun _ => 1#1) :
    (∀ i, q i ≠ ⊥ ∧ q i ≠ ⊤) ∧ (∀ i, k i ≠ ⊥ ∧ k i ≠ ⊤) ∧ (∀ i, x i ≠ ⊥ ∧ x i ≠ ⊤) := by
  have e := congrFun h (fun i => i.elim0)
  obtain ⟨e1, e3⟩ := IntOp.andi_eq_one.mp e
  obtain ⟨e1, e2⟩ := IntOp.andi_eq_one.mp e1
  exact ⟨fun i => finite_of_cmp _ (Host.reduce_andi_all _ _ _ _ _ e1 i),
    fun i => finite_of_cmp _ (Host.reduce_andi_all _ _ _ _ _ e2 i),
    fun i => finite_of_cmp _ (Host.reduce_andi_all _ _ _ _ _ e3 i)⟩

end Cert.AttnPre

end
-- ==== Proof.AttnClaim.lean ====
module

public import proofs.«01_k».proof.Defs
public import proofs.«01_k».proof.Proof.AttnMeet
public import proofs.«01_k».proof.Proof.AttnFinal
public import proofs.«01_k».proof.Proof.Gen.Kernel
public import proofs.«01_k».proof.Proof.Gen.Kernel.Frame
public import proofs.«01_k».proof.Proof.Gen.ReferenceIdeal
public import proofs.«01_k».proof.Proof.Gen.ReferenceIdeal.Run
public import proofs.«01_k».proof.Proof.AttnPre
public import Idealize.ShloMosaic.Lib.Quiescent

/-! The claims about the attention: on finite queries, keys and table the kernel and its reference compute the same array. -/

@[expose] public section

set_option maxRecDepth 16384

noncomputable section

namespace Cert.AttnClaim

open Idealize.ShloMosaic Idealize.SL.Sem Idealize.ShloMosaic.TcCoe
open Cert.AttnMath Cert.AttnMeet

/-- The reference terminates with its arguments unchanged and its semaphores at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments, with finite queries, keys and table, the kernel and the reference end with the same array. -/
theorem value : Cert.algebraic_KernelIdeal_ReferenceIdeal_pre_finite_arguments := by
  intro m g m' g' h hag
  refine ⟨fun c => (Cert.KernelIdeal.Gen.dats m 0 c).arrAt 4 Cert.KernelIdeal.cfg0.N,
    Cert.KernelIdeal.Value.run_blocks m g,
    (θ_run Cert.ReferenceIdeal.defs _ _).mono (fun r hr c => ?_) (Cert.ReferenceIdeal.Value.run (F := Ideal) m' g')⟩
  obtain ⟨r0, hargs⟩ := hr c
  obtain ⟨e0, e1, e2, e3⟩ := hag c
  obtain ⟨hq, hk, hx⟩ := AttnPre.finite _ _ _ _ (h c)
  refine ⟨r0.trans ?_, hargs⟩
  refine (Cert.ReferenceIdeal.Read.val_main_v81_eq (F := Ideal) m' c).trans (Eq.trans ?_ ((meet _ _ _ _ hq hk hx).trans (AttnFinal.final4 m c).symm))
  rw [e0, e1, e2, e3]

end Cert.AttnClaim

end
-- ==== Proof.ProjWeights.lean ====
module

public import proofs.«01_k».proof.Proof.Gen.Kernel2Ideal.Value
public import Idealize.ShloMosaic.Lib.Pointwise.Tactic
public import Idealize.ShloMosaic.PureOps.Ideal.Laws
public import Idealize.ShloMosaic.Lib.Pipeline.ValueKit
public import Idealize.ShloMosaic.Lib.ValueIdx

/-! The input projection: the weights as the kernel finds them, the columns of the argument array in another order and
    padded with zeros. -/

@[expose] public section

set_option maxRecDepth 16384

noncomputable section

namespace Cert.ProjWeights

open Idealize.ShloMosaic Idealize.ShloMosaic.TcCoe
open Cert.Kernel2Ideal Cert.Kernel2Ideal.Gen

/-- The weights rearranged: the argument's columns without the four of the step, then those four and zeros. -/
def wmat (w : FVec Ideal S1024x2308 .f32) : FVec Ideal S1024x2432 .bf16 :=
  truncf .bf16 (concatenate S1024x2432 1
    [⟨S1024x256, extractStridedSlice S1024x256 ![0, 0] w slices_S1024x2308_S1024x256_0_0⟩,
     ⟨S1024x512, extractStridedSlice S1024x512 ![0, 256] w slices_S1024x2308_S1024x512_0_256⟩,
     ⟨S1024x512, extractStridedSlice S1024x512 ![0, 772] w slices_S1024x2308_S1024x512_0_772⟩,
     ⟨S1024x256, extractStridedSlice S1024x256 ![0, 1284] w slices_S1024x2308_S1024x256_0_1284⟩,
     ⟨S1024x256, extractStridedSlice S1024x256 ![0, 1540] w slices_S1024x2308_S1024x256_0_1540⟩,
     ⟨S1024x256, extractStridedSlice S1024x256 ![0, 1796] w slices_S1024x2308_S1024x256_0_1796⟩,
     ⟨S1024x256, extractStridedSlice S1024x256 ![0, 2052] w slices_S1024x2308_S1024x256_0_2052⟩,
     ⟨S1024x128, pad S1024x128 ![0, 0] ![0, 124] ![0, 0] (extractStridedSlice S1024x4 ![0, 768] w slices_S1024x2308_S1024x4_0_768)
        (sitofp .f32 (constantI S_ 32 0#32)) pads_S1024x4_S1024x128_000_01240 h_S_⟩]
    concatenates_S1024x256_S1024x512_S1024x512_S1024x256_S1024x256_S1024x256_S1024x256_S1024x128_S1024x2432_d1) bitsLt_bf16_f32

variable (m : (ℓ : Loc nD τ sig) → Buf (Elt Ideal) ℓ)

/-- The weights as the body finds them. -/
theorem V_w (c : Dev nD) : (V m c main_v10 : S1024x2432.Idx → EReal) = wmat (m ((c.tc : Thread nD τ).loc main_arg2)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- The scale as the body finds it: the argument as one row. -/
theorem V_g (c : Dev nD) (k : Fin 1024) : (V m c main_v11 : S1x1024.Idx → EReal) (ix2 0 k) = m ((c.tc : Thread nD τ).loc main_arg1) (ix1 k) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  pointwise

/-- A column of the rearranged weights that is a column of the argument. -/
theorem wmat_apply (w : FVec Ideal S1024x2308 .f32) (k : Fin 1024) (j : Fin 2432) (j' : Fin 2308)
    (h : (j.val < 768 ∧ j'.val = j.val) ∨ (768 ≤ j.val ∧ j.val < 2304 ∧ j'.val = j.val + 4) ∨ (2304 ≤ j.val ∧ j'.val + 1536 = j.val ∧ j'.val < 772)) :
    wmat w (ix2 k j) = w (ix2 k j') := by
  pointwise [wmat]
  split_ifs <;> first
    | omega
    | (refine congrArg w (congrArg (ix2 k) (Fin.ext ?_)); dsimp only; omega)

/-- A column past those is zero. -/
theorem wmat_zero (w : FVec Ideal S1024x2308 .f32) (k : Fin 1024) (j : Fin 2432) (h : 2308 ≤ j.val) : wmat w (ix2 k j) = 0 := by
  pointwise [wmat]
  split_ifs <;> first
    | omega
    | (show (((0#32 : BitVec 32).toInt : ℝ) : EReal) = 0; simp)

/-- The rows reach the body in blocks of 512, four to a batch entry. -/
theorem index0 (t : Fin grid0.N) : cc0_transform_0 (grid0.coords t) = ![t.val / 4, t.val % 4, 0] :=
  (by decide +kernel : ∀ t : Fin grid0.N, cc0_transform_0 (grid0.coords t) = ![t.val / 4, t.val % 4, 0]) t

/-- The block of rows at a grid point, at an element. -/
theorem iblk0 (c : Dev nD) (t : Fin cfg0.N) (r : Fin 512) (k : Fin 1024) :
    iblk m c 0 t (ix3 0 r k) = m ((c.tc : Thread nD τ).loc main_arg0)
      (ix3 ⟨t.val / 4, by have h : t.val < 128 := t.isLt; omega⟩ ⟨512 * (t.val % 4) + r.val, by omega⟩ k) := by
  show V m c main_arg0 (((cfg0.win 0).blk t).view.emb (ix3 0 r k)) = _
  rw [V_main_arg0]
  congr 1
  funext a
  apply Fin.ext
  refine (Pipeline.Window.rect_emb_val (cfg0.win 0) t (ix3 0 r k) a).trans ?_
  have hx : (cfg0.win 0).index t = ![t.val / 4, t.val % 4, 0] := index0 t
  rw [hx]
  match a with
  | ⟨0, _⟩ => show t.val / 4 * 1 + 0 = t.val / 4; omega
  | ⟨1, _⟩ => show t.val % 4 * 512 + r.val = 512 * (t.val % 4) + r.val; omega
  | ⟨2, _⟩ => show 0 * 1024 + k.val = k.val; omega

/-- The scale at a grid point. -/
theorem iblk1 (c : Dev nD) (t : Fin cfg0.N) (k : Fin 1024) :
    iblk m c 1 t (ix2 0 k) = m ((c.tc : Thread nD τ).loc main_arg1) (ix1 k) := by
  refine Eq.trans ?_ (V_g m c k)
  show V m c main_v11 (((cfg0.win 1).blk t).view.emb (ix2 0 k)) = _
  congr 1
  funext a
  apply Fin.ext
  refine (Pipeline.Window.rect_emb_val (cfg0.win 1) t (ix2 0 k) a).trans ?_
  have hx : (cfg0.win 1).index t = ![0, 0] := (by decide +kernel : ∀ t : Fin grid0.N, cc0_transform_1 (grid0.coords t) = ![0, 0]) t
  rw [hx]
  match a with
  | ⟨0, _⟩ => rfl
  | ⟨1, _⟩ => show 0 * 1024 + k.val = k.val; omega

/-- The weights at a grid point. -/
theorem iblk2 (c : Dev nD) (t : Fin cfg0.N) (k : Fin 1024) (j : Fin 2432) :
    iblk m c 2 t (ix2 k j) = wmat (m ((c.tc : Thread nD τ).loc main_arg2)) (ix2 k j) := by
  rw [← V_w m c]
  show V m c main_v10 (((cfg0.win 2).blk t).view.emb (ix2 k j)) = _
  congr 1
  funext a
  apply Fin.ext
  refine (Pipeline.Window.rect_emb_val (cfg0.win 2) t (ix2 k j) a).trans ?_
  have hx : (cfg0.win 2).index t = ![0, 0] := (by decide +kernel : ∀ t : Fin grid0.N, cc0_transform_2 (grid0.coords t) = ![0, 0]) t
  rw [hx]
  match a with
  | ⟨0, _⟩ => show 0 * 1024 + k.val = k.val; omega
  | ⟨1, _⟩ => show 0 * 2432 + j.val = j.val; omega

end Cert.ProjWeights
-- ==== Proof.ProjOut.lean ====
module

public import proofs.«01_k».proof.Proof.ProjBody
public import proofs.«01_k».proof.Proof.ProjWeights

/-! The input projection: the eight result arrays after the run. -/

@[expose] public section

set_option maxRecDepth 16384

noncomputable section

namespace Cert.ProjOut

open Idealize.ShloMosaic Idealize.ShloMosaic.TcCoe
open Cert.Kernel2Ideal Cert.Kernel2Ideal.Gen Cert.ProjBody Cert.ProjWeights

/-- One element of the projection: a normalised row against a column of the weights. -/
def elem (x : S32x2048x1024.Idx → EReal) (g : S1024.Idx → EReal) (w : S1024x2308.Idx → EReal) (b : Fin 32) (l : Fin 2048) (j : Fin 2308) : EReal :=
  proj (fun k => x (ix3 b l k)) (fun k => g (ix1 k)) (fun k => w (ix2 k j))

/-- A run of `W` consecutive columns of the projection from column `o`. -/
def cols (W o : Nat) (h : o + W ≤ 2308) (x : S32x2048x1024.Idx → EReal) (g : S1024.Idx → EReal) (w : S1024x2308.Idx → EReal) :
    (⟨3, ![32, 2048, W]⟩ : Shape).Idx → EReal := fun i =>
  elem x g w (i 0) (i 1) ⟨o + (i 2).val, Nat.lt_of_lt_of_le (Nat.add_lt_add_left (i 2).isLt o) h⟩

/-- The steps: four columns of the projection, then zeros. -/
def steps (x : S32x2048x1024.Idx → EReal) (g : S1024.Idx → EReal) (w : S1024x2308.Idx → EReal) : S32x2048x128.Idx → EReal := fun i =>
  if h : (i 2).val < 4 then elem x g w (i 0) (i 1) ⟨768 + (i 2).val, by omega⟩ else 0

/-- The queries: columns of the projection, scaled. -/
def queries (x : S32x2048x1024.Idx → EReal) (g : S1024.Idx → EReal) (w : S1024x2308.Idx → EReal) : S32x2048x256.Idx → EReal := fun i =>
  cols 256 1284 (by decide) x g w i * Ideal.ofBits .f32 0x3E000000#32

/-- The inputs of the second scan: columns of the projection, eight batch entries side by side. -/
def scan5 (x : S32x2048x1024.Idx → EReal) (g : S1024.Idx → EReal) (w : S1024x2308.Idx → EReal) : S4x2048x2048.Idx → EReal := fun i =>
  elem x g w ⟨8 * (i 0).val + (i 2).val / 256, by
      have h0 : (i 0).val < 4 := (i 0).isLt
      have h2 : (i 2).val < 2048 := (i 2).isLt
      omega⟩ (i 1) ⟨2052 + (i 2).val % 256, by omega⟩

/-- Where a block of 512 rows lies among the rows of its batch entry. -/
theorem place {W : Nat} (t : Nat) (ht : t < 128) (e : (⟨3, ![1, 512, W]⟩ : Shape).Idx → (⟨3, ![32, 2048, W]⟩ : Shape).Idx)
    (he : ∀ y a, (e y a).val = ![t / 4, t % 4, 0] a * ![1, 512, W] a + (y a).val) (r : Fin 512) (n : Fin W) :
    e (ix3 0 r n) = ix3 ⟨t / 4, by omega⟩ ⟨512 * (t % 4) + r.val, by omega⟩ n := by
  funext a
  apply Fin.ext
  refine (he (ix3 0 r n) a).trans ?_
  match a with
  | ⟨0, _⟩ => show t / 4 * 1 + 0 = t / 4; omega
  | ⟨1, _⟩ => show t % 4 * 512 + r.val = 512 * (t % 4) + r.val; omega
  | ⟨2, _⟩ => show 0 * W + n.val = n.val; omega

/-- An index of a block is a row and a column. -/
theorem split_idx {W : Nat} (y : (⟨3, ![1, 512, W]⟩ : Shape).Idx) : ∃ (r : Fin 512) (n : Fin W), y = ix3 0 r n :=
  ⟨y 1, y 2, by
    funext a
    match a with
    | ⟨0, _⟩ => exact Fin.ext (by show (y 0).val = 0; have h : (y 0).val < 1 := (y 0).isLt; omega)
    | ⟨1, _⟩ => rfl
    | ⟨2, _⟩ => rfl⟩

variable (m : (ℓ : Loc nD τ sig) → Buf (Elt Ideal) ℓ)

/-- The rows, the scale and the weights of a run. -/
abbrev X (c : Dev nD) : S32x2048x1024.Idx → EReal := m ((c.tc : Thread nD τ).loc main_arg0)
abbrev G (c : Dev nD) : S1024.Idx → EReal := m ((c.tc : Thread nD τ).loc main_arg1)
abbrev Wt (c : Dev nD) : S1024x2308.Idx → EReal := m ((c.tc : Thread nD τ).loc main_arg2)

/-- The body's sum over the blocks at a grid point, at a column of the rearranged weights, is the projection's element there. -/
theorem proj_blocks (c : Dev nD) (t : Fin cfg0.N) (r : Fin 512) (j : Fin 2432) (j' : Fin 2308)
    (h : (j.val < 768 ∧ j'.val = j.val) ∨ (768 ≤ j.val ∧ j.val < 2304 ∧ j'.val = j.val + 4) ∨ (2304 ≤ j.val ∧ j'.val + 1536 = j.val ∧ j'.val < 772)) :
    proj (fun k => iblk m c 0 t (ix3 0 r k)) (fun k => iblk m c 1 t (ix2 0 k)) (fun k => iblk m c 2 t (ix2 k j)) =
      elem (X m c) (G m c) (Wt m c) ⟨t.val / 4, by have h : t.val < 128 := t.isLt; omega⟩ ⟨512 * (t.val % 4) + r.val, by omega⟩ j' := by
  have e0 : (fun k => iblk m c 0 t (ix3 0 r k)) = fun k => X m c (ix3 _ _ k) := funext fun k => iblk0 m c t r k
  have e1 : (fun k => iblk m c 1 t (ix2 0 k)) = fun k => G m c (ix1 k) := funext fun k => iblk1 m c t k
  have e2 : (fun k => iblk m c 2 t (ix2 k j)) = fun k => Wt m c (ix2 k j') :=
    funext fun k => (iblk2 m c t k j).trans (wmat_apply (Wt m c) k j j' h)
  exact congr (congr (congrArg proj e0) e1) e2

/-- At a column of zeros the body's sum is zero. -/
theorem proj_zero (c : Dev nD) (t : Fin cfg0.N) (r : Fin 512) (j : Fin 2432) (h : 2308 ≤ j.val) :
    proj (fun k => iblk m c 0 t (ix3 0 r k)) (fun k => iblk m c 1 t (ix2 0 k)) (fun k => iblk m c 2 t (ix2 k j)) = 0 := by
  have e2 : (fun k => iblk m c 2 t (ix2 k j)) = fun _ => (0 : EReal) := funext fun k => (iblk2 m c t k j).trans (wmat_zero (Wt m c) k j h)
  rw [e2]
  unfold proj
  simp

/-- The gate array after the run. -/
theorem final3 (c : Dev nD) : (dats m 0 c).arrAt 3 cfg0.N = cols 256 0 (by decide) (X m c) (G m c) (Wt m c) := by
  generalize hR : cols 256 0 (by decide) (X m c) (G m c) (Wt m c) = R
  refine (dats m 0 c).arrAt_eq_of_covers 3 R (by decide +kernel) (fun t hf y => ?_)
  obtain ⟨r, n, hy⟩ := split_idx y
  have e := place t.val t.isLt (fun y => ((cfg0.win 3).blk t).view.emb y) (fun y a => by
    refine (Pipeline.Window.rect_emb_val (cfg0.win 3) t y a).trans ?_
    have hx : (cfg0.win 3).index t = ![t.val / 4, t.val % 4, 0] :=
      (by decide +kernel : ∀ t : Fin grid0.N, cc0_transform_3 (grid0.coords t) = ![t.val / 4, t.val % 4, 0]) t
    rw [hx]) r n
  rw [(congrArg _ hy).trans e, ← hR]
  blk_simp
  rw [after0_3, hy]
  refine (out3_apply _ _ _ r n).trans ?_
  exact proj_blocks m c t r _ _ (by dsimp; omega)

/-- The first scan's inputs after the run. -/
theorem final4 (c : Dev nD) : (dats m 0 c).arrAt 4 cfg0.N = cols 512 256 (by decide) (X m c) (G m c) (Wt m c) := by
  generalize hR : cols 512 256 (by decide) (X m c) (G m c) (Wt m c) = R
  refine (dats m 0 c).arrAt_eq_of_covers 4 R (by decide +kernel) (fun t hf y => ?_)
  obtain ⟨r, n, hy⟩ := split_idx y
  have e := place t.val t.isLt (fun y => ((cfg0.win 4).blk t).view.emb y) (fun y a => by
    refine (Pipeline.Window.rect_emb_val (cfg0.win 4) t y a).trans ?_
    have hx : (cfg0.win 4).index t = ![t.val / 4, t.val % 4, 0] :=
      (by decide +kernel : ∀ t : Fin grid0.N, cc0_transform_4 (grid0.coords t) = ![t.val / 4, t.val % 4, 0]) t
    rw [hx]) r n
  rw [(congrArg _ hy).trans e, ← hR]
  blk_simp
  rw [after0_4, hy]
  refine (out4_apply _ _ _ r n).trans ?_
  exact proj_blocks m c t r _ _ (by dsimp; omega)

/-- The array of steps after the run. -/
theorem final5 (c : Dev nD) : (dats m 0 c).arrAt 5 cfg0.N = steps (X m c) (G m c) (Wt m c) := by
  generalize hR : steps (X m c) (G m c) (Wt m c) = R
  refine (dats m 0 c).arrAt_eq_of_covers 5 R (by decide +kernel) (fun t hf y => ?_)
  obtain ⟨r, n, hy⟩ := split_idx y
  have e := place t.val t.isLt (fun y => ((cfg0.win 5).blk t).view.emb y) (fun y a => by
    refine (Pipeline.Window.rect_emb_val (cfg0.win 5) t y a).trans ?_
    have hx : (cfg0.win 5).index t = ![t.val / 4, t.val % 4, 0] :=
      (by decide +kernel : ∀ t : Fin grid0.N, cc0_transform_5 (grid0.coords t) = ![t.val / 4, t.val % 4, 0]) t
    rw [hx]) r n
  rw [(congrArg _ hy).trans e, ← hR]
  blk_simp
  rw [after0_5, hy]
  refine (out5_apply _ _ _ r n).trans ?_
  unfold steps
  split_ifs with h
  · exact proj_blocks m c t r _ _ (by dsimp at h ⊢; omega)
  · exact proj_zero m c t r _ (by dsimp at h ⊢; omega)

/-- The convolution's input after the run. -/
theorem final6 (c : Dev nD) : (dats m 0 c).arrAt 6 cfg0.N = cols 512 772 (by decide) (X m c) (G m c) (Wt m c) := by
  generalize hR : cols 512 772 (by decide) (X m c) (G m c) (Wt m c) = R
  refine (dats m 0 c).arrAt_eq_of_covers 6 R (by decide +kernel) (fun t hf y => ?_)
  obtain ⟨r, n, hy⟩ := split_idx y
  have e := place t.val t.isLt (fun y => ((cfg0.win 6).blk t).view.emb y) (fun y a => by
    refine (Pipeline.Window.rect_emb_val (cfg0.win 6) t y a).trans ?_
    have hx : (cfg0.win 6).index t = ![t.val / 4, t.val % 4, 0] :=
      (by decide +kernel : ∀ t : Fin grid0.N, cc0_transform_6 (grid0.coords t) = ![t.val / 4, t.val % 4, 0]) t
    rw [hx]) r n
  rw [(congrArg _ hy).trans e, ← hR]
  blk_simp
  rw [after0_6, hy]
  refine (out6_apply _ _ _ r n).trans ?_
  exact proj_blocks m c t r _ _ (by dsimp; omega)

/-- The queries after the run. -/
theorem final7 (c : Dev nD) : (dats m 0 c).arrAt 7 cfg0.N = queries (X m c) (G m c) (Wt m c) := by
  generalize hR : queries (X m c) (G m c) (Wt m c) = R
  refine (dats m 0 c).arrAt_eq_of_covers 7 R (by decide +kernel) (fun t hf y => ?_)
  obtain ⟨r, n, hy⟩ := split_idx y
  have e := place t.val t.isLt (fun y => ((cfg0.win 7).blk t).view.emb y) (fun y a => by
    refine (Pipeline.Window.rect_emb_val (cfg0.win 7) t y a).trans ?_
    have hx : (cfg0.win 7).index t = ![t.val / 4, t.val % 4, 0] :=
      (by decide +kernel : ∀ t : Fin grid0.N, cc0_transform_7 (grid0.coords t) = ![t.val / 4, t.val % 4, 0]) t
    rw [hx]) r n
  rw [(congrArg _ hy).trans e, ← hR]
  blk_simp
  rw [after0_7, hy]
  refine (out7_apply _ _ _ r n).trans ?_
  exact congrArg (· * _) (proj_blocks m c t r _ _ (by dsimp; omega))

/-- The keys after the run. -/
theorem final8 (c : Dev nD) : (dats m 0 c).arrAt 8 cfg0.N = cols 256 1540 (by decide) (X m c) (G m c) (Wt m c) := by
  generalize hR : cols 256 1540 (by decide) (X m c) (G m c) (Wt m c) = R
  refine (dats m 0 c).arrAt_eq_of_covers 8 R (by decide +kernel) (fun t hf y => ?_)
  obtain ⟨r, n, hy⟩ := split_idx y
  have e := place t.val t.isLt (fun y => ((cfg0.win 8).blk t).view.emb y) (fun y a => by
    refine (Pipeline.Window.rect_emb_val (cfg0.win 8) t y a).trans ?_
    have hx : (cfg0.win 8).index t = ![t.val / 4, t.val % 4, 0] :=
      (by decide +kernel : ∀ t : Fin grid0.N, cc0_transform_8 (grid0.coords t) = ![t.val / 4, t.val % 4, 0]) t
    rw [hx]) r n
  rw [(congrArg _ hy).trans e, ← hR]
  blk_simp
  rw [after0_8, hy]
  refine (out8_apply _ _ _ r n).trans ?_
  exact proj_blocks m c t r _ _ (by dsimp; omega)

/-- The values after the run. -/
theorem final9 (c : Dev nD) : (dats m 0 c).arrAt 9 cfg0.N = cols 256 1796 (by decide) (X m c) (G m c) (Wt m c) := by
  generalize hR : cols 256 1796 (by decide) (X m c) (G m c) (Wt m c) = R
  refine (dats m 0 c).arrAt_eq_of_covers 9 R (by decide +kernel) (fun t hf y => ?_)
  obtain ⟨r, n, hy⟩ := split_idx y
  have e := place t.val t.isLt (fun y => ((cfg0.win 9).blk t).view.emb y) (fun y a => by
    refine (Pipeline.Window.rect_emb_val (cfg0.win 9) t y a).trans ?_
    have hx : (cfg0.win 9).index t = ![t.val / 4, t.val % 4, 0] :=
      (by decide +kernel : ∀ t : Fin grid0.N, cc0_transform_9 (grid0.coords t) = ![t.val / 4, t.val % 4, 0]) t
    rw [hx]) r n
  rw [(congrArg _ hy).trans e, ← hR]
  blk_simp
  rw [after0_9, hy]
  refine (out9_apply _ _ _ r n).trans ?_
  exact proj_blocks m c t r _ _ (by dsimp; omega)

/-- The second scan's inputs after the run. -/
theorem final10 (c : Dev nD) : (dats m 0 c).arrAt 10 cfg0.N = scan5 (X m c) (G m c) (Wt m c) := by
  generalize hR : scan5 (X m c) (G m c) (Wt m c) = R
  refine (dats m 0 c).arrAt_eq_of_covers 10 R (by decide +kernel) (fun t hf y => ?_)
  obtain ⟨r, n, hy⟩ := split_idx y
  have ht : t.val < 128 := t.isLt
  have e : ((cfg0.win 10).blk t).view.emb (ix3 0 r n) =
      (ix3 ⟨t.val / 32, by omega⟩ ⟨512 * (t.val % 4) + r.val, by omega⟩ ⟨256 * (t.val / 4 % 8) + n.val, by omega⟩ : S4x2048x2048.Idx) := by
    funext a
    apply Fin.ext
    refine (Pipeline.Window.rect_emb_val (cfg0.win 10) t (ix3 0 r n) a).trans ?_
    have hx : (cfg0.win 10).index t = ![t.val / 32, t.val % 4, t.val / 4 % 8] :=
      (by decide +kernel : ∀ t : Fin grid0.N, cc0_transform_10 (grid0.coords t) = ![t.val / 32, t.val % 4, t.val / 4 % 8]) t
    rw [hx]
    match a with
    | ⟨0, _⟩ => show t.val / 32 * 1 + 0 = t.val / 32; omega
    | ⟨1, _⟩ => show t.val % 4 * 512 + r.val = 512 * (t.val % 4) + r.val; omega
    | ⟨2, _⟩ => show t.val / 4 % 8 * 256 + n.val = 256 * (t.val / 4 % 8) + n.val; omega
  rw [(congrArg _ hy).trans e, ← hR]
  blk_simp
  rw [after0_10, hy]
  refine (out10_apply _ _ _ r n).trans ?_
  refine (proj_blocks m c t r _ ⟨2052 + n.val, by omega⟩ (by dsimp; omega)).trans ?_
  unfold scan5
  congr 1
  · apply Fin.ext
    show t.val / 4 = 8 * (t.val / 32) + (256 * (t.val / 4 % 8) + n.val) / 256
    omega
  · apply Fin.ext
    show 2052 + n.val = 2052 + (256 * (t.val / 4 % 8) + n.val) % 256
    omega

end Cert.ProjOut
-- ==== Proof.ProjRef.lean ====
module

public import proofs.«01_k».proof.Proof.ProjOut
public import proofs.«01_k».proof.Proof.Gen.Reference2Ideal.Read

/-! The reference of the input projection at one element of each of its eight results. -/

@[expose] public section

set_option maxRecDepth 16384

noncomputable section

namespace Cert.ProjRef

open Idealize.ShloMosaic Idealize.ShloMosaic.TcCoe
open Cert.Reference2Ideal Cert.Reference2Ideal.Gen Cert.Reference2Ideal.Read
open Cert.ProjBody Cert.ProjOut

variable (x : S32x2048x1024.Idx → EReal) (g : S1024.Idx → EReal) (w : S1024x2308.Idx → EReal)

/-- The sum of a row's squares. -/
theorem squares_apply (b : Fin 32) (l : Fin 2048) : val_main_v1 (F := Ideal) x (ix2 b l) = ∑ k : Fin 1024, x (ix3 b l k) * x (ix3 b l k) := by
  rw [val_main_v1_apply]
  have hz : val_main_cst (F := Ideal) (Shape.Idx.first h_S_) = 0 := Ideal.ofBits_zero_f32
  rw [hz, zero_add]
  refine Finset.sum_congr rfl fun k _ => ?_
  rw [val_main_v0_apply, Ideal.mulf_def]
  have e : idx_main_v1 (ix2 b l) k = ix3 b l k := by
    funext a
    match a with
    | ⟨0, _⟩ => rfl
    | ⟨1, _⟩ => rfl
    | ⟨2, _⟩ => rfl
  rw [e]

/-- The normalised rows. -/
theorem rows_apply (b : Fin 32) (l : Fin 2048) (k : Fin 1024) :
    val_main_v12 (F := Ideal) x g (ix3 b l k) = nrm (fun k => x (ix3 b l k)) (fun k => g (ix1 k)) k := by
  rw [val_main_v12_apply, val_main_v9_apply, val_main_v8_apply, val_main_v7_apply, val_main_v6_apply, val_main_v4_apply, val_main_v2_apply,
    val_main_v3_apply, val_main_v5_apply, val_main_v11_apply, val_main_v10_apply]
  have e : idx_main_v2 (idx_main_v8 (ix3 b l k)) = ix2 b l := by
    funext a
    match a with
    | ⟨0, _⟩ => rfl
    | ⟨1, _⟩ => rfl
  have e' : idx_main_v10 (idx_main_v11 (ix3 b l k)) = ix1 k := by
    funext a
    match a with
    | ⟨0, _⟩ => rfl
  rw [e, e', squares_apply]
  rfl

/-- The whole projection at an element. -/
theorem dot_apply (i : S32x2048x2308.Idx) (b : Fin 32) (l : Fin 2048) (j : Fin 2308) (h0 : (i 0).val = b.val) (h1 : (i 1).val = l.val) (h2 : (i 2).val = j.val) :
    val_main_v13 (F := Ideal) x g w i = elem x g w b l j := by
  rw [val_main_v13_apply]
  unfold elem proj
  refine Finset.sum_congr rfl fun k _ => ?_
  have el : lidx_main_v13 i k = ix3 b l k := by
    funext a
    apply Fin.ext
    match a with
    | ⟨0, _⟩ => exact h0
    | ⟨1, _⟩ => exact h1
    | ⟨2, _⟩ => rfl
  have er : ridx_main_v13 i k = ix2 k j := by
    funext a
    apply Fin.ext
    match a with
    | ⟨0, _⟩ => rfl
    | ⟨1, _⟩ => exact h2
  rw [el, er, rows_apply]

/-- The gates. -/
theorem gates : val_main_v18 (F := Ideal) x g w = cols 256 0 (by decide) x g w := by
  funext i
  rw [val_main_v18_apply, val_main_v14_apply]
  refine dot_apply x g w _ _ _ _ ?_ ?_ ?_ <;> simp

/-- The first scan's inputs. -/
theorem scan : val_main_v19 (F := Ideal) x g w = cols 512 256 (by decide) x g w := by
  funext i
  rw [val_main_v19_apply, val_main_v14_apply]
  refine dot_apply x g w _ _ _ _ ?_ ?_ ?_ <;> simp

/-- The convolution's input. -/
theorem conv : val_main_v15 (F := Ideal) x g w = cols 512 772 (by decide) x g w := by
  funext i
  rw [val_main_v15_apply]
  refine dot_apply x g w _ _ _ _ ?_ ?_ ?_ <;> simp

/-- The queries. -/
theorem query : val_main_v29 (F := Ideal) x g w = queries x g w := by
  funext i
  rw [val_main_v29_apply, val_main_v21_apply, val_main_v16_apply, val_main_v28_apply, Ideal.mulf_def]
  unfold queries
  refine congr (congrArg _ ?_) rfl
  refine dot_apply x g w _ _ _ _ ?_ ?_ ?_ <;> simp

/-- The keys. -/
theorem key : val_main_v22 (F := Ideal) x g w = cols 256 1540 (by decide) x g w := by
  funext i
  rw [val_main_v22_apply, val_main_v16_apply]
  refine dot_apply x g w _ _ _ _ ?_ ?_ ?_ <;> simp <;> omega

/-- The values. -/
theorem value : val_main_v23 (F := Ideal) x g w = cols 256 1796 (by decide) x g w := by
  funext i
  rw [val_main_v23_apply, val_main_v16_apply]
  refine dot_apply x g w _ _ _ _ ?_ ?_ ?_ <;> simp <;> omega

/-- The steps, four columns of which are not zero. -/
theorem step : val_main_v24 (F := Ideal) x g w = steps x g w := by
  funext i
  have hi : i = ix3 (i 0) (i 1) (i 2) := by
    funext a
    match a with
    | ⟨0, _⟩ => rfl
    | ⟨1, _⟩ => rfl
    | ⟨2, _⟩ => rfl
  generalize i 0 = b at hi
  generalize i 1 = l at hi
  generalize i 2 = n at hi
  subst hi
  pointwise [val_main_v24]
  unfold steps
  split_ifs with h h' h'
  · rw [val_main_v20_apply, val_main_v14_apply]
    refine dot_apply x g w _ _ _ _ ?_ ?_ ?_ <;> simp
  · exact absurd h h'
  · exact absurd h' h
  · show (((0#32 : BitVec 32).toInt : ℝ) : EReal) = 0
    simp

/-- The second scan's inputs. -/
theorem scanB : val_main_v27 (F := Ideal) x g w = scan5 x g w := by
  funext i
  have h0 : (i 0).val < 4 := (i 0).isLt
  have h1 : (i 1).val < 2048 := (i 1).isLt
  have h2 : (i 2).val < 2048 := (i 2).isLt
  have e27 : idx_main_v27 i = ix4 (i 0) (i 1) ⟨(i 2).val / 256, by omega⟩ ⟨(i 2).val % 256, by omega⟩ := by
    funext a
    apply Fin.ext
    match a with
    | ⟨0, _⟩ => show (((i 0).val * 2048 + (i 1).val) * 2048 + (i 2).val) / 4194304 = (i 0).val; omega
    | ⟨1, _⟩ => show (((i 0).val * 2048 + (i 1).val) * 2048 + (i 2).val) / 2048 % 2048 = (i 1).val; omega
    | ⟨2, _⟩ => show (((i 0).val * 2048 + (i 1).val) * 2048 + (i 2).val) / 256 % 8 = (i 2).val / 256; omega
    | ⟨3, _⟩ => show (((i 0).val * 2048 + (i 1).val) * 2048 + (i 2).val) % 256 = (i 2).val % 256; omega
  rw [val_main_v27_apply, val_main_v26_apply, e27, val_main_v25_apply, val_main_v17_apply]
  refine dot_apply x g w _ _ _ _ ?_ ?_ ?_
  · show ((((i 0).val * 8 + (i 2).val / 256) * 2048 + (i 1).val) * 256 + (i 2).val % 256) / 524288 = 8 * (i 0).val + (i 2).val / 256
    omega
  · show ((((i 0).val * 8 + (i 2).val / 256) * 2048 + (i 1).val) * 256 + (i 2).val % 256) / 256 % 2048 = (i 1).val
    omega
  · show 2052 + ((((i 0).val * 8 + (i 2).val / 256) * 2048 + (i 1).val) * 256 + (i 2).val % 256) % 256 = 2052 + (i 2).val % 256
    omega

end Cert.ProjRef
-- ==== Proof.ProjClaim.lean ====
module

public import proofs.«01_k».proof.Defs
public import proofs.«01_k».proof.Proof.ProjRef
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import Idealize.ShloMosaic.Lib.Quiescent

/-! The claims about the input projection: the kernel and its reference compute the same eight arrays. -/

@[expose] public section

set_option maxRecDepth 16384

noncomputable section

namespace Cert.ProjClaim

open Idealize.ShloMosaic Idealize.SL.Sem Idealize.ShloMosaic.TcCoe

/-- The reference terminates with its arguments unchanged and its semaphores at zero. -/
theorem reference_frame : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

/-- From the same arguments the kernel and the reference end with the same eight arrays. -/
theorem value : Cert.algebraic_Kernel2Ideal_Reference2Ideal := by
  intro m g m' g' h hag
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N,
    fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    Cert.Kernel2Ideal.Value.run_blocks m g,
    (θ_run Cert.Reference2Ideal.defs _ _).mono (fun r hr c => ?_) (Cert.Reference2Ideal.Value.run (F := Ideal) m' g')⟩
  obtain ⟨r0, r1, r2, r3, r4, r5, r6, r7, hargs⟩ := hr c
  obtain ⟨e0, e1, e2⟩ := hag c
  refine ⟨r0.trans ?_, r1.trans ?_, r2.trans ?_, r3.trans ?_, r4.trans ?_, r5.trans ?_, r6.trans ?_, r7.trans ?_, hargs⟩
  · refine (Cert.Reference2Ideal.Read.val_main_v18_eq (F := Ideal) _ _ _).trans (((ProjRef.gates _ _ _).trans ?_).trans (ProjOut.final3 m c).symm)
    rw [e0, e1, e2]
  · refine (Cert.Reference2Ideal.Read.val_main_v19_eq (F := Ideal) _ _ _).trans (((ProjRef.scan _ _ _).trans ?_).trans (ProjOut.final4 m c).symm)
    rw [e0, e1, e2]
  · refine (Cert.Reference2Ideal.Read.val_main_v24_eq (F := Ideal) _ _ _).trans (((ProjRef.step _ _ _).trans ?_).trans (ProjOut.final5 m c).symm)
    rw [e0, e1, e2]
  · refine (Cert.Reference2Ideal.Read.val_main_v15_eq (F := Ideal) _ _ _).trans (((ProjRef.conv _ _ _).trans ?_).trans (ProjOut.final6 m c).symm)
    rw [e0, e1, e2]
  · refine (Cert.Reference2Ideal.Read.val_main_v29_eq (F := Ideal) _ _ _).trans (((ProjRef.query _ _ _).trans ?_).trans (ProjOut.final7 m c).symm)
    rw [e0, e1, e2]
  · refine (Cert.Reference2Ideal.Read.val_main_v22_eq (F := Ideal) _ _ _).trans (((ProjRef.key _ _ _).trans ?_).trans (ProjOut.final8 m c).symm)
    rw [e0, e1, e2]
  · refine (Cert.Reference2Ideal.Read.val_main_v23_eq (F := Ideal) _ _ _).trans (((ProjRef.value _ _ _).trans ?_).trans (ProjOut.final9 m c).symm)
    rw [e0, e1, e2]
  · refine (Cert.Reference2Ideal.Read.val_main_v27_eq (F := Ideal) _ _ _).trans (((ProjRef.scanB _ _ _).trans ?_).trans (ProjOut.final10 m c).symm)
    rw [e0, e1, e2]

end Cert.ProjClaim
-- ==== Proof.FfnTable.lean ====
module

public import proofs.«01_k».proof.Defs
public import proofs.«01_k».proof.Proof.Gen.Kernel3.Frame
public import proofs.«01_k».proof.Proof.Gen.Kernel3Ideal.Frame
public import proofs.«01_k».proof.Proof.Gen.Pre_experts_in_range
public import Idealize.ShloMosaic.Lib.StableHlo.Predicate
public import Idealize.ShloMosaic.Lib.Pipeline.ValueKit
public import Idealize.ShloMosaic.Lib.ValueIdx

/-! The table of experts of the routed feed-forward network: the precondition says that every word of it names one of
    the 32 experts, and then every block that a window reads lies inside its array. -/

@[expose] public section

namespace Cert.FfnTable

open Idealize.ShloMosaic Idealize.ShloMosaic.TcCoe

/-- A word that is, read signed, at least zero and below 32 is below 32 read unsigned. -/
theorem word_lt (w : BitVec 32) (h : IntOp.andi (IntOp.cmpi .sge w 0#32) (IntOp.cmpi .slt w 32#32) = 1#1) : w.toNat < 32 := by
  have h1 : IntOp.cmpi .sge w 0#32 = 1#1 ∧ IntOp.cmpi .slt w 32#32 = 1#1 := by
    revert h
    generalize IntOp.cmpi .sge w 0#32 = a
    generalize IntOp.cmpi .slt w 32#32 = b
    revert a b
    decide
  obtain ⟨ha, hb⟩ := h1
  simp only [IntOp.cmpi, StableHlo.Predicate.ofBool_eq_one_iff] at ha hb
  simp [BitVec.sle, BitVec.slt] at ha hb
  have h3 := BitVec.toInt_eq_toNat_cond w
  have h4 := w.isLt
  split at h3 <;> omega

/-- Under the precondition every word of the table is below 32. -/
theorem pre_lt {F : FTy → Type} [FloatOps F] (x0 : IVec Cert.Pre_experts_in_range.S288 32) (x1) (x2) (x3) (x4)
    (h : Cert.Pre_experts_in_range.fn (F := F) x0 x1 x2 x3 x4 = fun _ => 1#1) (i : Cert.Pre_experts_in_range.S288.Idx) :
    (x0 i).toNat < 32 := by
  have e := congrFun h i
  refine word_lt _ (Eq.trans ?_ e)
  rfl

/-- Block `n` of the 32 blocks of an array of gate or up weights lies inside the array. -/
theorem block_in_up (n : Nat) (h : n < 32) (a : Fin 3) : ((![n, 0, 0] : Fin 3 → Nat) a + 1) * (![1, 1024, 512] : Fin 3 → Nat) a ≤ (![32, 1024, 512] : Fin 3 → Nat) a := by
  match a with
  | ⟨0, _⟩ => show (n + 1) * 1 ≤ 32; omega
  | ⟨1, _⟩ => show (0 + 1) * 1024 ≤ 1024; omega
  | ⟨2, _⟩ => show (0 + 1) * 512 ≤ 512; omega

/-- Block `n` of the 32 blocks of the array of down weights lies inside the array. -/
theorem block_in_down (n : Nat) (h : n < 32) (a : Fin 3) : ((![n, 0, 0] : Fin 3 → Nat) a + 1) * (![1, 512, 1024] : Fin 3 → Nat) a ≤ (![32, 512, 1024] : Fin 3 → Nat) a := by
  match a with
  | ⟨0, _⟩ => show (n + 1) * 1 ≤ 32; omega
  | ⟨1, _⟩ => show (0 + 1) * 512 ≤ 512; omega
  | ⟨2, _⟩ => show (0 + 1) * 1024 ≤ 1024; omega

section
open Cert.Kernel3 Cert.Kernel3.Gen

/-- The element of the table that grid point `i` reads is number `i`. -/
theorem rect_emb (i : grid0.Coords) (h1 : S1.numel = 1) :
    (Rect.unit (s := S288) (k0_off1 i) S1.size (k0_off1_inb i)).emb (Shape.Idx.first (h1.symm ▸ Nat.one_pos)) = (ValueIdx.ix1 (⟨(i 0).val, (i 0).isLt⟩ : Fin 288) : S288.Idx) := by
  funext a
  match a with
  | ⟨0, _⟩ =>
    apply Fin.ext
    have hi : (i 0).val < 288 := (i 0).isLt
    show (BitVec.ofNat 32 (i 0).val).toNat + 1 * 0 = (i 0).val
    rw [BitVec.toNat_ofNat, Nat.mod_eq_of_lt (by omega)]; rfl

/-- The block that the first weight window reads at grid point `i` is the one whose number the table holds there. -/
theorem transform_1 {F : FTy → Type} [FloatOps F] (pf : pre0.Contents (Elt F)) (i : grid0.Coords) :
    cc0_transform_1 k0_off1_inb numel1_S1 pf i = ![(pf 0 (ValueIdx.ix1 (⟨(i 0).val, (i 0).isLt⟩ : Fin 288) : S288.Idx) : BitVec 32).toNat, 0, 0] := by
  rw [← rect_emb i numel1_S1]; rfl

/-- The same of the second weight window. -/
theorem transform_2 {F : FTy → Type} [FloatOps F] (pf : pre0.Contents (Elt F)) (i : grid0.Coords) :
    cc0_transform_2 k0_off1_inb numel1_S1 pf i = ![(pf 0 (ValueIdx.ix1 (⟨(i 0).val, (i 0).isLt⟩ : Fin 288) : S288.Idx) : BitVec 32).toNat, 0, 0] := by
  rw [← rect_emb i numel1_S1]; rfl

/-- The same of the third weight window. -/
theorem transform_3 {F : FTy → Type} [FloatOps F] (pf : pre0.Contents (Elt F)) (i : grid0.Coords) :
    cc0_transform_3 k0_off1_inb numel1_S1 pf i = ![(pf 0 (ValueIdx.ix1 (⟨(i 0).val, (i 0).isLt⟩ : Fin 288) : S288.Idx) : BitVec 32).toNat, 0, 0] := by
  rw [← rect_emb i numel1_S1]; rfl

/-- If every word of the table is below 32, every block that the windows read lies inside its array. -/
theorem ok_of_lt {F : FTy → Type} [FloatOps F] (pf : pre0.Contents (Elt F)) (h : ∀ i : S288.Idx, (pf 0 i : BitVec 32).toNat < 32) : ok0 pf := by
  refine ⟨fun i => ?_, fun i => ?_, fun i => ?_⟩ <;>
    refine ⟨fun a => ?_, .inr (Affine.block_words_dvd (of_decide_eq_true rfl) (by decide))⟩
  · rw [transform_1]
    have hl := h (ValueIdx.ix1 (⟨(i 0).val, (i 0).isLt⟩ : Fin 288))
    exact block_in_up _ hl a
  · rw [transform_2]
    have hl := h (ValueIdx.ix1 (⟨(i 0).val, (i 0).isLt⟩ : Fin 288))
    exact block_in_up _ hl a
  · rw [transform_3]
    have hl := h (ValueIdx.ix1 (⟨(i 0).val, (i 0).isLt⟩ : Fin 288))
    exact block_in_down _ hl a

/-- Under the precondition every block that the windows read lies inside its array. -/
theorem ok_of_pre (m : (ℓ : Loc nD τ sig) → Buf (Elt Bits) ℓ) (h : Cert.Pre_Kernel3 m) : Ok (F := Bits) m := by
  refine ok_of_lt _ fun i => ?_
  have e : tbl m 0 = m (((0 : Dev nD) : Thread nD τ).loc main_arg0) := V_main_arg0 m 0
  rw [e]
  exact pre_lt _ _ _ _ _ (h 0) i

end

section
open Cert.Kernel3Ideal Cert.Kernel3Ideal.Gen

/-- The element of the table that grid point `i` reads is number `i`. -/
theorem rect_embI (i : grid0.Coords) (h1 : S1.numel = 1) :
    (Rect.unit (s := S288) (k0_off1 i) S1.size (k0_off1_inb i)).emb (Shape.Idx.first (h1.symm ▸ Nat.one_pos)) = (ValueIdx.ix1 (⟨(i 0).val, (i 0).isLt⟩ : Fin 288) : S288.Idx) := by
  funext a
  match a with
  | ⟨0, _⟩ =>
    apply Fin.ext
    have hi : (i 0).val < 288 := (i 0).isLt
    show (BitVec.ofNat 32 (i 0).val).toNat + 1 * 0 = (i 0).val
    rw [BitVec.toNat_ofNat, Nat.mod_eq_of_lt (by omega)]; rfl

/-- The block that the first weight window reads at grid point `i` is the one whose number the table holds there. -/
theorem transform_1I {F : FTy → Type} [FloatOps F] (pf : pre0.Contents (Elt F)) (i : grid0.Coords) :
    cc0_transform_1 k0_off1_inb numel1_S1 pf i = ![(pf 0 (ValueIdx.ix1 (⟨(i 0).val, (i 0).isLt⟩ : Fin 288) : S288.Idx) : BitVec 32).toNat, 0, 0] := by
  rw [← rect_embI i numel1_S1]; rfl

/-- The same of the second weight window. -/
theorem transform_2I {F : FTy → Type} [FloatOps F] (pf : pre0.Contents (Elt F)) (i : grid0.Coords) :
    cc0_transform_2 k0_off1_inb numel1_S1 pf i = ![(pf 0 (ValueIdx.ix1 (⟨(i 0).val, (i 0).isLt⟩ : Fin 288) : S288.Idx) : BitVec 32).toNat, 0, 0] := by
  rw [← rect_embI i numel1_S1]; rfl

/-- The same of the third weight window. -/
theorem transform_3I {F : FTy → Type} [FloatOps F] (pf : pre0.Contents (Elt F)) (i : grid0.Coords) :
    cc0_transform_3 k0_off1_inb numel1_S1 pf i = ![(pf 0 (ValueIdx.ix1 (⟨(i 0).val, (i 0).isLt⟩ : Fin 288) : S288.Idx) : BitVec 32).toNat, 0, 0] := by
  rw [← rect_embI i numel1_S1]; rfl

/-- If every word of the table is below 32, every block that the windows read lies inside its array. -/
theorem ok_of_ltI {F : FTy → Type} [FloatOps F] (pf : pre0.Contents (Elt F)) (h : ∀ i : S288.Idx, (pf 0 i : BitVec 32).toNat < 32) : ok0 pf := by
  refine ⟨fun i => ?_, fun i => ?_, fun i => ?_⟩ <;>
    refine ⟨fun a => ?_, .inr (Affine.block_words_dvd (of_decide_eq_true rfl) (by decide))⟩
  · rw [transform_1I]
    have hl := h (ValueIdx.ix1 (⟨(i 0).val, (i 0).isLt⟩ : Fin 288))
    exact block_in_up _ hl a
  · rw [transform_2I]
    have hl := h (ValueIdx.ix1 (⟨(i 0).val, (i 0).isLt⟩ : Fin 288))
    exact block_in_up _ hl a
  · rw [transform_3I]
    have hl := h (ValueIdx.ix1 (⟨(i 0).val, (i 0).isLt⟩ : Fin 288))
    exact block_in_down _ hl a

/-- Under the precondition every block that the windows read lies inside its array. -/
theorem ok_of_preI (m : (ℓ : Loc nD τ sig) → Buf (Elt Ideal) ℓ) (h : Cert.Pre_Kernel3Ideal m) : Ok (F := Ideal) m := by
  refine ok_of_ltI _ fun i => ?_
  have e : tbl m 0 = m (((0 : Dev nD) : Thread nD τ).loc main_arg0) := V_main_arg0 m 0
  rw [e]
  exact pre_lt _ _ _ _ _ (h 0) i

end

end Cert.FfnTable
-- ==== Proof.FfnBody.lean ====
module

public import proofs.«01_k».proof.Proof.FfnTable
public import Idealize.ShloMosaic.Lib.Pointwise.Tactic
public import Idealize.ShloMosaic.PureOps.Ideal.Laws

/-! The body of the routed feed-forward network at one element of its block. -/

@[expose] public section

set_option maxRecDepth 16384

noncomputable section

namespace Cert.FfnBody

open Idealize.ShloMosaic Idealize.ShloMosaic.TcCoe
open Cert.Kernel3Ideal Cert.Kernel3Ideal.Gen

/-- One row's hidden value: the gated product of the row with a column of the gate weights and one of the up weights. -/
def hidden (X G U : Fin 1024 → EReal) : EReal :=
  (∑ k, X k * G k) * Ideal.div 1 (1 + Ideal.exp (-(∑ k, X k * G k))) * ∑ k, X k * U k

/-- One row's result: its hidden values against a column of the down weights. -/
def ffn (X : Fin 1024 → EReal) (G U : Fin 512 → Fin 1024 → EReal) (D : Fin 512 → EReal) : EReal :=
  ∑ f, hidden X (G f) (U f) * D f

/-- A sum over 1024 terms is the sum over the first 512 and the sum over the last 512. -/
theorem sum_halves (g : Fin 1024 → EReal) :
    (∑ k : Fin 512, g ⟨k.val, by omega⟩) + ∑ k : Fin 512, g ⟨512 + k.val, by omega⟩ = ∑ k, g k :=
  (Fin.sum_univ_add (a := 512) (b := 512) g).symm

/-- The body's arithmetic at an element, the weights' two halves loaded from one block each. -/
theorem pay_apply (v0 : Vec Ideal S512x1024 .bf16) (x1 x2 : Vec Ideal S1x1024x512 .bf16) (v28 : Vec Ideal S1x512x1024 .bf16) (r : Fin 512) (n : Fin 1024) :
    k0_pay1 (F := Ideal) v0 (View.ld x1 (Rect.unit ![0, 0, 0] ![1, 512, 512] inb_S1x1024x512_S1x512x512_0_0_0))
      (View.ld x1 (Rect.unit ![0, 512, 0] ![1, 512, 512] inb_S1x1024x512_S1x512x512_0_512_0))
      (View.ld x2 (Rect.unit ![0, 0, 0] ![1, 512, 512] inb_S1x1024x512_S1x512x512_0_0_0))
      (View.ld x2 (Rect.unit ![0, 512, 0] ![1, 512, 512] inb_S1x1024x512_S1x512x512_0_512_0)) v28 (ix2 r n) =
    ffn (fun k => v0 (ix2 r k)) (fun f k => x1 (ix3 0 k f)) (fun f k => x2 (ix3 0 k f)) (fun f => v28 (ix3 0 f n)) := by
  have lo (x : Vec Ideal S1x1024x512 .bf16) (k f : Fin 512) :
      View.ld x (Rect.unit ![0, 0, 0] ![1, 512, 512] inb_S1x1024x512_S1x512x512_0_0_0) (ix3 0 k f) = x (ix3 0 ⟨k.val, by omega⟩ f) := by
    refine View.ld_unit_apply_of _ _ _ _ _ _ fun a => ?_
    match a with
    | ⟨0, _⟩ => simp
    | ⟨1, _⟩ => simp
    | ⟨2, _⟩ => simp
  have hi (x : Vec Ideal S1x1024x512 .bf16) (k f : Fin 512) :
      View.ld x (Rect.unit ![0, 512, 0] ![1, 512, 512] inb_S1x1024x512_S1x512x512_0_512_0) (ix3 0 k f) = x (ix3 0 ⟨512 + k.val, by omega⟩ f) := by
    refine View.ld_unit_apply_of _ _ _ _ _ _ fun a => ?_
    match a with
    | ⟨0, _⟩ => simp
    | ⟨1, _⟩ => simp
    | ⟨2, _⟩ => simp
  pointwise [k0_pay1]
  unfold ffn hidden
  refine Finset.sum_congr rfl fun f _ => ?_
  simp only [lo, hi]
  rw [sum_halves fun k => v0 (ix2 r k) * x1 (ix3 0 k f), sum_halves fun k => v0 (ix2 r k) * x2 (ix3 0 k f), zero_sub]

/-- What the body leaves in its output block, at an element. -/
theorem out_apply (c : Dev nD) (t : grid0.Coords) (arg2 : Memref sig .tc .vmem S512x1024 .bf16) (harg2 : arg2.IsWhole) (arg3 : Memref sig .tc .vmem S1x1024x512 .bf16) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S512x1024 .f32) (harg6 : arg6.IsWhole)
    (x0 : Vec Ideal S512x1024 .bf16) (x1 : Vec Ideal S1x1024x512 .bf16) (x2 : Vec Ideal S1x1024x512 .bf16) (x3 : Vec Ideal S1x512x1024 .bf16) (xt0 : TbBuf0 (F := Ideal) c tbM0_0) (r : Fin 512) (n : Fin 1024) :
    out0_A_4 (F := Ideal) c t arg2 harg2 arg3 harg3 arg4 harg4 arg5 harg5 arg6 harg6 x0 x1 x2 x3 xt0 (ix2 r n) =
      ffn (fun k => x0 (ix2 r k)) (fun f k => x1 (ix3 0 k f)) (fun f k => x2 (ix3 0 k f)) (fun f => x3 (ix3 0 f n)) := by
  frame_out
  exact pay_apply x0 x1 x2 x3 r n

variable (m : (ℓ : Loc nD τ sig) → Buf (Elt Ideal) ℓ)

/-- The rows as the windows find them: the argument array (a change of float format is the identity on the ideal values). -/
theorem V_rows (c : Dev nD) : V m c (Pipeline.arrRef spec0 0) = m ((c.tc : Thread nD τ).loc main_arg1) := by
  unfold V
  show StableHlo.after hostOps0 _ (Proc.devRef .tc main_v0) = _
  after_results
  rfl

/-- The gate weights as the windows find them: the argument array (a change of float format is the identity on the ideal values). -/
theorem V_gate (c : Dev nD) : V m c (Pipeline.arrRef spec0 1) = m ((c.tc : Thread nD τ).loc main_arg2) := by
  unfold V
  show StableHlo.after hostOps0 _ (Proc.devRef .tc main_v1) = _
  after_results
  rfl

/-- The up weights as the windows find them: the argument array (a change of float format is the identity on the ideal values). -/
theorem V_up (c : Dev nD) : V m c (Pipeline.arrRef spec0 2) = m ((c.tc : Thread nD τ).loc main_arg3) := by
  unfold V
  show StableHlo.after hostOps0 _ (Proc.devRef .tc main_v2) = _
  after_results
  rfl

/-- The down weights as the windows find them: the argument array (a change of float format is the identity on the ideal values). -/
theorem V_down (c : Dev nD) : V m c (Pipeline.arrRef spec0 3) = m ((c.tc : Thread nD τ).loc main_arg4) := by
  unfold V
  show StableHlo.after hostOps0 _ (Proc.devRef .tc main_v3) = _
  after_results
  rfl

/-- A grid point's one coordinate is its number. -/
theorem point_coord : ∀ t : Fin grid0.N, (grid0.coords t 0).val = t.val := by decide +kernel

/-- The block of rows at a grid point, at an element. -/
theorem iblk0 (hO : Ok m) (c : Dev nD) (t : Fin (cfgM m hO).N) (r : Fin 512) (k : Fin 1024) :
    iblk m hO c 0 t (ix2 r k) = m ((c.tc : Thread nD τ).loc main_arg1) (ix2 ⟨512 * t.val + r.val, by have h : t.val < 288 := t.isLt; omega⟩ k) := by
  show V m c (Pipeline.arrRef spec0 0) ((((cfgM m hO).win 0).blk t).view.emb (ix2 r k)) = _
  rw [V_rows]
  congr 1
  funext a
  apply Fin.ext
  refine (Pipeline.Window.rect_emb_val ((cfgM m hO).win 0) t (ix2 r k) a).trans ?_
  have hx : ((cfgM m hO).win 0).index t = ![t.val, 0] := (by decide +kernel : ∀ t : Fin grid0.N, cc0_transform_0 (grid0.coords t) = ![t.val, 0]) t
  rw [hx]
  match a with
  | ⟨0, _⟩ => show t.val * 512 + r.val = 512 * t.val + r.val; omega
  | ⟨1, _⟩ => show 0 * 1024 + k.val = k.val; omega

/-- The block of gate weights at a grid point, at an element: of the expert that the table names there. -/
theorem iblk1 (hO : Ok m) (c : Dev nD) (t : Fin (cfgM m hO).N) (e : Fin 32) (he : e.val = (tbl m 0 (ix1 ⟨t.val, t.isLt⟩ : S288.Idx) : BitVec 32).toNat)
    (k : Fin 1024) (f : Fin 512) :
    iblk m hO c 1 t (ix3 0 k f) = m ((c.tc : Thread nD τ).loc main_arg2) (ix3 e k f) := by
  show V m c (Pipeline.arrRef spec0 1) ((((cfgM m hO).win 1).blk t).view.emb (ix3 0 k f)) = _
  rw [V_gate]
  congr 1
  funext a
  apply Fin.ext
  refine (Pipeline.Window.rect_emb_val ((cfgM m hO).win 1) t (ix3 0 k f) a).trans ?_
  have hx : ((cfgM m hO).win 1).index t = ![e.val, 0, 0] := by
    refine (FfnTable.transform_1I (tbl m) (grid0.coords t)).trans ?_
    rw [he]
    exact congrArg (fun q : Fin 288 => ![(tbl m 0 (ix1 q : S288.Idx) : BitVec 32).toNat, 0, 0]) (Fin.ext (point_coord t) : (⟨(grid0.coords t 0).val, (grid0.coords t 0).isLt⟩ : Fin 288) = ⟨t.val, t.isLt⟩)
  rw [hx]
  match a with
  | ⟨0, _⟩ => show e.val * 1 + 0 = e.val; omega
  | ⟨1, _⟩ => show 0 * 1024 + k.val = k.val; omega
  | ⟨2, _⟩ => show 0 * 512 + f.val = f.val; omega

/-- The block of up weights at a grid point, at an element: of the expert that the table names there. -/
theorem iblk2 (hO : Ok m) (c : Dev nD) (t : Fin (cfgM m hO).N) (e : Fin 32) (he : e.val = (tbl m 0 (ix1 ⟨t.val, t.isLt⟩ : S288.Idx) : BitVec 32).toNat)
    (k : Fin 1024) (f : Fin 512) :
    iblk m hO c 2 t (ix3 0 k f) = m ((c.tc : Thread nD τ).loc main_arg3) (ix3 e k f) := by
  show V m c (Pipeline.arrRef spec0 2) ((((cfgM m hO).win 2).blk t).view.emb (ix3 0 k f)) = _
  rw [V_up]
  congr 1
  funext a
  apply Fin.ext
  refine (Pipeline.Window.rect_emb_val ((cfgM m hO).win 2) t (ix3 0 k f) a).trans ?_
  have hx : ((cfgM m hO).win 2).index t = ![e.val, 0, 0] := by
    refine (FfnTable.transform_2I (tbl m) (grid0.coords t)).trans ?_
    rw [he]
    exact congrArg (fun q : Fin 288 => ![(tbl m 0 (ix1 q : S288.Idx) : BitVec 32).toNat, 0, 0]) (Fin.ext (point_coord t) : (⟨(grid0.coords t 0).val, (grid0.coords t 0).isLt⟩ : Fin 288) = ⟨t.val, t.isLt⟩)
  rw [hx]
  match a with
  | ⟨0, _⟩ => show e.val * 1 + 0 = e.val; omega
  | ⟨1, _⟩ => show 0 * 1024 + k.val = k.val; omega
  | ⟨2, _⟩ => show 0 * 512 + f.val = f.val; omega

/-- The block of down weights at a grid point, at an element: of the expert that the table names there. -/
theorem iblk3 (hO : Ok m) (c : Dev nD) (t : Fin (cfgM m hO).N) (e : Fin 32) (he : e.val = (tbl m 0 (ix1 ⟨t.val, t.isLt⟩ : S288.Idx) : BitVec 32).toNat)
    (k : Fin 512) (f : Fin 1024) :
    iblk m hO c 3 t (ix3 0 k f) = m ((c.tc : Thread nD τ).loc main_arg4) (ix3 e k f) := by
  show V m c (Pipeline.arrRef spec0 3) ((((cfgM m hO).win 3).blk t).view.emb (ix3 0 k f)) = _
  rw [V_down]
  congr 1
  funext a
  apply Fin.ext
  refine (Pipeline.Window.rect_emb_val ((cfgM m hO).win 3) t (ix3 0 k f) a).trans ?_
  have hx : ((cfgM m hO).win 3).index t = ![e.val, 0, 0] := by
    refine (FfnTable.transform_3I (tbl m) (grid0.coords t)).trans ?_
    rw [he]
    exact congrArg (fun q : Fin 288 => ![(tbl m 0 (ix1 q : S288.Idx) : BitVec 32).toNat, 0, 0]) (Fin.ext (point_coord t) : (⟨(grid0.coords t 0).val, (grid0.coords t 0).isLt⟩ : Fin 288) = ⟨t.val, t.isLt⟩)
  rw [hx]
  match a with
  | ⟨0, _⟩ => show e.val * 1 + 0 = e.val; omega
  | ⟨1, _⟩ => show 0 * 512 + k.val = k.val; omega
  | ⟨2, _⟩ => show 0 * 1024 + f.val = f.val; omega

/-- The expert of a row: the table's word for the row's block of 512. -/
def expert (be : S288.Idx → BitVec 32) (row : Fin 147456) : Fin 32 :=
  ⟨(be (ix1 ⟨row.val / 512, by omega⟩)).toNat % 32, Nat.mod_lt _ (by decide)⟩

/-- The routed feed-forward network: every row through its expert. -/
def result (be : S288.Idx → BitVec 32) (rows : S147456x1024.Idx → EReal) (wg wu : S32x1024x512.Idx → EReal) (wd : S32x512x1024.Idx → EReal) :
    S147456x1024.Idx → EReal := fun i =>
  ffn (fun k => rows (ix2 (i 0) k)) (fun f k => wg (ix3 (expert be (i 0)) k f)) (fun f k => wu (ix3 (expert be (i 0)) k f))
    (fun f => wd (ix3 (expert be (i 0)) f (i 1)))

/-- Where an element of the output block at a grid point lies in the result array. -/
theorem emb4 (hO : Ok m) (t : Fin (cfgM m hO).N) (r : Fin 512) (n : Fin 1024) :
    (((cfgM m hO).win 4).blk t).view.emb (ix2 r n) = (ix2 ⟨512 * t.val + r.val, by have h : t.val < 288 := t.isLt; omega⟩ n : S147456x1024.Idx) := by
  funext a
  apply Fin.ext
  refine (Pipeline.Window.rect_emb_val ((cfgM m hO).win 4) t (ix2 r n) a).trans ?_
  have hx : ((cfgM m hO).win 4).index t = ![t.val, 0] := (by decide +kernel : ∀ t : Fin grid0.N, cc0_transform_4 (grid0.coords t) = ![t.val, 0]) t
  rw [hx]
  match a with
  | ⟨0, _⟩ => show t.val * 512 + r.val = 512 * t.val + r.val; omega
  | ⟨1, _⟩ => show 0 * 1024 + n.val = n.val; omega

/-- An index of an output block is a pair of a row and a column. -/
theorem split_idx (y : S512x1024.Idx) : ∃ (r : Fin 512) (n : Fin 1024), y = ix2 r n :=
  ⟨y 0, y 1, by funext a; match a with | ⟨0, _⟩ => rfl | ⟨1, _⟩ => rfl⟩

/-- What a grid point writes back, at an element: the network's value at the element's place in the result array. -/
theorem point_apply (hO : Ok m) (hlt : ∀ i : S288.Idx, (tbl m 0 i : BitVec 32).toNat < 32) (c : Dev nD) (t : Fin (cfgM m hO).N) (ht : t.val < 288) (r : Fin 512) (n : Fin 1024) :
    outsAt0 m hO c t (ix2 r n) = result (tbl m 0) (m ((c.tc : Thread nD τ).loc main_arg1)) (m ((c.tc : Thread nD τ).loc main_arg2))
      (m ((c.tc : Thread nD τ).loc main_arg3)) (m ((c.tc : Thread nD τ).loc main_arg4)) (ix2 ⟨512 * t.val + r.val, by omega⟩ n) := by
  refine (out_apply c (grid0.coords t) _ _ _ _ _ _ _ _ _ _ _ _ _ _ (tbl m 0) r n).trans ?_
  have he : (expert (tbl m 0) ⟨512 * t.val + r.val, by omega⟩).val = (tbl m 0 (ix1 ⟨t.val, t.isLt⟩ : S288.Idx) : BitVec 32).toNat := by
    unfold expert
    have h1 : (512 * t.val + r.val) / 512 = t.val := by omega
    simp only [h1]
    exact Nat.mod_eq_of_lt (hlt _)
  have e0 : (fun k : Fin 1024 => iblk m hO c 0 t (ix2 r k)) = fun k => m ((c.tc : Thread nD τ).loc main_arg1) (ix2 ⟨512 * t.val + r.val, by omega⟩ k) :=
    funext fun k => iblk0 m hO c t r k
  have e1 : (fun (f : Fin 512) (k : Fin 1024) => iblk m hO c 1 t (ix3 0 k f)) = fun f k => m ((c.tc : Thread nD τ).loc main_arg2) (ix3 _ k f) :=
    funext fun f => funext fun k => iblk1 m hO c t _ he k f
  have e2 : (fun (f : Fin 512) (k : Fin 1024) => iblk m hO c 2 t (ix3 0 k f)) = fun f k => m ((c.tc : Thread nD τ).loc main_arg3) (ix3 _ k f) :=
    funext fun f => funext fun k => iblk2 m hO c t _ he k f
  have e3 : (fun f : Fin 512 => iblk m hO c 3 t (ix3 0 f n)) = fun f => m ((c.tc : Thread nD τ).loc main_arg4) (ix3 _ f n) :=
    funext fun f => iblk3 m hO c t _ he f n
  exact congr (congr (congr (congrArg ffn e0) e1) e2) e3

/-- Every element of the result array lies in the block of some grid point, and every point writes its block back. -/
theorem cover4 (hO : Ok m) (i : S147456x1024.Idx) :
    ∃ t : Fin (cfgM m hO).N, ((cfgM m hO).win 4).flush t = true ∧ i ∈ (((cfgM m hO).win 4).blk t).view.set := by
  have h0 : (i 0).val < 147456 := (i 0).isLt
  obtain ⟨t, ht⟩ : ∃ t : Fin (cfgM m hO).N, t.val = (i 0).val / 512 := ⟨⟨(i 0).val / 512, by show _ < 288; omega⟩, rfl⟩
  obtain ⟨r, hr⟩ : ∃ r : Fin 512, r.val = (i 0).val % 512 := ⟨⟨(i 0).val % 512, Nat.mod_lt _ (by decide)⟩, rfl⟩
  have e : (((cfgM m hO).win 4).blk t).view.emb (ix2 r (i 1)) = i := by
    refine (emb4 m hO t r (i 1)).trans ?_
    funext a
    apply Fin.ext
    match a with
    | ⟨0, _⟩ => show 512 * t.val + r.val = (i 0).val; omega
    | ⟨1, _⟩ => rfl
  refine ⟨t, flush0_4 _ _, ?_⟩
  have h := View.emb_mem_set (v := (((cfgM m hO).win 4).blk t).view) (ix2 r (i 1))
  rw [e] at h
  exact h

/-- The result array after the run is the routed feed-forward network of the arguments. -/
theorem final (hO : Ok m) (hlt : ∀ i : S288.Idx, (tbl m 0 i : BitVec 32).toNat < 32) (c : Dev nD) :
    (dats m hO 0 c).arrAt 4 (cfgM m hO).N = result (tbl m 0) (m ((c.tc : Thread nD τ).loc main_arg1)) (m ((c.tc : Thread nD τ).loc main_arg2))
      (m ((c.tc : Thread nD τ).loc main_arg3)) (m ((c.tc : Thread nD τ).loc main_arg4)) := by
  generalize hG : result (tbl m 0) (m ((c.tc : Thread nD τ).loc main_arg1)) (m ((c.tc : Thread nD τ).loc main_arg2))
      (m ((c.tc : Thread nD τ).loc main_arg3)) (m ((c.tc : Thread nD τ).loc main_arg4)) = G
  refine (dats m hO 0 c).arrAt_eq_of_emb 4 G (fun t hf y => ?_) (cover4 m hO)
  · have ht : t.val < 288 := t.isLt
    obtain ⟨r, n, hy⟩ := split_idx y
    have e1 := point_apply m hO hlt c t ht r n
    rw [hG] at e1
    have e2 : (((cfgM m hO).win 4).blk t).view.emb y = (ix2 ⟨512 * t.val + r.val, by omega⟩ n : S147456x1024.Idx) :=
      (congrArg _ hy).trans (emb4 m hO t r n)
    rw [e2, ← e1]
    blk_simp
    rw [after0_4]
    rw [hy]
end Cert.FfnBody
-- ==== Proof.FfnRef.lean ====
module

public import proofs.«01_k».proof.Proof.FfnBody
public import proofs.«01_k».proof.Proof.Gen.Reference3Ideal.Read

/-! The reference of the routed feed-forward network at one element of its result. -/

@[expose] public section

set_option maxRecDepth 16384

noncomputable section

namespace Cert.FfnRef

open Idealize.ShloMosaic Idealize.ShloMosaic.TcCoe
open Cert.Reference3Ideal Cert.Reference3Ideal.Gen Cert.Reference3Ideal.Read

/-- The dimension numbers of taking whole slices of a table of 32 slices, one for every row of a column of 288 words. -/
def takeDims (P Q : Nat) (wf : GatherDims.WF ⟨3, ![32, P, Q]⟩ ⟨2, ![288, 1]⟩ ⟨3, ![288, P, Q]⟩ [1, 2] [0] [] [0] [] 1 ![1, P, Q]) :
    GatherDims ⟨3, ![32, P, Q]⟩ ⟨2, ![288, 1]⟩ ⟨3, ![288, P, Q]⟩ where
  offsetDims := [1, 2]
  collapsedSliceDims := [0]
  operandBatchingDims := []
  startIndicesBatchingDims := []
  startIndexMap := [0]
  indexVectorDim := 1
  sliceSizes := ![1, P, Q]
  wf := wf

/-- Where the words are in range, result element (t, a, b) is the table's element at (word t, a, b). -/
theorem take3 {α : Type} (P Q : Nat) (wf) (x : (⟨3, ![32, P, Q]⟩ : Shape).Idx → α) (idx : IVec ⟨2, ![288, 1]⟩ 32) (t : Fin 288) (a : Fin P) (b : Fin Q)
    (e : Fin 32) (he : (idx (ix2 t 0)).toInt.toNat = e.val) :
    Host.gather (takeDims P Q wf) x idx (ix3 t a b) = x (ix3 e a b) := by
  unfold Host.gather
  congr 1
  funext q
  apply Fin.ext
  match q with
  | ⟨0, _⟩ =>
    have hs : (takeDims P Q wf).siIdx (ix3 t a b) ⟨0, Nat.one_pos⟩ = ix2 t 0 := by
      funext b
      match b with
      | ⟨0, _⟩ => rfl
      | ⟨1, _⟩ => rfl
    have hl := e.isLt
    show min (idx ((takeDims P Q wf).siIdx (ix3 t a b) ⟨0, Nat.one_pos⟩)).toInt.toNat (32 - 1) + 0 + 0 = e.val
    rw [hs, he]
    omega
  | ⟨1, _⟩ => exact (Nat.zero_add _)
  | ⟨2, _⟩ => exact (Nat.zero_add _)

/-- A word below 32, with 32 added where it is negative, is the word. -/
theorem word_sel (w : BitVec 32) (h : w.toNat < 32) : Scalar.select (IntOp.cmpi .slt w 0#32) (IntOp.addi w 32#32) w = w := by
  have h1 : IntOp.cmpi .slt w 0#32 = 0#1 := by
    simp only [IntOp.cmpi, BitVec.slt]
    have h3 := BitVec.toInt_eq_toNat_cond w
    rw [if_pos (by omega)] at h3
    have : ¬ w.toInt < (0#32).toInt := by rw [h3]; simp
    rw [decide_eq_false this]
    rfl
  rw [h1]
  rfl

/-- The column of words that the first take reads holds the table's words. -/
theorem word6 (x0 : S288.Idx → BitVec 32) (h : ∀ i : S288.Idx, (x0 i).toNat < 32) (t : Fin 288) : val_main_v6 (F := Ideal) x0 (ix2 t 0) = x0 (ix1 t) := by
  rw [val_main_v6_apply, val_main_v5_apply, val_main_v2_apply, val_main_v4_apply, val_main_v1_apply, val_main_v3_apply]
  have e : idx_main_v6 (ix2 t 0) = ix1 t := by funext a; match a with | ⟨0, _⟩ => rfl
  rw [e]
  exact word_sel (x0 (ix1 t)) (h (ix1 t))

/-- The column of words that the second take reads holds the table's words. -/
theorem word14 (x0 : S288.Idx → BitVec 32) (h : ∀ i : S288.Idx, (x0 i).toNat < 32) (t : Fin 288) : val_main_v14 (F := Ideal) x0 (ix2 t 0) = x0 (ix1 t) := by
  rw [val_main_v14_apply, val_main_v13_apply, val_main_v10_apply, val_main_v12_apply, val_main_v9_apply, val_main_v11_apply]
  have e : idx_main_v14 (ix2 t 0) = ix1 t := by funext a; match a with | ⟨0, _⟩ => rfl
  rw [e]
  exact word_sel (x0 (ix1 t)) (h (ix1 t))

/-- The column of words that the third take reads holds the table's words. -/
theorem word24 (x0 : S288.Idx → BitVec 32) (h : ∀ i : S288.Idx, (x0 i).toNat < 32) (t : Fin 288) : val_main_v24 (F := Ideal) x0 (ix2 t 0) = x0 (ix1 t) := by
  rw [val_main_v24_apply, val_main_v23_apply, val_main_v20_apply, val_main_v22_apply, val_main_v19_apply, val_main_v21_apply]
  have e : idx_main_v24 (ix2 t 0) = ix1 t := by funext a; match a with | ⟨0, _⟩ => rfl
  rw [e]
  exact word_sel (x0 (ix1 t)) (h (ix1 t))

/-- A word below 32, read signed, is its number. -/
theorem word_nat (w : BitVec 32) (h : w.toNat < 32) (e : Fin 32) (he : w.toNat = e.val) : w.toInt.toNat = e.val := by
  have h3 := BitVec.toInt_eq_toNat_cond w
  rw [if_pos (by omega)] at h3
  rw [h3, Int.toNat_natCast, he]

/-- The gate product of a row with its expert's weights. -/
theorem gate_apply (x0 : S288.Idx → BitVec 32) (x1 : S147456x1024.Idx → EReal) (w : S32x1024x512.Idx → EReal) (h : ∀ i : S288.Idx, (x0 i).toNat < 32)
    (t : Fin 288) (r f : Fin 512) (e : Fin 32) (he : (x0 (ix1 t)).toNat = e.val) :
    val_main_v8 (F := Ideal) x0 x1 w (ix3 t r f) = ∑ k : Fin 1024, x1 (ix2 ⟨512 * t.val + r.val, by omega⟩ k) * w (ix3 e k f) := by
  rw [val_main_v8_apply]
  refine Finset.sum_congr rfl fun k _ => ?_
  have e1 : ridx_main_v8 (ix3 t r f) k = ix3 t k f := by funext a; match a with | ⟨0, _⟩ => rfl | ⟨1, _⟩ => rfl | ⟨2, _⟩ => rfl
  have e2 : val_main_v7 (F := Ideal) x0 w (ix3 t k f) = w (ix3 e k f) :=
    take3 1024 512 gather_S32x1024x512_S288x1_S288x1024x512_12_0_n_n_0_1_11024512.wf w _ t k f e (by rw [word6 x0 h]; exact word_nat _ (h _) e he)
  have e3 : idx_main_v0 (lidx_main_v8 (ix3 t r f) k) = ix2 ⟨512 * t.val + r.val, by omega⟩ k := by
    funext a
    apply Fin.ext
    match a with
    | ⟨0, _⟩ => show ((t.val * 512 + r.val) * 1024 + k.val) / 1024 = 512 * t.val + r.val; omega
    | ⟨1, _⟩ => show ((t.val * 512 + r.val) * 1024 + k.val) % 1024 = k.val; omega
  rw [e1, e2, val_main_v0_apply, e3]

/-- The up product of a row with its expert's weights. -/
theorem up_apply (x0 : S288.Idx → BitVec 32) (x1 : S147456x1024.Idx → EReal) (w : S32x1024x512.Idx → EReal) (h : ∀ i : S288.Idx, (x0 i).toNat < 32)
    (t : Fin 288) (r f : Fin 512) (e : Fin 32) (he : (x0 (ix1 t)).toNat = e.val) :
    val_main_v16 (F := Ideal) x0 x1 w (ix3 t r f) = ∑ k : Fin 1024, x1 (ix2 ⟨512 * t.val + r.val, by omega⟩ k) * w (ix3 e k f) := by
  rw [val_main_v16_apply]
  refine Finset.sum_congr rfl fun k _ => ?_
  have e1 : ridx_main_v16 (ix3 t r f) k = ix3 t k f := by funext a; match a with | ⟨0, _⟩ => rfl | ⟨1, _⟩ => rfl | ⟨2, _⟩ => rfl
  have e2 : val_main_v15 (F := Ideal) x0 w (ix3 t k f) = w (ix3 e k f) :=
    take3 1024 512 gather_S32x1024x512_S288x1_S288x1024x512_12_0_n_n_0_1_11024512.wf w _ t k f e (by rw [word14 x0 h]; exact word_nat _ (h _) e he)
  have e3 : idx_main_v0 (lidx_main_v16 (ix3 t r f) k) = ix2 ⟨512 * t.val + r.val, by omega⟩ k := by
    funext a
    apply Fin.ext
    match a with
    | ⟨0, _⟩ => show ((t.val * 512 + r.val) * 1024 + k.val) / 1024 = 512 * t.val + r.val; omega
    | ⟨1, _⟩ => show ((t.val * 512 + r.val) * 1024 + k.val) % 1024 = k.val; omega
  rw [e1, e2, val_main_v0_apply, e3]

/-- The hidden value of a row. -/
theorem hidden_apply (x0 : S288.Idx → BitVec 32) (x1 : S147456x1024.Idx → EReal) (x2 x3 : S32x1024x512.Idx → EReal) (h : ∀ i : S288.Idx, (x0 i).toNat < 32)
    (t : Fin 288) (r f : Fin 512) (e : Fin 32) (he : (x0 (ix1 t)).toNat = e.val) :
    val_main_v18 (F := Ideal) x0 x1 x2 x3 (ix3 t r f) = FfnBody.hidden (fun k => x1 (ix2 ⟨512 * t.val + r.val, by omega⟩ k)) (fun k => x2 (ix3 e k f)) (fun k => x3 (ix3 e k f)) := by
  rw [val_main_v18_apply, val_main_v17_apply, val_main_call0_v5_apply, val_main_call0_v4_apply, val_main_call0_cst_0_apply, val_main_call0_v3_apply,
    val_main_call0_v2_apply, val_main_call0_cst_apply, val_main_call0_v1_apply, val_main_call0_v0_apply,
    gate_apply x0 x1 x2 h t r f e he, up_apply x0 x1 x3 h t r f e he]
  unfold FfnBody.hidden
  generalize (∑ k : Fin 1024, x1 (ix2 ⟨512 * t.val + r.val, by omega⟩ k) * x2 (ix3 e k f)) = A
  generalize (∑ k : Fin 1024, x1 (ix2 ⟨512 * t.val + r.val, by omega⟩ k) * x3 (ix3 e k f)) = B
  simp only [Ideal.mulf_def, Ideal.addf_def, Ideal.hostDivf_def, Ideal.hostUnary_exp_def, Ideal.ofBits_def]
  rw [show Ideal.ofBits FTy.f32 1065353216#32 = 1 from Ideal.ofBits_one_f32]
  rfl

/-- The reference's result at a row and a column. -/
theorem ref_apply (x0 : S288.Idx → BitVec 32) (x1 : S147456x1024.Idx → EReal) (x2 x3 : S32x1024x512.Idx → EReal) (x4 : S32x512x1024.Idx → EReal) (h : ∀ i : S288.Idx, (x0 i).toNat < 32) (n : Fin 147456) (c : Fin 1024) :
    val_main_v27 (F := Ideal) x0 x1 x2 x3 x4 (ix2 n c) = FfnBody.ffn (fun k => x1 (ix2 n k)) (fun f k => x2 (ix3 (FfnBody.expert x0 n) k f)) (fun f k => x3 (ix3 (FfnBody.expert x0 n) k f)) (fun f => x4 (ix3 (FfnBody.expert x0 n) f c)) := by
  obtain ⟨t, ht⟩ : ∃ t : Fin 288, t.val = n.val / 512 := ⟨⟨n.val / 512, by omega⟩, rfl⟩
  obtain ⟨r, hr⟩ : ∃ r : Fin 512, r.val = n.val % 512 := ⟨⟨n.val % 512, by omega⟩, rfl⟩
  have ei : (⟨512 * t.val + r.val, by omega⟩ : Fin 147456) = n := Fin.ext (by show 512 * t.val + r.val = n.val; omega)
  have he : (x0 (ix1 t)).toNat = (FfnBody.expert x0 n).val := by
    have e : t = ⟨n.val / 512, by omega⟩ := Fin.ext ht
    rw [e]
    exact (Nat.mod_eq_of_lt (h _)).symm
  rw [val_main_v27_apply, val_main_v26_apply]
  unfold FfnBody.ffn
  refine Finset.sum_congr rfl fun f _ => ?_
  have e1 : lidx_main_v26 (idx_main_v27 (ix2 n c)) f = ix3 t r f := by
    funext a
    apply Fin.ext
    match a with
    | ⟨0, _⟩ => show (n.val * 1024 + c.val) / 524288 = t.val; omega
    | ⟨1, _⟩ => show (n.val * 1024 + c.val) / 1024 % 512 = r.val; omega
    | ⟨2, _⟩ => rfl
  have e2 : ridx_main_v26 (idx_main_v27 (ix2 n c)) f = ix3 t f c := by
    funext a
    apply Fin.ext
    match a with
    | ⟨0, _⟩ => show (n.val * 1024 + c.val) / 524288 = t.val; omega
    | ⟨1, _⟩ => rfl
    | ⟨2, _⟩ => show (n.val * 1024 + c.val) % 1024 = c.val; omega
  have e3 : val_main_v25 (F := Ideal) x0 x4 (ix3 t f c) = x4 (ix3 (FfnBody.expert x0 n) f c) :=
    take3 512 1024 gather_S32x512x1024_S288x1_S288x512x1024_12_0_n_n_0_1_15121024.wf x4 _ t f c _ (by rw [word24 x0 h]; exact word_nat _ (h _) _ he)
  rw [e1, e2, e3, hidden_apply x0 x1 x2 x3 h t r f _ he, ei]

/-- The reference's result is the routed feed-forward network. -/
theorem ref_eq (x0 : S288.Idx → BitVec 32) (x1 : S147456x1024.Idx → EReal) (x2 x3 : S32x1024x512.Idx → EReal) (x4 : S32x512x1024.Idx → EReal) (h : ∀ i : S288.Idx, (x0 i).toNat < 32) :
    val_main_v27 (F := Ideal) x0 x1 x2 x3 x4 = FfnBody.result x0 x1 x2 x3 x4 := by
  funext i
  have e : i = ix2 (i 0) (i 1) := by funext a; match a with | ⟨0, _⟩ => rfl | ⟨1, _⟩ => rfl
  rw [e]
  exact ref_apply x0 x1 x2 x3 x4 h (i 0) (i 1)

end Cert.FfnRef
-- ==== Proof.FfnClaim.lean ====
module

public import proofs.«01_k».proof.Defs
public import proofs.«01_k».proof.Proof.FfnRef
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import proofs.«01_k».proof.Proof.Gen.Pre_experts_in_range
public import Idealize.ShloMosaic.Lib.Quiescent

/-! The claims about the routed feed-forward network: the kernel and its reference compute the same rows. -/

@[expose] public section

set_option maxRecDepth 16384

noncomputable section

namespace Cert.FfnClaim

open Idealize.ShloMosaic Idealize.SL.Sem Idealize.ShloMosaic.TcCoe

/-- The precondition bounds every word of the prefetched table. -/
theorem table_lt (m : (ℓ : Loc Cert.Kernel3Ideal.nD Cert.Kernel3Ideal.τ Cert.Kernel3Ideal.sig) → Buf (Elt Ideal) ℓ) (h : Cert.Pre_Kernel3Ideal m)
    (c : Dev Cert.Kernel3Ideal.nD) (i : Cert.Kernel3Ideal.S288.Idx) :
    (m ((c.tc : Thread Cert.Kernel3Ideal.nD Cert.Kernel3Ideal.τ).loc Cert.Kernel3Ideal.main_arg0) i : BitVec 32).toNat < 32 :=
  FfnTable.pre_lt _ _ _ _ _ (h c) i

section Kernel

open Cert.Kernel3Ideal Cert.Kernel3Ideal.Gen

/-- The kernel ends with every row passed through its block's expert and its arguments unchanged. -/
theorem kernel_run (m : (ℓ : Loc nD τ sig) → Buf (Elt Ideal) ℓ) (g : Dev nD → PrngReg) (h : Cert.Pre_Kernel3Ideal m) :
    θ_run (defs (F := Ideal)) (onTc (τ := τ) (main (F := Ideal))) ⟨m, fun _ => 0, g⟩ (fun r => ∀ c : Dev nD,
      r.2.mem ((c.tc : Thread nD τ).loc main_v4)
        = FfnBody.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO := FfnTable.ok_of_preI m h
  have e0 : tbl m 0 = m (((0 : Dev nD).tc : Thread nD τ).loc main_arg0) := V_main_arg0 m 0
  have hf : ∀ c : Dev nD, (dats m hO 0 c).arrAt 4 (cfgM m hO).N = FfnBody.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := fun c => by
    have hc : c = 0 := Subsingleton.elim _ _
    subst hc
    refine (FfnBody.final m hO (fun i => ?_) 0).trans ?_
    · rw [e0]; exact table_lt m h 0 i
    · rw [e0]
  exact (θ_run defs _ _).mono (fun r hr c => ⟨((hr c).1 4).trans (hf c),
    ((hr c).2 main_arg0 (by decide : main_arg0 ∈ Pipeline.restRefs sig spec0)).trans (V_main_arg0 m c),
    ((hr c).2 main_arg1 (by decide : main_arg1 ∈ Pipeline.restRefs sig spec0)).trans (V_main_arg1 m c),
    ((hr c).2 main_arg2 (by decide : main_arg2 ∈ Pipeline.restRefs sig spec0)).trans (V_main_arg2 m c),
    ((hr c).2 main_arg3 (by decide : main_arg3 ∈ Pipeline.restRefs sig spec0)).trans (V_main_arg3 m c),
    ((hr c).2 main_arg4 (by decide : main_arg4 ∈ Pipeline.restRefs sig spec0)).trans (V_main_arg4 m c)⟩) (run_main m g hO)

end Kernel

/-- The reference terminates with its arguments unchanged and its semaphores at zero. -/
theorem reference_frame : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The same under the precondition on the experts' table. -/
theorem reference_frame_pre : Cert.quiescent_Reference3Ideal_pre_experts_in_range := fun m ρ _ => reference_frame m ρ trivial

/-- From the same arguments, with every block's expert among the 32, the kernel and the reference end with the same rows. -/
theorem value : Cert.algebraic_Kernel3Ideal_Reference3Ideal := by
  intro m g m' g' h hag
  refine ⟨_, kernel_run m g h, (θ_run Cert.Reference3Ideal.defs _ _).mono (fun r hr c => ⟨(hr c).1.trans ?_, (hr c).2⟩) (Cert.Reference3Ideal.Value.run (F := Ideal) m' g')⟩
  obtain ⟨e0, e1, e2, e3, e4⟩ := hag c
  refine (Cert.Reference3Ideal.Read.val_main_v27_eq (F := Ideal) _ _ _ _ _).trans ?_
  rw [e0, e1, e2, e3, e4]
  exact FfnRef.ref_eq _ _ _ _ _ (table_lt m h c)

end Cert.FfnClaim
-- ==== Proof.OutBody.lean ====
module

public import proofs.«01_k».proof.Proof.ProjBody
public import proofs.«01_k».proof.Proof.Gen.Kernel4Ideal.Value

/-! The output projection: what the kernel's body computes at an element of the residual's block and of the normalised rows'. -/

@[expose] public section

set_option maxRecDepth 16384

noncomputable section

namespace Cert.OutBody

open Idealize.ShloMosaic Idealize.ShloMosaic.TcCoe
open Cert.Kernel4Ideal Cert.Kernel4Ideal.Gen Cert.ProjBody

/-- Four rows of 256 as one row of 1024. -/
def cat4 (a b c d : Fin 256 → EReal) (k : Fin 1024) : EReal :=
  if h : k.val < 256 then a ⟨k.val, h⟩
  else if h : k.val - 256 < 256 then b ⟨k.val - 256, h⟩
  else if h : k.val - 256 - 256 < 256 then c ⟨k.val - 256 - 256, h⟩
  else d ⟨k.val - 256 - 256 - 256, by omega⟩

/-- One element of the residual: the old value plus the mixers' row against a column of weights. -/
def resid (X : EReal) (a b c d : Fin 256 → EReal) (W : Fin 1024 → EReal) : EReal := X + ∑ k, cat4 a b c d k * W k

/-- The residual rows the body computes. -/
theorem pay4_apply (v5 v7 v9 v11 : Vec Ideal S1x512x256 .f32) (v15 : Vec Ideal S1x512x1024 .f32) (v17 : Vec Ideal S1024x1024 .bf16) (r : Fin 512) (n : Fin 1024) :
    k0_pay4 (F := Ideal) v5 v7 v9 v11 v15 v17 (ix2 r n) = resid (v15 (ix3 0 r n)) (fun k => v5 (ix3 0 r k)) (fun k => v7 (ix3 0 r k))
      (fun k => v9 (ix3 0 r k)) (fun k => v11 (ix3 0 r k)) (fun k => v17 (ix2 k n)) := by
  pointwise [k0_pay4]
  rfl

/-- Their blocks' squares, summed over a row. -/
theorem pay7_apply (v5 v7 v9 v11 : Vec Ideal S1x512x256 .f32) (v15 : Vec Ideal S1x512x1024 .f32) (v17 : Vec Ideal S1024x1024 .bf16) (r : Fin 512) :
    k0_pay7 (F := Ideal) v5 v7 v9 v11 v15 v17 (ix2 r 0) = ∑ j, k0_pay4 (F := Ideal) v5 v7 v9 v11 v15 v17 (ix2 r j) * k0_pay4 (F := Ideal) v5 v7 v9 v11 v15 v17 (ix2 r j) := by
  pointwise [k0_pay7]

/-- The residual's block. -/
theorem pay5_apply (v5 v7 v9 v11 : Vec Ideal S1x512x256 .f32) (v15 : Vec Ideal S1x512x1024 .f32) (v17 : Vec Ideal S1024x1024 .bf16) (r : Fin 512) (n : Fin 1024) :
    k0_pay5 (F := Ideal) v5 v7 v9 v11 v15 v17 (ix3 0 r n) = k0_pay4 (F := Ideal) v5 v7 v9 v11 v15 v17 (ix2 r n) := by
  pointwise [k0_pay5]

/-- The normalised rows' block. -/
theorem pay9_apply (v20 : Vec Ideal S512x1024 .f32) (v24 : Vec Ideal S1x1024 .f32) (v28 : Vec Ideal S512x1 .f32) (r : Fin 512) (n : Fin 1024)
    (h : v28 (ix2 r 0) = ∑ j, v20 (ix2 r j) * v20 (ix2 r j)) :
    k0_pay9 (F := Ideal) v20 (k0_pay6 v24) v28 (ix3 0 r n) = nrm (fun k => v20 (ix2 r k)) (fun k => v24 (ix2 0 k)) n := by
  unfold nrm
  rw [← h]
  pointwise [k0_pay9, k0_pay8, k0_pay6]

variable (m : (ℓ : Loc nD τ sig) → Buf (Elt Ideal) ℓ)

/-- The residual's block at a grid point, at an element. -/
theorem point9 (c : Dev nD) (t : Fin cfg0.N) (r : Fin 512) (n : Fin 1024) :
    (dats m 0 c).after 9 t (ix3 0 r n) = resid (iblk m c 0 t (ix3 0 r n)) (fun k => iblk m c 1 t (ix3 0 r k)) (fun k => iblk m c 2 t (ix3 0 r k))
      (fun k => iblk m c 3 t (ix3 0 r k)) (fun k => iblk m c 4 t (ix3 0 r k)) (fun k => iblk m c 5 t (ix2 k n)) := by
  rw [after0_9]
  refine Eq.trans ?_ (pay4_apply (iblk m c 1 t) (iblk m c 2 t) (iblk m c 3 t) (iblk m c 4 t) (iblk m c 0 t) (iblk m c 5 t) r n)
  by_cases h0 : t.val % 128 = 0
  · rw [outsAt0_A m c t h0]
    dsimp only
    unfold out0_A_9
    frame_out
    exact pay5_apply _ _ _ _ _ _ r n
  · rw [outsAt0_B m c t h0]
    dsimp only
    unfold out0_B_9
    frame_out
    exact pay5_apply _ _ _ _ _ _ r n

/-- The normalised rows' block at a grid point, at an element, from the residual's block there. -/
theorem point10 (c : Dev nD) (t : Fin cfg0.N) (r : Fin 512) (n : Fin 1024) :
    (dats m 0 c).after 10 t (ix3 0 r n) = nrm (fun j => (dats m 0 c).after 9 t (ix3 0 r j)) (fun k => iblk m c 6 t (ix2 0 k)) n := by
  have e : (fun j => (dats m 0 c).after 9 t (ix3 0 r j)) =
      fun j => k0_pay4 (F := Ideal) (iblk m c 1 t) (iblk m c 2 t) (iblk m c 3 t) (iblk m c 4 t) (iblk m c 0 t) (iblk m c 5 t) (ix2 r j) :=
    funext fun j => (point9 m c t r j).trans (pay4_apply _ _ _ _ _ _ r j).symm
  rw [e, after0_10]
  refine Eq.trans ?_ (pay9_apply _ (iblk m c 6 t) _ r n (pay7_apply _ _ _ _ _ _ r))
  by_cases h0 : t.val % 128 = 0
  · rw [outsAt0_A m c t h0]
    dsimp only
    unfold out0_A_10
    frame_out
  · rw [outsAt0_B m c t h0]
    dsimp only
    unfold out0_B_10
    frame_out

/-- The last mixer's rows as the kernel finds them: eight batch entries side by side. -/
theorem V_scan (c : Dev nD) (q : Fin 4) (l j : Fin 2048) : (V m c main_v9 : S4x2048x2048.Idx → EReal) (ix3 q l j) =
    m ((c.tc : Thread nD τ).loc main_arg4) (ix3 ⟨8 * q.val + j.val / 256, by omega⟩ l ⟨j.val % 256, by omega⟩) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  show shapeCast S4x2048x2048 (transpose S4x2048x8x256 [0, 2, 1, 3] (shapeCast S4x8x2048x256 (m ((c.tc : Thread nD τ).loc main_arg4))
    shapeCasts_S32x2048x256_S4x8x2048x256) transposes_S4x8x2048x256_S4x2048x8x256_0_2_1_3) shapeCasts_S4x2048x8x256_S4x2048x2048 (ix3 q l j) = _
  refine (shapeCast_apply _ shapeCasts_S4x2048x8x256_S4x2048x2048 (ix3 q l j) (ix4 q l ⟨j.val / 256, by omega⟩ ⟨j.val % 256, by omega⟩) ?_).trans ?_
  · rw [Shape.rowMajor_val_four, Shape.rowMajor_val_three]
    show ((q.val * 2048 + l.val) * 8 + j.val / 256) * 256 + j.val % 256 = (q.val * 2048 + l.val) * 2048 + j.val
    omega
  refine (transpose_apply [0, 2, 1, 3] _ transposes_S4x8x2048x256_S4x2048x8x256_0_2_1_3 _ (ix4 q ⟨j.val / 256, by omega⟩ l ⟨j.val % 256, by omega⟩) ?_).trans ?_
  · intro b
    match b with
    | ⟨0, _⟩ => rfl
    | ⟨1, _⟩ => rfl
    | ⟨2, _⟩ => rfl
    | ⟨3, _⟩ => rfl
  refine shapeCast_apply _ shapeCasts_S32x2048x256_S4x8x2048x256 _ (ix3 ⟨8 * q.val + j.val / 256, by omega⟩ l ⟨j.val % 256, by omega⟩) ?_
  rw [Shape.rowMajor_val_four, Shape.rowMajor_val_three]
  show ((8 * q.val + j.val / 256) * 2048 + l.val) * 256 + j.val % 256 = ((q.val * 8 + j.val / 256) * 2048 + l.val) * 256 + j.val % 256
  omega

/-- The weights as the kernel finds them: the argument (a change of float format is the identity on the ideal values). -/
theorem V_weights (c : Dev nD) : (V m c main_v10 : S1024x1024.Idx → EReal) = m ((c.tc : Thread nD τ).loc main_arg5) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- The scale as the kernel finds it: the argument as one row. -/
theorem V_scale (c : Dev nD) (k : Fin 1024) : (V m c main_v11 : S1x1024.Idx → EReal) (ix2 0 k) = m ((c.tc : Thread nD τ).loc main_arg6) (ix1 k) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  pointwise

end Cert.OutBody
-- ==== Proof.OutFinal.lean ====
module

public import proofs.«01_k».proof.Proof.OutBody
public import proofs.«01_k».proof.Proof.ProjOut

/-! The output projection: the residual and the normalised rows after the run. -/

@[expose] public section

set_option maxRecDepth 16384

noncomputable section

namespace Cert.OutFinal

open Idealize.ShloMosaic Idealize.ShloMosaic.TcCoe
open Cert.Kernel4Ideal Cert.Kernel4Ideal.Gen Cert.ProjBody Cert.OutBody

/-- One element of the new residual. -/
def hElem (x : S32x2048x1024.Idx → EReal) (ya yb yc yd : S32x2048x256.Idx → EReal) (w : S1024x1024.Idx → EReal) (b : Fin 32) (l : Fin 2048) (n : Fin 1024) : EReal :=
  resid (x (ix3 b l n)) (fun k => ya (ix3 b l k)) (fun k => yb (ix3 b l k)) (fun k => yc (ix3 b l k)) (fun k => yd (ix3 b l k)) (fun k => w (ix2 k n))

/-- The new residual. -/
def hRes (x : S32x2048x1024.Idx → EReal) (ya yb yc yd : S32x2048x256.Idx → EReal) (w : S1024x1024.Idx → EReal) : S32x2048x1024.Idx → EReal := fun i =>
  hElem x ya yb yc yd w (i 0) (i 1) (i 2)

/-- Its rows normalised by their root mean square and scaled. -/
def hNorm (x : S32x2048x1024.Idx → EReal) (ya yb yc yd : S32x2048x256.Idx → EReal) (w : S1024x1024.Idx → EReal) (g : S1024.Idx → EReal) :
    S32x2048x1024.Idx → EReal := fun i =>
  nrm (fun j => hElem x ya yb yc yd w (i 0) (i 1) j) (fun k => g (ix1 k)) (i 2)

variable (m : (ℓ : Loc nD τ sig) → Buf (Elt Ideal) ℓ)

/-- The arguments of a run. -/
abbrev X (c : Dev nD) : S32x2048x1024.Idx → EReal := m ((c.tc : Thread nD τ).loc main_arg0)
abbrev Ya (c : Dev nD) : S32x2048x256.Idx → EReal := m ((c.tc : Thread nD τ).loc main_arg1)
abbrev Yb (c : Dev nD) : S32x2048x256.Idx → EReal := m ((c.tc : Thread nD τ).loc main_arg2)
abbrev Yc (c : Dev nD) : S32x2048x256.Idx → EReal := m ((c.tc : Thread nD τ).loc main_arg3)
abbrev Yd (c : Dev nD) : S32x2048x256.Idx → EReal := m ((c.tc : Thread nD τ).loc main_arg4)
abbrev Wt (c : Dev nD) : S1024x1024.Idx → EReal := m ((c.tc : Thread nD τ).loc main_arg5)
abbrev G (c : Dev nD) : S1024.Idx → EReal := m ((c.tc : Thread nD τ).loc main_arg6)

/-- A grid point's batch entry and the place of a block's row in it. -/
def bOf (t : Fin cfg0.N) : Fin 32 := ⟨t.val / 4, by have h : t.val < 128 := t.isLt; omega⟩
def lOf (t : Fin cfg0.N) (r : Fin 512) : Fin 2048 := ⟨512 * (t.val % 4) + r.val, by omega⟩

/-- Where an element of a block of 512 rows lies, for the windows whose block goes by the point's batch entry and quarter. -/
theorem place {W : Nat} (t : Fin cfg0.N) (e : (⟨3, ![1, 512, W]⟩ : Shape).Idx → (⟨3, ![32, 2048, W]⟩ : Shape).Idx)
    (he : ∀ y a, (e y a).val = ![t.val / 4, t.val % 4, 0] a * ![1, 512, W] a + (y a).val) (r : Fin 512) (n : Fin W) :
    e (ix3 0 r n) = ix3 (bOf t) (lOf t r) n := ProjOut.place t.val t.isLt e he r n

/-- The residual's block at a grid point. -/
theorem iblk0 (c : Dev nD) (t : Fin cfg0.N) (r : Fin 512) (k : Fin 1024) : iblk m c 0 t (ix3 0 r k) = X m c (ix3 (bOf t) (lOf t r) k) := by
  show V m c main_arg0 (((cfg0.win 0).blk t).view.emb (ix3 0 r k)) = _
  rw [V_main_arg0]
  refine congrArg (X m c) (place t (fun y => ((cfg0.win 0).blk t).view.emb y) (fun y a => ?_) r k)
  refine (Pipeline.Window.rect_emb_val (cfg0.win 0) t y a).trans ?_
  have hx : (cfg0.win 0).index t = ![t.val / 4, t.val % 4, 0] :=
    (by decide +kernel : ∀ t : Fin grid0.N, cc0_transform_0 (grid0.coords t) = ![t.val / 4, t.val % 4, 0]) t
  rw [hx]

/-- The first mixer's block at a grid point. -/
theorem iblk1 (c : Dev nD) (t : Fin cfg0.N) (r : Fin 512) (k : Fin 256) : iblk m c 1 t (ix3 0 r k) = Ya m c (ix3 (bOf t) (lOf t r) k) := by
  show V m c main_arg1 (((cfg0.win 1).blk t).view.emb (ix3 0 r k)) = _
  rw [V_main_arg1]
  refine congrArg (Ya m c) (place t (fun y => ((cfg0.win 1).blk t).view.emb y) (fun y a => ?_) r k)
  refine (Pipeline.Window.rect_emb_val (cfg0.win 1) t y a).trans ?_
  have hx : (cfg0.win 1).index t = ![t.val / 4, t.val % 4, 0] :=
    (by decide +kernel : ∀ t : Fin grid0.N, cc0_transform_1 (grid0.coords t) = ![t.val / 4, t.val % 4, 0]) t
  rw [hx]

/-- The second mixer's block at a grid point. -/
theorem iblk2 (c : Dev nD) (t : Fin cfg0.N) (r : Fin 512) (k : Fin 256) : iblk m c 2 t (ix3 0 r k) = Yb m c (ix3 (bOf t) (lOf t r) k) := by
  show V m c main_arg2 (((cfg0.win 2).blk t).view.emb (ix3 0 r k)) = _
  rw [V_main_arg2]
  refine congrArg (Yb m c) (place t (fun y => ((cfg0.win 2).blk t).view.emb y) (fun y a => ?_) r k)
  refine (Pipeline.Window.rect_emb_val (cfg0.win 2) t y a).trans ?_
  have hx : (cfg0.win 2).index t = ![t.val / 4, t.val % 4, 0] :=
    (by decide +kernel : ∀ t : Fin grid0.N, cc0_transform_2 (grid0.coords t) = ![t.val / 4, t.val % 4, 0]) t
  rw [hx]

/-- The third mixer's block at a grid point. -/
theorem iblk3 (c : Dev nD) (t : Fin cfg0.N) (r : Fin 512) (k : Fin 256) : iblk m c 3 t (ix3 0 r k) = Yc m c (ix3 (bOf t) (lOf t r) k) := by
  show V m c main_arg3 (((cfg0.win 3).blk t).view.emb (ix3 0 r k)) = _
  rw [V_main_arg3]
  refine congrArg (Yc m c) (place t (fun y => ((cfg0.win 3).blk t).view.emb y) (fun y a => ?_) r k)
  refine (Pipeline.Window.rect_emb_val (cfg0.win 3) t y a).trans ?_
  have hx : (cfg0.win 3).index t = ![t.val / 4, t.val % 4, 0] :=
    (by decide +kernel : ∀ t : Fin grid0.N, cc0_transform_3 (grid0.coords t) = ![t.val / 4, t.val % 4, 0]) t
  rw [hx]

/-- The last mixer's block at a grid point: of the point's batch entry among the eight side by side. -/
theorem iblk4 (c : Dev nD) (t : Fin cfg0.N) (r : Fin 512) (k : Fin 256) : iblk m c 4 t (ix3 0 r k) = Yd m c (ix3 (bOf t) (lOf t r) k) := by
  have ht : t.val < 128 := t.isLt
  have e : ((cfg0.win 4).blk t).view.emb (ix3 0 r k) = (ix3 ⟨t.val / 32, by omega⟩ (lOf t r) ⟨256 * (t.val / 4 % 8) + k.val, by omega⟩ : S4x2048x2048.Idx) := by
    funext a
    apply Fin.ext
    refine (Pipeline.Window.rect_emb_val (cfg0.win 4) t (ix3 0 r k) a).trans ?_
    have hx : (cfg0.win 4).index t = ![t.val / 32, t.val % 4, t.val / 4 % 8] :=
      (by decide +kernel : ∀ t : Fin grid0.N, cc0_transform_4 (grid0.coords t) = ![t.val / 32, t.val % 4, t.val / 4 % 8]) t
    rw [hx]
    match a with
    | ⟨0, _⟩ => show t.val / 32 * 1 + 0 = t.val / 32; omega
    | ⟨1, _⟩ => show t.val % 4 * 512 + r.val = 512 * (t.val % 4) + r.val; omega
    | ⟨2, _⟩ => show t.val / 4 % 8 * 256 + k.val = 256 * (t.val / 4 % 8) + k.val; omega
  show V m c main_v9 (((cfg0.win 4).blk t).view.emb (ix3 0 r k)) = _
  rw [e, V_scan]
  refine congrArg (Yd m c) ?_
  have hb : (⟨8 * (t.val / 32) + (256 * (t.val / 4 % 8) + k.val) / 256, by omega⟩ : Fin 32) = bOf t :=
    Fin.ext (by show 8 * (t.val / 32) + (256 * (t.val / 4 % 8) + k.val) / 256 = t.val / 4; omega)
  have hk : (⟨(256 * (t.val / 4 % 8) + k.val) % 256, by omega⟩ : Fin 256) = k :=
    Fin.ext (by show (256 * (t.val / 4 % 8) + k.val) % 256 = k.val; omega)
  rw [hb, hk]

/-- The weights at a grid point. -/
theorem iblk5 (c : Dev nD) (t : Fin cfg0.N) (k n : Fin 1024) : iblk m c 5 t (ix2 k n) = Wt m c (ix2 k n) := by
  show V m c main_v10 (((cfg0.win 5).blk t).view.emb (ix2 k n)) = _
  rw [V_weights]
  refine congrArg (Wt m c) ?_
  funext a
  apply Fin.ext
  refine (Pipeline.Window.rect_emb_val (cfg0.win 5) t (ix2 k n) a).trans ?_
  have hx : (cfg0.win 5).index t = ![0, 0] := (by decide +kernel : ∀ t : Fin grid0.N, cc0_transform_5 (grid0.coords t) = ![0, 0]) t
  rw [hx]
  match a with
  | ⟨0, _⟩ => show 0 * 1024 + k.val = k.val; omega
  | ⟨1, _⟩ => show 0 * 1024 + n.val = n.val; omega

/-- The scale at a grid point. -/
theorem iblk6 (c : Dev nD) (t : Fin cfg0.N) (k : Fin 1024) : iblk m c 6 t (ix2 0 k) = G m c (ix1 k) := by
  refine Eq.trans ?_ (V_scale m c k)
  show V m c main_v11 (((cfg0.win 6).blk t).view.emb (ix2 0 k)) = _
  congr 1
  funext a
  apply Fin.ext
  refine (Pipeline.Window.rect_emb_val (cfg0.win 6) t (ix2 0 k) a).trans ?_
  have hx : (cfg0.win 6).index t = ![0, 0] := (by decide +kernel : ∀ t : Fin grid0.N, cc0_transform_6 (grid0.coords t) = ![0, 0]) t
  rw [hx]
  match a with
  | ⟨0, _⟩ => rfl
  | ⟨1, _⟩ => show 0 * 1024 + k.val = k.val; omega

/-- What a grid point leaves in the residual's block, at an element. -/
theorem left9 (c : Dev nD) (t : Fin cfg0.N) (r : Fin 512) (n : Fin 1024) :
    (dats m 0 c).after 9 t (ix3 0 r n) = hElem (X m c) (Ya m c) (Yb m c) (Yc m c) (Yd m c) (Wt m c) (bOf t) (lOf t r) n := by
  refine (point9 m c t r n).trans ?_
  exact congr (congr (congr (congr (congr (congrArg resid (iblk0 m c t r n)) (funext fun k => iblk1 m c t r k)) (funext fun k => iblk2 m c t r k))
    (funext fun k => iblk3 m c t r k)) (funext fun k => iblk4 m c t r k)) (funext fun k => iblk5 m c t k n)

/-- The residual after the run. -/
theorem final9 (c : Dev nD) : (dats m 0 c).arrAt 9 cfg0.N = hRes (X m c) (Ya m c) (Yb m c) (Yc m c) (Yd m c) (Wt m c) := by
  generalize hR : hRes (X m c) (Ya m c) (Yb m c) (Yc m c) (Yd m c) (Wt m c) = R
  refine (dats m 0 c).arrAt_eq_of_covers 9 R (by decide +kernel) (fun t hf y => ?_)
  obtain ⟨r, n, hy⟩ := ProjOut.split_idx y
  have e := place t (fun y => ((cfg0.win 9).blk t).view.emb y) (fun y a => by
    refine (Pipeline.Window.rect_emb_val (cfg0.win 9) t y a).trans ?_
    have hx : (cfg0.win 9).index t = ![t.val / 4, t.val % 4, 0] :=
      (by decide +kernel : ∀ t : Fin grid0.N, cc0_transform_9 (grid0.coords t) = ![t.val / 4, t.val % 4, 0]) t
    rw [hx]) r n
  rw [(congrArg _ hy).trans e, ← hR]
  blk_simp
  rw [hy]
  exact left9 m c t r n

/-- The normalised rows after the run. -/
theorem final10 (c : Dev nD) : (dats m 0 c).arrAt 10 cfg0.N = hNorm (X m c) (Ya m c) (Yb m c) (Yc m c) (Yd m c) (Wt m c) (G m c) := by
  generalize hR : hNorm (X m c) (Ya m c) (Yb m c) (Yc m c) (Yd m c) (Wt m c) (G m c) = R
  refine (dats m 0 c).arrAt_eq_of_covers 10 R (by decide +kernel) (fun t hf y => ?_)
  obtain ⟨r, n, hy⟩ := ProjOut.split_idx y
  have e := place t (fun y => ((cfg0.win 10).blk t).view.emb y) (fun y a => by
    refine (Pipeline.Window.rect_emb_val (cfg0.win 10) t y a).trans ?_
    have hx : (cfg0.win 10).index t = ![t.val / 4, t.val % 4, 0] :=
      (by decide +kernel : ∀ t : Fin grid0.N, cc0_transform_10 (grid0.coords t) = ![t.val / 4, t.val % 4, 0]) t
    rw [hx]) r n
  rw [(congrArg _ hy).trans e, ← hR]
  blk_simp
  rw [hy]
  refine (point10 m c t r n).trans ?_
  exact congrFun (congr (congrArg nrm (funext fun j => left9 m c t r j)) (funext fun k => iblk6 m c t k)) n

end Cert.OutFinal
-- ==== Proof.OutRef.lean ====
module

public import proofs.«01_k».proof.Proof.OutFinal
public import proofs.«01_k».proof.Proof.Gen.Reference4Ideal.Read

/-! The reference of the output projection at one element of each of its two results. -/

@[expose] public section

set_option maxRecDepth 16384

noncomputable section

namespace Cert.OutRef

open Idealize.ShloMosaic Idealize.ShloMosaic.TcCoe
open Cert.Reference4Ideal Cert.Reference4Ideal.Gen Cert.Reference4Ideal.Read
open Cert.ProjBody Cert.OutBody Cert.OutFinal

variable (x : S32x2048x1024.Idx → EReal) (ya yb yc yd : S32x2048x256.Idx → EReal) (w : S1024x1024.Idx → EReal) (g : S1024.Idx → EReal)

/-- The four mixers' rows side by side. -/
theorem rows_apply (b : Fin 32) (l : Fin 2048) (k : Fin 1024) : val_main_v0 (F := Ideal) ya yb yc yd (ix3 b l k) =
    cat4 (fun k => ya (ix3 b l k)) (fun k => yb (ix3 b l k)) (fun k => yc (ix3 b l k)) (fun k => yd (ix3 b l k)) k := by
  pointwise [val_main_v0]
  rfl

/-- The residual. -/
theorem h_apply (b : Fin 32) (l : Fin 2048) (n : Fin 1024) : val_main_v2 (F := Ideal) x ya yb yc yd w (ix3 b l n) = hElem x ya yb yc yd w b l n := by
  rw [val_main_v2_apply, Ideal.addf_def, val_main_v1_apply]
  unfold hElem resid
  refine congrArg (x (ix3 b l n) + ·) (Finset.sum_congr rfl fun k _ => ?_)
  have el : lidx_main_v1 (ix3 b l n) k = ix3 b l k := by
    funext a
    match a with
    | ⟨0, _⟩ => rfl
    | ⟨1, _⟩ => rfl
    | ⟨2, _⟩ => rfl
  have er : ridx_main_v1 (ix3 b l n) k = ix2 k n := by
    funext a
    match a with
    | ⟨0, _⟩ => rfl
    | ⟨1, _⟩ => rfl
  rw [el, er, rows_apply]

/-- The sum of the squares of the residual's row. -/
theorem squares_apply (b : Fin 32) (l : Fin 2048) : val_main_v4 (F := Ideal) x ya yb yc yd w (ix2 b l) =
    ∑ k : Fin 1024, hElem x ya yb yc yd w b l k * hElem x ya yb yc yd w b l k := by
  rw [val_main_v4_apply]
  have hz : val_main_cst (F := Ideal) (Shape.Idx.first h_S_) = 0 := Ideal.ofBits_zero_f32
  rw [hz, zero_add]
  refine Finset.sum_congr rfl fun k _ => ?_
  have e : idx_main_v4 (ix2 b l) k = ix3 b l k := by
    funext a
    match a with
    | ⟨0, _⟩ => rfl
    | ⟨1, _⟩ => rfl
    | ⟨2, _⟩ => rfl
  rw [val_main_v3_apply, Ideal.mulf_def, e, h_apply]

/-- The normalised rows. -/
theorem norm_apply (b : Fin 32) (l : Fin 2048) (n : Fin 1024) : val_main_v16 (F := Ideal) x ya yb yc yd w g (ix3 b l n) =
    nrm (fun j => hElem x ya yb yc yd w b l j) (fun k => g (ix1 k)) n := by
  rw [val_main_v16_apply, val_main_v15_apply, val_main_v12_apply, val_main_v11_apply, val_main_v10_apply, val_main_v9_apply, val_main_v7_apply,
    val_main_v5_apply, val_main_v6_apply, val_main_v8_apply, val_main_v14_apply, val_main_v13_apply]
  have e : idx_main_v5 (idx_main_v11 (ix3 b l n)) = ix2 b l := by
    funext a
    match a with
    | ⟨0, _⟩ => rfl
    | ⟨1, _⟩ => rfl
  have e' : idx_main_v13 (idx_main_v14 (ix3 b l n)) = ix1 n := by
    funext a
    match a with
    | ⟨0, _⟩ => rfl
  rw [e, e', squares_apply, h_apply]
  rfl

/-- An index of an array of rows is a batch entry, a row and a column. -/
theorem idx3 (i : S32x2048x1024.Idx) : i = ix3 (i 0) (i 1) (i 2) := by
  funext a
  match a with
  | ⟨0, _⟩ => rfl
  | ⟨1, _⟩ => rfl
  | ⟨2, _⟩ => rfl

/-- The residual array. -/
theorem h_eq : val_main_v2 (F := Ideal) x ya yb yc yd w = hRes x ya yb yc yd w :=
  funext fun i => (congrArg _ (idx3 i)).trans (h_apply x ya yb yc yd w (i 0) (i 1) (i 2))

/-- The array of normalised rows. -/
theorem norm_eq : val_main_v16 (F := Ideal) x ya yb yc yd w g = hNorm x ya yb yc yd w g :=
  funext fun i => (congrArg _ (idx3 i)).trans (norm_apply x ya yb yc yd w g (i 0) (i 1) (i 2))

end Cert.OutRef
-- ==== Proof.OutClaim.lean ====
module

public import proofs.«01_k».proof.Defs
public import proofs.«01_k».proof.Proof.OutRef
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import Idealize.ShloMosaic.Lib.Quiescent

/-! The claims about the output projection: the kernel and its reference compute the same residual and normalised rows. -/

@[expose] public section

set_option maxRecDepth 16384

noncomputable section

namespace Cert.OutClaim

open Idealize.ShloMosaic Idealize.SL.Sem Idealize.ShloMosaic.TcCoe

/-- The reference terminates with its arguments unchanged and its semaphores at zero. -/
theorem reference_frame : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- From the same arguments the kernel and the reference end with the same residual and the same normalised rows. -/
theorem value : Cert.algebraic_Kernel4Ideal_Reference4Ideal := by
  intro m g m' g' h hag
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    (θ_run Cert.Kernel4Ideal.defs _ _).mono (fun r hr c => ⟨(hr c).1, (hr c).2.1, (hr c).2.2.2.2⟩) (Cert.Kernel4Ideal.Value.run_blocks m g),
    (θ_run Cert.Reference4Ideal.defs _ _).mono (fun r hr c => ?_) (Cert.Reference4Ideal.Value.run (F := Ideal) m' g')⟩
  obtain ⟨r0, r1, hargs⟩ := hr c
  obtain ⟨e0, e1, e2, e3, e4, e5, e6, e7, e8⟩ := hag c
  refine ⟨r0.trans ?_, r1.trans ?_, hargs⟩
  · refine (Cert.Reference4Ideal.Read.val_main_v2_eq (F := Ideal) _ _ _ _ _ _).trans (((OutRef.h_eq _ _ _ _ _ _).trans ?_).trans (OutFinal.final9 m c).symm)
    rw [e0, e1, e2, e3, e4, e5]
  · refine (Cert.Reference4Ideal.Read.val_main_v16_eq (F := Ideal) _ _ _ _ _ _ _).trans (((OutRef.norm_eq _ _ _ _ _ _ _).trans ?_).trans (OutFinal.final10 m c).symm)
    rw [e0, e1, e2, e3, e4, e5, e6]

end Cert.OutClaim
-- ==== Proof.ConvMath.lean ====
module

public import Idealize.ShloMosaic.PureOps.Ideal.Laws
public import Idealize.ShloMosaic.Lib.Pointwise.Tactic

/-! The convolution module: the arithmetic of one row, as both programs compute it. -/

@[expose] public section

set_option maxRecDepth 16384

noncomputable section

namespace Cert.ConvMath

open Idealize.ShloMosaic Idealize.ShloMosaic.TcCoe

/-- One number times another's sigmoid. -/
def gate (x y : EReal) : EReal := x * Ideal.div 1 (1 + Ideal.exp (-y))

/-- A row's mean. -/
def mean (f : Fin 256 → EReal) : EReal := Ideal.div (∑ j, f j) (Ideal.ofBits .f32 0x43800000#32)

/-- A row with its mean taken off, divided by its standard deviation, scaled and shifted. -/
def norm (f g b : Fin 256 → EReal) (j : Fin 256) : EReal :=
  (f j - mean f) * Ideal.rsqrt (mean (fun k => (f k - mean f) * (f k - mean f)) + Ideal.ofBits .f32 0x358637BD#32) * g j + b j

/-- What the module makes of a convolved row, at a column: the normalised row through `x * sigmoid x`, against a column of weights, plus that column's bias. -/
def point (f g b W : Fin 256 → EReal) (B : EReal) : EReal := (∑ k, gate (norm f g b k) (norm f g b k) * W k) + B

/-- The rows the convolution reads in a batch entry: the 30 rows of the history, then the gated rows. -/
def rowAt (u : (⟨3, ![32, 2048, 512]⟩ : Shape).Idx → EReal) (h : (⟨3, ![32, 30, 256]⟩ : Shape).Idx → EReal) (b : Fin 32) (n : ℕ) (hn : n < 2078) (j : Fin 256) : EReal :=
  if q : n < 30 then h (ix3 b ⟨n, q⟩ j) else gate (u (ix3 b ⟨n - 30, by omega⟩ ⟨j.val, by omega⟩)) (u (ix3 b ⟨n - 30, by omega⟩ ⟨256 + j.val, by omega⟩))

/-- One column of a convolved row: the sum of 31 products plus the bias. -/
def conv (u : (⟨3, ![32, 2048, 512]⟩ : Shape).Idx → EReal) (h : (⟨3, ![32, 30, 256]⟩ : Shape).Idx → EReal) (w : (⟨2, ![31, 256]⟩ : Shape).Idx → EReal) (c : (⟨1, ![256]⟩ : Shape).Idx → EReal)
    (b : Fin 32) (l : Fin 2048) (j : Fin 256) : EReal :=
  (∑ k : Fin 31, rowAt u h b (l.val + k.val) (by omega) j * w (ix2 k j)) + c (ix1 j)

/-- The module's rows. -/
def out (u : (⟨3, ![32, 2048, 512]⟩ : Shape).Idx → EReal) (h : (⟨3, ![32, 30, 256]⟩ : Shape).Idx → EReal) (w : (⟨2, ![31, 256]⟩ : Shape).Idx → EReal)
    (c g s : (⟨1, ![256]⟩ : Shape).Idx → EReal) (W : (⟨2, ![256, 256]⟩ : Shape).Idx → EReal) (B : (⟨1, ![256]⟩ : Shape).Idx → EReal) : (⟨3, ![32, 2048, 256]⟩ : Shape).Idx → EReal :=
  fun i => point (conv u h w c (i 0) (i 1)) (fun k => g (ix1 k)) (fun k => s (ix1 k)) (fun k => W (ix2 k (i 2))) (B (ix1 (i 2)))

/-- The last 32 of the rows that the convolution reads. -/
def tail (u : (⟨3, ![32, 2048, 512]⟩ : Shape).Idx → EReal) (h : (⟨3, ![32, 30, 256]⟩ : Shape).Idx → EReal) : (⟨3, ![32, 32, 256]⟩ : Shape).Idx → EReal :=
  fun i => rowAt u h (i 0) (2046 + (i 1).val) (by have q : (i 1).val < 32 := (i 1).isLt; omega) (i 2)

end Cert.ConvMath
-- ==== Proof.ConvBody.lean ====
module

public import proofs.«01_k».proof.Proof.ConvMath
public import proofs.«01_k».proof.Proof.ProjBody
public import proofs.«01_k».proof.Proof.Gen.Kernel5Ideal.Value

/-! The convolution module: what the kernel's body computes at an element of its output blocks and of its scratch. -/

@[expose] public section

set_option maxRecDepth 16384

noncomputable section

namespace Cert.ConvBody

open Idealize.ShloMosaic Idealize.ShloMosaic.TcCoe
open Cert.Kernel5Ideal Cert.Kernel5Ideal.Gen Cert.ConvMath

/-- The scratch's two stores: 32 rows, then the 256 below them. -/
def stores (z : FVec Ideal S32x256 .f32) (x : FVec Ideal S256x256 .f32) : List (View.Piece (Elt Ideal) S288x256 .f32) :=
  [⟨Rect.unit ![32, 0] ![256, 256] inb_S288x256_S256x256_32_0, x⟩, ⟨Rect.unit ![0, 0] ![32, 256] inb_S288x256_S32x256_0_0, z⟩]

/-- 64 rows of the scratch from row `o`. -/
def held (L : List (View.Piece (Elt Ideal) S288x256 .f32)) (o : ℕ) (h : o + 64 ≤ 288) : Vec Ideal S64x256 .f32 :=
  (View.whole cc0_scratch0).readCov L (Rect.unit (s := S288x256) ![o, 0] ![64, 256] (fun a => match a with
    | ⟨0, _⟩ => h
    | ⟨1, _⟩ => (by decide : 0 + 256 ≤ 256))).toLoadRect

/-- One row of weights. -/
def weightRow (W : Vec Ideal S32x256 .f32) (k : ℕ) (h : k + 1 ≤ 32) : Vec Ideal S1x256 .f32 :=
  View.ld W (Rect.unit (s := S32x256) ![k, 0] ![1, 256] (fun a => match a with
    | ⟨0, _⟩ => h
    | ⟨1, _⟩ => (by decide : 0 + 256 ≤ 256)))

/-- The bias plus the first `n` products, for 64 rows of the output that read the scratch from row `o` on. -/
def acc (L : List (View.Piece (Elt Ideal) S288x256 .f32)) (W : Vec Ideal S32x256 .f32) (B : Vec Ideal S1x256 .f32) (o : ℕ) (ho : o + 30 + 64 ≤ 288) : (n : ℕ) → n ≤ 31 → FVec Ideal S64x256 .f32
  | 0, _ => broadcastTo S64x256 (shapeCast S1x256 (shapeCast S1x256 B shapeCasts_S1x256_S1x256) shapeCasts_S1x256_S1x256) broadcasts_S1x256_S64x256
  | n + 1, hn => addf (acc L W B o ho n (by omega)) (mulf
      (broadcastTo S64x256 (shapeCast S1x256 (weightRow W n (by omega)) shapeCasts_S1x256_S1x256) broadcasts_S1x256_S64x256) (held L (o + n) (by omega)))

/-- The rows' means. -/
def means (v : FVec Ideal S64x256 .f32) : FVec Ideal S64x1 .f32 :=
  divf (shapeCast S64x1 (multiReduction .add [1] S64 v 0x00000000#32 reduces_S64x256_S64 (.inl rfl) rfl) shapeCasts_S64_S64x1) (broadcast S64x1 (Scalar.ofBits .f32 0x43800000#32))

/-- What the body makes of 64 convolved rows. -/
def made (v : FVec Ideal S64x256 .f32) (g s : Vec Ideal S1x256 .f32) (W : Vec Ideal S256x256 .bf16) (B : Vec Ideal S1x256 .f32) : FVec Ideal S1x64x256 .f32 := k0_pay17 v (means v) g s W B

/-- 64 rows of the output block. -/
def part (L : List (View.Piece (Elt Ideal) S288x256 .f32)) (w : Vec Ideal S32x256 .f32) (c g s : Vec Ideal S1x256 .f32) (W : Vec Ideal S256x256 .bf16) (B : Vec Ideal S1x256 .f32)
    (o : ℕ) (ho : o + 30 + 64 ≤ 288) : FVec Ideal S1x64x256 .f32 := made (acc L w c o ho 31 (le_refl 31)) g s W B

/-- The output block. -/
def blk (L : List (View.Piece (Elt Ideal) S288x256 .f32)) (w : Vec Ideal S32x256 .f32) (c g s : Vec Ideal S1x256 .f32) (W : Vec Ideal S256x256 .bf16) (B : Vec Ideal S1x256 .f32) : Vec Ideal S1x256x256 .f32 :=
  View.canon (Val := Elt Ideal) (s := S1x256x256) (e := .f32)
    [⟨Rect.unit ![0, 192, 0] ![1, 64, 256] inb_S1x256x256_S1x64x256_0_192_0, part L w c g s W B 194 (by decide)⟩,
     ⟨Rect.unit ![0, 128, 0] ![1, 64, 256] inb_S1x256x256_S1x64x256_0_128_0, part L w c g s W B 130 (by decide)⟩,
     ⟨Rect.unit ![0, 64, 0] ![1, 64, 256] inb_S1x256x256_S1x64x256_0_64_0, part L w c g s W B 66 (by decide)⟩,
     ⟨Rect.unit ![0, 0, 0] ![1, 64, 256] inb_S1x256x256_S1x64x256_0_0_0, part L w c g s W B 2 (by decide)⟩]

variable (m : (ℓ : Loc nD τ sig) → Buf (Elt Ideal) ℓ)

/-- The scratch's stores at the first point of a batch entry: the history, then the gated rows. -/
def storesA (c : Dev nD) (t : Fin cfg0.N) : List (View.Piece (Elt Ideal) S288x256 .f32) := stores (k0_pay2 (iblk m c 1 t)) (k0_pay4 (iblk m c 0 t))

/-- The scratch's stores at another point: the last rows that the point before left, then the gated rows. -/
def storesB (c : Dev nD) (t : Fin cfg0.N) : List (View.Piece (Elt Ideal) S288x256 .f32) :=
  stores (k0_pay3 (View.ld (outsAt0 m c (t.val - 1) (Nat.lt_of_le_of_lt (Nat.sub_le _ _) t.isLt)).2.2 (Rect.unit ![256, 0] ![32, 256] inb_S288x256_S32x256_256_0))) (k0_pay4 (iblk m c 0 t))

/-- The scratch after the first point of a batch entry. -/
theorem scratch_A (c : Dev nD) (t : Fin cfg0.N) (h0 : t.val % 8 = 0) (h1 : ¬1 ≤ t.val % 8) (h2 : ¬t.val % 8 = 7) : (outsAt0 m c t.val t.isLt).2.2 = View.canon (storesA m c t) := by
  rw [outsAt0_A m c t h0 h1 h2]
  dsimp only
  unfold sout0_A_0
  frame_out
  rfl

/-- What was written into the whole scratch reads back. -/
theorem back (o : Vec Ideal S288x256 .f32) : View.read (Elt Ideal) (View.whole cc0_scratch0) ((Memref.isWhole_whole cc0_scratch0).unread o) = o := Memref.IsWhole.read_unread _ _

/-- The scratch after a point that is neither the first nor the last of a batch entry. -/
theorem scratch_B (c : Dev nD) (t : Fin cfg0.N) (h0 : ¬t.val % 8 = 0) (h1 : 1 ≤ t.val % 8) (h2 : ¬t.val % 8 = 7) : (outsAt0 m c t.val t.isLt).2.2 = View.canon (storesB m c t) := by
  rw [outsAt0_B m c t h0 h1 h2]
  dsimp only
  unfold sout0_B_0
  frame_out
  rw [back]
  rfl

/-- The scratch after the last point of a batch entry. -/
theorem scratch_C (c : Dev nD) (t : Fin cfg0.N) (h0 : ¬t.val % 8 = 0) (h1 : 1 ≤ t.val % 8) (h2 : t.val % 8 = 7) : (outsAt0 m c t.val t.isLt).2.2 = View.canon (storesB m c t) := by
  rw [outsAt0_C m c t h0 h1 h2]
  dsimp only
  unfold sout0_C_0
  frame_out
  rw [back]
  rfl

/-- What the first point of a batch entry stores. -/
theorem point_A (c : Dev nD) (t : Fin cfg0.N) (h0 : t.val % 8 = 0) (h1 : ¬1 ≤ t.val % 8) (h2 : ¬t.val % 8 = 7) : (dats m 0 c).after 8 t =
    blk (storesA m c t) (iblk m c 2 t) (iblk m c 3 t) (iblk m c 4 t) (iblk m c 5 t) (iblk m c 6 t) (iblk m c 7 t) := by
  rw [after0_8, outsAt0_A m c t h0 h1 h2]
  dsimp only
  unfold out0_A_8
  frame_out
  rfl

/-- What a point that is neither the first nor the last of a batch entry stores. -/
theorem point_B (c : Dev nD) (t : Fin cfg0.N) (h0 : ¬t.val % 8 = 0) (h1 : 1 ≤ t.val % 8) (h2 : ¬t.val % 8 = 7) : (dats m 0 c).after 8 t =
    blk (storesB m c t) (iblk m c 2 t) (iblk m c 3 t) (iblk m c 4 t) (iblk m c 5 t) (iblk m c 6 t) (iblk m c 7 t) := by
  rw [after0_8, outsAt0_B m c t h0 h1 h2]
  dsimp only
  unfold out0_B_8
  frame_out
  rw [back]
  rfl

/-- What the last point of a batch entry stores. -/
theorem point_C (c : Dev nD) (t : Fin cfg0.N) (h0 : ¬t.val % 8 = 0) (h1 : 1 ≤ t.val % 8) (h2 : t.val % 8 = 7) : (dats m 0 c).after 8 t =
    blk (storesB m c t) (iblk m c 2 t) (iblk m c 3 t) (iblk m c 4 t) (iblk m c 5 t) (iblk m c 6 t) (iblk m c 7 t) := by
  rw [after0_8, outsAt0_C m c t h0 h1 h2]
  dsimp only
  unfold out0_C_8
  frame_out
  rw [back]
  rfl

/-- The last rows, stored by the last point of a batch entry. -/
theorem tail_C (c : Dev nD) (t : Fin cfg0.N) (h0 : ¬t.val % 8 = 0) (h1 : 1 ≤ t.val % 8) (h2 : t.val % 8 = 7) : (dats m 0 c).after 9 t =
    k0_pay1 ((View.whole cc0_scratch0).readCov (storesB m c t) (Rect.unit ![256, 0] ![32, 256] inb_S288x256_S32x256_256_0).toLoadRect) := by
  rw [after0_9, outsAt0_C m c t h0 h1 h2]
  dsimp only
  unfold out0_C_9
  frame_out
  rw [back]
  rfl

end Cert.ConvBody
-- ==== Proof.ConvElem.lean ====
module

public import proofs.«01_k».proof.Proof.ConvBody

/-! The convolution module: the kernel's output block and scratch, element by element. -/

@[expose] public section

set_option maxRecDepth 16384

noncomputable section

namespace Cert.ConvElem

open Idealize.ShloMosaic Idealize.ShloMosaic.TcCoe
open Cert.Kernel5Ideal Cert.Kernel5Ideal.Gen Cert.ConvMath Cert.ConvBody

/-- The scratch's row `n` of two stores: the first 32 rows from one, the others from the other. -/
def pick (z : FVec Ideal S32x256 .f32) (x : FVec Ideal S256x256 .f32) (n : Fin 288) (j : Fin 256) : EReal :=
  if h : n.val < 32 then z (ix2 ⟨n.val, h⟩ j) else x (ix2 ⟨n.val - 32, by omega⟩ j)

/-- The two stores at an element of the first 32 rows. -/
theorem idx_lo (n : Fin 288) (j : Fin 256) (h : n.val < 32) :
    (ix2 n j : S288x256.Idx) = (Rect.unit (s := S288x256) ![0, 0] ![32, 256] inb_S288x256_S32x256_0_0).emb (ix2 ⟨n.val, h⟩ j) := by
  funext a
  apply Fin.ext
  match a with
  | ⟨0, _⟩ => show n.val = 0 + 1 * n.val; omega
  | ⟨1, _⟩ => show j.val = 0 + 1 * j.val; omega

/-- The two stores at an element of the rows below. -/
theorem idx_hi (n : Fin 288) (j : Fin 256) (h : ¬n.val < 32) :
    (ix2 n j : S288x256.Idx) = (Rect.unit (s := S288x256) ![32, 0] ![256, 256] inb_S288x256_S256x256_32_0).emb (ix2 ⟨n.val - 32, by omega⟩ j) := by
  funext a
  apply Fin.ext
  match a with
  | ⟨0, _⟩ => show n.val = 32 + 1 * (n.val - 32); omega
  | ⟨1, _⟩ => show j.val = 0 + 1 * j.val; omega

/-- The first 32 rows are not in the second store. -/
theorem not_hi (n : Fin 288) (j : Fin 256) (h : n.val < 32) :
    (ix2 n j : S288x256.Idx) ∉ (Rect.unit (s := S288x256) ![32, 0] ![256, 256] inb_S288x256_S256x256_32_0).set := by
  intro hm
  obtain ⟨y, hy⟩ := (Rect.unit (s := S288x256) ![32, 0] ![256, 256] inb_S288x256_S256x256_32_0).exists_idx_of_mem hm
  have : 32 + 1 * (y 0).val = n.val := congrArg (fun i : S288x256.Idx => (i 0).val) hy
  omega

/-- The two stores, element by element. -/
theorem canon_apply (z : FVec Ideal S32x256 .f32) (x : FVec Ideal S256x256 .f32) (n : Fin 288) (j : Fin 256) :
    View.canon (Val := Elt Ideal) (s := S288x256) (e := .f32) (stores z x) (ix2 n j) = pick z x n j := by
  unfold pick stores
  by_cases h : n.val < 32
  · rw [dif_pos h]
    refine (View.canon_cons_of_not_mem _ _ ?_).trans ?_
    · exact not_hi n j h
    · rw [idx_lo n j h]
      exact View.canon_cons_emb _ _ _ _
  · rw [dif_neg h, idx_hi n j h]
    exact View.canon_cons_emb _ _ _ _

/-- The two stores cover every element. -/
theorem covers_at (z : FVec Ideal S32x256 .f32) (x : FVec Ideal S256x256 .f32) (n : Fin 288) (j : Fin 256) : ∃ p ∈ stores z x, (ix2 n j : S288x256.Idx) ∈ p.1.set := by
  by_cases h : n.val < 32
  · refine ⟨_, List.mem_cons_of_mem _ (List.mem_singleton_self _), ?_⟩
    rw [idx_lo n j h]
    exact LoadRect.idx_mem _ _
  · refine ⟨_, List.mem_cons_self, ?_⟩
    rw [idx_hi n j h]
    exact LoadRect.idx_mem _ _

/-- The two stores cover the scratch. -/
theorem covers (z : FVec Ideal S32x256 .f32) (x : FVec Ideal S256x256 .f32) (y : S288x256.Idx) : ∃ p ∈ stores z x, y ∈ p.1.set := by
  have hy : y = ix2 (y 0) (y 1) := by
    funext a
    match a with
    | ⟨0, _⟩ => rfl
    | ⟨1, _⟩ => rfl
  exact hy ▸ covers_at z x (y 0) (y 1)

/-- Rows of the scratch, read back. -/
theorem held_apply (z : FVec Ideal S32x256 .f32) (x : FVec Ideal S256x256 .f32) (o : ℕ) (h : o + 64 ≤ 288) (r : Fin 64) (j : Fin 256) :
    held (stores z x) o h (ix2 r j) = pick z x ⟨o + r.val, by omega⟩ j := by
  unfold held
  rw [View.readCov_eq_canon_ld _ _ _ (covers z x), ← canon_apply]
  refine congrArg (View.canon (Val := Elt Ideal) (s := S288x256) (e := .f32) (stores z x)) ?_
  funext a
  apply Fin.ext
  match a with
  | ⟨0, _⟩ => show o + 1 * r.val = o + r.val; omega
  | ⟨1, _⟩ => show 0 + 1 * j.val = j.val; omega

/-- The scratch's last 32 rows. -/
def last (L : List (View.Piece (Elt Ideal) S288x256 .f32)) : Vec Ideal S32x256 .f32 :=
  (View.whole cc0_scratch0).readCov L (Rect.unit (s := S288x256) ![256, 0] ![32, 256] inb_S288x256_S32x256_256_0).toLoadRect

/-- The scratch's last 32 rows, read back. -/
theorem last_apply (z : FVec Ideal S32x256 .f32) (x : FVec Ideal S256x256 .f32) (r : Fin 32) (j : Fin 256) : last (stores z x) (ix2 r j) = pick z x ⟨256 + r.val, by omega⟩ j := by
  unfold last
  rw [View.readCov_eq_canon_ld _ _ _ (covers z x), ← canon_apply]
  refine congrArg (View.canon (Val := Elt Ideal) (s := S288x256) (e := .f32) (stores z x)) ?_
  funext a
  apply Fin.ext
  match a with
  | ⟨0, _⟩ => show 256 + 1 * r.val = 256 + r.val; omega
  | ⟨1, _⟩ => show 0 + 1 * j.val = j.val; omega

/-- A row of weights, read. -/
theorem weightRow_apply (W : Vec Ideal S32x256 .f32) (k : ℕ) (h : k + 1 ≤ 32) (j : Fin 256) : weightRow W k h (ix2 0 j) = W (ix2 ⟨k, by omega⟩ j) := by
  unfold weightRow
  refine congrArg W ?_
  funext a
  apply Fin.ext
  match a with
  | ⟨0, _⟩ => rfl
  | ⟨1, _⟩ => show 0 + 1 * j.val = j.val; omega

/-- One product more. -/
theorem acc_succ (L : List (View.Piece (Elt Ideal) S288x256 .f32)) (W : Vec Ideal S32x256 .f32) (B : Vec Ideal S1x256 .f32) (o : ℕ) (ho : o + 30 + 64 ≤ 288) (n : ℕ) (hn : n + 1 ≤ 31) :
    acc L W B o ho (n + 1) hn = addf (acc L W B o ho n (by omega)) (mulf
      (broadcastTo S64x256 (shapeCast S1x256 (weightRow W n (by omega)) shapeCasts_S1x256_S1x256) broadcasts_S1x256_S64x256) (held L (o + n) (by omega))) := rfl

/-- The bias plus the first products, at an element. -/
theorem acc_apply (z : FVec Ideal S32x256 .f32) (x : FVec Ideal S256x256 .f32) (W : Vec Ideal S32x256 .f32) (B : Vec Ideal S1x256 .f32) (o : ℕ) (ho : o + 30 + 64 ≤ 288)
    (r : Fin 64) (j : Fin 256) : ∀ (n : ℕ) (hn : n ≤ 31), acc (stores z x) W B o ho n hn (ix2 r j) =
      B (ix2 0 j) + ∑ k : Fin n, W (ix2 ⟨k.val, by omega⟩ j) * pick z x ⟨o + k.val + r.val, by omega⟩ j := by
  intro n
  induction n with
  | zero =>
    intro hn
    rw [Finset.univ_eq_empty, Finset.sum_empty, add_zero]
    unfold acc
    pointwise []
  | succ n ih =>
    intro hn
    rw [Fin.sum_univ_castSucc, ← add_assoc]
    refine Eq.trans ?_ (congr (congrArg HAdd.hAdd (ih (by omega))) (congr (congrArg HMul.hMul (weightRow_apply W n (by omega) j)) (held_apply z x (o + n) (by omega) r j)))
    rw [acc_succ]
    pointwise []

/-- What the body makes of convolved rows, at an element. -/
theorem made_apply (v : FVec Ideal S64x256 .f32) (g s : Vec Ideal S1x256 .f32) (W : Vec Ideal S256x256 .bf16) (B : Vec Ideal S1x256 .f32) (r : Fin 64) (n : Fin 256) :
    made v g s W B (ix3 0 r n) = point (fun j => v (ix2 r j)) (fun j => g (ix2 0 j)) (fun j => s (ix2 0 j)) (fun j => W (ix2 j n)) (B (ix2 0 n)) := by
  unfold point gate ConvMath.norm mean
  pointwise [made, k0_pay17, means]
  simp only [zero_sub]

/-- One column of a convolved row, over the scratch: the bias plus 31 products. -/
def sum31 (z : FVec Ideal S32x256 .f32) (x : FVec Ideal S256x256 .f32) (w : Vec Ideal S32x256 .f32) (c : Vec Ideal S1x256 .f32) (r : Fin 256) (j : Fin 256) : EReal :=
  c (ix2 0 j) + ∑ k : Fin 31, w (ix2 ⟨k.val, by omega⟩ j) * pick z x ⟨2 + k.val + r.val, by omega⟩ j

/-- 64 rows of the output block, at an element. -/
theorem part_apply (z : FVec Ideal S32x256 .f32) (x : FVec Ideal S256x256 .f32) (w : Vec Ideal S32x256 .f32) (c g s : Vec Ideal S1x256 .f32) (W : Vec Ideal S256x256 .bf16)
    (B : Vec Ideal S1x256 .f32) (o q : ℕ) (ho : o + 30 + 64 ≤ 288) (hq : o = q + 2) (r : Fin 256) (h0 : q ≤ r.val) (h1 : r.val < q + 64) (n : Fin 256) :
    part (stores z x) w c g s W B o ho (ix3 0 ⟨r.val - q, by omega⟩ n) =
      point (sum31 z x w c r) (fun j => g (ix2 0 j)) (fun j => s (ix2 0 j)) (fun j => W (ix2 j n)) (B (ix2 0 n)) := by
  unfold part
  rw [made_apply]
  have e : (fun j => acc (stores z x) w c o ho 31 (le_refl 31) (ix2 ⟨r.val - q, by omega⟩ j)) = sum31 z x w c r := by
    funext j
    rw [acc_apply]
    unfold sum31
    refine congrArg (c (ix2 0 j) + ·) (Finset.sum_congr rfl fun k _ => congrArg (w (ix2 ⟨k.val, by omega⟩ j) * ·) ?_)
    exact congrArg (fun i => pick z x i j) (Fin.ext (by show o + k.val + (r.val - q) = 2 + k.val + r.val; omega))
  rw [e]

/-- The last of several stores of 64 rows, at an element that it covers. -/
theorem hit (q : ℕ) (inb : ∀ a, (![0, q, 0] : Fin 3 → ℕ) a + (![1, 64, 256] : Fin 3 → ℕ) a ≤ S1x256x256.size a) (P : FVec Ideal S1x64x256 .f32)
    (l : List (View.Piece (Elt Ideal) S1x256x256 .f32)) (r n : Fin 256) (h0 : q ≤ r.val) (h1 : r.val < q + 64) :
    View.canon (Val := Elt Ideal) (s := S1x256x256) (e := .f32) (⟨Rect.unit ![0, q, 0] ![1, 64, 256] inb, P⟩ :: l) (ix3 0 r n) = P (ix3 0 ⟨r.val - q, by omega⟩ n) := by
  have e : (ix3 0 r n : S1x256x256.Idx) = (Rect.unit (s := S1x256x256) ![0, q, 0] ![1, 64, 256] inb).emb (ix3 0 ⟨r.val - q, by omega⟩ n) := by
    funext a
    apply Fin.ext
    match a with
    | ⟨0, _⟩ => rfl
    | ⟨1, _⟩ => show r.val = q + 1 * (r.val - q); omega
    | ⟨2, _⟩ => show n.val = 0 + 1 * n.val; omega
  rw [e]
  exact View.canon_cons_emb _ _ _ _

/-- The last of several stores of 64 rows, at an element above it. -/
theorem miss (q : ℕ) (inb : ∀ a, (![0, q, 0] : Fin 3 → ℕ) a + (![1, 64, 256] : Fin 3 → ℕ) a ≤ S1x256x256.size a) (P : FVec Ideal S1x64x256 .f32)
    (l : List (View.Piece (Elt Ideal) S1x256x256 .f32)) (r n : Fin 256) (h : r.val < q) :
    View.canon (Val := Elt Ideal) (s := S1x256x256) (e := .f32) (⟨Rect.unit ![0, q, 0] ![1, 64, 256] inb, P⟩ :: l) (ix3 0 r n) =
      View.canon (Val := Elt Ideal) (s := S1x256x256) (e := .f32) l (ix3 0 r n) := by
  refine View.canon_cons_of_not_mem _ _ ?_
  intro hm
  obtain ⟨y, hy⟩ := (Rect.unit (s := S1x256x256) ![0, q, 0] ![1, 64, 256] inb).exists_idx_of_mem hm
  have : q + 1 * (y 1).val = r.val := congrArg (fun i : S1x256x256.Idx => (i 1).val) hy
  omega

/-- The output block at an element. -/
theorem blk_apply (z : FVec Ideal S32x256 .f32) (x : FVec Ideal S256x256 .f32) (w : Vec Ideal S32x256 .f32) (c g s : Vec Ideal S1x256 .f32) (W : Vec Ideal S256x256 .bf16)
    (B : Vec Ideal S1x256 .f32) (r n : Fin 256) :
    blk (stores z x) w c g s W B (ix3 0 r n) = point (sum31 z x w c r) (fun j => g (ix2 0 j)) (fun j => s (ix2 0 j)) (fun j => W (ix2 j n)) (B (ix2 0 n)) := by
  have hr := r.isLt
  unfold blk
  by_cases h3 : 192 ≤ r.val
  · exact (hit 192 _ _ _ r n h3 (by omega)).trans (part_apply z x w c g s W B 194 192 _ rfl r h3 (by omega) n)
  refine (miss 192 _ _ _ r n (by omega)).trans ?_
  by_cases h2 : 128 ≤ r.val
  · exact (hit 128 _ _ _ r n h2 (by omega)).trans (part_apply z x w c g s W B 130 128 _ rfl r h2 (by omega) n)
  refine (miss 128 _ _ _ r n (by omega)).trans ?_
  by_cases h1 : 64 ≤ r.val
  · exact (hit 64 _ _ _ r n h1 (by omega)).trans (part_apply z x w c g s W B 66 64 _ rfl r h1 (by omega) n)
  refine (miss 64 _ _ _ r n (by omega)).trans ?_
  exact (hit 0 _ _ _ r n (by omega) (by omega)).trans (part_apply z x w c g s W B 2 0 _ rfl r (by omega) (by omega) n)

/-- The history's block, as the body stores it. -/
theorem pay2_apply (h : Vec Ideal S1x32x256 .f32) (r : Fin 32) (j : Fin 256) : k0_pay2 (F := Ideal) h (ix2 r j) = h (ix3 0 r j) := by
  pointwise [k0_pay2]

/-- The rows kept from the point before, as the body stores them. -/
theorem pay3_apply (h : Vec Ideal S32x256 .f32) (r : Fin 32) (j : Fin 256) : k0_pay3 (F := Ideal) h (ix2 r j) = h (ix2 r j) := by
  pointwise [k0_pay3]

/-- The gated rows. -/
theorem pay4_apply (u : Vec Ideal S1x256x512 .f32) (r j : Fin 256) :
    k0_pay4 (F := Ideal) u (ix2 r j) = gate (u (ix3 0 r ⟨j.val, by omega⟩)) (u (ix3 0 r ⟨256 + j.val, by omega⟩)) := by
  unfold gate
  pointwise [k0_pay4]
  simp only [zero_sub]

/-- The last rows, as the body stores them. -/
theorem pay1_apply (h : Vec Ideal S32x256 .f32) (r : Fin 32) (j : Fin 256) : k0_pay1 (F := Ideal) h (ix3 0 r j) = h (ix2 r j) := by
  pointwise [k0_pay1]

end Cert.ConvElem
-- ==== Proof.ConvHost.lean ====
module

public import proofs.«01_k».proof.Proof.ConvBody
public import Idealize.ShloMosaic.Lib.KernelVsHost

/-! The convolution module: what the kernel's call finds in its arrays. -/

@[expose] public section

set_option maxRecDepth 16384

noncomputable section

namespace Cert.ConvHost

open Idealize.ShloMosaic Idealize.ShloMosaic.TcCoe
open Cert.Kernel5Ideal Cert.Kernel5Ideal.Gen

variable (m : (ℓ : Loc nD τ sig) → Buf (Elt Ideal) ℓ)

/-- The arguments of a run. -/
abbrev U (c : Dev nD) : S32x2048x512.Idx → EReal := m ((c.tc : Thread nD τ).loc main_arg0)
abbrev H (c : Dev nD) : S32x30x256.Idx → EReal := m ((c.tc : Thread nD τ).loc main_arg1)
abbrev Wc (c : Dev nD) : S31x256.Idx → EReal := m ((c.tc : Thread nD τ).loc main_arg2)
abbrev Bc (c : Dev nD) : S256.Idx → EReal := m ((c.tc : Thread nD τ).loc main_arg3)
abbrev Lg (c : Dev nD) : S256.Idx → EReal := m ((c.tc : Thread nD τ).loc main_arg4)
abbrev Lb (c : Dev nD) : S256.Idx → EReal := m ((c.tc : Thread nD τ).loc main_arg5)
abbrev Pw (c : Dev nD) : S256x256.Idx → EReal := m ((c.tc : Thread nD τ).loc main_arg6)
abbrev Pb (c : Dev nD) : S256.Idx → EReal := m ((c.tc : Thread nD τ).loc main_arg7)

/-- The history, two rows lower. -/
theorem V_hist (c : Dev nD) (b : Fin 32) (n : Fin 30) (j : Fin 256) : (V m c main_v0 : S32x32x256.Idx → EReal) (ix3 b ⟨n.val + 2, by omega⟩ j) = H m c (ix3 b n j) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  refine pad_apply_of_inside _ _ _ _ _ _ _ (ix3 b ⟨n.val + 2, by omega⟩ j) (ix3 b n j) fun a => ?_
  match a with
  | ⟨0, _⟩ => show b.val = 0 + b.val * (0 + 1); omega
  | ⟨1, _⟩ => show n.val + 2 = 2 + n.val * (0 + 1); omega
  | ⟨2, _⟩ => show j.val = 0 + j.val * (0 + 1); omega

/-- The convolution's weights, the first 31 rows. -/
theorem V_taps (c : Dev nD) (k : Fin 31) (j : Fin 256) : (V m c main_v1 : S32x256.Idx → EReal) (ix2 ⟨k.val, by omega⟩ j) = Wc m c (ix2 k j) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  refine pad_apply_of_inside _ _ _ _ _ _ _ (ix2 ⟨k.val, by omega⟩ j) (ix2 k j) fun a => ?_
  match a with
  | ⟨0, _⟩ => show k.val = 0 + k.val * (0 + 1); omega
  | ⟨1, _⟩ => show j.val = 0 + j.val * (0 + 1); omega

/-- The convolution's bias as one row. -/
theorem V_bias (c : Dev nD) (j : Fin 256) : (V m c main_v2 : S1x256.Idx → EReal) (ix2 0 j) = Bc m c (ix1 j) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  pointwise

/-- The normalisation's scale as one row. -/
theorem V_scale (c : Dev nD) (j : Fin 256) : (V m c main_v3 : S1x256.Idx → EReal) (ix2 0 j) = Lg m c (ix1 j) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  pointwise

/-- The normalisation's shift as one row. -/
theorem V_shift (c : Dev nD) (j : Fin 256) : (V m c main_v4 : S1x256.Idx → EReal) (ix2 0 j) = Lb m c (ix1 j) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  pointwise

/-- The product's weights (a change of float format is the identity on the ideal values). -/
theorem V_weights (c : Dev nD) : (V m c main_v5 : S256x256.Idx → EReal) = Pw m c := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- The product's bias as one row. -/
theorem V_last (c : Dev nD) (j : Fin 256) : (V m c main_v6 : S1x256.Idx → EReal) (ix2 0 j) = Pb m c (ix1 j) := by
  unfold V
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  pointwise

end Cert.ConvHost
-- ==== Proof.ConvFinal.lean ====
module

public import proofs.«01_k».proof.Proof.ConvElem
public import proofs.«01_k».proof.Proof.ConvHost

/-! The convolution module: the kernel's two results after the run. -/

@[expose] public section

set_option maxRecDepth 16384

noncomputable section

namespace Cert.ConvFinal

open Idealize.ShloMosaic Idealize.ShloMosaic.TcCoe
open Cert.Kernel5Ideal Cert.Kernel5Ideal.Gen Cert.ConvMath Cert.ConvBody Cert.ConvElem Cert.ConvHost

variable (m : (ℓ : Loc nD τ sig) → Buf (Elt Ideal) ℓ)

/-- A grid point's batch entry. -/
def bOf (t : Fin cfg0.N) : Fin 32 := ⟨t.val / 8, by have h : t.val < 256 := t.isLt; omega⟩

/-- The place of a block's row in the batch entry. -/
def lOf (t : Fin cfg0.N) (r : Fin 256) : Fin 2048 := ⟨256 * (t.val % 8) + r.val, by omega⟩

/-- Where an element of a block of 256 rows lies. -/
theorem place {W : Nat} (t : Fin cfg0.N) (e : (⟨3, ![1, 256, W]⟩ : Shape).Idx → (⟨3, ![32, 2048, W]⟩ : Shape).Idx)
    (he : ∀ y a, (e y a).val = ![t.val / 8, t.val % 8, 0] a * ![1, 256, W] a + (y a).val) (r : Fin 256) (j : Fin W) : e (ix3 0 r j) = ix3 (bOf t) (lOf t r) j := by
  funext a
  apply Fin.ext
  rw [he]
  match a with
  | ⟨0, _⟩ => show t.val / 8 * 1 + 0 = t.val / 8; omega
  | ⟨1, _⟩ => show t.val % 8 * 256 + r.val = 256 * (t.val % 8) + r.val; omega
  | ⟨2, _⟩ => show 0 * W + j.val = j.val; omega

/-- Where an element of a block of 32 rows lies. -/
theorem place32 (t : Fin cfg0.N) (e : S1x32x256.Idx → S32x32x256.Idx)
    (he : ∀ y a, (e y a).val = ![t.val / 8, 0, 0] a * ![1, 32, 256] a + (y a).val) (r : Fin 32) (j : Fin 256) : e (ix3 0 r j) = ix3 (bOf t) r j := by
  funext a
  apply Fin.ext
  rw [he]
  match a with
  | ⟨0, _⟩ => show t.val / 8 * 1 + 0 = t.val / 8; omega
  | ⟨1, _⟩ => show 0 * 32 + r.val = r.val; omega
  | ⟨2, _⟩ => show 0 * 256 + j.val = j.val; omega

/-- Where an element of a row that every point reads whole lies. -/
theorem placeRow (e : S1x256.Idx → S1x256.Idx) (he : ∀ y a, (e y a).val = ![0, 0] a * ![1, 256] a + (y a).val) (j : Fin 256) : e (ix2 0 j) = ix2 0 j := by
  funext a
  apply Fin.ext
  rw [he]
  match a with
  | ⟨0, _⟩ => rfl
  | ⟨1, _⟩ => show 0 * 256 + j.val = j.val; omega

/-- The rows' block at a grid point. -/
theorem iblk0 (c : Dev nD) (t : Fin cfg0.N) (r : Fin 256) (j : Fin 512) : iblk m c 0 t (ix3 0 r j) = U m c (ix3 (bOf t) (lOf t r) j) := by
  show V m c main_arg0 (((cfg0.win 0).blk t).view.emb (ix3 0 r j)) = _
  rw [V_main_arg0]
  refine congrArg (U m c) (place t (fun y => ((cfg0.win 0).blk t).view.emb y) (fun y a => ?_) r j)
  refine (Pipeline.Window.rect_emb_val (cfg0.win 0) t y a).trans ?_
  have hx : (cfg0.win 0).index t = ![t.val / 8, t.val % 8, 0] :=
    (by decide +kernel : ∀ t : Fin grid0.N, cc0_transform_0 (grid0.coords t) = ![t.val / 8, t.val % 8, 0]) t
  rw [hx]

/-- The history's block at a grid point. -/
theorem iblk1 (c : Dev nD) (t : Fin cfg0.N) (r : Fin 30) (j : Fin 256) : iblk m c 1 t (ix3 0 ⟨r.val + 2, by omega⟩ j) = H m c (ix3 (bOf t) r j) := by
  show V m c main_v0 (((cfg0.win 1).blk t).view.emb (ix3 0 ⟨r.val + 2, by omega⟩ j)) = _
  refine (congrArg (V m c main_v0) (place32 t (fun y => ((cfg0.win 1).blk t).view.emb y) (fun y a => ?_) ⟨r.val + 2, by omega⟩ j)).trans (V_hist m c (bOf t) r j)
  refine (Pipeline.Window.rect_emb_val (cfg0.win 1) t y a).trans ?_
  have hx : (cfg0.win 1).index t = ![t.val / 8, 0, 0] :=
    (by decide +kernel : ∀ t : Fin grid0.N, cc0_transform_1 (grid0.coords t) = ![t.val / 8, 0, 0]) t
  rw [hx]

/-- The convolution's weights at a grid point. -/
theorem iblk2 (c : Dev nD) (t : Fin cfg0.N) (k : Fin 31) (j : Fin 256) : iblk m c 2 t (ix2 ⟨k.val, by omega⟩ j) = Wc m c (ix2 k j) := by
  refine Eq.trans ?_ (V_taps m c k j)
  show V m c main_v1 (((cfg0.win 2).blk t).view.emb (ix2 ⟨k.val, by omega⟩ j)) = _
  refine congrArg (V m c main_v1) ?_
  funext a
  apply Fin.ext
  refine (Pipeline.Window.rect_emb_val (cfg0.win 2) t (ix2 ⟨k.val, by omega⟩ j) a).trans ?_
  have hx : (cfg0.win 2).index t = ![0, 0] := (by decide +kernel : ∀ t : Fin grid0.N, cc0_transform_2 (grid0.coords t) = ![0, 0]) t
  rw [hx]
  match a with
  | ⟨0, _⟩ => show 0 * 32 + k.val = k.val; omega
  | ⟨1, _⟩ => show 0 * 256 + j.val = j.val; omega

/-- The convolution's bias at a grid point. -/
theorem iblk3 (c : Dev nD) (t : Fin cfg0.N) (j : Fin 256) : iblk m c 3 t (ix2 0 j) = Bc m c (ix1 j) := by
  show V m c main_v2 (((cfg0.win 3).blk t).view.emb (ix2 0 j)) = _
  refine (congrArg (V m c main_v2) (placeRow (fun y => ((cfg0.win 3).blk t).view.emb y) (fun y a => ?_) j)).trans (V_bias m c j)
  refine (Pipeline.Window.rect_emb_val (cfg0.win 3) t y a).trans ?_
  have hx : (cfg0.win 3).index t = ![0, 0] := (by decide +kernel : ∀ t : Fin grid0.N, cc0_transform_3 (grid0.coords t) = ![0, 0]) t
  rw [hx]

/-- The normalisation's scale at a grid point. -/
theorem iblk4 (c : Dev nD) (t : Fin cfg0.N) (j : Fin 256) : iblk m c 4 t (ix2 0 j) = Lg m c (ix1 j) := by
  show V m c main_v3 (((cfg0.win 4).blk t).view.emb (ix2 0 j)) = _
  refine (congrArg (V m c main_v3) (placeRow (fun y => ((cfg0.win 4).blk t).view.emb y) (fun y a => ?_) j)).trans (V_scale m c j)
  refine (Pipeline.Window.rect_emb_val (cfg0.win 4) t y a).trans ?_
  have hx : (cfg0.win 4).index t = ![0, 0] := (by decide +kernel : ∀ t : Fin grid0.N, cc0_transform_4 (grid0.coords t) = ![0, 0]) t
  rw [hx]

/-- The normalisation's shift at a grid point. -/
theorem iblk5 (c : Dev nD) (t : Fin cfg0.N) (j : Fin 256) : iblk m c 5 t (ix2 0 j) = Lb m c (ix1 j) := by
  show V m c main_v4 (((cfg0.win 5).blk t).view.emb (ix2 0 j)) = _
  refine (congrArg (V m c main_v4) (placeRow (fun y => ((cfg0.win 5).blk t).view.emb y) (fun y a => ?_) j)).trans (V_shift m c j)
  refine (Pipeline.Window.rect_emb_val (cfg0.win 5) t y a).trans ?_
  have hx : (cfg0.win 5).index t = ![0, 0] := (by decide +kernel : ∀ t : Fin grid0.N, cc0_transform_5 (grid0.coords t) = ![0, 0]) t
  rw [hx]

/-- The product's weights at a grid point. -/
theorem iblk6 (c : Dev nD) (t : Fin cfg0.N) (k n : Fin 256) : iblk m c 6 t (ix2 k n) = Pw m c (ix2 k n) := by
  show V m c main_v5 (((cfg0.win 6).blk t).view.emb (ix2 k n)) = _
  rw [V_weights]
  refine congrArg (Pw m c) ?_
  funext a
  apply Fin.ext
  refine (Pipeline.Window.rect_emb_val (cfg0.win 6) t (ix2 k n) a).trans ?_
  have hx : (cfg0.win 6).index t = ![0, 0] := (by decide +kernel : ∀ t : Fin grid0.N, cc0_transform_6 (grid0.coords t) = ![0, 0]) t
  rw [hx]
  match a with
  | ⟨0, _⟩ => show 0 * 256 + k.val = k.val; omega
  | ⟨1, _⟩ => show 0 * 256 + n.val = n.val; omega

/-- The product's bias at a grid point. -/
theorem iblk7 (c : Dev nD) (t : Fin cfg0.N) (j : Fin 256) : iblk m c 7 t (ix2 0 j) = Pb m c (ix1 j) := by
  show V m c main_v6 (((cfg0.win 7).blk t).view.emb (ix2 0 j)) = _
  refine (congrArg (V m c main_v6) (placeRow (fun y => ((cfg0.win 7).blk t).view.emb y) (fun y a => ?_) j)).trans (V_last m c j)
  refine (Pipeline.Window.rect_emb_val (cfg0.win 7) t y a).trans ?_
  have hx : (cfg0.win 7).index t = ![0, 0] := (by decide +kernel : ∀ t : Fin grid0.N, cc0_transform_7 (grid0.coords t) = ![0, 0]) t
  rw [hx]

/-- A row that the convolution reads, by its place. -/
theorem rowAt_congr (u : S32x2048x512.Idx → EReal) (h : S32x30x256.Idx → EReal) (b b' : Fin 32) (n n' : ℕ) (hn : n < 2078) (hn' : n' < 2078) (j : Fin 256) (hb : b = b') (e : n = n') :
    rowAt u h b n hn j = rowAt u h b' n' hn' j := by
  subst hb
  subst e
  rfl

/-- The gated rows' store at a grid point. -/
theorem gated (c : Dev nD) (t : Fin cfg0.N) (r j : Fin 256) :
    k0_pay4 (F := Ideal) (iblk m c 0 t) (ix2 r j) = rowAt (U m c) (H m c) (bOf t) (256 * (t.val % 8) + r.val + 30) (by omega) j := by
  rw [pay4_apply, iblk0, iblk0]
  unfold rowAt
  rw [dif_neg (by omega)]
  have e : (⟨256 * (t.val % 8) + r.val + 30 - 30, by omega⟩ : Fin 2048) = lOf t r := Fin.ext (by show 256 * (t.val % 8) + r.val + 30 - 30 = 256 * (t.val % 8) + r.val; omega)
  rw [e]

/-- The scratch's rows at a point, from what its first store holds. -/
theorem rows_of (c : Dev nD) (t : Fin cfg0.N) (z : FVec Ideal S32x256 .f32)
    (hz : ∀ (r : Fin 30) (j : Fin 256), z (ix2 ⟨r.val + 2, by omega⟩ j) = rowAt (U m c) (H m c) (bOf t) (256 * (t.val % 8) + r.val) (by omega) j)
    (n : Fin 288) (j : Fin 256) (hn : 2 ≤ n.val) :
    pick z (k0_pay4 (iblk m c 0 t)) n j = rowAt (U m c) (H m c) (bOf t) (256 * (t.val % 8) + n.val - 2) (by omega) j := by
  unfold pick
  by_cases h : n.val < 32
  · rw [dif_pos h]
    have e : (⟨n.val, h⟩ : Fin 32) = ⟨(⟨n.val - 2, by omega⟩ : Fin 30).val + 2, by omega⟩ := Fin.ext (by show n.val = n.val - 2 + 2; omega)
    rw [e]
    refine (hz _ j).trans (rowAt_congr _ _ _ _ _ _ _ _ _ rfl ?_)
    show 256 * (t.val % 8) + (n.val - 2) = 256 * (t.val % 8) + n.val - 2
    omega
  · rw [dif_neg h]
    refine (gated m c t _ j).trans (rowAt_congr _ _ _ _ _ _ _ _ _ rfl ?_)
    show 256 * (t.val % 8) + (n.val - 32) + 30 = 256 * (t.val % 8) + n.val - 2
    omega

/-- The first store at the first point of a batch entry. -/
theorem first_A (c : Dev nD) (t : Fin cfg0.N) (h0 : t.val % 8 = 0) (r : Fin 30) (j : Fin 256) :
    k0_pay2 (F := Ideal) (iblk m c 1 t) (ix2 ⟨r.val + 2, by omega⟩ j) = rowAt (U m c) (H m c) (bOf t) (256 * (t.val % 8) + r.val) (by omega) j := by
  rw [pay2_apply, iblk1]
  unfold rowAt
  rw [dif_pos (by omega)]
  refine congrArg (fun i => H m c (ix3 (bOf t) i j)) (Fin.ext ?_)
  show r.val = 256 * (t.val % 8) + r.val
  omega

/-- The last rows of a scratch, read. -/
theorem kept_apply (o : Vec Ideal S288x256 .f32) (r : Fin 32) (j : Fin 256) :
    View.ld o (Rect.unit ![256, 0] ![32, 256] inb_S288x256_S32x256_256_0) (ix2 r j) = o (ix2 ⟨256 + r.val, by omega⟩ j) := by
  refine congrArg o ?_
  funext a
  apply Fin.ext
  match a with
  | ⟨0, _⟩ => show 256 + 1 * r.val = 256 + r.val; omega
  | ⟨1, _⟩ => show 0 + 1 * j.val = j.val; omega

/-- After a grid point the scratch's rows from the third on are the rows that the convolution reads for the point's block. -/
theorem scratch (c : Dev nD) : ∀ s : ℕ, ∀ (hs : s < cfg0.N) (n : Fin 288) (j : Fin 256) (hn : 2 ≤ n.val),
    (outsAt0 m c s hs).2.2 (ix2 n j) = rowAt (U m c) (H m c) (bOf ⟨s, hs⟩) (256 * (s % 8) + n.val - 2) (by omega) j := by
  intro s
  induction s using Nat.strong_induction_on with
  | _ s ih =>
    intro hs n j hn
    by_cases h0 : s % 8 = 0
    · refine (congrFun (scratch_A m c ⟨s, hs⟩ h0 (by show ¬1 ≤ s % 8; omega) (by show ¬s % 8 = 7; omega)) _).trans ?_
      exact (canon_apply _ _ n j).trans (rows_of m c ⟨s, hs⟩ _ (first_A m c ⟨s, hs⟩ h0) n j hn)
    · have hB : ∀ (r : Fin 30) (j : Fin 256), k0_pay3 (F := Ideal) (View.ld (outsAt0 m c (s - 1) (Nat.lt_of_le_of_lt (Nat.sub_le _ _) hs)).2.2
          (Rect.unit ![256, 0] ![32, 256] inb_S288x256_S32x256_256_0)) (ix2 ⟨r.val + 2, by omega⟩ j) = rowAt (U m c) (H m c) (bOf ⟨s, hs⟩) (256 * (s % 8) + r.val) (by omega) j := by
        intro r j
        rw [pay3_apply, kept_apply]
        refine (ih (s - 1) (by omega) _ _ j (by show 2 ≤ 256 + (r.val + 2); omega)).trans (rowAt_congr _ _ _ _ _ _ _ _ _ ?_ ?_)
        · apply Fin.ext
          show (s - 1) / 8 = s / 8
          omega
        · show 256 * ((s - 1) % 8) + (256 + (r.val + 2)) - 2 = 256 * (s % 8) + r.val
          omega
      have e : (outsAt0 m c s hs).2.2 = View.canon (storesB m c ⟨s, hs⟩) := by
        by_cases h2 : s % 8 = 7
        · exact scratch_C m c ⟨s, hs⟩ h0 (by show 1 ≤ s % 8; omega) h2
        · exact scratch_B m c ⟨s, hs⟩ h0 (by show 1 ≤ s % 8; omega) h2
      exact (congrFun e _).trans ((canon_apply _ _ n j).trans (rows_of m c ⟨s, hs⟩ _ hB n j hn))

/-- The first store at another point. -/
theorem first_B (c : Dev nD) (t : Fin cfg0.N) (h0 : ¬t.val % 8 = 0) (r : Fin 30) (j : Fin 256) :
    k0_pay3 (F := Ideal) (View.ld (outsAt0 m c (t.val - 1) (Nat.lt_of_le_of_lt (Nat.sub_le _ _) t.isLt)).2.2
      (Rect.unit ![256, 0] ![32, 256] inb_S288x256_S32x256_256_0)) (ix2 ⟨r.val + 2, by omega⟩ j) = rowAt (U m c) (H m c) (bOf t) (256 * (t.val % 8) + r.val) (by omega) j := by
  rw [pay3_apply, kept_apply]
  refine (scratch m c (t.val - 1) _ _ j (by show 2 ≤ 256 + (r.val + 2); omega)).trans (rowAt_congr _ _ _ _ _ _ _ _ _ ?_ ?_)
  · apply Fin.ext
    show (t.val - 1) / 8 = t.val / 8
    omega
  · show 256 * ((t.val - 1) % 8) + (256 + (r.val + 2)) - 2 = 256 * (t.val % 8) + r.val
    omega

/-- One column of a convolved row, from the scratch. -/
theorem sum31_eq (c : Dev nD) (t : Fin cfg0.N) (z : FVec Ideal S32x256 .f32)
    (hz : ∀ (r : Fin 30) (j : Fin 256), z (ix2 ⟨r.val + 2, by omega⟩ j) = rowAt (U m c) (H m c) (bOf t) (256 * (t.val % 8) + r.val) (by omega) j) (r : Fin 256) :
    sum31 z (k0_pay4 (iblk m c 0 t)) (iblk m c 2 t) (iblk m c 3 t) r = conv (U m c) (H m c) (Wc m c) (Bc m c) (bOf t) (lOf t r) := by
  funext j
  unfold sum31 conv
  rw [add_comm]
  refine congr (congrArg HAdd.hAdd (Finset.sum_congr rfl fun k _ => ?_)) (iblk3 m c t j)
  rw [mul_comm]
  refine congr (congrArg HMul.hMul ((rows_of m c t z hz _ j (by show 2 ≤ 2 + k.val + r.val; omega)).trans (rowAt_congr _ _ _ _ _ _ _ _ _ rfl ?_))) (iblk2 m c t k j)
  show 256 * (t.val % 8) + (2 + k.val + r.val) - 2 = 256 * (t.val % 8) + r.val + k.val
  omega

/-- The block that a grid point stores, at an element, from what its scratch holds. -/
theorem blk_eq (c : Dev nD) (t : Fin cfg0.N) (z : FVec Ideal S32x256 .f32)
    (hz : ∀ (r : Fin 30) (j : Fin 256), z (ix2 ⟨r.val + 2, by omega⟩ j) = rowAt (U m c) (H m c) (bOf t) (256 * (t.val % 8) + r.val) (by omega) j) (r n : Fin 256) :
    blk (stores z (k0_pay4 (iblk m c 0 t))) (iblk m c 2 t) (iblk m c 3 t) (iblk m c 4 t) (iblk m c 5 t) (iblk m c 6 t) (iblk m c 7 t) (ix3 0 r n) =
      point (conv (U m c) (H m c) (Wc m c) (Bc m c) (bOf t) (lOf t r)) (fun k => Lg m c (ix1 k)) (fun k => Lb m c (ix1 k)) (fun k => Pw m c (ix2 k n)) (Pb m c (ix1 n)) := by
  refine (blk_apply z _ _ _ _ _ _ _ r n).trans ?_
  exact congr (congr (congr (congr (congrArg point (sum31_eq m c t z hz r)) (funext fun k => iblk4 m c t k)) (funext fun k => iblk5 m c t k)) (funext fun k => iblk6 m c t k n))
    (iblk7 m c t n)

/-- What a grid point leaves in the output's block, at an element. -/
theorem left8 (c : Dev nD) (t : Fin cfg0.N) (r n : Fin 256) : (dats m 0 c).after 8 t (ix3 0 r n) =
    point (conv (U m c) (H m c) (Wc m c) (Bc m c) (bOf t) (lOf t r)) (fun k => Lg m c (ix1 k)) (fun k => Lb m c (ix1 k)) (fun k => Pw m c (ix2 k n)) (Pb m c (ix1 n)) := by
  by_cases h0 : t.val % 8 = 0
  · exact (congrFun (point_A m c t h0 (by omega) (by omega)) _).trans (blk_eq m c t _ (first_A m c t h0) r n)
  · by_cases h2 : t.val % 8 = 7
    · exact (congrFun (point_C m c t h0 (by omega) h2) _).trans (blk_eq m c t _ (first_B m c t h0) r n)
    · exact (congrFun (point_B m c t h0 (by omega) h2) _).trans (blk_eq m c t _ (first_B m c t h0) r n)

/-- What the last point of a batch entry leaves in the tail's block, at an element. -/
theorem left9 (c : Dev nD) (t : Fin cfg0.N) (h2 : t.val % 8 = 7) (r : Fin 32) (j : Fin 256) :
    (dats m 0 c).after 9 t (ix3 0 r j) = rowAt (U m c) (H m c) (bOf t) (2046 + r.val) (by omega) j := by
  refine (congrFun (tail_C m c t (by omega) (by omega) h2) _).trans ?_
  refine (pay1_apply (last (storesB m c t)) r j).trans ?_
  refine (last_apply _ _ r j).trans ((rows_of m c t _ (first_B m c t (by omega)) _ j (by show 2 ≤ 256 + r.val; omega)).trans (rowAt_congr _ _ _ _ _ _ _ _ _ rfl ?_))
  show 256 * (t.val % 8) + (256 + r.val) - 2 = 2046 + r.val
  omega

/-- An index of an output block as its row and column. -/
theorem split_idx {n : ℕ} (y : (⟨3, ![1, n, 256]⟩ : Shape).Idx) : ∃ (r : Fin n) (j : Fin 256), y = ix3 0 r j := by
  refine ⟨y 1, y 2, ?_⟩
  funext a
  apply Fin.ext
  match a with
  | ⟨0, _⟩ =>
    have h0 : (y 0).val < 1 := (y 0).isLt
    show (y 0).val = 0
    omega
  | ⟨1, _⟩ => rfl
  | ⟨2, _⟩ => rfl

/-- The module's rows after the run. -/
theorem final8 (c : Dev nD) : (dats m 0 c).arrAt 8 cfg0.N = out (U m c) (H m c) (Wc m c) (Bc m c) (Lg m c) (Lb m c) (Pw m c) (Pb m c) := by
  generalize hR : out (U m c) (H m c) (Wc m c) (Bc m c) (Lg m c) (Lb m c) (Pw m c) (Pb m c) = R
  refine (dats m 0 c).arrAt_eq_of_covers 8 R (by decide +kernel) (fun t hf y => ?_)
  obtain ⟨r, n, hy⟩ := split_idx y
  have e := place t (fun y => ((cfg0.win 8).blk t).view.emb y) (fun y a => by
    refine (Pipeline.Window.rect_emb_val (cfg0.win 8) t y a).trans ?_
    have hx : (cfg0.win 8).index t = ![t.val / 8, t.val % 8, 0] :=
      (by decide +kernel : ∀ t : Fin grid0.N, cc0_transform_8 (grid0.coords t) = ![t.val / 8, t.val % 8, 0]) t
    rw [hx]) r n
  rw [(congrArg _ hy).trans e, ← hR]
  blk_simp
  rw [hy]
  exact left8 m c t r n

/-- The last rows after the run. -/
theorem final9 (c : Dev nD) : (dats m 0 c).arrAt 9 cfg0.N = tail (U m c) (H m c) := by
  generalize hR : tail (U m c) (H m c) = R
  refine (dats m 0 c).arrAt_eq_of_covers 9 R (by decide +kernel) (fun t hf y => ?_)
  obtain ⟨r, n, hy⟩ := split_idx y
  have h2 : t.val % 8 = 7 := (by decide +kernel : ∀ t : Fin grid0.N, (cfg0.win 9).flush t = true → t.val % 8 = 7) t hf
  have e := place32 t (fun y => ((cfg0.win 9).blk t).view.emb y) (fun y a => by
    refine (Pipeline.Window.rect_emb_val (cfg0.win 9) t y a).trans ?_
    have hx : (cfg0.win 9).index t = ![t.val / 8, 0, 0] :=
      (by decide +kernel : ∀ t : Fin grid0.N, cc0_transform_9 (grid0.coords t) = ![t.val / 8, 0, 0]) t
    rw [hx]) r n
  rw [(congrArg _ hy).trans e, ← hR]
  blk_simp
  rw [hy]
  exact left9 m c t h2 r n

end Cert.ConvFinal
-- ==== Proof.ConvRef.lean ====
module

public import proofs.«01_k».proof.Proof.ConvMath
public import proofs.«01_k».proof.Proof.Gen.Reference5Ideal.Read
public import Idealize.ShloMosaic.Lib.Pointwise.Tactic
public import Idealize.ShloMosaic.PureOps.Ideal.Laws
public import Idealize.ShloMosaic.Lib.ValueIdx

/-! The convolution module: what the reference computes, element by element. -/

@[expose] public section

set_option maxRecDepth 16384

noncomputable section

namespace Cert.ConvRef

open Idealize.ShloMosaic Idealize.ShloMosaic.TcCoe
open Cert.Reference5Ideal Cert.Reference5Ideal.Gen Cert.Reference5Ideal.Read Cert.ConvMath

variable (u : S32x2048x512.Idx → EReal) (h : S32x30x256.Idx → EReal) (w : S31x256.Idx → EReal) (c g s : S256.Idx → EReal) (W : S256x256.Idx → EReal) (B : S256.Idx → EReal)

/-- The gated rows. -/
theorem gated_apply (b : Fin 32) (l : Fin 2048) (j : Fin 256) :
    val_main_v8 (F := Ideal) u (ix3 b l j) = gate (u (ix3 b l ⟨j.val, by omega⟩)) (u (ix3 b l ⟨256 + j.val, by omega⟩)) := by
  pointwise [val_main_v8, val_main_v7, val_main_v6, val_main_v5, val_main_v4, val_main_v3, val_main_v2, val_main_v1, val_main_v0, val_main_cst, val_main_cst_0]
  rfl

/-- The rows that the convolution reads. -/
theorem rows_apply (b : Fin 32) (n : Fin 2078) (j : Fin 256) : val_main_v9 (F := Ideal) u h (ix3 b n j) = rowAt u h b n.val n.isLt j := by
  unfold rowAt val_main_v9
  by_cases q : n.val < 30
  · rw [dif_pos q]
    refine concatenate_pair_apply_left (s₁ := S32x30x256) (s₂ := S32x2048x256) 1 h _ _ (ix3 b n j) rfl (ix3 b ⟨n.val, q⟩ j) (fun a => ?_)
    match a with
    | ⟨0, _⟩ => rfl
    | ⟨1, _⟩ => rfl
    | ⟨2, _⟩ => rfl
  · rw [dif_neg q]
    refine (concatenate_pair_apply_right (s₁ := S32x30x256) (s₂ := S32x2048x256) 1 h _ _ (ix3 b n j) rfl rfl (ix3 b ⟨n.val - 30, by omega⟩ j) (fun a ha => ?_) ?_).trans (gated_apply u b _ j)
    · match a with
      | ⟨0, _⟩ => rfl
      | ⟨1, _⟩ => exact absurd rfl ha
      | ⟨2, _⟩ => rfl
    · show n.val - 30 + 30 = n.val
      omega

/-- The sum of the first `n` shifted products. -/
def taps (X : FVec Ideal S32x2078x256 .f32) (w : FVec Ideal S31x256 .f32) : (n : ℕ) → n ≤ 31 → FVec Ideal S32x2048x256 .f32
  | 0, _ => val_main_v16 (F := Ideal)
  | n + 1, hn => addf (taps X w n (by omega)) (mulf
      (extractStridedSlice S32x2048x256 ![0, n, 0] X ⟨rfl, fun a => match a with
        | ⟨0, _⟩ => (by decide : 0 + 32 ≤ 32)
        | ⟨1, _⟩ => (by omega : n + 2048 ≤ 2078)
        | ⟨2, _⟩ => (by decide : 0 + 256 ≤ 256)⟩)
      (broadcastInDim S32x2048x256 ![0, 1, 2] bcast_S1x1x256_S32x2048x256_0_1_2 (broadcastInDim S1x1x256 ![2] bcast_S256_S1x1x256_2
        (shapeCast S256 (extractStridedSlice S1x256 ![n, 0] w ⟨rfl, fun a => match a with
          | ⟨0, _⟩ => (by omega : n + 1 ≤ 31)
          | ⟨1, _⟩ => (by decide : 0 + 256 ≤ 256)⟩) shapeCasts_S1x256_S256))))

/-- The sum of the first `n` shifted products, at an element. -/
theorem taps_apply (X : FVec Ideal S32x2078x256 .f32) (w : FVec Ideal S31x256 .f32) (b : Fin 32) (l : Fin 2048) (j : Fin 256) (n : ℕ) (hn : n ≤ 31) :
    taps X w n hn (ix3 b l j) = ∑ k : Fin n, X (ix3 b ⟨l.val + k.val, by omega⟩ j) * w (ix2 ⟨k.val, by omega⟩ j) := by
  induction n with
  | zero =>
    rw [Finset.univ_eq_empty, Finset.sum_empty]
    show val_main_v16 (F := Ideal) (ix3 b l j) = 0
    rw [val_main_v16_apply]
    exact Ideal.ofBits_zero_f32
  | succ n ih =>
    rw [Fin.sum_univ_castSucc]
    unfold taps
    refine congr (congrArg HAdd.hAdd (ih (by omega))) (congr (congrArg HMul.hMul ?_) ?_)
    · refine extractStridedSlice_apply _ X _ (ix3 b l j) _ (fun a => ?_)
      match a with
      | ⟨0, _⟩ => show b.val = 0 + b.val; omega
      | ⟨1, _⟩ => show l.val + n = n + l.val; omega
      | ⟨2, _⟩ => show j.val = 0 + j.val; omega
    · refine (broadcastInDim_apply _ bcast_S1x1x256_S32x2048x256_0_1_2 _ (ix3 b l j) (ix3 0 0 j) (fun a => ?_)).trans
        ((broadcastInDim_apply _ bcast_S256_S1x1x256_2 _ (ix3 0 0 j) (ix1 j) (fun a => ?_)).trans ((shapeCast_apply _ shapeCasts_S1x256_S256 (ix1 j) (ix2 0 j) ?_).trans
          (extractStridedSlice_apply _ w _ (ix2 0 j) _ (fun a => ?_))))
      · match a with
        | ⟨0, _⟩ => rfl
        | ⟨1, _⟩ => rfl
        | ⟨2, _⟩ => rfl
      · match a with
        | ⟨0, _⟩ => rfl
      · rw [Shape.rowMajor_val_two, Shape.rowMajor_val_one]
        show 0 * 256 + j.val = j.val
        omega
      · match a with
        | ⟨0, _⟩ => rfl
        | ⟨1, _⟩ => show j.val = 0 + j.val; omega

/-- The reference's convolution is the sum of all 31 shifted products. -/
theorem taps_eq : val_main_v227 (F := Ideal) u h w = taps (val_main_v9 (F := Ideal) u h) w 31 (le_refl 31) := rfl

/-- The convolved rows. -/
theorem conv_apply (b : Fin 32) (l : Fin 2048) (j : Fin 256) : val_main_v230 (F := Ideal) u h w c (ix3 b l j) = conv u h w c b l j := by
  rw [val_main_v230_apply, Ideal.addf_def, taps_eq, taps_apply, val_main_v229_apply, val_main_v228_apply]
  unfold conv
  refine congr (congrArg HAdd.hAdd (Finset.sum_congr rfl fun k _ => congrArg (· * _) (rows_apply u h b _ j))) (congrArg c ?_)
  funext a
  match a with
  | ⟨0, _⟩ => rfl

/-- The rows' means. -/
theorem mean_apply (b : Fin 32) (l : Fin 2048) (z : Fin 1) : val_main_v235 (F := Ideal) u h w c (ix3 b l z) = mean (conv u h w c b l) := by
  have e : ∀ k : Fin 256, idx_main_v232 (ix2 b l) k = ix3 b l k := fun k => by
    funext a
    match a with
    | ⟨0, _⟩ => rfl
    | ⟨1, _⟩ => rfl
    | ⟨2, _⟩ => rfl
  have e' : idx_main_v233 (ix3 b l z) = ix2 b l := by
    funext a
    match a with
    | ⟨0, _⟩ => rfl
    | ⟨1, _⟩ => rfl
  have hz : val_main_cst_2 (F := Ideal) (Shape.Idx.first h_S_) = 0 := Ideal.ofBits_zero_f32
  rw [val_main_v235_apply, val_main_v233_apply, val_main_v234_apply, e', val_main_v232_apply, hz, zero_add]
  unfold mean
  simp only [e, conv_apply]
  rfl

/-- The rows' variances. -/
theorem var_apply (b : Fin 32) (l : Fin 2048) (z : Fin 1) : val_main_v242 (F := Ideal) u h w c (ix3 b l z) =
    mean (fun k => (conv u h w c b l k - mean (conv u h w c b l)) * (conv u h w c b l k - mean (conv u h w c b l))) := by
  have e : ∀ k : Fin 256, idx_main_v239 (ix2 b l) k = ix3 b l k := fun k => by
    funext a
    match a with
    | ⟨0, _⟩ => rfl
    | ⟨1, _⟩ => rfl
    | ⟨2, _⟩ => rfl
  have e' : idx_main_v240 (ix3 b l z) = ix2 b l := by
    funext a
    match a with
    | ⟨0, _⟩ => rfl
    | ⟨1, _⟩ => rfl
  have e2 : ∀ k : Fin 256, idx_main_v236 (ix3 b l k) = ix3 b l 0 := fun k => by
    funext a
    match a with
    | ⟨0, _⟩ => rfl
    | ⟨1, _⟩ => rfl
    | ⟨2, _⟩ => rfl
  have hz : val_main_cst_4 (F := Ideal) (Shape.Idx.first h_S_) = 0 := Ideal.ofBits_zero_f32
  rw [val_main_v242_apply, val_main_v240_apply, val_main_v241_apply, e', val_main_v239_apply, hz, zero_add]
  simp only [e, val_main_v238_apply, val_main_v237_apply, val_main_v236_apply, e2, mean_apply, conv_apply]
  rfl

/-- The normalised rows. -/
theorem norm_apply (b : Fin 32) (l : Fin 2048) (j : Fin 256) : val_main_v255 (F := Ideal) u h w c g s (ix3 b l j) =
    norm (conv u h w c b l) (fun k => g (ix1 k)) (fun k => s (ix1 k)) j := by
  have e1 : idx_main_v243 (ix3 b l j) = ix3 b l 0 := by
    funext a
    match a with
    | ⟨0, _⟩ => rfl
    | ⟨1, _⟩ => rfl
    | ⟨2, _⟩ => rfl
  have e2 : idx_main_v248 (ix3 b l j) = ix3 b l 0 := by
    funext a
    match a with
    | ⟨0, _⟩ => rfl
    | ⟨1, _⟩ => rfl
    | ⟨2, _⟩ => rfl
  have e3 : idx_main_v250 (idx_main_v251 (ix3 b l j)) = ix1 j := by
    funext a
    match a with
    | ⟨0, _⟩ => rfl
  have e4 : idx_main_v253 (idx_main_v254 (ix3 b l j)) = ix1 j := by
    funext a
    match a with
    | ⟨0, _⟩ => rfl
  rw [val_main_v255_apply, val_main_v254_apply, val_main_v253_apply, val_main_v252_apply, val_main_v251_apply, val_main_v250_apply, val_main_v249_apply, val_main_v248_apply,
    val_main_v247_apply, val_main_v246_apply, val_main_v245_apply, val_main_v244_apply, val_main_v243_apply, e1, e2, e3, e4, mean_apply, var_apply, conv_apply]
  rfl

/-- The module's rows, at an element. -/
theorem out_apply (b : Fin 32) (l : Fin 2048) (n : Fin 256) : val_main_v260 (F := Ideal) u h w c g s W B (ix3 b l n) =
    point (conv u h w c b l) (fun k => g (ix1 k)) (fun k => s (ix1 k)) (fun k => W (ix2 k n)) (B (ix1 n)) := by
  have e : idx_main_v258 (idx_main_v259 (ix3 b l n)) = ix1 n := by
    funext a
    match a with
    | ⟨0, _⟩ => rfl
  rw [val_main_v260_apply, Ideal.addf_def, val_main_v259_apply, val_main_v258_apply, e, val_main_v257_apply]
  unfold point
  refine congrArg (· + B (ix1 n)) (Finset.sum_congr rfl fun k _ => ?_)
  have el : lidx_main_v257 (ix3 b l n) k = ix3 b l k := by
    funext a
    match a with
    | ⟨0, _⟩ => rfl
    | ⟨1, _⟩ => rfl
    | ⟨2, _⟩ => rfl
  have er : ridx_main_v257 (ix3 b l n) k = ix2 k n := by
    funext a
    match a with
    | ⟨0, _⟩ => rfl
    | ⟨1, _⟩ => rfl
  have h1 : Ideal.ofBits .f32 0x3F800000#32 = 1 := Ideal.ofBits_one_f32
  rw [el, er, val_main_v256_apply, val_main_call0_v5_apply, val_main_call0_v4_apply, val_main_call0_v3_apply, val_main_call0_v2_apply, val_main_call0_v1_apply, val_main_call0_v0_apply,
    norm_apply]
  unfold gate
  rw [← h1]
  rfl

/-- The module's rows. -/
theorem out_eq : val_main_v260 (F := Ideal) u h w c g s W B = out u h w c g s W B := by
  funext i
  have hi : i = ix3 (i 0) (i 1) (i 2) := by
    funext a
    match a with
    | ⟨0, _⟩ => rfl
    | ⟨1, _⟩ => rfl
    | ⟨2, _⟩ => rfl
  exact (congrArg _ hi).trans (out_apply u h w c g s W B (i 0) (i 1) (i 2))

/-- The last rows that the convolution reads, at an element. -/
theorem tail_apply (b n : Fin 32) (j : Fin 256) : val_main_v231 (F := Ideal) u h (ix3 b n j) = rowAt u h b (2046 + n.val) (by omega) j := by
  have e : idx_main_v231 (ix3 b n j) = ix3 b ⟨2046 + n.val, by omega⟩ j := by
    funext a
    match a with
    | ⟨0, _⟩ => rfl
    | ⟨1, _⟩ => rfl
    | ⟨2, _⟩ => rfl
  rw [val_main_v231_apply, e, rows_apply]

/-- The last rows that the convolution reads. -/
theorem tail_eq : val_main_v231 (F := Ideal) u h = tail u h := by
  funext i
  have hi : i = ix3 (i 0) (i 1) (i 2) := by
    funext a
    match a with
    | ⟨0, _⟩ => rfl
    | ⟨1, _⟩ => rfl
    | ⟨2, _⟩ => rfl
  exact (congrArg _ hi).trans (tail_apply u h (i 0) (i 1) (i 2))

end Cert.ConvRef
-- ==== Proof.ConvClaim.lean ====
module

public import proofs.«01_k».proof.Defs
public import proofs.«01_k».proof.Proof.ConvFinal
public import proofs.«01_k».proof.Proof.ConvRef
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import Idealize.ShloMosaic.Lib.Quiescent

/-! The claims about the convolution module: the kernel and its reference compute the same rows and the same last rows. -/

@[expose] public section

set_option maxRecDepth 16384

noncomputable section

namespace Cert.ConvClaim

open Idealize.ShloMosaic Idealize.SL.Sem Idealize.ShloMosaic.TcCoe

/-- The reference terminates with its arguments unchanged and its semaphores at zero. -/
theorem reference_frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- From the same arguments the kernel and the reference end with the same rows and the same last rows. -/
theorem value : Cert.algebraic_Kernel5Ideal_Reference5Ideal := by
  intro m g m' g' h hag
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    (θ_run Cert.Kernel5Ideal.defs _ _).mono (fun r hr c => ⟨(hr c).1, (hr c).2.1, (hr c).2.2⟩) (Cert.Kernel5Ideal.Value.run_blocks m g),
    (θ_run Cert.Reference5Ideal.defs _ _).mono (fun r hr c => ?_) (Cert.Reference5Ideal.Value.run (F := Ideal) m' g')⟩
  obtain ⟨r0, r1, hargs⟩ := hr c
  obtain ⟨e0, e1, e2, e3, e4, e5, e6, e7⟩ := hag c
  refine ⟨r0.trans ?_, r1.trans ?_, hargs⟩
  · refine (Cert.Reference5Ideal.Read.val_main_v260_eq (F := Ideal) _).trans (((ConvRef.out_eq _ _ _ _ _ _ _ _).trans ?_).trans (ConvFinal.final8 m c).symm)
    exact congr (congr (congr (congr (congr (congr (congr (congrArg ConvMath.out e0) e1) e2) e3) e4) e5) e6) e7
  · refine (Cert.Reference5Ideal.Read.val_main_v231_eq (F := Ideal) _).trans (((ConvRef.tail_eq _ _).trans ?_).trans (ConvFinal.final9 m c).symm)
    exact congr (congrArg ConvMath.tail e0) e1

end Cert.ConvClaim
-- ==== Proof.CacheBody.lean ====
module

public import proofs.«01_k».proof.Proof.AttnMath
public import proofs.«01_k».proof.Proof.ProjBody
public import proofs.«01_k».proof.Proof.Gen.Kernel6Ideal.Value

/-! Attention over cached keys: what the kernel's body computes at an element of its output block. -/

@[expose] public section

set_option maxRecDepth 16384

noncomputable section

namespace Cert.CacheBody

open Idealize.ShloMosaic Idealize.ShloMosaic.TcCoe
open Cert.Kernel6Ideal Cert.Kernel6Ideal.Gen Cert.ProjBody Cert.AttnMath

/-- A query row's scores: its products with the keys, plus the bias. -/
def scores {n : ℕ} (q : Fin 64 → EReal) (k : Fin n → Fin 64 → EReal) (b : Fin n → EReal) (j : Fin n) : EReal := (∑ e, q e * k j e) + b j

/-- One head's weights, as the body computes them. -/
def headW (q : FVec Ideal S64x64 .bf16) (k : FVec Ideal S576x64 .bf16) (b : Vec Ideal S1x64x576 .f32) : FVec Ideal S64x576 .bf16 :=
  have s : FVec Ideal S64x576 .f32 := addf (matmul dot_S64x64_S576x64_S64x576_1_1_0_0_n_n none q k (constant S64x576 .f32 0x00000000#32))
    (shapeCast S64x576 b shapeCasts_S1x64x576_S64x576)
  have t : FVec Ideal S64 .f32 := multiReduction .maximumf [1] S64 s 0xFF800000#32 reduces_S64x576_S64 (.inl rfl) rfl
  have e : FVec Ideal S64x576 .f32 := exp (subf s (broadcastTo S64x576 (shapeCast S64x1 t shapeCasts_S64_S64x1) broadcasts_S64x1_S64x576))
  have z : FVec Ideal S64 .f32 := multiReduction .add [1] S64 e 0x00000000#32 reduces_S64x576_S64 (.inl rfl) rfl
  truncf .bf16 (mulf e (broadcastTo S64x576 (divf (broadcast S64x1 (Scalar.ofBits .f32 0x3F800000#32)) (shapeCast S64x1 z shapeCasts_S64_S64x1))
    broadcasts_S64x1_S64x576)) bitsLt_bf16_f32

/-- One head's weights at an element. -/
theorem headW_apply (q : FVec Ideal S64x64 .bf16) (k : FVec Ideal S576x64 .bf16) (b : Vec Ideal S1x64x576 .f32) (r : Fin 64) (j : Fin 576)
    (s : Fin 576 → EReal) (hs : s = scores (fun e => q (ix2 r e)) (fun j e => k (ix2 j e)) (fun j => b (ix3 0 r j))) :
    headW q k b (ix2 r j) = weight s j * Ideal.div 1 (mass s) := by
  subst hs
  unfold weight mass weight
  pointwise [headW]
  rw [word_bot]
  rfl

/-- A column of a head among the 256. -/
def hd (h : Fin 4) (e : Fin 64) : Fin 256 := ⟨64 * h.val + e.val, by omega⟩

/-- One head's product with its values. -/
def headO (w : FVec Ideal S64x576 .bf16) (v : FVec Ideal S576x64 .bf16) : FVec Ideal S64x64 .f32 :=
  matmul dot_S64x576_S576x64_S64x64_1_0_0_1_n_n none w v (constant S64x64 .f32 0x00000000#32)

/-- The product at an element. -/
theorem headO_apply (w : FVec Ideal S64x576 .bf16) (v : FVec Ideal S576x64 .bf16) (r : Fin 64) (e : Fin 64) :
    headO w v (ix2 r e) = ∑ k, w (ix2 r k) * v (ix2 k e) := by
  pointwise [headO]

/-- One head of the output, from the head's columns of queries, keys and values. -/
theorem head_apply (x : Vec Ideal S1x64x256 .f32) (K V : Vec Ideal S576x256 .bf16) (b : Vec Ideal S1x64x576 .f32)
    (q : FVec Ideal S64x64 .bf16) (k v : FVec Ideal S576x64 .bf16) (h : Fin 4)
    (hq : ∀ r e, q (ix2 r e) = x (ix3 0 r (hd h e))) (hk : ∀ j e, k (ix2 j e) = K (ix2 j (hd h e))) (hv : ∀ j e, v (ix2 j e) = V (ix2 j (hd h e)))
    (r : Fin 64) (e : Fin 64) :
    headO (headW q k b) v (ix2 r e) = attend (scores (fun e => x (ix3 0 r (hd h e))) (fun j e => K (ix2 j (hd h e))) (fun j => b (ix3 0 r j)))
      (fun j => V (ix2 j (hd h e))) := by
  rw [headO_apply]
  unfold attend
  refine Finset.sum_congr rfl fun j _ => ?_
  rw [hv]
  refine congrArg (· * V (ix2 j (hd h e))) (headW_apply q k b r j _ ?_)
  congr 1
  · exact funext fun e => (hq r e).symm
  · exact funext fun j => funext fun e => (hk j e).symm

/-- The four heads side by side. -/
def side (a0 a1 a2 a3 : FVec Ideal S64x64 .f32) : FVec Ideal S1x64x256 .f32 :=
  shapeCast S1x64x256 (concatenate S64x256 1 [⟨S64x64, a0⟩, ⟨S64x64, a1⟩, ⟨S64x64, a2⟩, ⟨S64x64, a3⟩]
    concatenates_S64x64_S64x64_S64x64_S64x64_S64x256_d1) shapeCasts_S64x256_S1x64x256

/-- An element of the four heads side by side. -/
theorem side_apply (a0 a1 a2 a3 : FVec Ideal S64x64 .f32) (r : Fin 64) (h : Fin 4) (e : Fin 64) :
    side a0 a1 a2 a3 (ix3 0 r (hd h e)) = (![a0, a1, a2, a3] h) (ix2 r e) := by
  have he := e.isLt
  have h1 : ∀ (a : FVec Ideal S64x64 .f32) (k k' : Fin 64), k.val = k'.val → a (ix2 r k) = a (ix2 r k') := fun a k k' q => by rw [Fin.ext q]
  pointwise [side]
  match h with
  | ⟨0, q⟩ =>
    have hv : (hd ⟨0, q⟩ e).val = e.val := by show 64 * 0 + e.val = e.val; omega
    rw [dif_pos (by omega)]
    exact h1 a0 _ _ hv
  | ⟨1, q⟩ =>
    have hv : (hd ⟨1, q⟩ e).val = 64 + e.val := rfl
    rw [dif_neg (by omega), dif_pos (by omega)]
    exact h1 a1 _ _ (by show (hd ⟨1, q⟩ e).val - 64 = e.val; omega)
  | ⟨2, q⟩ =>
    have hv : (hd ⟨2, q⟩ e).val = 128 + e.val := rfl
    rw [dif_neg (by omega), dif_neg (by omega), dif_pos (by omega)]
    exact h1 a2 _ _ (by show (hd ⟨2, q⟩ e).val - 64 - 64 = e.val; omega)
  | ⟨3, q⟩ =>
    have hv : (hd ⟨3, q⟩ e).val = 192 + e.val := rfl
    rw [dif_neg (by omega), dif_neg (by omega), dif_neg (by omega)]
    exact h1 a3 _ _ (by show (hd ⟨3, q⟩ e).val - 64 - 64 - 64 = e.val; omega)

/-- What the body stores, over the queries' block, the keys and values in scratch, and the heads' biases. -/
def blk (x : Vec Ideal S1x64x256 .f32) (K V : Vec Ideal S576x256 .bf16) (b : Fin 4 → Vec Ideal S1x64x576 .f32) : FVec Ideal S1x64x256 .f32 :=
  k0_pay1 V (k0_pay7 K V x (b 0)) (k0_pay10 V (k0_pay8 K x) (k0_pay9 (b 1))) (k0_pay11 K V (k0_pay6 x) (b 2)) (k0_pay12 K (k0_pay6 x) (b 3)) (k0_pay13 K (k0_pay6 x) (b 3))

/-- The block at an element. -/
theorem blk_apply (x : Vec Ideal S1x64x256 .f32) (K V : Vec Ideal S576x256 .bf16) (b : Fin 4 → Vec Ideal S1x64x576 .f32) (r : Fin 64) (h : Fin 4) (e : Fin 64) :
    blk x K V b (ix3 0 r (hd h e)) = attend (scores (fun e => x (ix3 0 r (hd h e))) (fun j e => K (ix2 j (hd h e))) (fun j => b h (ix3 0 r j)))
      (fun j => V (ix2 j (hd h e))) := by
  have e0 : blk x K V b = side
      (headO (headW (extractStridedSlice S64x64 ![0, 0] (k0_pay6 x) slices_S64x256_o0_0_S64x64) (extractStridedSlice S576x64 ![0, 0] K slices_S576x256_o0_0_S576x64) (b 0))
        (extractStridedSlice S576x64 ![0, 0] V slices_S576x256_o0_0_S576x64))
      (headO (headW (extractStridedSlice S64x64 ![0, 64] (k0_pay6 x) slices_S64x256_o0_64_S64x64) (extractStridedSlice S576x64 ![0, 64] K slices_S576x256_o0_64_S576x64) (b 1))
        (extractStridedSlice S576x64 ![0, 64] V slices_S576x256_o0_64_S576x64))
      (headO (headW (extractStridedSlice S64x64 ![0, 128] (k0_pay6 x) slices_S64x256_o0_128_S64x64) (extractStridedSlice S576x64 ![0, 128] K slices_S576x256_o0_128_S576x64) (b 2))
        (extractStridedSlice S576x64 ![0, 128] V slices_S576x256_o0_128_S576x64))
      (headO (headW (extractStridedSlice S64x64 ![0, 192] (k0_pay6 x) slices_S64x256_o0_192_S64x64) (extractStridedSlice S576x64 ![0, 192] K slices_S576x256_o0_192_S576x64) (b 3))
        (extractStridedSlice S576x64 ![0, 192] V slices_S576x256_o0_192_S576x64)) := rfl
  rw [e0, side_apply]
  have hx : ∀ (r : Fin 64) (j : Fin 256), k0_pay6 x (ix2 r j) = x (ix3 0 r j) := fun r j => by pointwise [k0_pay6]
  have g : ∀ {n : ℕ} (y : (⟨2, ![n, 256]⟩ : Shape).Idx → EReal) (r : Fin n) (k k' : Fin 256), k.val = k'.val → y (ix2 r k) = y (ix2 r k') :=
    fun y r k k' q => by rw [Fin.ext q]
  match h with
  | ⟨0, _⟩ =>
    refine head_apply x K V (b 0) _ _ _ 0 (fun r e => ?_) (fun j e => ?_) (fun j e => ?_) r e
    · rw [← hx]; pointwise []; exact g (k0_pay6 x) _ _ _ (by show e.val = 64 * 0 + e.val; omega)
    · pointwise []; exact g K _ _ _ (by show e.val = 64 * 0 + e.val; omega)
    · pointwise []; exact g V _ _ _ (by show e.val = 64 * 0 + e.val; omega)
  | ⟨1, _⟩ =>
    refine head_apply x K V (b 1) _ _ _ 1 (fun r e => ?_) (fun j e => ?_) (fun j e => ?_) r e
    · rw [← hx]; pointwise []; rfl
    · pointwise []; rfl
    · pointwise []; rfl
  | ⟨2, _⟩ =>
    refine head_apply x K V (b 2) _ _ _ 2 (fun r e => ?_) (fun j e => ?_) (fun j e => ?_) r e
    · rw [← hx]; pointwise []; rfl
    · pointwise []; rfl
    · pointwise []; rfl
  | ⟨3, _⟩ =>
    refine head_apply x K V (b 3) _ _ _ 3 (fun r e => ?_) (fun j e => ?_) (fun j e => ?_) r e
    · rw [← hx]; pointwise []; rfl
    · pointwise []; rfl
    · pointwise []; rfl

variable (m : (ℓ : Loc nD τ sig) → Buf (Elt Ideal) ℓ)

/-- What a grid point reads of a scratch: from the row that its number times 64 gives, and there is one number only. -/
def window (i : grid0.Coords) (X : Vec Ideal S576x256 .bf16) : Vec Ideal S576x256 .bf16 :=
  View.ld X (Rect.unit (s := S576x256) (k0_off1 i) S576x256.size (k0_off1_inb i))

/-- The place of the first row read. -/
theorem off_val : ∀ t : Fin grid0.N, k0_off1 (grid0.coords t) = ![0, 0] := by decide +kernel

/-- The rows read are the scratch. -/
theorem window_apply (t : Fin cfg0.N) (X : Vec Ideal S576x256 .bf16) (k : Fin 576) (j : Fin 256) : window (grid0.coords t) X (ix2 k j) = X (ix2 k j) := by
  show X _ = X _
  congr 1
  funext a
  apply Fin.ext
  show k0_off1 (grid0.coords t) a + 1 * (ix2 k j a).val = _
  rw [off_val t]
  match a with
  | ⟨0, _⟩ => show 0 + 1 * k.val = k.val; omega
  | ⟨1, _⟩ => show 0 + 1 * j.val = j.val; omega

/-- One head's biases, of the four staged. -/
def bias (B : Vec Ideal S4x64x576 .f32) : Fin 4 → Vec Ideal S1x64x576 .f32 :=
  ![View.ld B (Rect.unit ![0, 0, 0] ![1, 64, 576] inb_S4x64x576_S1x64x576_0_0_0), View.ld B (Rect.unit ![1, 0, 0] ![1, 64, 576] inb_S4x64x576_S1x64x576_1_0_0),
    View.ld B (Rect.unit ![2, 0, 0] ![1, 64, 576] inb_S4x64x576_S1x64x576_2_0_0), View.ld B (Rect.unit ![3, 0, 0] ![1, 64, 576] inb_S4x64x576_S1x64x576_3_0_0)]

/-- An element of a head's biases. -/
theorem bias_apply (B : Vec Ideal S4x64x576 .f32) (h : Fin 4) (r : Fin 64) (k : Fin 576) : bias B h (ix3 0 r k) = B (ix3 h r k) := by
  have g : ∀ i : S4x64x576.Idx, (i 0).val = h.val → (i 1).val = 0 + 1 * r.val → (i 2).val = 0 + 1 * k.val → B i = B (ix3 h r k) := fun i h0 h1 h2 => by
    congr 1
    funext a
    apply Fin.ext
    match a with
    | ⟨0, _⟩ => exact h0
    | ⟨1, _⟩ => exact h1.trans (by show 0 + 1 * r.val = r.val; omega)
    | ⟨2, _⟩ => exact h2.trans (by show 0 + 1 * k.val = k.val; omega)
  match h with
  | ⟨0, _⟩ => exact g _ rfl rfl rfl
  | ⟨1, _⟩ => exact g _ rfl rfl rfl
  | ⟨2, _⟩ => exact g _ rfl rfl rfl
  | ⟨3, _⟩ => exact g _ rfl rfl rfl

/-- The cached rows with the new ones after them. -/
def joinBlk (P : Vec Ideal S1x512x256 .f32) (X : Vec Ideal S1x64x256 .f32) (n : Fin 576) (j : Fin 256) : EReal :=
  if h : n.val < 512 then P (ix3 0 ⟨n.val, h⟩ j) else X (ix3 0 ⟨n.val - 512, by omega⟩ j)

/-- What two stores leave, of 512 rows and of the 64 below them. -/
def rows (z : FVec Ideal S512x256 .bf16) (x : FVec Ideal S64x256 .bf16) : Vec Ideal S576x256 .bf16 :=
  View.canon (Val := Elt Ideal) (s := S576x256) (e := .bf16) [⟨Rect.unit ![512, 0] ![64, 256] inb_S576x256_S64x256_512_0, x⟩, ⟨Rect.unit ![0, 0] ![512, 256] inb_S576x256_S512x256_0_0, z⟩]

/-- The two stores at an element. -/
theorem rows_apply (z : FVec Ideal S512x256 .bf16) (x : FVec Ideal S64x256 .bf16) (P : Vec Ideal S1x512x256 .f32) (X : Vec Ideal S1x64x256 .f32) (n : Fin 576) (j : Fin 256)
    (hz : ∀ r j, z (ix2 r j) = P (ix3 0 r j)) (hx : ∀ r j, x (ix2 r j) = X (ix3 0 r j)) :
    rows z x (ix2 n j) = joinBlk P X n j := by
  unfold joinBlk rows
  by_cases h : n.val < 512
  · rw [dif_pos h]
    refine (View.canon_cons_of_not_mem _ _ ?_).trans ?_
    · intro hm
      obtain ⟨y, hy⟩ := (Rect.unit (s := S576x256) ![512, 0] ![64, 256] inb_S576x256_S64x256_512_0).exists_idx_of_mem hm
      have : 512 + 1 * (y 0).val = n.val := congrArg (fun i : S576x256.Idx => (i 0).val) hy
      omega
    · have e : (ix2 n j : S576x256.Idx) = (Rect.unit (s := S576x256) ![0, 0] ![512, 256] inb_S576x256_S512x256_0_0).emb (ix2 ⟨n.val, h⟩ j) := by
        funext a
        apply Fin.ext
        match a with
        | ⟨0, _⟩ => show n.val = 0 + 1 * n.val; omega
        | ⟨1, _⟩ => show j.val = 0 + 1 * j.val; omega
      rw [e]
      exact (View.canon_cons_emb _ _ _ _).trans (hz _ _)
  · rw [dif_neg h]
    have e : (ix2 n j : S576x256.Idx) = (Rect.unit (s := S576x256) ![512, 0] ![64, 256] inb_S576x256_S64x256_512_0).emb (ix2 ⟨n.val - 512, by omega⟩ j) := by
      funext a
      apply Fin.ext
      match a with
      | ⟨0, _⟩ => show n.val = 512 + 1 * (n.val - 512); omega
      | ⟨1, _⟩ => show j.val = 0 + 1 * j.val; omega
    rw [e]
    exact (View.canon_cons_emb _ _ _ _).trans (hx _ _)

/-- What a grid point stores. -/
theorem point (c : Dev nD) (t : Fin cfg0.N) : (dats m 0 c).after 6 t =
    blk (iblk m c 0 t) (window (grid0.coords t) (rows (k0_pay2 (iblk m c 3 t)) (k0_pay4 (iblk m c 1 t)))) (window (grid0.coords t) (rows (k0_pay3 (iblk m c 4 t)) (k0_pay5 (iblk m c 2 t))))
      (bias (iblk m c 5 t)) := by
  rw [after0_6]
  unfold outsAt0 out0_A_6
  frame_out
  unfold blk window
  rfl

/-- The keys that a grid point reads. -/
theorem keys (c : Dev nD) (t : Fin cfg0.N) (n : Fin 576) (j : Fin 256) :
    window (grid0.coords t) (rows (k0_pay2 (iblk m c 3 t)) (k0_pay4 (iblk m c 1 t))) (ix2 n j) = joinBlk (iblk m c 3 t) (iblk m c 1 t) n j := by
  rw [window_apply]
  refine rows_apply _ _ _ _ n j (fun r j => ?_) (fun r j => ?_)
  · pointwise [k0_pay2]
  · pointwise [k0_pay4]

/-- The values that a grid point reads. -/
theorem values (c : Dev nD) (t : Fin cfg0.N) (n : Fin 576) (j : Fin 256) :
    window (grid0.coords t) (rows (k0_pay3 (iblk m c 4 t)) (k0_pay5 (iblk m c 2 t))) (ix2 n j) = joinBlk (iblk m c 4 t) (iblk m c 2 t) n j := by
  rw [window_apply]
  refine rows_apply _ _ _ _ n j (fun r j => ?_) (fun r j => ?_)
  · pointwise [k0_pay3]
  · pointwise [k0_pay5]

end Cert.CacheBody
-- ==== Proof.CacheFinal.lean ====
module

public import proofs.«01_k».proof.Proof.CacheBody
public import proofs.«01_k».proof.Proof.Gen.Reference6Ideal.Read

/-! Attention over cached keys: what the call finds in its arrays, and the kernel's output after the run, element by element. -/

@[expose] public section

set_option maxRecDepth 16384

noncomputable section

namespace Cert.CacheFinal

open Idealize.ShloMosaic Idealize.ShloMosaic.TcCoe
open Cert.Kernel6Ideal Cert.Kernel6Ideal.Gen Cert.ProjBody Cert.AttnMath Cert.CacheBody

variable (m : (ℓ : Loc nD τ sig) → Buf (Elt Ideal) ℓ)

/-- The new rows of a batch, and the cached ones by head. -/
abbrev A : Type := S16x64x256.Idx → EReal
abbrev C : Type := S16x512x4x64.Idx → EReal

/-- The arguments of a run. -/
abbrev Q (c : Dev nD) : A := m ((c.tc : Thread nD τ).loc main_arg0)
abbrev K (c : Dev nD) : A := m ((c.tc : Thread nD τ).loc main_arg1)
abbrev W (c : Dev nD) : A := m ((c.tc : Thread nD τ).loc main_arg2)
abbrev CK (c : Dev nD) : C := m ((c.tc : Thread nD τ).loc main_arg3)
abbrev CW (c : Dev nD) : C := m ((c.tc : Thread nD τ).loc main_arg4)
abbrev T (c : Dev nD) : S4x257.Idx → EReal := m ((c.tc : Thread nD τ).loc main_arg5)

/-- One eighth. -/
abbrev scale : EReal := Ideal.ofBits .f32 0x3E000000#32

/-- The biases of 64 rows over 576 keys that the table gives. -/
abbrev band (x : S4x257.Idx → EReal) : S4x64x576.Idx → EReal := Cert.Reference6Ideal.Read.val_main_v26 (F := Ideal) x

/-- The queries that the call stages are the arguments, scaled. -/
theorem V_q (c : Dev nD) (i : S16x64x256.Idx) : (V m c main_v3 : A) i = Q m c i * scale := by
  unfold V
  simp only [hostOps0, hostOps0_1, hostOps0_2, hostOps0_3, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- The cached keys that the call stages have their heads side by side. -/
theorem V_k (c : Dev nD) : (V m c main_v0 : S16x512x256.Idx → EReal) = shapeCast S16x512x256 (CK m c) shapeCasts_S16x512x4x64_S16x512x256 := by
  unfold V
  simp only [hostOps0, hostOps0_1, hostOps0_2, hostOps0_3, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- The cached values that the call stages have their heads side by side. -/
theorem V_w (c : Dev nD) : (V m c main_v1 : S16x512x256.Idx → EReal) = shapeCast S16x512x256 (CW m c) shapeCasts_S16x512x4x64_S16x512x256 := by
  unfold V
  simp only [hostOps0, hostOps0_1, hostOps0_2, hostOps0_3, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- A cached array with its heads side by side, at an element. -/
theorem flat_apply (x : C) (b : Fin 16) (n : Fin 512) (h : Fin 4) (e : Fin 64) :
    shapeCast S16x512x256 x shapeCasts_S16x512x4x64_S16x512x256 (ix3 b n (hd h e)) = x (ix4 b n h e) := by
  have hb := b.isLt
  have hn := n.isLt
  have hh := h.isLt
  have he := e.isLt
  refine shapeCast_apply x shapeCasts_S16x512x4x64_S16x512x256 (ix3 b n (hd h e)) (ix4 b n h e) ?_
  rewrite [Shape.rowMajor_val_four, Shape.rowMajor_val_three]
  show ((b.val * 512 + n.val) * 4 + h.val) * 64 + e.val = (b.val * 512 + n.val) * 256 + (64 * h.val + e.val)
  omega

/-- A pad of no rows at an element. -/
theorem pad_apply (B : S4x64x576.Idx → EReal) (z : S_.Idx → EReal) (h : Fin 4) (r : Fin 64) (k : Fin 576) :
    pad S4x64x576 ![0, 0, 0] ![0, 0, 0] ![0, 0, 0] B z pads_S4x64x576_S4x64x576_000_000_000 h_S_ (ix3 h r k) = B (ix3 h r k) := by
  pointwise []

/-- The biases that the call stages are the table's. -/
theorem V_b (c : Dev nD) (h : Fin 4) (r : Fin 64) (k : Fin 576) : (V m c main_v23 : S4x64x576.Idx → EReal) (ix3 h r k) = band (T m c) (ix3 h r k) := by
  unfold V
  simp only [hostOps0, hostOps0_1, hostOps0_2, hostOps0_3, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  exact pad_apply _ _ h r k

/-- The cached rows with the new ones after them, at a row and a lane of a head. -/
def join (P : C) (X : A) (b : Fin 16) (n : Fin 576) (h : Fin 4) (e : Fin 64) : EReal :=
  if g : n.val < 512 then P (ix4 b ⟨n.val, g⟩ h e) else X (ix3 b ⟨n.val - 512, by omega⟩ (hd h e))

/-- A query's scores, as the kernel computes them. -/
def kScore (q k : A) (p : C) (B : S4x64x576.Idx → EReal) (b : Fin 16) (r : Fin 64) (h : Fin 4) (j : Fin 576) : EReal :=
  (∑ e, q (ix3 b r (hd h e)) * scale * join p k b j h e) + B (ix3 h r j)

/-- An element of the kernel's output. -/
def kAt (q k v : A) (p w : C) (B : S4x64x576.Idx → EReal) (b : Fin 16) (r : Fin 64) (h : Fin 4) (e : Fin 64) : EReal :=
  attend (kScore q k p B b r h) (fun j => join w v b j h e)

/-- The kernel's output. -/
def kOut (q k v : A) (p w : C) (B : S4x64x576.Idx → EReal) : A := fun i =>
  kAt q k v p w B (i 0) (i 1) ⟨(i 2).val / 64, by have h : (i 2).val < 256 := (i 2).isLt; omega⟩ ⟨(i 2).val % 64, by omega⟩

/-- The array at a row and a lane of a head. -/
theorem kOut_apply (q k v : A) (p w : C) (B : S4x64x576.Idx → EReal) (b : Fin 16) (r : Fin 64) (h : Fin 4) (e : Fin 64) :
    kOut q k v p w B (ix3 b r (hd h e)) = kAt q k v p w B b r h e := by
  show kAt q k v p w B b r ⟨(64 * h.val + e.val) / 64, _⟩ ⟨(64 * h.val + e.val) % 64, _⟩ = _
  congr 1 <;> apply Fin.ext <;> dsimp only <;> omega

/-- A grid point's batch entry. -/
def bOf (t : Fin cfg0.N) : Fin 16 := ⟨t.val, t.isLt⟩

/-- Where an element of a batch entry's new rows lies. -/
theorem place (t : Fin cfg0.N) (e : S1x64x256.Idx → S16x64x256.Idx)
    (he : ∀ y a, (e y a).val = ![t.val, 0, 0] a * ![1, 64, 256] a + (y a).val) (r : Fin 64) (j : Fin 256) :
    e (ix3 0 r j) = ix3 (bOf t) r j := by
  funext a
  apply Fin.ext
  rw [he]
  match a with
  | ⟨0, _⟩ => show t.val * 1 + 0 = t.val; omega
  | ⟨1, _⟩ => show 0 * 64 + r.val = r.val; omega
  | ⟨2, _⟩ => show 0 * 256 + j.val = j.val; omega

/-- Where an element of a batch entry's cached rows lies. -/
theorem placeC (t : Fin cfg0.N) (e : S1x512x256.Idx → S16x512x256.Idx)
    (he : ∀ y a, (e y a).val = ![t.val, 0, 0] a * ![1, 512, 256] a + (y a).val) (r : Fin 512) (j : Fin 256) :
    e (ix3 0 r j) = ix3 (bOf t) r j := by
  funext a
  apply Fin.ext
  rw [he]
  match a with
  | ⟨0, _⟩ => show t.val * 1 + 0 = t.val; omega
  | ⟨1, _⟩ => show 0 * 512 + r.val = r.val; omega
  | ⟨2, _⟩ => show 0 * 256 + j.val = j.val; omega

/-- The queries' block at a grid point: the batch entry's queries, scaled. -/
theorem iblk0 (c : Dev nD) (t : Fin cfg0.N) (r : Fin 64) (j : Fin 256) : iblk m c 0 t (ix3 0 r j) = Q m c (ix3 (bOf t) r j) * scale := by
  show V m c main_v3 (((cfg0.win 0).blk t).view.emb (ix3 0 r j)) = _
  refine (congrArg (V m c main_v3) (place t (fun y => ((cfg0.win 0).blk t).view.emb y) (fun y a => ?_) r j)).trans (V_q m c _)
  refine (Pipeline.Window.rect_emb_val (cfg0.win 0) t y a).trans ?_
  have hx : (cfg0.win 0).index t = ![t.val, 0, 0] := (by decide +kernel : ∀ t : Fin grid0.N, cc0_transform_0 (grid0.coords t) = ![t.val, 0, 0]) t
  rw [hx]

/-- The new keys' block at a grid point. -/
theorem iblk1 (c : Dev nD) (t : Fin cfg0.N) (r : Fin 64) (j : Fin 256) : iblk m c 1 t (ix3 0 r j) = K m c (ix3 (bOf t) r j) := by
  show V m c main_arg1 (((cfg0.win 1).blk t).view.emb (ix3 0 r j)) = _
  rw [V_main_arg1]
  refine congrArg (K m c) (place t (fun y => ((cfg0.win 1).blk t).view.emb y) (fun y a => ?_) r j)
  refine (Pipeline.Window.rect_emb_val (cfg0.win 1) t y a).trans ?_
  have hx : (cfg0.win 1).index t = ![t.val, 0, 0] := (by decide +kernel : ∀ t : Fin grid0.N, cc0_transform_1 (grid0.coords t) = ![t.val, 0, 0]) t
  rw [hx]

/-- The new values' block at a grid point. -/
theorem iblk2 (c : Dev nD) (t : Fin cfg0.N) (r : Fin 64) (j : Fin 256) : iblk m c 2 t (ix3 0 r j) = W m c (ix3 (bOf t) r j) := by
  show V m c main_arg2 (((cfg0.win 2).blk t).view.emb (ix3 0 r j)) = _
  rw [V_main_arg2]
  refine congrArg (W m c) (place t (fun y => ((cfg0.win 2).blk t).view.emb y) (fun y a => ?_) r j)
  refine (Pipeline.Window.rect_emb_val (cfg0.win 2) t y a).trans ?_
  have hx : (cfg0.win 2).index t = ![t.val, 0, 0] := (by decide +kernel : ∀ t : Fin grid0.N, cc0_transform_2 (grid0.coords t) = ![t.val, 0, 0]) t
  rw [hx]

/-- The cached keys' block at a grid point. -/
theorem iblk3 (c : Dev nD) (t : Fin cfg0.N) (r : Fin 512) (h : Fin 4) (e : Fin 64) : iblk m c 3 t (ix3 0 r (hd h e)) = CK m c (ix4 (bOf t) r h e) := by
  show V m c main_v0 (((cfg0.win 3).blk t).view.emb (ix3 0 r (hd h e))) = _
  refine (congrArg (V m c main_v0) (placeC t (fun y => ((cfg0.win 3).blk t).view.emb y) (fun y a => ?_) r (hd h e))).trans ?_
  · refine (Pipeline.Window.rect_emb_val (cfg0.win 3) t y a).trans ?_
    have hx : (cfg0.win 3).index t = ![t.val, 0, 0] := (by decide +kernel : ∀ t : Fin grid0.N, cc0_transform_3 (grid0.coords t) = ![t.val, 0, 0]) t
    rw [hx]
  · exact (congrFun (V_k m c) _).trans (flat_apply _ _ _ _ _)

/-- The cached values' block at a grid point. -/
theorem iblk4 (c : Dev nD) (t : Fin cfg0.N) (r : Fin 512) (h : Fin 4) (e : Fin 64) : iblk m c 4 t (ix3 0 r (hd h e)) = CW m c (ix4 (bOf t) r h e) := by
  show V m c main_v1 (((cfg0.win 4).blk t).view.emb (ix3 0 r (hd h e))) = _
  refine (congrArg (V m c main_v1) (placeC t (fun y => ((cfg0.win 4).blk t).view.emb y) (fun y a => ?_) r (hd h e))).trans ?_
  · refine (Pipeline.Window.rect_emb_val (cfg0.win 4) t y a).trans ?_
    have hx : (cfg0.win 4).index t = ![t.val, 0, 0] := (by decide +kernel : ∀ t : Fin grid0.N, cc0_transform_4 (grid0.coords t) = ![t.val, 0, 0]) t
    rw [hx]
  · exact (congrFun (V_w m c) _).trans (flat_apply _ _ _ _ _)

/-- The biases' block at a grid point: all of them. -/
theorem iblk5 (c : Dev nD) (t : Fin cfg0.N) (h : Fin 4) (r : Fin 64) (k : Fin 576) : iblk m c 5 t (ix3 h r k) = band (T m c) (ix3 h r k) := by
  show V m c main_v23 (((cfg0.win 5).blk t).view.emb (ix3 h r k)) = _
  rw [← V_b m c]
  refine congrArg (V m c main_v23) ?_
  funext a
  apply Fin.ext
  refine (Pipeline.Window.rect_emb_val (cfg0.win 5) t (ix3 h r k) a).trans ?_
  have hx : (cfg0.win 5).index t = ![0, 0, 0] := (by decide +kernel : ∀ t : Fin grid0.N, cc0_transform_5 (grid0.coords t) = ![0, 0, 0]) t
  rw [hx]
  match a with
  | ⟨0, _⟩ => show 0 * 4 + h.val = h.val; omega
  | ⟨1, _⟩ => show 0 * 64 + r.val = r.val; omega
  | ⟨2, _⟩ => show 0 * 576 + k.val = k.val; omega

/-- What a grid point leaves of the output, at an element. -/
theorem left6 (c : Dev nD) (t : Fin cfg0.N) (r : Fin 64) (h : Fin 4) (e : Fin 64) :
    (dats m 0 c).after 6 t (ix3 0 r (hd h e)) = kAt (Q m c) (K m c) (W m c) (CK m c) (CW m c) (band (T m c)) (bOf t) r h e := by
  refine (congrFun (point m c t) _).trans ?_
  rw [blk_apply]
  unfold kAt
  refine congr (congrArg attend (funext fun k => ?_)) (funext fun k => ?_)
  · unfold scores kScore
    refine congr (congrArg HAdd.hAdd (Finset.sum_congr rfl fun e _ => ?_)) ((bias_apply _ _ _ _).trans (iblk5 m c t h r k))
    refine congr (congrArg HMul.hMul (iblk0 m c t r _)) ((keys m c t k _).trans ?_)
    unfold joinBlk join
    split
    · exact iblk3 m c t _ h e
    · exact iblk1 m c t _ _
  · refine (values m c t k _).trans ?_
    unfold joinBlk join
    split
    · exact iblk4 m c t _ h e
    · exact iblk2 m c t _ _

/-- An index of an output block as its row, head and column. -/
theorem split_idx (y : S1x64x256.Idx) : ∃ (r : Fin 64) (h : Fin 4) (e : Fin 64), y = ix3 0 r (hd h e) := by
  have h2 : (y 2).val < 256 := (y 2).isLt
  refine ⟨y 1, ⟨(y 2).val / 64, by omega⟩, ⟨(y 2).val % 64, by omega⟩, ?_⟩
  funext a
  apply Fin.ext
  match a with
  | ⟨0, _⟩ =>
    have h0 : (y 0).val < 1 := (y 0).isLt
    show (y 0).val = 0
    omega
  | ⟨1, _⟩ => rfl
  | ⟨2, _⟩ => show (y 2).val = 64 * ((y 2).val / 64) + (y 2).val % 64; omega

/-- The output after the run. -/
theorem final6 (c : Dev nD) : (dats m 0 c).arrAt 6 cfg0.N = kOut (Q m c) (K m c) (W m c) (CK m c) (CW m c) (band (T m c)) := by
  generalize hR : kOut (Q m c) (K m c) (W m c) (CK m c) (CW m c) (band (T m c)) = R
  refine (dats m 0 c).arrAt_eq_of_covers 6 R (by decide +kernel) (fun t hf y => ?_)
  obtain ⟨r, h, n, hy⟩ := split_idx y
  have e := place t (fun y => ((cfg0.win 6).blk t).view.emb y) (fun y a => by
    refine (Pipeline.Window.rect_emb_val (cfg0.win 6) t y a).trans ?_
    have hx : (cfg0.win 6).index t = ![t.val, 0, 0] := (by decide +kernel : ∀ t : Fin grid0.N, cc0_transform_6 (grid0.coords t) = ![t.val, 0, 0]) t
    rw [hx]) r (hd h n)
  rw [(congrArg _ hy).trans e, ← hR]
  blk_simp
  rw [hy]
  exact (left6 m c t r h n).trans (kOut_apply _ _ _ _ _ _ _ _ _ _).symm

end Cert.CacheFinal
-- ==== Proof.CacheRef.lean ====
module

public import proofs.«01_k».proof.Proof.CacheFinal
public import proofs.«01_k».proof.Proof.AttnMeet

/-! Attention over cached keys: an element of the reference, and that on finite queries, keys, cached keys and table the kernel's output is the reference's. -/

@[expose] public section

set_option maxRecDepth 16384

noncomputable section

namespace Cert.CacheRef

open Idealize.ShloMosaic Idealize.ShloMosaic.TcCoe
open Cert.Reference6Ideal Cert.Reference6Ideal.Gen Cert.Reference6Ideal.Read Cert.ProjBody Cert.AttnMath
open Cert.CacheBody (hd)
open Cert.CacheFinal (A C band scale join kScore kAt kOut kOut_apply)
open Cert.AttnMeet (Fin' scale_nonneg scale_finite)

/-- The new rows by head. -/
theorem v0_apply (x : A) (b : Fin 16) (n : Fin 64) (h : Fin 4) (e : Fin 64) : val_main_v0 (F := Ideal) x (ix4 b n h e) = x (ix3 b n (hd h e)) := by
  have hb := b.isLt
  have hn := n.isLt
  have hh := h.isLt
  have he := e.isLt
  rw [val_main_v0_apply]
  congr 1
  funext a
  apply Fin.ext
  match a with
  | ⟨0, _⟩ => show (((b.val * 64 + n.val) * 4 + h.val) * 64 + e.val) / 16384 = b.val; omega
  | ⟨1, _⟩ => show (((b.val * 64 + n.val) * 4 + h.val) * 64 + e.val) / 256 % 64 = n.val; omega
  | ⟨2, _⟩ => show (((b.val * 64 + n.val) * 4 + h.val) * 64 + e.val) % 256 = 64 * h.val + e.val; omega

/-- The new keys are cut into heads as the queries are. -/
theorem v1_eq (x : A) : val_main_v1 (F := Ideal) x = val_main_v0 (F := Ideal) x := rfl

/-- The cached keys with the new ones after them. -/
theorem v3_apply (x : A) (p : C) (b : Fin 16) (k : Fin 576) (h : Fin 4) (e : Fin 64) : val_main_v3 (F := Ideal) x p (ix4 b k h e) = join p x b k h e := by
  have hk := k.isLt
  unfold join
  pointwise [val_main_v3]
  split
  · rfl
  · exact (congrFun (v1_eq x) _).trans (v0_apply x b _ h e)

/-- The values are joined as the keys are. -/
theorem v4_eq (x : A) (p : C) : val_main_v4 (F := Ideal) x p = val_main_v3 (F := Ideal) x p := rfl

/-- A query's scores, as the reference computes them. -/
def rScore (q k : A) (p : C) (B : S4x64x576.Idx → EReal) (b : Fin 16) (r : Fin 64) (h : Fin 4) (j : Fin 576) : EReal :=
  (∑ e, q (ix3 b r (hd h e)) * join p k b j h e) * scale + B (ix3 h r j)

/-- The reference's scores. -/
theorem v29_apply (q k : A) (p : C) (x : S4x257.Idx → EReal) (b : Fin 16) (h : Fin 4) (r : Fin 64) (j : Fin 576) :
    val_main_v29 (F := Ideal) q k p x (ix4 b h r j) = rScore q k p (band x) b r h j := by
  have hB : val_main_v28 (F := Ideal) x (ix4 b h r j) = band x (ix3 h r j) := by
    rw [val_main_v28_apply, val_main_v27_apply]
    congr 1
    funext a
    match a with
    | ⟨0, _⟩ => rfl
    | ⟨1, _⟩ => rfl
    | ⟨2, _⟩ => rfl
  have hS : val_main_v7 (F := Ideal) q k p (ix4 b h r j) = (∑ e, q (ix3 b r (hd h e)) * join p k b j h e) * scale := by
    rw [val_main_v7_apply, val_main_v5_apply]
    refine congrArg₂ (fun u w : EReal => u * w) (Finset.sum_congr rfl fun e _ => ?_) (val_main_v6_apply _)
    refine congrArg₂ (fun u w : EReal => u * w) ((congrArg _ ?_).trans (v0_apply q b r h e)) ((congrArg _ ?_).trans (v3_apply k p b j h e))
    all_goals
      funext a
      match a with
      | ⟨0, _⟩ => rfl
      | ⟨1, _⟩ => rfl
      | ⟨2, _⟩ => rfl
      | ⟨3, _⟩ => rfl
  unfold rScore
  rw [val_main_v29_apply, hB, hS]
  rfl

/-- A row's greatest score. -/
theorem v32_apply (q k : A) (p : C) (x : S4x257.Idx → EReal) (b : Fin 16) (h : Fin 4) (r : Fin 64) :
    val_main_v32 (F := Ideal) q k p x (ix3 b h r) = top (rScore q k p (band x) b r h) := by
  have h31 : val_main_v31 (F := Ideal) (ix3 b h r) = ⊥ := (val_main_v31_apply _).trans word_bot
  have h30 : val_main_v30 (F := Ideal) q k p x (ix3 b h r) = top (fun j => val_main_v29 (F := Ideal) q k p x (ix4 b h r j)) := by
    unfold top
    rw [← word_bot]
    pointwise [val_main_v30, val_main_cst_5]
  rw [val_main_v32_apply, h31, h30]
  refine (bot_sup_eq _).trans (congrArg top (funext fun j => v29_apply q k p x b h r j))

/-- A row's exponentials. -/
theorem v36_apply (q k : A) (p : C) (x : S4x257.Idx → EReal) (b : Fin 16) (h : Fin 4) (r : Fin 64) (j : Fin 576) :
    val_main_v36 (F := Ideal) q k p x (ix4 b h r j) = weight (rScore q k p (band x) b r h) j := by
  have h34 : val_main_v34 (F := Ideal) q k p x (ix4 b h r j) = top (rScore q k p (band x) b r h) := by
    rw [val_main_v34_apply, val_main_v33_apply, ← v32_apply]
    congr 1
    funext a
    match a with
    | ⟨0, _⟩ => rfl
    | ⟨1, _⟩ => rfl
    | ⟨2, _⟩ => rfl
  rw [val_main_v36_apply, val_main_v35_apply, h34, v29_apply]
  rfl

/-- A row's softmax. -/
theorem v40_apply (q k : A) (p : C) (x : S4x257.Idx → EReal) (b : Fin 16) (h : Fin 4) (r : Fin 64) (j : Fin 576) :
    val_main_v40 (F := Ideal) q k p x (ix4 b h r j) = Ideal.div (weight (rScore q k p (band x) b r h) j) (mass (rScore q k p (band x) b r h)) := by
  have h39 : val_main_v39 (F := Ideal) q k p x (ix4 b h r j) = mass (rScore q k p (band x) b r h) := by
    rw [val_main_v39_apply, val_main_v38_apply, val_main_v37_apply]
    have z : val_main_cst_7 (F := Ideal) (Shape.Idx.first h_S_) = 0 := Ideal.ofBits_zero_f32
    rw [z, zero_add]
    unfold mass
    refine Finset.sum_congr rfl fun n _ => ?_
    rw [← v36_apply]
    congr 1
    funext a
    match a with
    | ⟨0, _⟩ => rfl
    | ⟨1, _⟩ => rfl
    | ⟨2, _⟩ => rfl
    | ⟨3, _⟩ => rfl
  rw [val_main_v40_apply, h39, v36_apply]
  rfl

/-- The reference's output at an element. -/
theorem v43_apply (q k v : A) (p w : C) (x : S4x257.Idx → EReal) (b : Fin 16) (r : Fin 64) (h : Fin 4) (e : Fin 64) :
    val_main_v43 (F := Ideal) q k v p w x (ix3 b r (hd h e)) = attendR (rScore q k p (band x) b r h) (fun j => join w v b j h e) := by
  have hb := b.isLt
  have hr := r.isLt
  have hh := h.isLt
  have he := e.isLt
  have hi : idx_main_v42 (idx_main_v43 (ix3 b r (hd h e))) = ix4 b h e r := by
    funext a
    apply Fin.ext
    match a with
    | ⟨0, _⟩ => show ((b.val * 64 + r.val) * 256 + (64 * h.val + e.val)) / 16384 = b.val; omega
    | ⟨1, _⟩ => show ((b.val * 64 + r.val) * 256 + (64 * h.val + e.val)) / 64 % 4 = h.val; omega
    | ⟨2, _⟩ => show ((b.val * 64 + r.val) * 256 + (64 * h.val + e.val)) % 64 = e.val; omega
    | ⟨3, _⟩ => show ((b.val * 64 + r.val) * 256 + (64 * h.val + e.val)) / 256 % 64 = r.val; omega
  rw [val_main_v43_apply, val_main_v42_apply, hi, val_main_v41_apply]
  unfold attendR
  refine Finset.sum_congr rfl fun j _ => ?_
  rw [v4_eq]
  refine congrArg₂ (fun u w : EReal => u * w) ((congrArg _ ?_).trans (v3_apply v w b j h e)) ((congrArg _ ?_).trans (v40_apply q k p x b h r j))
  all_goals
    funext a
    match a with
    | ⟨0, _⟩ => rfl
    | ⟨1, _⟩ => rfl
    | ⟨2, _⟩ => rfl
    | ⟨3, _⟩ => rfl

/-- An element of the biases is one of the table. -/
theorem band_mem (x : S4x257.Idx → EReal) (i : S4x64x576.Idx) : ∃ j, band x i = x j := ⟨_, rfl⟩

/-- Finite rows after finite cached rows. -/
theorem join_finite (p : C) (x : A) (hp : Fin' p) (hx : Fin' x) (b : Fin 16) (n : Fin 576) (h : Fin 4) (e : Fin 64) : join p x b n h e ≠ ⊥ ∧ join p x b n h e ≠ ⊤ := by
  unfold join
  split
  · exact hp _
  · exact hx _

/-- The kernel scales the queries, the reference the products. -/
theorem score_eq (q k : A) (p : C) (B : S4x64x576.Idx → EReal) (b : Fin 16) (r : Fin 64) (h : Fin 4) : kScore q k p B b r h = rScore q k p B b r h := by
  funext j
  unfold kScore rScore
  rw [scale_sum scale scale_nonneg scale_finite.2]

/-- Every score is finite. -/
theorem score_finite (q k : A) (p : C) (x : S4x257.Idx → EReal) (hq : Fin' q) (hk : Fin' k) (hp : Fin' p) (hx : Fin' x) (b : Fin 16) (r : Fin 64) (h : Fin 4) (j : Fin 576) :
    rScore q k p (band x) b r h j ≠ ⊥ ∧ rScore q k p (band x) b r h j ≠ ⊤ := by
  unfold rScore
  refine add_finite _ _ (mul_finite _ _ (sum_finite _ fun e => mul_finite _ _ (hq _) (join_finite p k hp hk _ _ _ _)) scale_finite) ?_
  obtain ⟨i, hi⟩ := band_mem x (ix3 h r j)
  rw [hi]
  exact hx i

/-- On finite queries, keys, cached keys and table the two outputs are one. -/
theorem meet (q k v : A) (p w : C) (x : S4x257.Idx → EReal) (hq : Fin' q) (hk : Fin' k) (hp : Fin' p) (hx : Fin' x) :
    val_main_v43 (F := Ideal) q k v p w x = kOut q k v p w (band x) := by
  funext y
  have h0 : (y 0).val < 16 := (y 0).isLt
  have h1 : (y 1).val < 64 := (y 1).isLt
  have h2 : (y 2).val < 256 := (y 2).isLt
  have hy : y = ix3 ⟨(y 0).val, h0⟩ ⟨(y 1).val, h1⟩ (hd ⟨(y 2).val / 64, by omega⟩ ⟨(y 2).val % 64, by omega⟩) := by
    funext a
    apply Fin.ext
    match a with
    | ⟨0, _⟩ => rfl
    | ⟨1, _⟩ => rfl
    | ⟨2, _⟩ => show (y 2).val = 64 * ((y 2).val / 64) + (y 2).val % 64; omega
  rw [hy, v43_apply, kOut_apply]
  unfold kAt
  rw [score_eq]
  exact (attend_eq _ _ (mass_ne_zero _ (fun j => (score_finite q k p x hq hk hp hx _ _ _ j).2) 0 (score_finite q k p x hq hk hp hx _ _ _ 0).1)).symm

end Cert.CacheRef
-- ==== Proof.CacheClaim.lean ====
module

public import proofs.«01_k».proof.Defs
public import proofs.«01_k».proof.Proof.CacheRef
public import proofs.«01_k».proof.Proof.AttnPre
public import proofs.«01_k».proof.Proof.Gen.Kernel6
public import proofs.«01_k».proof.Proof.Gen.Kernel6.Frame
public import proofs.«01_k».proof.Proof.Gen.Reference6Ideal
public import proofs.«01_k».proof.Proof.Gen.Reference6Ideal.Run
public import Idealize.ShloMosaic.Lib.Quiescent

/-! The claims about the attention over cached keys: on finite queries, keys, cached keys and table the kernel and its reference compute the same array. -/

@[expose] public section

set_option maxRecDepth 16384

noncomputable section

namespace Cert.CacheClaim

open Idealize.ShloMosaic Idealize.SL.Sem Idealize.ShloMosaic.TcCoe
open Cert.AttnMath

/-- The shapes the precondition's operations name fit together. -/
instance facts : Cert.Pre_finite_cached.Facts where
  bcast_S_S16x64x256 := by decide
  reducesTo_S16x64x256_S_d0_1_2 := by decide
  h_S_ := by decide
  bcast_S_S16x512x4x64 := by decide
  reducesTo_S16x512x4x64_S_d0_1_2_3 := by decide
  bcast_S_S4x257 := by decide
  reducesTo_S4x257_S_d0_1 := by decide

/-- A scalar has one index. -/
instance scalar : Subsingleton Cert.Pre_finite_cached.S_.Idx := ⟨fun a b => funext fun i => i.elim0⟩

/-- The precondition makes the queries, the new keys, the cached keys and the table finite. -/
theorem finite (q k v : Cert.Pre_finite_cached.S16x64x256.Idx → EReal) (p w : Cert.Pre_finite_cached.S16x512x4x64.Idx → EReal) (x : Cert.Pre_finite_cached.S4x257.Idx → EReal)
    (h : Cert.Pre_finite_cached.fn (F := Ideal) q k v p w x = fun _ => 1#1) :
    (∀ i, q i ≠ ⊥ ∧ q i ≠ ⊤) ∧ (∀ i, k i ≠ ⊥ ∧ k i ≠ ⊤) ∧ (∀ i, p i ≠ ⊥ ∧ p i ≠ ⊤) ∧ (∀ i, x i ≠ ⊥ ∧ x i ≠ ⊤) := by
  have e := congrFun h (fun i => i.elim0)
  obtain ⟨e1, e4⟩ := IntOp.andi_eq_one.mp e
  obtain ⟨e1, e3⟩ := IntOp.andi_eq_one.mp e1
  obtain ⟨e1, e2⟩ := IntOp.andi_eq_one.mp e1
  exact ⟨fun i => AttnPre.finite_of_cmp _ (Host.reduce_andi_all _ _ _ _ _ e1 i),
    fun i => AttnPre.finite_of_cmp _ (Host.reduce_andi_all _ _ _ _ _ e2 i),
    fun i => AttnPre.finite_of_cmp _ (Host.reduce_andi_all _ _ _ _ _ e3 i),
    fun i => AttnPre.finite_of_cmp _ (Host.reduce_andi_all _ _ _ _ _ e4 i)⟩

/-- The reference terminates with its arguments unchanged and its semaphores at zero. -/
theorem reference_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From the same arguments, with finite queries, keys, cached keys and table, the kernel and the reference end with the same array. -/
theorem value : Cert.algebraic_Kernel6Ideal_Reference6Ideal_pre_finite_cached := by
  intro m g m' g' h hag
  refine ⟨fun c => (Cert.Kernel6Ideal.Gen.dats m 0 c).arrAt 6 Cert.Kernel6Ideal.cfg0.N,
    Cert.Kernel6Ideal.Value.run_blocks m g,
    (θ_run Cert.Reference6Ideal.defs _ _).mono (fun r hr c => ?_) (Cert.Reference6Ideal.Value.run (F := Ideal) m' g')⟩
  obtain ⟨r0, hargs⟩ := hr c
  obtain ⟨e0, e1, e2, e3, e4, e5⟩ := hag c
  obtain ⟨hq, hk, hp, hx⟩ := finite _ _ _ _ _ _ (h c)
  refine ⟨r0.trans ?_, hargs⟩
  refine (Cert.Reference6Ideal.Read.val_main_v43_eq (F := Ideal) m' c).trans (Eq.trans ?_ ((CacheRef.meet _ _ _ _ _ _ hq hk hp hx).trans (CacheFinal.final6 m c).symm))
  rw [e0, e1, e2, e3, e4, e5]

end Cert.CacheClaim

end
-- ==== Proof.S5Math.lean ====
module

public import Idealize.ShloMosaic.PureOps.Ideal
public import Idealize.ShloMosaic.PureOps.Ideal.Laws

/-! The mathematics of the s5 mixer over the extended reals: the recurrence of one complex mode, sums over a matrix that is
    zero outside of its diagonal blocks, and what is made of one row of the modes' read-out. -/

@[expose] public section

noncomputable section

namespace Cert.S5Math

open Idealize.ShloMosaic

/-- The state of one mode after `k` steps: real and imaginary part. -/
def mode (ar ai : EReal) (x y : ℕ → EReal) (h : EReal × EReal) : ℕ → EReal × EReal
  | 0 => h
  | k + 1 => (ar * (mode ar ai x y h k).1 - ai * (mode ar ai x y h k).2 + x k, ar * (mode ar ai x y h k).2 + ai * (mode ar ai x y h k).1 + y k)

/-- States agree where the drives of the steps taken agree. -/
theorem mode_congr (ar ai : EReal) (x y x' y' : ℕ → EReal) (h : EReal × EReal) (n : ℕ) (hx : ∀ k < n, x k = x' k) (hy : ∀ k < n, y k = y' k) :
    ∀ k ≤ n, mode ar ai x y h k = mode ar ai x' y' h k
  | 0, _ => rfl
  | k + 1, hk => by
    unfold mode
    rw [mode_congr ar ai x y x' y' h n hx hy k (by omega), hx k (by omega), hy k (by omega)]

/-- A sum whose terms vanish outside of a group of places. -/
theorem sum_group {n N : ℕ} (e : Fin n → Fin N) (he : Function.Injective e) (f : Fin N → EReal) (g : Fin n → EReal)
    (hg : ∀ k, f (e k) = g k) (ho : ∀ k, k ∉ Set.range e → f k = 0) : ∑ k, f k = ∑ k, g k :=
  (Fintype.sum_of_injective e he g f ho fun k => (hg k).symm).symm

/-- A sum over two halves. -/
theorem sum_halves (f : Fin 2048 → EReal) : ∑ k, f k = (∑ k : Fin 1024, f ⟨k.val, by omega⟩) + ∑ k : Fin 1024, f ⟨1024 + k.val, by omega⟩ :=
  Fin.sum_univ_add (a := 1024) (b := 1024) f

/-- The gelu, by its hyperbolic tangent. -/
def gelu (y : EReal) : EReal :=
  Ideal.ofBits .f32 0x3F000000#32 * y * (1 + Ideal.tanh (Ideal.ofBits .f32 0x3F4C422A#32 * (y + Ideal.ofBits .f32 0x3D372713#32 * (y * y * y))))

/-- One output: two columns of the gating product, the first times the logistic function of the second. -/
def glu (g v w : Fin 256 → EReal) (a b : EReal) : EReal :=
  ((∑ k, gelu (g k) * v k) + a) * Ideal.div 1 (1 + Ideal.exp (-((∑ k, gelu (g k) * w k) + b)))

end Cert.S5Math
-- ==== Proof.S5Loop.lean ====
module

public import proofs.«01_k».proof.Proof.S5Math
public import proofs.«01_k».proof.Proof.Gen.Kernel7Ideal.Value
public import Idealize.ShloMosaic.Lib.Pointwise.Tactic
public import Idealize.ShloMosaic.Lib.WritesUnit
public import Idealize.ShloMosaic.Lib.ValueIdx

/-! The s5 mixer: what the kernel's loop over the steps leaves in scratch and carries. -/

@[expose] public section

set_option maxRecDepth 16384

noncomputable section

namespace Cert.S5Loop

open Idealize.ShloMosaic Idealize.ShloMosaic.TcCoe
open Cert.Kernel7Ideal Cert.Kernel7Ideal.Gen Cert.S5Math

/-- The loop's number of steps. -/
theorem trips : k0_t1_loop.trips = 64 := by decide

/-- The rows of a step, real parts. -/
theorem off1 : ∀ k : Fin k0_t1_loop.trips, k0_off1 k = ![8 * k.val, 0] := by decide

/-- The rows of a step, imaginary parts. -/
theorem off2 : ∀ k : Fin k0_t1_loop.trips, k0_off2 k = ![8 * k.val, 1024] := by decide

/-- The scratch's row of a stream at a step. -/
def row (k : ℕ) (s : Fin 8) : Fin 512 := ⟨(8 * k + s.val) % 512, Nat.mod_lt _ (by decide)⟩

/-- A mode's column of real parts. -/
def lo (j : Fin 1024) : Fin 2048 := ⟨j.val, by omega⟩

/-- A mode's column of imaginary parts. -/
def hi (j : Fin 1024) : Fin 2048 := ⟨1024 + j.val, by omega⟩

/-- The contents that the scratch enters the loop with: the drives. -/
abbrev entry (P : FVec Ideal S512x2048 .f32) : BufTy.Contents (Elt Ideal) (View.whole cc0_scratch0).ty :=
  (View.whole cc0_scratch0).writes (Elt Ideal) (View.whole cc0_scratch0).junk [⟨Rect.unit ![0, 0] ![512, 2048] inb_S512x2048_S512x2048_0_0, P⟩]

/-- The contents after further stores, at an element. -/
def held (P : FVec Ideal S512x2048 .f32) (L : List (View.Piece (Elt Ideal) S512x2048 .f32)) (y : S512x2048.Idx) : EReal :=
  (View.whole cc0_scratch0).read (Elt Ideal) ((View.whole cc0_scratch0).writes (Elt Ideal) (entry P) L) y

/-- What the scratch enters the loop with, at an element. -/
theorem look_entry (P : FVec Ideal S512x2048 .f32) (y : S512x2048.Idx) : (View.whole cc0_scratch0).read (Elt Ideal) (entry P) y = P y :=
  View.read_writes_cons_unit_of_mem (Val := Elt Ideal) (View.whole cc0_scratch0) (View.whole cc0_scratch0).junk inb_S512x2048_S512x2048_0_0 P [] y y rfl
    fun d => match d with | ⟨0, _⟩ => (Nat.zero_add (y 0).val).symm | ⟨1, _⟩ => (Nat.zero_add (y 1).val).symm

/-- Without further stores the scratch holds the drives. -/
theorem held_nil (P : FVec Ideal S512x2048 .f32) (y : S512x2048.Idx) : held P [] y = P y := by
  unfold held
  rw [View.writes_nil]
  exact look_entry P y

/-- An element in the rows and columns of the last store. -/
theorem held_in (P : FVec Ideal S512x2048 .f32) (off : Fin 2 → ℕ) (inb : ∀ a, off a + S8x1024.size a ≤ S512x2048.size a) (w : FVec Ideal S8x1024 .f32)
    (L : List (View.Piece (Elt Ideal) S512x2048 .f32)) (r : Fin 512) (j' : Fin 2048) (s : Fin 8) (j : Fin 1024) (x y : ℕ) (he : off = ![x, y])
    (hr : r.val = x + s.val) (hj : j'.val = y + j.val) :
    held P (⟨Rect.unit (s := S512x2048) off S8x1024.size inb, w⟩ :: L) (ix2 r j') = w (ix2 s j) :=
  View.read_writes_cons_unit_of_mem (Val := Elt Ideal) (View.whole cc0_scratch0) (entry P) inb w L (ix2 r j') (ix2 s j) he (Fin.forall_fin_two.2 ⟨hr, hj⟩)

/-- An element outside of the rows of the last store. -/
theorem held_row (P : FVec Ideal S512x2048 .f32) (off : Fin 2 → ℕ) (inb : ∀ a, off a + S8x1024.size a ≤ S512x2048.size a) (w : FVec Ideal S8x1024 .f32)
    (L : List (View.Piece (Elt Ideal) S512x2048 .f32)) (r : Fin 512) (j' : Fin 2048) (x y : ℕ) (he : off = ![x, y]) (hr : r.val < x ∨ x + 8 ≤ r.val) :
    held P (⟨Rect.unit (s := S512x2048) off S8x1024.size inb, w⟩ :: L) (ix2 r j') = held P L (ix2 r j') :=
  View.read_writes_cons_unit_of_not_mem (Val := Elt Ideal) (View.whole cc0_scratch0) (entry P) inb w L (ix2 r j') he 0 hr

/-- An element outside of the columns of the last store. -/
theorem held_col (P : FVec Ideal S512x2048 .f32) (off : Fin 2 → ℕ) (inb : ∀ a, off a + S8x1024.size a ≤ S512x2048.size a) (w : FVec Ideal S8x1024 .f32)
    (L : List (View.Piece (Elt Ideal) S512x2048 .f32)) (r : Fin 512) (j' : Fin 2048) (x y : ℕ) (he : off = ![x, y]) (hr : j'.val < y ∨ y + 1024 ≤ j'.val) :
    held P (⟨Rect.unit (s := S512x2048) off S8x1024.size inb, w⟩ :: L) (ix2 r j') = held P L (ix2 r j') :=
  View.read_writes_cons_unit_of_not_mem (Val := Elt Ideal) (View.whole cc0_scratch0) (entry P) inb w L (ix2 r j') he 1 hr

/-- The state of a stream's mode after `k` steps. -/
def run (a b : FVec Ideal S8x1024 .f32) (P : FVec Ideal S512x2048 .f32) (h : FVec Ideal S8x1024 .f32 × FVec Ideal S8x1024 .f32) (s : Fin 8) (j : Fin 1024) : ℕ → EReal × EReal :=
  mode (a (ix2 s j)) (b (ix2 s j)) (fun k => P (ix2 (row k s) (lo j))) (fun k => P (ix2 (row k s) (hi j))) (h.1 (ix2 s j), h.2 (ix2 s j))

variable (c : Dev nD) (i : grid0.Coords)
  (arg2 : Memref sig .tc .vmem S1x512x256 .f32) (harg2 : arg2.IsWhole) (arg3 : Memref sig .tc .vmem S1x8x2048 .f32) (harg3 : arg3.IsWhole) (arg4 : Memref sig .tc .vmem S256x2048 .bf16) (harg4 : arg4.IsWhole) (arg5 : Memref sig .tc .vmem S2048x256 .bf16) (harg5 : arg5.IsWhole) (arg6 : Memref sig .tc .vmem S8x2048 .f32) (harg6 : arg6.IsWhole) (arg7 : Memref sig .tc .vmem S1x256 .f32) (harg7 : arg7.IsWhole)
  (arg8 : Memref sig .tc .vmem S256x512 .bf16) (harg8 : arg8.IsWhole) (arg9 : Memref sig .tc .vmem S1x512 .f32) (harg9 : arg9.IsWhole) (arg10 : Memref sig .tc .vmem S1x512x256 .f32) (harg10 : arg10.IsWhole) (arg11 : Memref sig .tc .vmem S1x8x2048 .f32) (harg11 : arg11.IsWhole) (arg13 : Memref sig .tc .vmem S8x2048 .f32) (harg13 : arg13.IsWhole)
  (a b : Vec Ideal S8x1024 .f32) (P : FVec Ideal S512x2048 .f32) (h : Vec Ideal S8x1024 .f32 × Vec Ideal S8x1024 .f32)

/-- What the loop carries and has stored before step `k`. -/
abbrev st (k : ℕ) : (Vec Ideal S8x1024 .f32 × Vec Ideal S8x1024 .f32) × List (View.Piece (Elt Ideal) S512x2048 .f32) :=
  st_k0_t1 (F := Ideal) Variants.none c none i arg2 harg2 arg3 harg3 arg4 harg4 arg5 harg5 arg6 harg6 arg7 harg7 arg8 harg8 arg9 harg9 arg10 harg10 arg11 harg11
    scM0_0 (Memref.isWhole_whole _) arg13 harg13 a b (entry P) h k

/-- The step's rows of the scratch, real parts. -/
abbrev xr (k : Fin k0_t1_loop.trips) (L : List (View.Piece (Elt Ideal) S512x2048 .f32)) : Vec Ideal S8x1024 .f32 :=
  (View.whole cc0_scratch0).readAt (Elt Ideal) (Rect.unit (s := S512x2048) (k0_off1 k) S8x1024.size (k0_off1_inb k)).toLoadRect ((View.whole cc0_scratch0).writes (Elt Ideal) (entry P) L)

/-- The step's rows of the scratch, imaginary parts. -/
abbrev xi (k : Fin k0_t1_loop.trips) (L : List (View.Piece (Elt Ideal) S512x2048 .f32)) : Vec Ideal S8x1024 .f32 :=
  (View.whole cc0_scratch0).readAt (Elt Ideal) (Rect.unit (s := S512x2048) (k0_off2 k) S8x1024.size (k0_off2_inb k)).toLoadRect ((View.whole cc0_scratch0).writes (Elt Ideal) (entry P) L)

/-- One step of the loop. -/
theorem st_next (S : ℕ → (Vec Ideal S8x1024 .f32 × Vec Ideal S8x1024 .f32) × List (View.Piece (Elt Ideal) S512x2048 .f32))
    (hS : S = st c i arg2 harg2 arg3 harg3 arg4 harg4 arg5 harg5 arg6 harg6 arg7 harg7 arg8 harg8 arg9 harg9 arg10 harg10 arg11 harg11 arg13 harg13 a b P h)
    (k : Fin k0_t1_loop.trips) : S (k.val + 1) =
    ((k0_pay8 a b (S k.val).1.1 (S k.val).1.2 (xr P k (S k.val).2), k0_pay9 a b (S k.val).1.1 (S k.val).1.2 (xi P k (S k.val).2)),
     ⟨Rect.unit (s := S512x2048) (k0_off2 k) S8x1024.size (k0_off2_inb k), k0_pay11 a b (S k.val).1.1 (S k.val).1.2 (xi P k (S k.val).2)⟩ ::
     ⟨Rect.unit (s := S512x2048) (k0_off1 k) S8x1024.size (k0_off1_inb k), k0_pay10 a b (S k.val).1.1 (S k.val).1.2 (xr P k (S k.val).2)⟩ :: (S k.val).2) := by
  subst hS
  refine (st_k0_t1_succ ..).trans ?_
  unfold tripR_k0_t1 tripL_k0_t1 trip_k0_t1
  rfl

/-- The step's rows, at an element. -/
theorem xr_apply (k : Fin k0_t1_loop.trips) (L : List (View.Piece (Elt Ideal) S512x2048 .f32)) (s : Fin 8) (j : Fin 1024) :
    xr P k L (ix2 s j) = held P L (ix2 (row k.val s) (lo j)) := by
  have hk : k.val < 64 := k.isLt.trans_eq trips
  refine congrArg (held P L) ?_
  funext d
  apply Fin.ext
  match d with
  | ⟨0, _⟩ => show k0_off1 k 0 + 1 * s.val = (8 * k.val + s.val) % 512; rw [off1]; show 8 * k.val + 1 * s.val = _; omega
  | ⟨1, _⟩ => show k0_off1 k 1 + 1 * j.val = j.val; rw [off1]; show 0 + 1 * j.val = _; omega

/-- The step's rows, at an element. -/
theorem xi_apply (k : Fin k0_t1_loop.trips) (L : List (View.Piece (Elt Ideal) S512x2048 .f32)) (s : Fin 8) (j : Fin 1024) :
    xi P k L (ix2 s j) = held P L (ix2 (row k.val s) (hi j)) := by
  have hk : k.val < 64 := k.isLt.trans_eq trips
  refine congrArg (held P L) ?_
  funext d
  apply Fin.ext
  match d with
  | ⟨0, _⟩ => show k0_off2 k 0 + 1 * s.val = (8 * k.val + s.val) % 512; rw [off2]; show 8 * k.val + 1 * s.val = _; omega
  | ⟨1, _⟩ => show k0_off2 k 1 + 1 * j.val = 1024 + j.val; rw [off2]; show 1024 + 1 * j.val = _; omega

/-- A reshape to the same shape. -/
theorem cast_self (v : FVec Ideal S8x1024 .f32) (hs : S8x1024.ShapeCasts S8x1024) : shapeCast S8x1024 v hs = v := by
  funext i
  exact congrArg v (Shape.reshapeEquiv_self hs i)

/-- The new real parts. -/
theorem pay8_apply (v w x : Vec Ideal S8x1024 .f32) (s : Fin 8) (j : Fin 1024) :
    k0_pay8 (F := Ideal) a b v w x (ix2 s j) = a (ix2 s j) * v (ix2 s j) - b (ix2 s j) * w (ix2 s j) + x (ix2 s j) := by
  unfold k0_pay8 k0_pay6 k0_pay7
  simp only [cast_self]
  pointwise []

/-- The new imaginary parts. -/
theorem pay9_apply (v w x : Vec Ideal S8x1024 .f32) (s : Fin 8) (j : Fin 1024) :
    k0_pay9 (F := Ideal) a b v w x (ix2 s j) = a (ix2 s j) * w (ix2 s j) + b (ix2 s j) * v (ix2 s j) + x (ix2 s j) := by
  unfold k0_pay9 k0_pay6 k0_pay7
  simp only [cast_self]
  pointwise []

/-- The new real parts, as they are stored. -/
theorem pay10_eq (v w x : Vec Ideal S8x1024 .f32) : k0_pay10 (F := Ideal) a b v w x = k0_pay8 a b v w x := by
  unfold k0_pay10
  exact cast_self _ _

/-- The new imaginary parts, as they are stored. -/
theorem pay11_eq (v w x : Vec Ideal S8x1024 .f32) : k0_pay11 (F := Ideal) a b v w x = k0_pay9 a b v w x := by
  unfold k0_pay11
  exact cast_self _ _

/-- The loop: after `k` steps it carries the states after `k` steps; the rows of the steps taken hold the states after them,
    the other rows still the drives. -/
theorem loop (S : ℕ → (Vec Ideal S8x1024 .f32 × Vec Ideal S8x1024 .f32) × List (View.Piece (Elt Ideal) S512x2048 .f32))
    (hS : S = st c i arg2 harg2 arg3 harg3 arg4 harg4 arg5 harg5 arg6 harg6 arg7 harg7 arg8 harg8 arg9 harg9 arg10 harg10 arg11 harg11 arg13 harg13 a b P h) : ∀ k : ℕ, k ≤ 64 →
    (∀ s j, ((S k).1.1 (ix2 s j) : EReal) = (run a b P h s j k).1) ∧ (∀ s j, ((S k).1.2 (ix2 s j) : EReal) = (run a b P h s j k).2)
    ∧ (∀ q s j, q < k → held P (S k).2 (ix2 (row q s) (lo j)) = (run a b P h s j (q + 1)).1)
    ∧ (∀ q s j, q < k → held P (S k).2 (ix2 (row q s) (hi j)) = (run a b P h s j (q + 1)).2)
    ∧ (∀ q s j, k ≤ q → q < 64 → held P (S k).2 (ix2 (row q s) j) = P (ix2 (row q s) j))
  | 0, _ => ⟨fun _ _ => by rw [hS]; rfl, fun _ _ => by rw [hS]; rfl, fun _ _ _ hq => absurd hq (Nat.not_lt_zero _), fun _ _ _ hq => absurd hq (Nat.not_lt_zero _), fun _ _ _ _ _ => by rw [hS]; exact held_nil P _⟩
  | n + 1, hn => by
    obtain ⟨h1, h2, h3, h4, h5⟩ := loop S hS n (by omega)
    have e := st_next c i arg2 harg2 arg3 harg3 arg4 harg4 arg5 harg5 arg6 harg6 arg7 harg7 arg8 harg8 arg9 harg9 arg10 harg10 arg11 harg11 arg13 harg13 a b P h S hS ⟨n, by rw [trips]; omega⟩
    have r1 (s j) : (k0_pay8 a b (S n).1.1 (S n).1.2 (xr P ⟨n, by rw [trips]; omega⟩ (S n).2) (ix2 s j) : EReal) = (run a b P h s j (n + 1)).1 := by
      rw [pay8_apply, xr_apply, h1, h2, h5 n s (lo j) (le_refl n) (by omega)]
      rfl
    have r2 (s j) : (k0_pay9 a b (S n).1.1 (S n).1.2 (xi P ⟨n, by rw [trips]; omega⟩ (S n).2) (ix2 s j) : EReal) = (run a b P h s j (n + 1)).2 := by
      rw [pay9_apply, xi_apply, h1, h2, h5 n s (hi j) (le_refl n) (by omega)]
      rfl
    have hv (q : ℕ) (s : Fin 8) (hq : q < 64) : (row q s).val = 8 * q + s.val := by show (8 * q + s.val) % 512 = _; omega
    have hl (j : Fin 1024) : (lo j).val < 1024 := j.isLt
    rw [pay10_eq, pay11_eq] at e
    rw [e]
    refine ⟨r1, r2, fun q s j hq => ?_, fun q s j hq => ?_, fun q s j hq hq' => ?_⟩
    · rw [held_col P _ _ _ _ _ _ (8 * n) 1024 (off2 _) (Or.inl (hl j))]
      by_cases hqn : q = n
      · rw [hqn, held_in P _ _ _ _ _ _ s j (8 * n) 0 (off1 _) (hv n s (by omega)) (Nat.zero_add _).symm]
        exact r1 s j
      · rw [held_row P _ _ _ _ _ _ (8 * n) 0 (off1 _) (Or.inl (by rw [hv q s (by omega)]; omega))]
        exact h3 q s j (by omega)
    · by_cases hqn : q = n
      · rw [hqn, held_in P _ _ _ _ _ _ s j (8 * n) 1024 (off2 _) (hv n s (by omega)) rfl]
        exact r2 s j
      · rw [held_row P _ _ _ _ _ _ (8 * n) 1024 (off2 _) (Or.inl (by rw [hv q s (by omega)]; omega)),
          held_row P _ _ _ _ _ _ (8 * n) 0 (off1 _) (Or.inl (by rw [hv q s (by omega)]; omega))]
        exact h4 q s j (by omega)
    · rw [held_row P _ _ _ _ _ _ (8 * n) 1024 (off2 _) (Or.inr (by rw [hv q s hq']; omega)),
        held_row P _ _ _ _ _ _ (8 * n) 0 (off1 _) (Or.inr (by rw [hv q s hq']; omega))]
      exact h5 q s j (by omega) hq'

end Cert.S5Loop
-- ==== Proof.S5Body.lean ====
module

public import proofs.«01_k».proof.Proof.S5Loop
public import proofs.«01_k».proof.Proof.ProjBody

/-! The s5 mixer: what the kernel's body computes at an element of its two output blocks. -/

@[expose] public section

set_option maxRecDepth 16384

noncomputable section

namespace Cert.S5Body

open Idealize.ShloMosaic Idealize.ShloMosaic.TcCoe
open Cert.Kernel7Ideal Cert.Kernel7Ideal.Gen Cert.S5Math Cert.S5Loop

/-- The drives: the rows times the modes' input weights. -/
theorem pay5_apply (v3 : Vec Ideal S1x512x256 .f32) (v6 : Vec Ideal S256x2048 .bf16) (r : Fin 512) (j : Fin 2048) :
    k0_pay5 (F := Ideal) v3 v6 (ix2 r j) = ∑ k : Fin 256, (v3 (ix3 0 r k) : EReal) * v6 (ix2 k j) := by
  pointwise [k0_pay5, k0_pay4]

/-- The row that the gelu takes: the read-out of the states, and the row scaled. -/
def pre (v3 : Vec Ideal S1x512x256 .f32) (v26 : Vec Ideal S512x2048 .f32) (v28 : Vec Ideal S2048x256 .bf16) (v31 : Vec Ideal S1x256 .f32) (r : Fin 512) (k : Fin 256) : EReal :=
  (∑ j : Fin 2048, (v26 (ix2 r j) : EReal) * v28 (ix2 j k)) + v31 (ix2 0 k) * v3 (ix3 0 r k)

/-- One output element. -/
theorem pay1_apply (v3 : Vec Ideal S1x512x256 .f32) (v26 : Vec Ideal S512x2048 .f32) (v28 : Vec Ideal S2048x256 .bf16) (v31 : Vec Ideal S1x256 .f32) (v50 : Vec Ideal S256x512 .bf16)
    (v53 : Vec Ideal S1x512 .f32) (r : Fin 512) (n : Fin 256) :
    k0_pay1 (F := Ideal) (k0_pay14 (k0_pay4 v3) v26 v28 v31 v50 v53) (ix3 0 r n)
      = glu (pre v3 v26 v28 v31 r) (fun k => v50 (ix2 k ⟨n.val, by omega⟩)) (fun k => v50 (ix2 k ⟨256 + n.val, by omega⟩)) (v53 (ix2 0 ⟨n.val, by omega⟩)) (v53 (ix2 0 ⟨256 + n.val, by omega⟩)) := by
  pointwise [k0_pay1, k0_pay14, k0_pay4]
  rw [zero_sub]
  rfl

/-- What is read of the whole scratch after the loop. -/
theorem scratch (P : FVec Ideal S512x2048 .f32) (L : List (View.Piece (Elt Ideal) S512x2048 .f32)) :
    (View.whole cc0_scratch0).readCov (L ++ [⟨Rect.unit (s := S512x2048) ![0, 0] ![512, 2048] inb_S512x2048_S512x2048_0_0, P⟩])
      (Rect.unit (s := S512x2048) ![0, 0] ![512, 2048] inb_S512x2048_S512x2048_0_0).toLoadRect = held P L := by
  funext y
  unfold View.readCov held entry
  rw [View.writes_append, View.readAt_apply]
  refine congrArg _ ?_
  funext d
  apply Fin.ext
  match d with
  | ⟨0, _⟩ => show 0 + 1 * (y 0).val = (y 0).val; omega
  | ⟨1, _⟩ => show 0 + 1 * (y 1).val = (y 1).val; omega

variable (c : Dev nD) (t : Fin cfg0.N) (x0 : Vec Ideal S1x512x256 .f32) (x1 : Vec Ideal S1x8x2048 .f32) (x2 : Vec Ideal S256x2048 .bf16) (x4 : Vec Ideal S8x2048 .f32)

/-- A block's drives. -/
abbrev Pd : FVec Ideal S512x2048 .f32 := k0_pay5 x0 x2

/-- The real and imaginary parts of the decay. -/
abbrev Ar : Vec Ideal S8x1024 .f32 := View.ld x4 (Rect.unit (s := S8x2048) ![0, 0] ![8, 1024] inb_S8x2048_S8x1024_0_0)
abbrev Ai : Vec Ideal S8x1024 .f32 := View.ld x4 (Rect.unit (s := S8x2048) ![0, 1024] ![8, 1024] inb_S8x2048_S8x1024_0_1024)

/-- The states at the start, real and imaginary parts. -/
abbrev H0 : Vec Ideal S8x1024 .f32 × Vec Ideal S8x1024 .f32 :=
  ((View.whole cc0_scratch1).readCov [⟨Rect.unit (s := S8x2048) ![0, 0] ![8, 2048] inb_S8x2048_S8x2048_0_0, k0_pay3 x1⟩] (Rect.unit (s := S8x2048) ![0, 0] ![8, 1024] inb_S8x2048_S8x1024_0_0).toLoadRect,
   (View.whole cc0_scratch1).readCov [⟨Rect.unit (s := S8x2048) ![0, 0] ![8, 2048] inb_S8x2048_S8x2048_0_0, k0_pay3 x1⟩] (Rect.unit (s := S8x2048) ![0, 1024] ![8, 1024] inb_S8x2048_S8x1024_0_1024).toLoadRect)

/-- What the loop leaves at a block. -/
def endSt : (Vec Ideal S8x1024 .f32 × Vec Ideal S8x1024 .f32) × List (View.Piece (Elt Ideal) S512x2048 .f32) :=
  st c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    scM0_1 (Memref.isWhole_whole _) (Ar x4) (Ai x4) (Pd x0 x2) (H0 x1) 64

/-- A block's mode of a stream after `k` steps. -/
def modeAt (s : Fin 8) (j : Fin 1024) : ℕ → EReal × EReal :=
  mode (x4 (ix2 s (lo j) : S8x2048.Idx)) (x4 (ix2 s (hi j) : S8x2048.Idx))
    (fun k => ∑ i : Fin 256, (x0 (ix3 0 (row k s) i : S1x512x256.Idx) : EReal) * x2 (ix2 i (lo j) : S256x2048.Idx))
    (fun k => ∑ i : Fin 256, (x0 (ix3 0 (row k s) i : S1x512x256.Idx) : EReal) * x2 (ix2 i (hi j) : S256x2048.Idx))
    (x1 (ix3 0 s (lo j) : S1x8x2048.Idx), x1 (ix3 0 s (hi j) : S1x8x2048.Idx))

/-- The initial states as scratch holds them. -/
theorem pay3_apply (v : Vec Ideal S1x8x2048 .f32) (s : Fin 8) (j : Fin 2048) : k0_pay3 (F := Ideal) v (ix2 s j) = v (ix3 0 s j) := by
  pointwise [k0_pay3]

/-- Where the rows of the first half lie. -/
theorem lo_idx (s : Fin 8) (j : Fin 1024) : (Rect.unit (s := S8x2048) ![0, 0] ![8, 1024] inb_S8x2048_S8x1024_0_0).toLoadRect.idx (ix2 s j) = (ix2 s (lo j) : S8x2048.Idx) := by
  funext d
  apply Fin.ext
  match d with
  | ⟨0, _⟩ => show 0 + 1 * s.val = s.val; omega
  | ⟨1, _⟩ => show 0 + 1 * j.val = j.val; omega

/-- Where the rows of the second half lie. -/
theorem hi_idx (s : Fin 8) (j : Fin 1024) : (Rect.unit (s := S8x2048) ![0, 1024] ![8, 1024] inb_S8x2048_S8x1024_0_1024).toLoadRect.idx (ix2 s j) = (ix2 s (hi j) : S8x2048.Idx) := by
  funext d
  apply Fin.ext
  match d with
  | ⟨0, _⟩ => show 0 + 1 * s.val = s.val; omega
  | ⟨1, _⟩ => show 1024 + 1 * j.val = 1024 + j.val; omega

/-- The second scratch after one store of the whole. -/
theorem look1 (v : Vec Ideal S1x8x2048 .f32) (s : Fin 8) (j : Fin 2048) :
    (View.whole cc0_scratch1).read (Elt Ideal) ((View.whole cc0_scratch1).writes (Elt Ideal) (View.whole cc0_scratch1).junk
      [⟨Rect.unit (s := S8x2048) ![0, 0] ![8, 2048] inb_S8x2048_S8x2048_0_0, k0_pay3 v⟩]) (ix2 s j : S8x2048.Idx) = (v (ix3 0 s j) : EReal) :=
  (View.read_writes_cons_unit_of_mem (Val := Elt Ideal) (View.whole cc0_scratch1) (View.whole cc0_scratch1).junk inb_S8x2048_S8x2048_0_0 (k0_pay3 v) [] (ix2 s j) (ix2 s j) rfl
    fun d => match d with | ⟨0, _⟩ => (Nat.zero_add s.val).symm | ⟨1, _⟩ => (Nat.zero_add j.val).symm).trans (pay3_apply v s j)

/-- A read of the second scratch, at an element. -/
theorem cov1 (L : List (View.Piece (Elt Ideal) S8x2048 .f32)) (off : Fin 2 → ℕ) (size : Fin 2 → ℕ) (inb : ∀ a, off a + size a ≤ S8x2048.size a) (x : (Rect.unit (s := S8x2048) off size inb).toLoadRect.shape.Idx) (y : S8x2048.Idx)
    (h : (Rect.unit (s := S8x2048) off size inb).toLoadRect.idx x = y) :
    (View.whole cc0_scratch1).readCov L (Rect.unit (s := S8x2048) off size inb).toLoadRect x
      = (View.whole cc0_scratch1).read (Elt Ideal) ((View.whole cc0_scratch1).writes (Elt Ideal) (View.whole cc0_scratch1).junk L) y := by
  unfold View.readCov
  rw [View.readAt_apply, h]

/-- The states at the start, at an element. -/
theorem H0_fst (s : Fin 8) (j : Fin 1024) : ((H0 x1).1 (ix2 s j) : EReal) = x1 (ix3 0 s (lo j) : S1x8x2048.Idx) := by
  dsimp only [H0]
  exact (cov1 _ _ _ _ _ _ (lo_idx s j)).trans (look1 x1 s (lo j))

/-- The states at the start, at an element. -/
theorem H0_snd (s : Fin 8) (j : Fin 1024) : ((H0 x1).2 (ix2 s j) : EReal) = x1 (ix3 0 s (hi j) : S1x8x2048.Idx) := by
  dsimp only [H0]
  exact (cov1 _ _ _ _ _ _ (hi_idx s j)).trans (look1 x1 s (hi j))

/-- The loop's modes, from the staged blocks. -/
theorem run_eq (s : Fin 8) (j : Fin 1024) : run (Ar x4) (Ai x4) (Pd x0 x2) (H0 x1) s j = modeAt x0 x1 x2 x4 s j := by
  unfold run modeAt
  have e1 : Ar x4 (ix2 s j) = x4 (ix2 s (lo j) : S8x2048.Idx) := congrArg x4 (lo_idx s j)
  have e2 : Ai x4 (ix2 s j) = x4 (ix2 s (hi j) : S8x2048.Idx) := congrArg x4 (hi_idx s j)
  rw [e1, e2, H0_fst, H0_snd]
  refine congrArg₂ (fun x y => mode _ _ x y _) (funext fun k => pay5_apply _ _ _ _) (funext fun k => pay5_apply _ _ _ _)

/-- The states that the read-out finds. -/
def states (r : Fin 512) (j : Fin 2048) : EReal := held (Pd x0 x2) (endSt c t x0 x1 x2 x4).2 (ix2 r j)

/-- What the loop leaves, from the staged blocks: the final states, and in each row of scratch the states after its step. -/
theorem ends : (∀ s j, ((endSt c t x0 x1 x2 x4).1.1 (ix2 s j) : EReal) = (modeAt x0 x1 x2 x4 s j 64).1) ∧ (∀ s j, ((endSt c t x0 x1 x2 x4).1.2 (ix2 s j) : EReal) = (modeAt x0 x1 x2 x4 s j 64).2)
    ∧ (∀ q s j, q < 64 → states c t x0 x1 x2 x4 (row q s) (lo j) = (modeAt x0 x1 x2 x4 s j (q + 1)).1)
    ∧ (∀ q s j, q < 64 → states c t x0 x1 x2 x4 (row q s) (hi j) = (modeAt x0 x1 x2 x4 s j (q + 1)).2) := by
  obtain ⟨h1, h2, h3, h4, -⟩ := loop c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    scM0_1 (Memref.isWhole_whole _) (Ar x4) (Ai x4) (Pd x0 x2) (H0 x1) _ rfl 64 (le_refl _)
  exact ⟨fun s j => (h1 s j).trans (by rw [run_eq]), fun s j => (h2 s j).trans (by rw [run_eq]), fun q s j hq => (h3 q s j hq).trans (by rw [run_eq]), fun q s j hq => (h4 q s j hq).trans (by rw [run_eq])⟩

/-- One element of the first output block. -/
def outElem (x3 : Vec Ideal S2048x256 .bf16) (x5 : Vec Ideal S1x256 .f32) (x6 : Vec Ideal S256x512 .bf16) (x7 : Vec Ideal S1x512 .f32) (r : Fin 512) (n : Fin 256) : EReal :=
  glu (fun k => (∑ j : Fin 2048, states c t x0 x1 x2 x4 r j * x3 (ix2 j k)) + x5 (ix2 0 k) * x0 (ix3 0 r k))
    (fun k => x6 (ix2 k ⟨n.val, by omega⟩)) (fun k => x6 (ix2 k ⟨256 + n.val, by omega⟩)) (x7 (ix2 0 ⟨n.val, by omega⟩)) (x7 (ix2 0 ⟨256 + n.val, by omega⟩))

/-- The final states, as they are stored. -/
theorem pay2_apply (v : Vec Ideal S8x2048 .f32) (s : Fin 8) (j : Fin 2048) : k0_pay2 (F := Ideal) v (ix3 0 s j) = v (ix2 s j) := by
  pointwise [k0_pay2]

variable (m : (ℓ : Loc nD τ sig) → Buf (Elt Ideal) ℓ)

/-- The first output block. -/
theorem point_8 : (outsAt0 (F := Ideal) m c t).1 = k0_pay1 (k0_pay14 (k0_pay4 (iblk m c 0 t)) (held (Pd (iblk m c 0 t) (iblk m c 2 t)) (endSt c t (iblk m c 0 t) (iblk m c 1 t) (iblk m c 2 t) (iblk m c 4 t)).2) (iblk m c 3 t) (iblk m c 5 t) (iblk m c 6 t) (iblk m c 7 t)) := by
  rw [← scratch]
  unfold outsAt0
  dsimp only
  unfold out0_A_8
  frame_out
  rfl

/-- The second output block. -/
theorem point_9 : (outsAt0 (F := Ideal) m c t).2 = k0_pay2 (F := Ideal) ((View.whole cc0_scratch1).readCov
    [⟨Rect.unit (s := S8x2048) ![0, 1024] ![8, 1024] inb_S8x2048_S8x1024_0_1024, k0_pay13 (endSt c t (iblk m c 0 t) (iblk m c 1 t) (iblk m c 2 t) (iblk m c 4 t)).1.2⟩, ⟨Rect.unit (s := S8x2048) ![0, 0] ![8, 1024] inb_S8x2048_S8x1024_0_0, k0_pay12 (endSt c t (iblk m c 0 t) (iblk m c 1 t) (iblk m c 2 t) (iblk m c 4 t)).1.1⟩,
      ⟨Rect.unit (s := S8x2048) ![0, 0] ![8, 2048] inb_S8x2048_S8x2048_0_0, k0_pay3 (iblk m c 1 t)⟩] (Rect.unit (s := S8x2048) ![0, 0] ![8, 2048] inb_S8x2048_S8x2048_0_0).toLoadRect) := by
  unfold outsAt0
  dsimp only
  unfold out0_A_9
  frame_out
  rfl

/-- The first output block, at an element. -/
theorem out8_apply (r : Fin 512) (n : Fin 256) : ((outsAt0 (F := Ideal) m c t).1 (ix3 0 r n) : EReal) =
    outElem c t (iblk m c 0 t) (iblk m c 1 t) (iblk m c 2 t) (iblk m c 4 t) (iblk m c 3 t) (iblk m c 5 t) (iblk m c 6 t) (iblk m c 7 t) r n := by
  rw [point_8]
  exact pay1_apply _ _ _ _ _ _ r n

/-- What scratch holds of the final states: the stores of the two halves hide what was there before. -/
theorem look2 (u v : Vec Ideal S8x1024 .f32) (s : Fin 8) (j : Fin 1024) (L : List (View.Piece (Elt Ideal) S8x2048 .f32)) :
    (View.whole cc0_scratch1).read (Elt Ideal) ((View.whole cc0_scratch1).writes (Elt Ideal) (View.whole cc0_scratch1).junk
      (⟨Rect.unit (s := S8x2048) ![0, 1024] ![8, 1024] inb_S8x2048_S8x1024_0_1024, k0_pay13 v⟩ :: ⟨Rect.unit (s := S8x2048) ![0, 0] ![8, 1024] inb_S8x2048_S8x1024_0_0, k0_pay12 u⟩ :: L))
      (ix2 s (lo j) : S8x2048.Idx) = (u (ix2 s j) : EReal) :=
  (View.read_writes_cons_unit_of_not_mem (Val := Elt Ideal) (View.whole cc0_scratch1) (View.whole cc0_scratch1).junk inb_S8x2048_S8x1024_0_1024 (k0_pay13 v) _ (ix2 s (lo j)) rfl 1 (Or.inl j.isLt)).trans
    ((View.read_writes_cons_unit_of_mem (Val := Elt Ideal) (View.whole cc0_scratch1) (View.whole cc0_scratch1).junk inb_S8x2048_S8x1024_0_0 (k0_pay12 u) L (ix2 s (lo j)) (ix2 s j) rfl
      fun d => match d with | ⟨0, _⟩ => (Nat.zero_add s.val).symm | ⟨1, _⟩ => (Nat.zero_add j.val).symm).trans (congrFun (cast_self u _) _))

/-- The same of the imaginary parts. -/
theorem look3 (v : Vec Ideal S8x1024 .f32) (s : Fin 8) (j : Fin 1024) (L : List (View.Piece (Elt Ideal) S8x2048 .f32)) :
    (View.whole cc0_scratch1).read (Elt Ideal) ((View.whole cc0_scratch1).writes (Elt Ideal) (View.whole cc0_scratch1).junk
      (⟨Rect.unit (s := S8x2048) ![0, 1024] ![8, 1024] inb_S8x2048_S8x1024_0_1024, k0_pay13 v⟩ :: L)) (ix2 s (hi j) : S8x2048.Idx) = (v (ix2 s j) : EReal) :=
  (View.read_writes_cons_unit_of_mem (Val := Elt Ideal) (View.whole cc0_scratch1) (View.whole cc0_scratch1).junk inb_S8x2048_S8x1024_0_1024 (k0_pay13 v) L (ix2 s (hi j)) (ix2 s j) rfl
    fun d => match d with | ⟨0, _⟩ => (Nat.zero_add s.val).symm | ⟨1, _⟩ => rfl).trans (congrFun (cast_self v _) _)

/-- Where the whole of the second scratch lies. -/
theorem all_idx (s : Fin 8) (j : Fin 2048) : (Rect.unit (s := S8x2048) ![0, 0] ![8, 2048] inb_S8x2048_S8x2048_0_0).toLoadRect.idx (ix2 s j) = (ix2 s j : S8x2048.Idx) := by
  funext d
  apply Fin.ext
  match d with
  | ⟨0, _⟩ => show 0 + 1 * s.val = s.val; omega
  | ⟨1, _⟩ => show 0 + 1 * j.val = j.val; omega

/-- The second output block, at an element: real parts. -/
theorem out9_lo (s : Fin 8) (j : Fin 1024) : ((outsAt0 (F := Ideal) m c t).2 (ix3 0 s (lo j)) : EReal) = (modeAt (iblk m c 0 t) (iblk m c 1 t) (iblk m c 2 t) (iblk m c 4 t) s j 64).1 := by
  rw [point_9, pay2_apply]
  exact (cov1 _ _ _ _ _ _ (all_idx s (lo j))).trans ((look2 _ _ s j _).trans ((ends c t _ _ _ _).1 s j))

/-- The second output block, at an element: imaginary parts. -/
theorem out9_hi (s : Fin 8) (j : Fin 1024) : ((outsAt0 (F := Ideal) m c t).2 (ix3 0 s (hi j)) : EReal) = (modeAt (iblk m c 0 t) (iblk m c 1 t) (iblk m c 2 t) (iblk m c 4 t) s j 64).2 := by
  rw [point_9, pay2_apply]
  exact (cov1 _ _ _ _ _ _ (all_idx s (hi j))).trans ((look3 _ s j _).trans ((ends c t _ _ _ _).2.1 s j))

end Cert.S5Body
-- ==== Proof.S5Host.lean ====
module

public import proofs.«01_k».proof.Proof.S5Body
public import proofs.«01_k».proof.Proof.Gen.Reference7Ideal.Step
public import Idealize.ShloMosaic.Lib.KernelVsHost

/-! The s5 mixer: what the kernel's call finds in its arrays. -/

@[expose] public section

set_option maxRecDepth 16384

noncomputable section

namespace Cert.S5Host

open Idealize.ShloMosaic Idealize.ShloMosaic.TcCoe
open Cert.Kernel7Ideal Cert.Kernel7Ideal.Gen Cert.S5Math Cert.S5Loop

variable (m : (ℓ : Loc nD τ sig) → Buf (Elt Ideal) ℓ) (c : Dev nD)

/-- The arguments of a run. -/
abbrev U : S16x64x256.Idx → EReal := m ((c.tc : Thread nD τ).loc main_arg0)
abbrev Hr : S16x16x64.Idx → EReal := m ((c.tc : Thread nD τ).loc main_arg1)
abbrev Hi : S16x16x64.Idx → EReal := m ((c.tc : Thread nD τ).loc main_arg2)
abbrev Lr : S16x64.Idx → EReal := m ((c.tc : Thread nD τ).loc main_arg3)
abbrev Li : S16x64.Idx → EReal := m ((c.tc : Thread nD τ).loc main_arg4)
abbrev Ld : S16.Idx → EReal := m ((c.tc : Thread nD τ).loc main_arg5)
abbrev Br : S16x64x16.Idx → EReal := m ((c.tc : Thread nD τ).loc main_arg6)
abbrev Bi : S16x64x16.Idx → EReal := m ((c.tc : Thread nD τ).loc main_arg7)
abbrev Cr : S16x16x64.Idx → EReal := m ((c.tc : Thread nD τ).loc main_arg8)
abbrev Ci : S16x16x64.Idx → EReal := m ((c.tc : Thread nD τ).loc main_arg9)
abbrev D : S16x16.Idx → EReal := m ((c.tc : Thread nD τ).loc main_arg10)
abbrev Gw : S256x512.Idx → EReal := m ((c.tc : Thread nD τ).loc main_arg11)
abbrev Gb : S512.Idx → EReal := m ((c.tc : Thread nD τ).loc main_arg12)

/-- The decay of the modes and their input weights. -/
abbrev ar : S16x64.Idx → EReal := Cert.Reference7Ideal.Step.A_main_v9 (F := Ideal) (U m c) (Lr m c) (Li m c) (Ld m c) (Br m c) (Bi m c)
abbrev ai : S16x64.Idx → EReal := Cert.Reference7Ideal.Step.A_main_v13 (F := Ideal) (U m c) (Lr m c) (Li m c) (Ld m c) (Br m c) (Bi m c)
abbrev bbr : S16x64x16.Idx → EReal := Cert.Reference7Ideal.Step.A_main_v35 (F := Ideal) (U m c) (Lr m c) (Li m c) (Ld m c) (Br m c) (Bi m c)
abbrev bbi : S16x64x16.Idx → EReal := Cert.Reference7Ideal.Step.A_main_v42 (F := Ideal) (U m c) (Lr m c) (Li m c) (Ld m c) (Br m c) (Bi m c)

/-- Two arrays side by side, piece by piece. -/
theorem join {s u : Shape} (d : Fin u.rank) {a b a' b' : s.Idx → EReal} (h : Shape.Concatenates [s, s] u d) (ha : a = a') (hb : b = b') :
    concatenate u d [⟨s, a⟩, ⟨s, b⟩] h = concatenate u d [⟨s, a'⟩, ⟨s, b'⟩] h := by
  rw [ha, hb]

/-- One on the diagonal, zero off it. -/
def eye : S16x16.Idx → EReal :=
  uitofp (F := Ideal) .f32 (cmpi .eq (addi (iotaInDim S16x16 32 0) (broadcastInDim S16x16 ![] bcast_S_S16x16 (constantI S_ 32 0#32))) (iotaInDim S16x16 32 1))

/-- Weights on the diagonal blocks of a matrix: the groups' columns. -/
def wide (A : S16x64x16.Idx → EReal) : S256x1024.Idx → EReal :=
  shapeCast S256x1024 (mulf (F := Ideal) (φ := .f32)
    (broadcastInDim S16x16x16x64 ![0, 1, 2, 3] bcast_S16x16x1x64_S16x16x16x64_0_1_2_3 (broadcastInDim S16x16x1x64 ![0, 1, 3] bcast_S16x16x64_S16x16x1x64_0_1_3 (transpose S16x16x64 [0, 2, 1] A transposes_S16x64x16_S16x16x64_0_2_1)))
    (broadcastInDim S16x16x16x64 ![0, 1, 2, 3] bcast_S16x1x16x1_S16x16x16x64_0_1_2_3 (broadcastInDim S16x1x16x1 ![0, 2] bcast_S16x16_S16x1x16x1_0_2 eye)))
    shapeCasts_S16x16x16x64_S256x1024

/-- Weights on the diagonal blocks of a matrix: the groups' rows. -/
def tall (C : S16x16x64.Idx → EReal) : S1024x256.Idx → EReal :=
  shapeCast S1024x256 (mulf (F := Ideal) (φ := .f32)
    (broadcastInDim S16x64x16x16 ![0, 1, 2, 3] bcast_S16x64x1x16_S16x64x16x16_0_1_2_3 (broadcastInDim S16x64x1x16 ![0, 1, 3] bcast_S16x64x16_S16x64x1x16_0_1_3 (transpose S16x64x16 [0, 2, 1] C transposes_S16x16x64_S16x64x16_0_2_1)))
    (broadcastInDim S16x64x16x16 ![0, 1, 2, 3] bcast_S16x1x16x1_S16x64x16x16_0_1_2_3 (broadcastInDim S16x1x16x1 ![0, 2] bcast_S16x16_S16x1x16x1_0_2 eye)))
    shapeCasts_S16x64x16x16_S1024x256

/-- The rows' order of the call: the streams of a block side by side at each step. -/
theorem V_u (i : Fin 2) (q : Fin 64) (s : Fin 8) (k : Fin 256) : (V m c main_v91 : S2x512x256.Idx → EReal) (ix3 i ⟨8 * q.val + s.val, by omega⟩ k) = U m c (ix3 ⟨8 * i.val + s.val, by omega⟩ q k) := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  show shapeCast S2x512x256 (transpose S2x64x8x256 [0, 2, 1, 3] (shapeCast S2x8x64x256 (U m c) shapeCasts_S16x64x256_S2x8x64x256)
    transposes_S2x8x64x256_S2x64x8x256_0_2_1_3) shapeCasts_S2x64x8x256_S2x512x256 _ = _
  refine (shapeCast_apply _ shapeCasts_S2x64x8x256_S2x512x256 _ (ix4 i q s k) ?_).trans ?_
  · rw [Shape.rowMajor_val_four, Shape.rowMajor_val_three]
    show ((i.val * 64 + q.val) * 8 + s.val) * 256 + k.val = (i.val * 512 + (8 * q.val + s.val)) * 256 + k.val
    omega
  refine (transpose_apply [0, 2, 1, 3] _ transposes_S2x8x64x256_S2x64x8x256_0_2_1_3 _ (ix4 i s q k) ?_).trans ?_
  · intro b
    match b with
    | ⟨0, _⟩ => rfl
    | ⟨1, _⟩ => rfl
    | ⟨2, _⟩ => rfl
    | ⟨3, _⟩ => rfl
  refine shapeCast_apply _ shapeCasts_S16x64x256_S2x8x64x256 _ _ ?_
  rw [Shape.rowMajor_val_four, Shape.rowMajor_val_three]
  show ((8 * i.val + s.val) * 64 + q.val) * 256 + k.val = ((i.val * 8 + s.val) * 64 + q.val) * 256 + k.val
  omega

/-- The weights of the gate. -/
theorem V_gw : (V m c main_v93 : S256x512.Idx → EReal) = Gw m c := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- The input weights. -/
theorem V_bb : (V m c main_v63 : S256x2048.Idx → EReal) =
    concatenate S256x2048 1 [⟨S256x1024, wide (bbr m c)⟩, ⟨S256x1024, wide (bbi m c)⟩] concatenates_S256x1024_S256x1024_S256x2048_d1 := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  exact join (s := S256x1024) (u := S256x2048) 1 concatenates_S256x1024_S256x1024_S256x2048_d1 rfl rfl

/-- The read-out weights. -/
theorem V_cc : (V m c main_v80 : S2048x256.Idx → EReal) =
    concatenate S2048x256 0 [⟨S1024x256, tall (Cr m c)⟩, ⟨S1024x256, Host.negf (F := Ideal) (φ := .f32) (tall (Ci m c))⟩] concatenates_S1024x256_S1024x256_S2048x256_d0 := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  exact join (s := S1024x256) (u := S2048x256) 0 concatenates_S1024x256_S1024x256_S2048x256_d0 rfl rfl

/-- The decay, for each stream of a block. -/
theorem V_a : (V m c main_v85 : S8x2048.Idx → EReal) =
    broadcastInDim S8x2048 ![0, 1] bcast_S1x2048_S8x2048_0_1 (broadcastInDim S1x2048 ![1] bcast_S2048_S1x2048_1
      (concatenate S2048 0 [⟨S1024, shapeCast S1024 (ar m c) shapeCasts_S16x64_S1024⟩, ⟨S1024, shapeCast S1024 (ai m c) shapeCasts_S16x64_S1024⟩] concatenates_S1024_S1024_S2048_d0)) := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- The states before. -/
theorem V_h : (V m c main_v88 : S2x8x2048.Idx → EReal) =
    concatenate S2x8x2048 2 [⟨S2x8x1024, shapeCast S2x8x1024 (Hr m c) shapeCasts_S16x16x64_S2x8x1024⟩, ⟨S2x8x1024, shapeCast S2x8x1024 (Hi m c) shapeCasts_S16x16x64_S2x8x1024⟩]
      concatenates_S2x8x1024_S2x8x1024_S2x8x2048_d2 := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  rfl

/-- The direct weights. -/
theorem V_d (g k : Fin 16) : (V m c main_v92 : S1x256.Idx → EReal) (ix2 0 ⟨16 * g.val + k.val, by omega⟩) = D m c (ix2 g k) := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  refine shapeCast_apply (D m c) shapeCasts_S16x16_S1x256 (ix2 0 ⟨16 * g.val + k.val, by omega⟩) (ix2 g k) ?_
  rw [Shape.rowMajor_val_two, Shape.rowMajor_val_two]
  show g.val * 16 + k.val = 0 * 256 + (16 * g.val + k.val)
  omega

/-- The offsets of the gate. -/
theorem V_gb (k : Fin 512) : (V m c main_v94 : S1x512.Idx → EReal) (ix2 0 k) = Gb m c (ix1 k) := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results
  refine broadcastInDim_apply _ bcast_S512_S1x512_1 (Gb m c) (ix2 0 k) (ix1 k) (fun a => ?_)
  match a with
  | ⟨0, _⟩ => rfl

end Cert.S5Host
-- ==== Proof.S5Ref.lean ====
module

public import proofs.«01_k».proof.Proof.S5Math
public import proofs.«01_k».proof.Proof.Gen.Reference7Ideal.Step
public import Idealize.ShloMosaic.Lib.KernelVsHost
public import Idealize.ShloMosaic.Lib.WordCmp
public import Idealize.ShloMosaic.Lib.ValueIdx
public import Idealize.ShloMosaic.Lib.Pointwise.Tactic
public import Idealize.ShloMosaic.PureOps.Ideal.Laws

/-! The s5 mixer: what the reference computes, at an element. -/

@[expose] public section

set_option maxRecDepth 16384

noncomputable section

namespace Cert.S5Ref

open Idealize.ShloMosaic Idealize.ShloMosaic.TcCoe
open Cert.Reference7Ideal Cert.Reference7Ideal.Gen Cert.Reference7Ideal.Step Cert.S5Math

/-- A step's number as the loop counts it. -/
theorem count (j : ℕ) (hj : j < 64) : (BitVec.ofNat 32 j).toInt = (j : Int) :=
  (by decide : ∀ k : Fin 64, (BitVec.ofNat 32 k.val).toInt = (k.val : Int)) ⟨j, hj⟩

/-- One time step lies inside of the array over all steps. -/
theorem inside (j : ℕ) (hj : j < 64) : S64x16x16x64.Slices ![j, 0, 0, 0] S1x16x16x64 :=
  ⟨rfl, fun a => match a with
    | ⟨0, _⟩ => (by omega : j + 1 ≤ 64)
    | ⟨1, _⟩ => (by decide : 0 + 16 ≤ 16)
    | ⟨2, _⟩ => (by decide : 0 + 16 ≤ 16)
    | ⟨3, _⟩ => (by decide : 0 + 64 ≤ 64)⟩

/-- One time step of an array over all steps. -/
theorem slice_apply (x : S64x16x16x64.Idx → EReal) (st : Fin 4 → Int) (h : S64x16x16x64.Slices (fun _ => 0) S1x16x16x64) (h' : S1x16x16x64.ShapeCasts S16x16x64) (j : ℕ) (hj : j < 64)
    (e : ∀ a, st a = ((![j, 0, 0, 0] : Fin 4 → ℕ) a : Int)) (b g : Fin 16) (n : Fin 64) :
    shapeCast S16x16x64 (Host.dynamicSlice S1x16x16x64 x st h) h' (ix3 b g n) = x (ix4 ⟨j, hj⟩ b g n) := by
  refine (shapeCast_apply _ h' (ix3 b g n) (ix4 0 b g n) ?_).trans ?_
  · rw [Shape.rowMajor_val_four, Shape.rowMajor_val_three]
    show ((0 * 16 + b.val) * 16 + g.val) * 64 + n.val = (b.val * 16 + g.val) * 64 + n.val
    omega
  · rw [WordCmp.dynamicSlice_eq_extract S1x16x16x64 x st h ![j, 0, 0, 0] (inside j hj) e]
    refine extractStridedSlice_apply _ x _ (ix4 0 b g n) (ix4 ⟨j, hj⟩ b g n) (fun a => ?_)
    match a with
    | ⟨0, _⟩ => show j = j + 0; omega
    | ⟨1, _⟩ => show b.val = 0 + b.val; omega
    | ⟨2, _⟩ => show g.val = 0 + g.val; omega
    | ⟨3, _⟩ => show n.val = 0 + n.val; omega

/-- An array over all steps with one time step put in. -/
theorem update_apply (x : S64x16x16x64.Idx → EReal) (u : S16x16x64.Idx → EReal) (st : Fin 4 → Int) (h : S64x16x16x64.Slices (fun _ => 0) S1x16x16x64) (j : ℕ) (hj : j < 64)
    (e : ∀ a, st a = ((![j, 0, 0, 0] : Fin 4 → ℕ) a : Int)) (k : Fin 64) (b g : Fin 16) (n : Fin 64) :
    Host.dynamicUpdateSlice x (broadcastInDim S1x16x16x64 ![1, 2, 3] bcast_S16x16x64_S1x16x16x64_1_2_3 u) st h (ix4 k b g n) =
      if k.val = j then u (ix3 b g n) else x (ix4 k b g n) := by
  rw [WordCmp.dynamicUpdateSlice_eq_update x _ st h ![j, 0, 0, 0] (inside j hj) e]
  unfold updateSlice
  by_cases hk : k.val = j
  · rw [if_pos hk, dif_pos (fun a => match a with
      | ⟨0, _⟩ => (by omega : j ≤ k.val ∧ k.val < j + 1)
      | ⟨1, _⟩ => (by omega : 0 ≤ b.val ∧ b.val < 0 + 16)
      | ⟨2, _⟩ => (by omega : 0 ≤ g.val ∧ g.val < 0 + 16)
      | ⟨3, _⟩ => (by omega : 0 ≤ n.val ∧ n.val < 0 + 64))]
    refine broadcastInDim_apply _ bcast_S16x16x64_S1x16x16x64_1_2_3 u _ (ix3 b g n) (fun a => ?_)
    match a with
    | ⟨0, _⟩ => rfl
    | ⟨1, _⟩ => rfl
    | ⟨2, _⟩ => rfl
  · rw [if_neg hk, dif_neg]
    intro H
    have := H ⟨0, by decide⟩
    have : j ≤ k.val ∧ k.val < j + 1 := this
    omega

variable (j : ℕ) (hj : j < 64) (s : State Ideal) (b g : Fin 16) (n : Fin 64)

theorem b4_apply : b4 j s (ix3 b g n) = s.main_v51_0 (ix4 ⟨j, hj⟩ b g n) := by
  unfold b4 b3
  refine slice_apply s.main_v51_0 _ _ _ j hj (fun a => ?_) b g n
  match a with
  | ⟨0, _⟩ => exact count j hj
  | ⟨1, _⟩ => rfl
  | ⟨2, _⟩ => rfl
  | ⟨3, _⟩ => rfl

theorem b9_apply : b9 j s (ix3 b g n) = s.main_v51_1 (ix4 ⟨j, hj⟩ b g n) := by
  unfold b9 b8
  refine slice_apply s.main_v51_1 _ _ _ j hj (fun a => ?_) b g n
  match a with
  | ⟨0, _⟩ => exact count j hj
  | ⟨1, _⟩ => rfl
  | ⟨2, _⟩ => rfl
  | ⟨3, _⟩ => rfl

/-- The real parts after a step. -/
theorem b17_apply : b17 j s (ix3 b g n) = s.main_v51_2 (ix2 g n) * s.main_v51_5 (ix3 b g n) - s.main_v51_3 (ix2 g n) * s.main_v51_6 (ix3 b g n) + s.main_v51_0 (ix4 ⟨j, hj⟩ b g n) := by
  rw [← b4_apply j hj s b g n]
  unfold b17 b16 b12 b11 b10 b15 b14 b13
  pointwise

/-- The imaginary parts after a step. -/
theorem b25_apply : b25 j s (ix3 b g n) = s.main_v51_2 (ix2 g n) * s.main_v51_6 (ix3 b g n) + s.main_v51_3 (ix2 g n) * s.main_v51_5 (ix3 b g n) + s.main_v51_1 (ix4 ⟨j, hj⟩ b g n) := by
  rw [← b9_apply j hj s b g n]
  unfold b25 b24 b20 b19 b18 b23 b22 b21
  pointwise

include hj in
theorem b30_apply (k : Fin 64) : b30 j s (ix4 k b g n) = if k.val = j then b17 j s (ix3 b g n) else s.main_v51_7 (ix4 k b g n) := by
  unfold b30 b26
  refine update_apply s.main_v51_7 (b17 j s) _ _ j hj (fun a => ?_) k b g n
  match a with
  | ⟨0, _⟩ => exact count j hj
  | ⟨1, _⟩ => rfl
  | ⟨2, _⟩ => rfl
  | ⟨3, _⟩ => rfl

include hj in
theorem b35_apply (k : Fin 64) : b35 j s (ix4 k b g n) = if k.val = j then b25 j s (ix3 b g n) else s.main_v51_8 (ix4 k b g n) := by
  unfold b35 b31
  refine update_apply s.main_v51_8 (b25 j s) _ _ j hj (fun a => ?_) k b g n
  match a with
  | ⟨0, _⟩ => exact count j hj
  | ⟨1, _⟩ => rfl
  | ⟨2, _⟩ => rfl
  | ⟨3, _⟩ => rfl

/-- The states of the loop. -/
def it (s : State Ideal) : ℕ → State Ideal
  | 0 => s
  | k + 1 => step k (it s k)

/-- A mode by the reference's arrays. -/
def modeOf (s : State Ideal) (b g : Fin 16) (n : Fin 64) : ℕ → EReal × EReal :=
  mode (s.main_v51_2 (ix2 g n)) (s.main_v51_3 (ix2 g n)) (fun k => if hk : k < 64 then s.main_v51_0 (ix4 ⟨k, hk⟩ b g n) else 0)
    (fun k => if hk : k < 64 then s.main_v51_1 (ix4 ⟨k, hk⟩ b g n) else 0) (s.main_v51_5 (ix3 b g n), s.main_v51_6 (ix3 b g n))

/-- What the loop leaves alone. -/
theorem it_same (k : ℕ) : (it s k).main_v51_0 = s.main_v51_0 ∧ (it s k).main_v51_1 = s.main_v51_1 ∧ (it s k).main_v51_2 = s.main_v51_2 ∧ (it s k).main_v51_3 = s.main_v51_3 := by
  induction k with
  | zero => exact ⟨rfl, rfl, rfl, rfl⟩
  | succ k ih => exact ih

/-- The modes after `k` steps. -/
theorem it_modes (k : ℕ) (hk : k ≤ 64) : (it s k).main_v51_5 (ix3 b g n) = (modeOf s b g n k).1 ∧ (it s k).main_v51_6 (ix3 b g n) = (modeOf s b g n k).2 := by
  induction k with
  | zero => exact ⟨rfl, rfl⟩
  | succ k ih =>
    have hk' : k < 64 := by omega
    obtain ⟨h0, h1, h2, h3⟩ := it_same s k
    obtain ⟨h5, h6⟩ := ih (by omega)
    constructor
    · show b17 k (it s k) (ix3 b g n) = _
      rw [b17_apply k hk', h0, h2, h3, h5, h6]
      unfold modeOf
      rw [mode]
      dsimp only
      rw [dif_pos hk']
    · show b25 k (it s k) (ix3 b g n) = _
      rw [b25_apply k hk', h1, h2, h3, h5, h6]
      unfold modeOf
      rw [mode]
      dsimp only
      rw [dif_pos hk']

/-- All states, as far as the loop has come. -/
theorem it_all (k : ℕ) (hk : k ≤ 64) (q : Fin 64) (hq : q.val < k) :
    (it s k).main_v51_7 (ix4 q b g n) = (modeOf s b g n (q.val + 1)).1 ∧ (it s k).main_v51_8 (ix4 q b g n) = (modeOf s b g n (q.val + 1)).2 := by
  induction k with
  | zero => omega
  | succ k ih =>
    have hk' : k < 64 := by omega
    obtain ⟨h5, h6⟩ := it_modes s b g n (k + 1) hk
    constructor
    · show b30 k (it s k) (ix4 q b g n) = _
      rw [b30_apply k hk']
      by_cases e : q.val = k
      · rw [if_pos e, e]; exact h5
      · rw [if_neg e]; exact (ih (by omega) (by omega)).1
    · show b35 k (it s k) (ix4 q b g n) = _
      rw [b35_apply k hk']
      by_cases e : q.val = k
      · rw [if_pos e, e]; exact h6
      · rw [if_neg e]; exact (ih (by omega) (by omega)).2

end Cert.S5Ref
-- ==== Proof.S5Out.lean ====
module

public import proofs.«01_k».proof.Proof.S5Ref
public import Idealize.ShloMosaic.Lib.Pointwise

/-! The s5 mixer: the reference's results of its last state, at an element. -/

@[expose] public section

set_option maxRecDepth 16384

noncomputable section

namespace Cert.S5Ref

open Idealize.ShloMosaic Idealize.ShloMosaic.TcCoe
open Cert.Reference7Ideal Cert.Reference7Ideal.Gen Cert.Reference7Ideal.Step Cert.S5Math

variable (P Q : S64x16x16x64.Idx → EReal) (U : S16x64x256.Idx → EReal) (Cr Ci : S16x16x64.Idx → EReal) (D : S16x16.Idx → EReal) (W : S256x512.Idx → EReal) (B : S512.Idx → EReal)

/-- The modes' read-out with the direct term. -/
def readout : S16x64x256.Idx → EReal :=
  shapeCast S16x64x256 (addf (F := Ideal) (φ := .f32) (addf (F := Ideal) (φ := .f32) (transpose S16x64x16x16 [3, 2, 0, 1] (Host.dotGeneral (F := Ideal) (φ₁ := .f32) (φ₂ := .f32) dot_S16x16x64_S64x16x16x64_S16x16x64x16_2_3_1_01_0_2 none Cr P) transposes_S16x16x64x16_S16x64x16x16_3_2_0_1) (transpose S16x64x16x16 [3, 2, 0, 1] (Host.dotGeneral (F := Ideal) (φ₁ := .f32) (φ₂ := .f32) dot_S16x16x64_S64x16x16x64_S16x16x64x16_2_3_1_01_0_2 none (Host.negf (F := Ideal) (φ := .f32) Ci) Q) transposes_S16x16x64x16_S16x64x16x16_3_2_0_1)) (mulf (F := Ideal) (φ := .f32) (broadcastInDim S16x64x16x16 ![0, 1, 2, 3] bcast_S1x1x16x16_S16x64x16x16_0_1_2_3 (broadcastInDim S1x1x16x16 ![2, 3] bcast_S16x16_S1x1x16x16_2_3 D)) (shapeCast S16x64x16x16 U shapeCasts_S16x64x256_S16x64x16x16))) shapeCasts_S16x64x16x16_S16x64x256

theorem readout_apply (b : Fin 16) (q : Fin 64) (g c : Fin 16) (k : Fin 256) (hk : k.val = 16 * g.val + c.val) :
    readout P Q U Cr Ci D (ix3 b q k) = (∑ n : Fin 64, Cr (ix3 g c n) * P (ix4 q b g n)) + (∑ n : Fin 64, -Ci (ix3 g c n) * Q (ix4 q b g n)) + D (ix2 g c) * U (ix3 b q k) := by
  unfold readout
  refine (shapeCast_apply _ shapeCasts_S16x64x16x16_S16x64x256 (ix3 b q k) (ix4 b q g c) ?_).trans ?_
  · rw [Shape.rowMajor_val_four, Shape.rowMajor_val_three]
    show ((b.val * 64 + q.val) * 16 + g.val) * 16 + c.val = (b.val * 64 + q.val) * 256 + k.val
    omega
  have e : shapeCast S16x64x16x16 U shapeCasts_S16x64x256_S16x64x16x16 (ix4 b q g c) = U (ix3 b q k) := by
    refine shapeCast_apply _ shapeCasts_S16x64x256_S16x64x16x16 _ _ ?_
    rw [Shape.rowMajor_val_four, Shape.rowMajor_val_three]
    show (b.val * 64 + q.val) * 256 + k.val = ((b.val * 64 + q.val) * 16 + g.val) * 16 + c.val
    omega
  rw [← e]
  generalize shapeCast S16x64x16x16 U shapeCasts_S16x64x256_S16x64x16x16 = U'
  pointwise

/-- The gelu of each element. -/
def gelled (y : S16x64x256.Idx → EReal) : S16x64x256.Idx → EReal :=
  mulf (F := Ideal) (φ := .f32) y (mulf (F := Ideal) (φ := .f32) (broadcastInDim S16x64x256 ![] bcast_S_S16x64x256 (constant (F := Ideal) S_ .f32 0x3F000000#32)) (addf (F := Ideal) (φ := .f32) (broadcastInDim S16x64x256 ![] bcast_S_S16x64x256 (constant (F := Ideal) S_ .f32 0x3F800000#32)) (Host.tanh (F := Ideal) (φ := .f32) (mulf (F := Ideal) (φ := .f32) (broadcastInDim S16x64x256 ![] bcast_S_S16x64x256 (constant (F := Ideal) S_ .f32 0x3F4C422A#32)) (addf (F := Ideal) (φ := .f32) y (mulf (F := Ideal) (φ := .f32) (broadcastInDim S16x64x256 ![] bcast_S_S16x64x256 (constant (F := Ideal) S_ .f32 0x3D372713#32)) (mulf (F := Ideal) (φ := .f32) (mulf (F := Ideal) (φ := .f32) y y) y)))))))

theorem gelled_apply (y : S16x64x256.Idx → EReal) (b : Fin 16) (q : Fin 64) (k : Fin 256) : gelled y (ix3 b q k) = gelu (y (ix3 b q k)) := by
  unfold gelled gelu
  pointwise
  rw [← mul_assoc, mul_comm (y (ix3 b q k))]

/-- The gating product. -/
def lin (y : S16x64x256.Idx → EReal) : S16x64x512.Idx → EReal :=
  addf (F := Ideal) (φ := .f32) (Host.dotGeneral (F := Ideal) (φ₁ := .f32) (φ₂ := .f32) dot_S16x64x256_S256x512_S16x64x512_2_0_01_1_n_n none (gelled y) W) (broadcastInDim S16x64x512 ![0, 1, 2] bcast_S1x1x512_S16x64x512_0_1_2 (broadcastInDim S1x1x512 ![2] bcast_S512_S1x1x512_2 B))

theorem lin_apply (y : S16x64x256.Idx → EReal) (b : Fin 16) (q : Fin 64) (k : Fin 512) :
    lin W B y (ix3 b q k) = (∑ i : Fin 256, gelu (y (ix3 b q i)) * W (ix2 i k)) + B (ix1 k) := by
  simp only [← gelled_apply]
  unfold lin
  generalize gelled y = z
  pointwise

/-- The first half of the product by the logistic function of the second. -/
def gate (l : S16x64x512.Idx → EReal) : S16x64x256.Idx → EReal :=
  mulf (F := Ideal) (φ := .f32) (extractStridedSlice S16x64x256 ![0, 0, 0] l slices_S16x64x512_S16x64x256_0_0_0) (Host.divf (F := Ideal) (φ := .f32) (broadcastInDim S16x64x256 ![] bcast_S_S16x64x256 (constant (F := Ideal) S_ .f32 0x3F800000#32)) (addf (F := Ideal) (φ := .f32) (broadcastInDim S16x64x256 ![] bcast_S_S16x64x256 (constant (F := Ideal) S_ .f32 0x3F800000#32)) (Host.exp (F := Ideal) (φ := .f32) (Host.negf (F := Ideal) (φ := .f32) (extractStridedSlice S16x64x256 ![0, 0, 256] l slices_S16x64x512_S16x64x256_0_0_256)))))

theorem gate_apply (l : S16x64x512.Idx → EReal) (b : Fin 16) (q : Fin 64) (k : Fin 256) :
    gate l (ix3 b q k) = l (ix3 b q ⟨k.val, by omega⟩) * Ideal.div 1 (1 + Ideal.exp (-l (ix3 b q ⟨256 + k.val, by omega⟩))) := by
  unfold gate
  pointwise

theorem out_eq (s : State Ideal) : R_main_v92 (F := Ideal) s U Cr Ci D W B =
    shapeCast S2x512x256 (transpose S2x64x8x256 [0, 2, 1, 3] (shapeCast S2x8x64x256 (gate (lin W B (readout s.main_v51_7 s.main_v51_8 U Cr Ci D)))
      shapeCasts_S16x64x256_S2x8x64x256) transposes_S2x8x64x256_S2x64x8x256_0_2_1_3) shapeCasts_S2x64x8x256_S2x512x256 := by
  unfold R_main_v92
  rfl

theorem out_apply (s : State Ideal) (i : Fin 2) (q : Fin 64) (r : Fin 8) (n : Fin 256) : R_main_v92 (F := Ideal) s U Cr Ci D W B (ix3 i ⟨8 * q.val + r.val, by omega⟩ n) =
    glu (fun k => readout s.main_v51_7 s.main_v51_8 U Cr Ci D (ix3 ⟨8 * i.val + r.val, by omega⟩ q k)) (fun k => W (ix2 k ⟨n.val, by omega⟩)) (fun k => W (ix2 k ⟨256 + n.val, by omega⟩))
      (B (ix1 ⟨n.val, by omega⟩)) (B (ix1 ⟨256 + n.val, by omega⟩)) := by
  rw [out_eq]
  refine (shapeCast_apply _ shapeCasts_S2x64x8x256_S2x512x256 _ (ix4 i q r n) ?_).trans ?_
  · rw [Shape.rowMajor_val_four, Shape.rowMajor_val_three]
    show ((i.val * 64 + q.val) * 8 + r.val) * 256 + n.val = (i.val * 512 + (8 * q.val + r.val)) * 256 + n.val
    omega
  refine (transpose_apply [0, 2, 1, 3] _ transposes_S2x8x64x256_S2x64x8x256_0_2_1_3 _ (ix4 i r q n) ?_).trans ?_
  · intro b
    match b with
    | ⟨0, _⟩ => rfl
    | ⟨1, _⟩ => rfl
    | ⟨2, _⟩ => rfl
    | ⟨3, _⟩ => rfl
  refine (shapeCast_apply _ shapeCasts_S16x64x256_S2x8x64x256 _ (ix3 ⟨8 * i.val + r.val, by omega⟩ q n) ?_).trans ?_
  · rw [Shape.rowMajor_val_four, Shape.rowMajor_val_three]
    show ((8 * i.val + r.val) * 64 + q.val) * 256 + n.val = ((i.val * 8 + r.val) * 64 + q.val) * 256 + n.val
    omega
  rw [gate_apply, lin_apply, lin_apply]
  rfl

/-- The last states, one after the other. -/
theorem last_eq (s : State Ideal) : R_main_v95 (F := Ideal) s =
    concatenate S2x8x2048 2 [⟨S2x8x1024, shapeCast S2x8x1024 s.main_v51_5 shapeCasts_S16x16x64_S2x8x1024⟩, ⟨S2x8x1024, shapeCast S2x8x1024 s.main_v51_6 shapeCasts_S16x16x64_S2x8x1024⟩] concatenates_S2x8x1024_S2x8x1024_S2x8x2048_d2 := by
  unfold R_main_v95
  rfl

/-- The drives' real parts: the input through the input weights. -/
theorem drive_re (Lr Li : S16x64.Idx → EReal) (Ld : S16.Idx → EReal) (Br Bi : S16x64x16.Idx → EReal) (k : Fin 64) (b g : Fin 16) (n : Fin 64) :
    A_main_v47 (F := Ideal) U Lr Li Ld Br Bi (ix4 k b g n) =
      ∑ c : Fin 16, A_main_v35 (F := Ideal) U Lr Li Ld Br Bi (ix3 g n c) * U (ix3 b k ⟨16 * g.val + c.val, by omega⟩) := by
  have e : ∀ c : Fin 16, U (ix3 b k ⟨16 * g.val + c.val, by omega⟩) = A_main_v0 (F := Ideal) U Lr Li Ld Br Bi (ix4 b k g c) := fun c => by
    unfold A_main_v0
    refine (shapeCast_apply U shapeCasts_S16x64x256_S16x64x16x16 _ _ ?_).symm
    rw [Shape.rowMajor_val_four, Shape.rowMajor_val_three]
    show (b.val * 64 + k.val) * 256 + (16 * g.val + c.val) = ((b.val * 64 + k.val) * 16 + g.val) * 16 + c.val
    omega
  simp only [e]
  unfold A_main_v47 A_main_v44 A_main_v43
  generalize A_main_v0 (F := Ideal) U Lr Li Ld Br Bi = x
  generalize A_main_v35 (F := Ideal) U Lr Li Ld Br Bi = y
  pointwise

/-- The drives' imaginary parts. -/
theorem drive_im (Lr Li : S16x64.Idx → EReal) (Ld : S16.Idx → EReal) (Br Bi : S16x64x16.Idx → EReal) (k : Fin 64) (b g : Fin 16) (n : Fin 64) :
    A_main_v48 (F := Ideal) U Lr Li Ld Br Bi (ix4 k b g n) =
      ∑ c : Fin 16, A_main_v42 (F := Ideal) U Lr Li Ld Br Bi (ix3 g n c) * U (ix3 b k ⟨16 * g.val + c.val, by omega⟩) := by
  have e : ∀ c : Fin 16, U (ix3 b k ⟨16 * g.val + c.val, by omega⟩) = A_main_v0 (F := Ideal) U Lr Li Ld Br Bi (ix4 b k g c) := fun c => by
    unfold A_main_v0
    refine (shapeCast_apply U shapeCasts_S16x64x256_S16x64x16x16 _ _ ?_).symm
    rw [Shape.rowMajor_val_four, Shape.rowMajor_val_three]
    show (b.val * 64 + k.val) * 256 + (16 * g.val + c.val) = ((b.val * 64 + k.val) * 16 + g.val) * 16 + c.val
    omega
  simp only [e]
  unfold A_main_v48 A_main_v46 A_main_v45
  generalize A_main_v0 (F := Ideal) U Lr Li Ld Br Bi = x
  generalize A_main_v42 (F := Ideal) U Lr Li Ld Br Bi = y
  pointwise

end Cert.S5Ref
-- ==== Proof.S5Blocks.lean ====
module

public import proofs.«01_k».proof.Proof.S5Host
public import proofs.«01_k».proof.Proof.S5Out
public import Idealize.ShloMosaic.Lib.Pointwise

/-! The s5 mixer: what the kernel's call finds in its arrays, at an element. -/

@[expose] public section

set_option maxRecDepth 16384

noncomputable section

namespace Cert.S5Host

open Idealize.ShloMosaic Idealize.ShloMosaic.TcCoe
open Cert.Kernel7Ideal Cert.Kernel7Ideal.Gen Cert.S5Math Cert.S5Loop

/-- The place of a group's mode among all modes. -/
def jj (g : Fin 16) (n : Fin 64) : Fin 1024 := ⟨64 * g.val + n.val, by omega⟩

/-- The place of a group's channel among all channels. -/
def kk (g c : Fin 16) : Fin 256 := ⟨16 * g.val + c.val, by omega⟩

theorem eye_self (g : Fin 16) : eye (ix2 g g) = 1 := by
  have e : ∀ g : Fin 16, cmpi .eq (addi (iotaInDim S16x16 32 0) (broadcastInDim S16x16 ![] bcast_S_S16x16 (constantI S_ 32 0#32))) (iotaInDim S16x16 32 1) (ix2 g g) = 1#1 := by
    decide +kernel
  unfold eye
  show FloatOps.uitofp (F := Ideal) .f32 (cmpi .eq (addi (iotaInDim S16x16 32 0) (broadcastInDim S16x16 ![] bcast_S_S16x16 (constantI S_ 32 0#32))) (iotaInDim S16x16 32 1) (ix2 g g)) = _
  rw [e]
  show (((1#1 : BitVec 1).toNat : ℝ) : EReal) = 1
  simp

theorem eye_off (g k : Fin 16) (h : g ≠ k) : eye (ix2 g k) = 0 := by
  have e : ∀ g k : Fin 16, g ≠ k → cmpi .eq (addi (iotaInDim S16x16 32 0) (broadcastInDim S16x16 ![] bcast_S_S16x16 (constantI S_ 32 0#32))) (iotaInDim S16x16 32 1) (ix2 g k) = 0#1 := by
    decide +kernel
  unfold eye
  show FloatOps.uitofp (F := Ideal) .f32 (cmpi .eq (addi (iotaInDim S16x16 32 0) (broadcastInDim S16x16 ![] bcast_S_S16x16 (constantI S_ 32 0#32))) (iotaInDim S16x16 32 1) (ix2 g k)) = _
  rw [e g k h]
  show (((0#1 : BitVec 1).toNat : ℝ) : EReal) = 0
  simp

theorem wide_apply (A : S16x64x16.Idx → EReal) (h c g : Fin 16) (n : Fin 64) : wide A (ix2 (kk h c) (jj g n)) = A (ix3 h n c) * eye (ix2 h g) := by
  unfold wide
  refine (shapeCast_apply _ shapeCasts_S16x16x16x64_S256x1024 _ (ix4 h c g n) ?_).trans ?_
  · rw [Shape.rowMajor_val_four, Shape.rowMajor_val_two]
    show ((h.val * 16 + c.val) * 16 + g.val) * 64 + n.val = (16 * h.val + c.val) * 1024 + (64 * g.val + n.val)
    omega
  generalize eye = E
  pointwise

theorem tall_apply (C : S16x16x64.Idx → EReal) (g k c : Fin 16) (n : Fin 64) : tall C (ix2 (jj g n) (kk k c)) = C (ix3 g c n) * eye (ix2 g k) := by
  unfold tall
  refine (shapeCast_apply _ shapeCasts_S16x64x16x16_S1024x256 _ (ix4 g n k c) ?_).trans ?_
  · rw [Shape.rowMajor_val_four, Shape.rowMajor_val_two]
    show ((g.val * 64 + n.val) * 16 + k.val) * 16 + c.val = (64 * g.val + n.val) * 256 + (16 * k.val + c.val)
    omega
  generalize eye = E
  pointwise

/-- Two matrices side by side, at an element of the first. -/
theorem cols_lo (A B : S256x1024.Idx → EReal) (i : Fin 256) (j : Fin 1024) :
    concatenate S256x2048 1 [⟨S256x1024, A⟩, ⟨S256x1024, B⟩] concatenates_S256x1024_S256x1024_S256x2048_d1 (ix2 i (lo j)) = A (ix2 i j) :=
  concatenate_apply_piece (1 : Fin S256x2048.rank) [⟨S256x1024, A⟩, ⟨S256x1024, B⟩] concatenates_S256x1024_S256x1024_S256x2048_d1 (ix2 i (lo j)) 0 (Nat.zero_lt_succ 1) S256x1024 A rfl rfl 0 rfl (ix2 i j)
    (fun b hb => match b with | ⟨0, _⟩ => rfl | ⟨1, _⟩ => absurd rfl hb) (Nat.zero_add _)

/-- Two matrices side by side, at an element of the second. -/
theorem cols_hi (A B : S256x1024.Idx → EReal) (i : Fin 256) (j : Fin 1024) :
    concatenate S256x2048 1 [⟨S256x1024, A⟩, ⟨S256x1024, B⟩] concatenates_S256x1024_S256x1024_S256x2048_d1 (ix2 i (hi j)) = B (ix2 i j) :=
  concatenate_apply_piece (1 : Fin S256x2048.rank) [⟨S256x1024, A⟩, ⟨S256x1024, B⟩] concatenates_S256x1024_S256x1024_S256x2048_d1 (ix2 i (hi j)) 1 (Nat.succ_lt_succ (Nat.zero_lt_succ 0)) S256x1024 B rfl rfl 1024 rfl (ix2 i j)
    (fun b hb => match b with | ⟨0, _⟩ => rfl | ⟨1, _⟩ => absurd rfl hb) rfl

theorem rows_lo (A B : S1024x256.Idx → EReal) (j : Fin 1024) (k : Fin 256) :
    concatenate S2048x256 0 [⟨S1024x256, A⟩, ⟨S1024x256, B⟩] concatenates_S1024x256_S1024x256_S2048x256_d0 (ix2 (lo j) k) = A (ix2 j k) :=
  concatenate_apply_piece (0 : Fin S2048x256.rank) [⟨S1024x256, A⟩, ⟨S1024x256, B⟩] concatenates_S1024x256_S1024x256_S2048x256_d0 (ix2 (lo j) k) 0 (Nat.zero_lt_succ 1) S1024x256 A rfl rfl 0 rfl (ix2 j k)
    (fun b hb => match b with | ⟨1, _⟩ => rfl | ⟨0, _⟩ => absurd rfl hb) (Nat.zero_add _)

theorem rows_hi (A B : S1024x256.Idx → EReal) (j : Fin 1024) (k : Fin 256) :
    concatenate S2048x256 0 [⟨S1024x256, A⟩, ⟨S1024x256, B⟩] concatenates_S1024x256_S1024x256_S2048x256_d0 (ix2 (hi j) k) = B (ix2 j k) :=
  concatenate_apply_piece (0 : Fin S2048x256.rank) [⟨S1024x256, A⟩, ⟨S1024x256, B⟩] concatenates_S1024x256_S1024x256_S2048x256_d0 (ix2 (hi j) k) 1 (Nat.succ_lt_succ (Nat.zero_lt_succ 0)) S1024x256 B rfl rfl 1024 rfl (ix2 j k)
    (fun b hb => match b with | ⟨1, _⟩ => rfl | ⟨0, _⟩ => absurd rfl hb) rfl

theorem line_lo (A B : S1024.Idx → EReal) (j : Fin 1024) :
    concatenate S2048 0 [⟨S1024, A⟩, ⟨S1024, B⟩] concatenates_S1024_S1024_S2048_d0 (ix1 (lo j)) = A (ix1 j) :=
  concatenate_apply_piece (0 : Fin S2048.rank) [⟨S1024, A⟩, ⟨S1024, B⟩] concatenates_S1024_S1024_S2048_d0 (ix1 (lo j)) 0 (Nat.zero_lt_succ 1) S1024 A rfl rfl 0 rfl (ix1 j)
    (fun b hb => match b with | ⟨0, _⟩ => absurd rfl hb) (Nat.zero_add _)

theorem line_hi (A B : S1024.Idx → EReal) (j : Fin 1024) :
    concatenate S2048 0 [⟨S1024, A⟩, ⟨S1024, B⟩] concatenates_S1024_S1024_S2048_d0 (ix1 (hi j)) = B (ix1 j) :=
  concatenate_apply_piece (0 : Fin S2048.rank) [⟨S1024, A⟩, ⟨S1024, B⟩] concatenates_S1024_S1024_S2048_d0 (ix1 (hi j)) 1 (Nat.succ_lt_succ (Nat.zero_lt_succ 0)) S1024 B rfl rfl 1024 rfl (ix1 j)
    (fun b hb => match b with | ⟨0, _⟩ => absurd rfl hb) rfl

theorem deep_lo (A B : S2x8x1024.Idx → EReal) (i : Fin 2) (s : Fin 8) (j : Fin 1024) :
    concatenate S2x8x2048 2 [⟨S2x8x1024, A⟩, ⟨S2x8x1024, B⟩] concatenates_S2x8x1024_S2x8x1024_S2x8x2048_d2 (ix3 i s (lo j)) = A (ix3 i s j) :=
  concatenate_apply_piece (2 : Fin S2x8x2048.rank) [⟨S2x8x1024, A⟩, ⟨S2x8x1024, B⟩] concatenates_S2x8x1024_S2x8x1024_S2x8x2048_d2 (ix3 i s (lo j)) 0 (Nat.zero_lt_succ 1) S2x8x1024 A rfl rfl 0 rfl (ix3 i s j)
    (fun b hb => match b with | ⟨0, _⟩ => rfl | ⟨1, _⟩ => rfl | ⟨2, _⟩ => absurd rfl hb) (Nat.zero_add _)

theorem deep_hi (A B : S2x8x1024.Idx → EReal) (i : Fin 2) (s : Fin 8) (j : Fin 1024) :
    concatenate S2x8x2048 2 [⟨S2x8x1024, A⟩, ⟨S2x8x1024, B⟩] concatenates_S2x8x1024_S2x8x1024_S2x8x2048_d2 (ix3 i s (hi j)) = B (ix3 i s j) :=
  concatenate_apply_piece (2 : Fin S2x8x2048.rank) [⟨S2x8x1024, A⟩, ⟨S2x8x1024, B⟩] concatenates_S2x8x1024_S2x8x1024_S2x8x2048_d2 (ix3 i s (hi j)) 1 (Nat.succ_lt_succ (Nat.zero_lt_succ 0)) S2x8x1024 B rfl rfl 1024 rfl (ix3 i s j)
    (fun b hb => match b with | ⟨0, _⟩ => rfl | ⟨1, _⟩ => rfl | ⟨2, _⟩ => absurd rfl hb) rfl

/-- The states' groups side by side, at an element. -/
theorem flat_h (H : S16x16x64.Idx → EReal) (i : Fin 2) (s : Fin 8) (g : Fin 16) (n : Fin 64) :
    shapeCast S2x8x1024 H shapeCasts_S16x16x64_S2x8x1024 (ix3 i s (jj g n)) = H (ix3 ⟨8 * i.val + s.val, by omega⟩ g n) := by
  refine shapeCast_apply H shapeCasts_S16x16x64_S2x8x1024 _ _ ?_
  rw [Shape.rowMajor_val_three, Shape.rowMajor_val_three]
  show ((8 * i.val + s.val) * 16 + g.val) * 64 + n.val = (i.val * 8 + s.val) * 1024 + (64 * g.val + n.val)
  omega

theorem flat_a (A : S16x64.Idx → EReal) (g : Fin 16) (n : Fin 64) : shapeCast S1024 A shapeCasts_S16x64_S1024 (ix1 (jj g n)) = A (ix2 g n) := by
  refine shapeCast_apply A shapeCasts_S16x64_S1024 _ _ ?_
  rw [Shape.rowMajor_val_two, Shape.rowMajor_val_one]
  show g.val * 64 + n.val = 64 * g.val + n.val
  omega

/-- A line given to each of eight streams, at an element. -/
theorem eight (x : S2048.Idx → EReal) (s : Fin 8) (j : Fin 2048) :
    broadcastInDim S8x2048 ![0, 1] bcast_S1x2048_S8x2048_0_1 (broadcastInDim S1x2048 ![1] bcast_S2048_S1x2048_1 x) (ix2 s j) = x (ix1 j) := by
  pointwise

/-- The input's products with the input weights: of a mode's group only. -/
theorem drive_sum (A : S16x64x16.Idx → EReal) (x : Fin 256 → EReal) (g : Fin 16) (n : Fin 64) :
    ∑ i : Fin 256, x i * wide A (ix2 i (jj g n)) = ∑ c : Fin 16, A (ix3 g n c) * x (kk g c) := by
  refine sum_group (kk g) (fun a b h => ?_) _ _ (fun c => ?_) (fun i hi => ?_)
  · have := congrArg Fin.val h
    have : 16 * g.val + a.val = 16 * g.val + b.val := this
    exact Fin.ext (by omega)
  · rw [wide_apply, eye_self, mul_one, mul_comm]
  · have hi' : i = kk ⟨i.val / 16, by omega⟩ ⟨i.val % 16, by omega⟩ := Fin.ext (by show i.val = 16 * (i.val / 16) + i.val % 16; omega)
    have hg : (⟨i.val / 16, by omega⟩ : Fin 16) ≠ g := fun h => hi ⟨⟨i.val % 16, by omega⟩, by rw [← h]; exact hi'.symm⟩
    rw [hi', wide_apply, eye_off _ _ hg, mul_zero, mul_zero]

/-- The modes' products with the read-out weights: of a channel's group only. -/
theorem read_sum (C : S16x16x64.Idx → EReal) (x : Fin 1024 → EReal) (g c : Fin 16) :
    ∑ j : Fin 1024, x j * tall C (ix2 j (kk g c)) = ∑ n : Fin 64, C (ix3 g c n) * x (jj g n) := by
  refine sum_group (jj g) (fun a b h => ?_) _ _ (fun n => ?_) (fun j hj => ?_)
  · have := congrArg Fin.val h
    have : 64 * g.val + a.val = 64 * g.val + b.val := this
    exact Fin.ext (by omega)
  · rw [tall_apply, eye_self, mul_one, mul_comm]
  · have hj' : j = jj ⟨j.val / 64, by omega⟩ ⟨j.val % 64, by omega⟩ := Fin.ext (by show j.val = 64 * (j.val / 64) + j.val % 64; omega)
    have hg : (⟨j.val / 64, by omega⟩ : Fin 16) ≠ g := fun h => hj ⟨⟨j.val % 64, by omega⟩, by rw [← h]; exact hj'.symm⟩
    rw [hj', tall_apply, eye_off _ _ hg, mul_zero, mul_zero]

/-- The same for weights with their sign changed. -/
theorem read_sum_neg (C : S16x16x64.Idx → EReal) (x : Fin 1024 → EReal) (g c : Fin 16) :
    ∑ j : Fin 1024, x j * Host.negf (F := Ideal) (φ := .f32) (tall C) (ix2 j (kk g c)) = ∑ n : Fin 64, -C (ix3 g c n) * x (jj g n) := by
  refine sum_group (jj g) (fun a b h => ?_) _ _ (fun n => ?_) (fun j hj => ?_)
  · have := congrArg Fin.val h
    have : 64 * g.val + a.val = 64 * g.val + b.val := this
    exact Fin.ext (by omega)
  · show x (jj g n) * -(tall C (ix2 (jj g n) (kk g c))) = _
    rw [tall_apply, eye_self, mul_one, mul_comm]
  · have hj' : j = jj ⟨j.val / 64, by omega⟩ ⟨j.val % 64, by omega⟩ := Fin.ext (by show j.val = 64 * (j.val / 64) + j.val % 64; omega)
    have hg : (⟨j.val / 64, by omega⟩ : Fin 16) ≠ g := fun h => hj ⟨⟨j.val % 64, by omega⟩, by rw [← h]; exact hj'.symm⟩
    show x j * -(tall C (ix2 j (kk g c))) = 0
    rw [hj', tall_apply, eye_off _ _ hg, mul_zero, neg_zero, mul_zero]

end Cert.S5Host
-- ==== Proof.S5Final.lean ====
module

public import proofs.«01_k».proof.Proof.S5Blocks
public import proofs.«01_k».proof.Proof.ProjOut

/-! The s5 mixer: the results of the kernel's run are the reference's. -/

@[expose] public section

set_option maxRecDepth 16384

noncomputable section

namespace Cert.S5Final

open Idealize.ShloMosaic Idealize.ShloMosaic.TcCoe
open Cert.Kernel7Ideal Cert.Kernel7Ideal.Gen Cert.S5Math Cert.S5Loop Cert.S5Body Cert.S5Host

variable (m : (ℓ : Loc nD τ sig) → Buf (Elt Ideal) ℓ) (c : Dev nD) (t : Fin cfg0.N)

/-- The half of the streams that a grid point works on. -/
def half : Fin 2 := ⟨t.val, by have h : t.val < 2 := t.isLt; exact h⟩

/-- A stream of that half among all streams. -/
def stream (s : Fin 8) : Fin 16 := ⟨8 * (half t).val + s.val, by omega⟩

theorem blk0 (r : Fin 512) (k : Fin 256) : iblk m c 0 t (ix3 0 r k) = V m c main_v91 (ix3 (half t) r k) := by
  show V m c main_v91 (((cfg0.win 0).blk t).view.emb (ix3 0 r k)) = _
  congr 1
  funext a
  apply Fin.ext
  refine (Pipeline.Window.rect_emb_val (cfg0.win 0) t (ix3 0 r k) a).trans ?_
  have hx : (cfg0.win 0).index t = ![t.val, 0, 0] := (by decide +kernel : ∀ t : Fin grid0.N, cc0_transform_0 (grid0.coords t) = ![t.val, 0, 0]) t
  rw [hx]
  match a with
  | ⟨0, _⟩ => show t.val * 1 + 0 = t.val; omega
  | ⟨1, _⟩ => show 0 * 512 + r.val = r.val; omega
  | ⟨2, _⟩ => show 0 * 256 + k.val = k.val; omega

theorem blk1 (s : Fin 8) (j : Fin 2048) : iblk m c 1 t (ix3 0 s j) = V m c main_v88 (ix3 (half t) s j) := by
  show V m c main_v88 (((cfg0.win 1).blk t).view.emb (ix3 0 s j)) = _
  congr 1
  funext a
  apply Fin.ext
  refine (Pipeline.Window.rect_emb_val (cfg0.win 1) t (ix3 0 s j) a).trans ?_
  have hx : (cfg0.win 1).index t = ![t.val, 0, 0] := (by decide +kernel : ∀ t : Fin grid0.N, cc0_transform_1 (grid0.coords t) = ![t.val, 0, 0]) t
  rw [hx]
  match a with
  | ⟨0, _⟩ => show t.val * 1 + 0 = t.val; omega
  | ⟨1, _⟩ => show 0 * 8 + s.val = s.val; omega
  | ⟨2, _⟩ => show 0 * 2048 + j.val = j.val; omega

theorem blk2 (i : Fin 256) (j : Fin 2048) : iblk m c 2 t (ix2 i j) = V m c main_v63 (ix2 i j) := by
  show V m c main_v63 (((cfg0.win 2).blk t).view.emb (ix2 i j)) = _
  congr 1
  funext a
  apply Fin.ext
  refine (Pipeline.Window.rect_emb_val (cfg0.win 2) t (ix2 i j) a).trans ?_
  have hx : (cfg0.win 2).index t = ![0, 0] := (by decide +kernel : ∀ t : Fin grid0.N, cc0_transform_2 (grid0.coords t) = ![0, 0]) t
  rw [hx]
  match a with
  | ⟨0, _⟩ => show 0 * 256 + i.val = i.val; omega
  | ⟨1, _⟩ => show 0 * 2048 + j.val = j.val; omega

theorem blk3 (j : Fin 2048) (k : Fin 256) : iblk m c 3 t (ix2 j k) = V m c main_v80 (ix2 j k) := by
  show V m c main_v80 (((cfg0.win 3).blk t).view.emb (ix2 j k)) = _
  congr 1
  funext a
  apply Fin.ext
  refine (Pipeline.Window.rect_emb_val (cfg0.win 3) t (ix2 j k) a).trans ?_
  have hx : (cfg0.win 3).index t = ![0, 0] := (by decide +kernel : ∀ t : Fin grid0.N, cc0_transform_3 (grid0.coords t) = ![0, 0]) t
  rw [hx]
  match a with
  | ⟨0, _⟩ => show 0 * 2048 + j.val = j.val; omega
  | ⟨1, _⟩ => show 0 * 256 + k.val = k.val; omega

theorem blk4 (s : Fin 8) (j : Fin 2048) : iblk m c 4 t (ix2 s j) = V m c main_v85 (ix2 s j) := by
  show V m c main_v85 (((cfg0.win 4).blk t).view.emb (ix2 s j)) = _
  congr 1
  funext a
  apply Fin.ext
  refine (Pipeline.Window.rect_emb_val (cfg0.win 4) t (ix2 s j) a).trans ?_
  have hx : (cfg0.win 4).index t = ![0, 0] := (by decide +kernel : ∀ t : Fin grid0.N, cc0_transform_4 (grid0.coords t) = ![0, 0]) t
  rw [hx]
  match a with
  | ⟨0, _⟩ => show 0 * 8 + s.val = s.val; omega
  | ⟨1, _⟩ => show 0 * 2048 + j.val = j.val; omega

theorem blk5 (k : Fin 256) : iblk m c 5 t (ix2 0 k) = V m c main_v92 (ix2 0 k) := by
  show V m c main_v92 (((cfg0.win 5).blk t).view.emb (ix2 0 k)) = _
  congr 1
  funext a
  apply Fin.ext
  refine (Pipeline.Window.rect_emb_val (cfg0.win 5) t (ix2 0 k) a).trans ?_
  have hx : (cfg0.win 5).index t = ![0, 0] := (by decide +kernel : ∀ t : Fin grid0.N, cc0_transform_5 (grid0.coords t) = ![0, 0]) t
  rw [hx]
  match a with
  | ⟨0, _⟩ => rfl
  | ⟨1, _⟩ => show 0 * 256 + k.val = k.val; omega

theorem blk6 (k : Fin 256) (n : Fin 512) : iblk m c 6 t (ix2 k n) = V m c main_v93 (ix2 k n) := by
  show V m c main_v93 (((cfg0.win 6).blk t).view.emb (ix2 k n)) = _
  congr 1
  funext a
  apply Fin.ext
  refine (Pipeline.Window.rect_emb_val (cfg0.win 6) t (ix2 k n) a).trans ?_
  have hx : (cfg0.win 6).index t = ![0, 0] := (by decide +kernel : ∀ t : Fin grid0.N, cc0_transform_6 (grid0.coords t) = ![0, 0]) t
  rw [hx]
  match a with
  | ⟨0, _⟩ => show 0 * 256 + k.val = k.val; omega
  | ⟨1, _⟩ => show 0 * 512 + n.val = n.val; omega

theorem blk7 (n : Fin 512) : iblk m c 7 t (ix2 0 n) = V m c main_v94 (ix2 0 n) := by
  show V m c main_v94 (((cfg0.win 7).blk t).view.emb (ix2 0 n)) = _
  congr 1
  funext a
  apply Fin.ext
  refine (Pipeline.Window.rect_emb_val (cfg0.win 7) t (ix2 0 n) a).trans ?_
  have hx : (cfg0.win 7).index t = ![0, 0] := (by decide +kernel : ∀ t : Fin grid0.N, cc0_transform_7 (grid0.coords t) = ![0, 0]) t
  rw [hx]
  match a with
  | ⟨0, _⟩ => rfl
  | ⟨1, _⟩ => show 0 * 512 + n.val = n.val; omega

/-- The reference's state before the first step. -/
def start : Cert.Reference7Ideal.Step.State Ideal :=
  Cert.Reference7Ideal.Step.init (F := Ideal) (Hr m c) (Hi m c) (U m c) (Lr m c) (Li m c) (Ld m c) (Br m c) (Bi m c)

/-- The input at a grid point, a row being a step of a stream. -/
theorem in_apply (q : ℕ) (hq : q < 64) (s : Fin 8) (k : Fin 256) : iblk m c 0 t (ix3 0 (row q s) k) = U m c (ix3 (stream t s) ⟨q, hq⟩ k) := by
  have e : row q s = ⟨8 * q + s.val, by omega⟩ := Fin.ext (Nat.mod_eq_of_lt (by omega))
  rw [blk0, e]
  exact V_u m c (half t) ⟨q, hq⟩ s k

/-- A grid point's modes are the reference's. -/
theorem modes (s : Fin 8) (g : Fin 16) (n : Fin 64) (q : ℕ) (hq : q ≤ 64) :
    modeAt (iblk m c 0 t) (iblk m c 1 t) (iblk m c 2 t) (iblk m c 4 t) s (jj g n) q = Cert.S5Ref.modeOf (start m c) (stream t s) g n q := by
  have a1 : (iblk m c 4 t : Vec Ideal S8x2048 .f32) (ix2 s (lo (jj g n))) = ar m c (ix2 g n) := by
    rw [blk4, V_a, eight, line_lo, flat_a]
  have a2 : (iblk m c 4 t : Vec Ideal S8x2048 .f32) (ix2 s (hi (jj g n))) = ai m c (ix2 g n) := by
    rw [blk4, V_a, eight, line_hi, flat_a]
  have h1 : (iblk m c 1 t : Vec Ideal S1x8x2048 .f32) (ix3 0 s (lo (jj g n))) = Hr m c (ix3 (stream t s) g n) := by
    rw [blk1, V_h, deep_lo, flat_h]
    rfl
  have h2 : (iblk m c 1 t : Vec Ideal S1x8x2048 .f32) (ix3 0 s (hi (jj g n))) = Hi m c (ix3 (stream t s) g n) := by
    rw [blk1, V_h, deep_hi, flat_h]
    rfl
  unfold modeAt
  rw [a1, a2, h1, h2]
  refine mode_congr _ _ _ _ _ _ _ 64 (fun k hk => ?_) (fun k hk => ?_) q hq
  · rw [dif_pos hk]
    refine Eq.trans ?_ (Cert.S5Ref.drive_re (U m c) (Lr m c) (Li m c) (Ld m c) (Br m c) (Bi m c) ⟨k, hk⟩ (stream t s) g n).symm
    refine Eq.trans (Finset.sum_congr rfl fun i _ => congr (congrArg HMul.hMul (in_apply m c t k hk s i)) ((blk2 m c t i (lo (jj g n))).trans ?_))
      (drive_sum (bbr m c) (fun i => U m c (ix3 (stream t s) ⟨k, hk⟩ i)) g n)
    rw [V_bb, cols_lo]
  · rw [dif_pos hk]
    refine Eq.trans ?_ (Cert.S5Ref.drive_im (U m c) (Lr m c) (Li m c) (Ld m c) (Br m c) (Bi m c) ⟨k, hk⟩ (stream t s) g n).symm
    refine Eq.trans (Finset.sum_congr rfl fun i _ => congr (congrArg HMul.hMul (in_apply m c t k hk s i)) ((blk2 m c t i (hi (jj g n))).trans ?_))
      (drive_sum (bbi m c) (fun i => U m c (ix3 (stream t s) ⟨k, hk⟩ i)) g n)
    rw [V_bb, cols_hi]

/-- The reference's state after the last step. -/
def final : Cert.Reference7Ideal.Step.State Ideal := Cert.S5Ref.it (start m c) 64

/-- A row's states are the reference's. -/
theorem states_lo (q : Fin 64) (s : Fin 8) (g : Fin 16) (n : Fin 64) :
    states c t (iblk m c 0 t) (iblk m c 1 t) (iblk m c 2 t) (iblk m c 4 t) (row q.val s) (lo (jj g n)) = (final m c).main_v51_7 (ix4 q (stream t s) g n) := by
  rw [(ends c t (iblk m c 0 t) (iblk m c 1 t) (iblk m c 2 t) (iblk m c 4 t)).2.2.1 q.val s (jj g n) q.isLt, modes m c t s g n _ (by omega)]
  exact (Cert.S5Ref.it_all (start m c) (stream t s) g n 64 (le_refl _) q q.isLt).1.symm

theorem states_hi (q : Fin 64) (s : Fin 8) (g : Fin 16) (n : Fin 64) :
    states c t (iblk m c 0 t) (iblk m c 1 t) (iblk m c 2 t) (iblk m c 4 t) (row q.val s) (hi (jj g n)) = (final m c).main_v51_8 (ix4 q (stream t s) g n) := by
  rw [(ends c t (iblk m c 0 t) (iblk m c 1 t) (iblk m c 2 t) (iblk m c 4 t)).2.2.2 q.val s (jj g n) q.isLt, modes m c t s g n _ (by omega)]
  exact (Cert.S5Ref.it_all (start m c) (stream t s) g n 64 (le_refl _) q q.isLt).2.symm

/-- A row's read-out with the direct term. -/
def mixed (x0 : Vec Ideal S1x512x256 .f32) (x1 : Vec Ideal S1x8x2048 .f32) (x2 : Vec Ideal S256x2048 .bf16) (x4 : Vec Ideal S8x2048 .f32)
    (x3 : Vec Ideal S2048x256 .bf16) (x5 : Vec Ideal S1x256 .f32) (r : Fin 512) (k : Fin 256) : EReal :=
  (∑ j : Fin 2048, states c t x0 x1 x2 x4 r j * x3 (ix2 j k)) + x5 (ix2 0 k) * x0 (ix3 0 r k)

/-- A row's read-out with the direct term is the reference's. -/
theorem read_apply (q : Fin 64) (s : Fin 8) (k : Fin 256) :
    mixed c t (iblk m c 0 t) (iblk m c 1 t) (iblk m c 2 t) (iblk m c 4 t) (iblk m c 3 t) (iblk m c 5 t) (row q.val s) k
      = Cert.S5Ref.readout (final m c).main_v51_7 (final m c).main_v51_8 (U m c) (Cr m c) (Ci m c) (D m c) (ix3 (stream t s) q k) := by
  have hk : k = kk ⟨k.val / 16, by omega⟩ ⟨k.val % 16, by omega⟩ := Fin.ext (by show k.val = 16 * (k.val / 16) + k.val % 16; omega)
  generalize (⟨k.val / 16, by omega⟩ : Fin 16) = g at hk
  generalize (⟨k.val % 16, by omega⟩ : Fin 16) = d at hk
  subst hk
  rw [Cert.S5Ref.readout_apply _ _ _ _ _ _ (stream t s) q g d (kk g d) rfl]
  refine congr (congrArg HAdd.hAdd ((sum_halves _).trans (congr (congrArg HAdd.hAdd ?_) ?_))) (congr (congrArg HMul.hMul ((blk5 m c t (kk g d)).trans (V_d m c g d))) (in_apply m c t q.val q.isLt s (kk g d)))
  · refine Eq.trans (Finset.sum_congr rfl fun j _ => congrArg (states c t (iblk m c 0 t) (iblk m c 1 t) (iblk m c 2 t) (iblk m c 4 t) (row q.val s) (lo j) * ·) ((blk3 m c t (lo j) (kk g d)).trans ?_))
      ((read_sum (Cr m c) (fun j => states c t (iblk m c 0 t) (iblk m c 1 t) (iblk m c 2 t) (iblk m c 4 t) (row q.val s) (lo j)) g d).trans
        (Finset.sum_congr rfl fun n _ => congrArg (Cr m c (ix3 g d n) * ·) (states_lo m c t q s g n)))
    rw [V_cc, rows_lo]
  · refine Eq.trans (Finset.sum_congr rfl fun j _ => congrArg (states c t (iblk m c 0 t) (iblk m c 1 t) (iblk m c 2 t) (iblk m c 4 t) (row q.val s) (hi j) * ·) ((blk3 m c t (hi j) (kk g d)).trans ?_))
      ((read_sum_neg (Ci m c) (fun j => states c t (iblk m c 0 t) (iblk m c 1 t) (iblk m c 2 t) (iblk m c 4 t) (row q.val s) (hi j)) g d).trans
        (Finset.sum_congr rfl fun n _ => congrArg (-Ci m c (ix3 g d n) * ·) (states_hi m c t q s g n)))
    rw [V_cc, rows_hi]

/-- One element of the first output block is the reference's. -/
theorem left8 (q : Fin 64) (s : Fin 8) (n : Fin 256) : (dats m 0 c).after 8 t (ix3 0 (row q.val s) n) =
    Cert.Reference7Ideal.Step.R_main_v92 (F := Ideal) (final m c) (U m c) (Cr m c) (Ci m c) (D m c) (Gw m c) (Gb m c) (ix3 (half t) ⟨8 * q.val + s.val, by omega⟩ n) := by
  rw [after0_8, Cert.S5Ref.out_apply]
  refine (out8_apply c t m (row q.val s) n).trans ?_
  unfold outElem
  refine congr (congr (congr (congr (congrArg glu (funext fun k => read_apply m c t q s k)) (funext fun k => ?_)) (funext fun k => ?_)) ?_) ?_
  · rw [blk6, V_gw]
  · rw [blk6, V_gw]
  · rw [blk7, V_gb]
  · rw [blk7, V_gb]

/-- The first result after the run. -/
theorem final8 : (dats m 0 c).arrAt 8 cfg0.N = Cert.Reference7Ideal.Step.R_main_v92 (F := Ideal) (final m c) (U m c) (Cr m c) (Ci m c) (D m c) (Gw m c) (Gb m c) := by
  generalize hR : Cert.Reference7Ideal.Step.R_main_v92 (F := Ideal) (final m c) (U m c) (Cr m c) (Ci m c) (D m c) (Gw m c) (Gb m c) = R
  refine (dats m 0 c).arrAt_eq_of_covers 8 R (by decide +kernel) (fun t hf y => ?_)
  obtain ⟨r, n, hy⟩ := ProjOut.split_idx y
  have e : ((cfg0.win 8).blk t).view.emb (ix3 0 r n) = (ix3 (half t) r n : S2x512x256.Idx) := by
    funext a
    apply Fin.ext
    refine (Pipeline.Window.rect_emb_val (cfg0.win 8) t (ix3 0 r n) a).trans ?_
    have hx : (cfg0.win 8).index t = ![t.val, 0, 0] := (by decide +kernel : ∀ t : Fin grid0.N, cc0_transform_8 (grid0.coords t) = ![t.val, 0, 0]) t
    rw [hx]
    match a with
    | ⟨0, _⟩ => show t.val * 1 + 0 = t.val; omega
    | ⟨1, _⟩ => show 0 * 512 + r.val = r.val; omega
    | ⟨2, _⟩ => show 0 * 256 + n.val = n.val; omega
  have hr : r = row (r.val / 8) ⟨r.val % 8, by omega⟩ := Fin.ext (by show r.val = (8 * (r.val / 8) + r.val % 8) % 512; omega)
  have hr' : (⟨8 * (r.val / 8) + r.val % 8, by omega⟩ : Fin 512) = r := Fin.ext (by show 8 * (r.val / 8) + r.val % 8 = r.val; omega)
  have h := left8 m c t ⟨r.val / 8, by omega⟩ ⟨r.val % 8, by omega⟩ n
  rw [(congrArg _ hy).trans e, ← hR]
  blk_simp
  rw [hy]
  refine (congrArg (fun i => (dats m 0 c).after 8 t (ix3 0 i n)) hr).trans (h.trans ?_)
  exact congrArg (fun i => Cert.Reference7Ideal.Step.R_main_v92 (F := Ideal) (final m c) (U m c) (Cr m c) (Ci m c) (D m c) (Gw m c) (Gb m c) (ix3 (half t) i n)) hr'

/-- An index of a block of states. -/
theorem split_state (y : (⟨3, ![1, 8, 2048]⟩ : Shape).Idx) : ∃ (s : Fin 8) (j : Fin 2048), y = ix3 0 s j :=
  ⟨y 1, y 2, by
    funext a
    match a with
    | ⟨0, _⟩ => exact Fin.ext (by show (y 0).val = 0; have h : (y 0).val < 1 := (y 0).isLt; omega)
    | ⟨1, _⟩ => rfl
    | ⟨2, _⟩ => rfl⟩

/-- The states after the run, at an element of a block. -/
theorem left9 (s : Fin 8) (j : Fin 2048) : (dats m 0 c).after 9 t (ix3 0 s j) = Cert.Reference7Ideal.Step.R_main_v95 (F := Ideal) (final m c) (ix3 (half t) s j) := by
  rw [after0_9, Cert.S5Ref.last_eq]
  by_cases h : j.val < 1024
  · have hj : j = lo (jj ⟨j.val / 64, by omega⟩ ⟨j.val % 64, by omega⟩) := Fin.ext (by show j.val = 64 * (j.val / 64) + j.val % 64; omega)
    generalize (⟨j.val / 64, by omega⟩ : Fin 16) = g at hj
    generalize (⟨j.val % 64, by omega⟩ : Fin 64) = n at hj
    subst hj
    refine (out9_lo c t m s (jj g n)).trans ?_
    rw [modes m c t s g n 64 (le_refl _)]
    refine Eq.trans ?_ ((deep_lo _ _ (half t) s (jj g n)).trans (flat_h _ (half t) s g n)).symm
    exact (Cert.S5Ref.it_modes (start m c) (stream t s) g n 64 (le_refl _)).1.symm
  · have hj : j = hi (jj ⟨(j.val - 1024) / 64, by omega⟩ ⟨(j.val - 1024) % 64, by omega⟩) :=
      Fin.ext (by show j.val = 1024 + (64 * ((j.val - 1024) / 64) + (j.val - 1024) % 64); omega)
    generalize (⟨(j.val - 1024) / 64, by omega⟩ : Fin 16) = g at hj
    generalize (⟨(j.val - 1024) % 64, by omega⟩ : Fin 64) = n at hj
    subst hj
    refine (out9_hi c t m s (jj g n)).trans ?_
    rw [modes m c t s g n 64 (le_refl _)]
    refine Eq.trans ?_ ((deep_hi _ _ (half t) s (jj g n)).trans (flat_h _ (half t) s g n)).symm
    exact (Cert.S5Ref.it_modes (start m c) (stream t s) g n 64 (le_refl _)).2.symm

/-- The second result after the run. -/
theorem final9 : (dats m 0 c).arrAt 9 cfg0.N = Cert.Reference7Ideal.Step.R_main_v95 (F := Ideal) (final m c) := by
  generalize hR : Cert.Reference7Ideal.Step.R_main_v95 (F := Ideal) (final m c) = R
  refine (dats m 0 c).arrAt_eq_of_covers 9 R (by decide +kernel) (fun t hf y => ?_)
  obtain ⟨s, j, hy⟩ := split_state y
  have e : ((cfg0.win 9).blk t).view.emb (ix3 0 s j) = (ix3 (half t) s j : S2x8x2048.Idx) := by
    funext a
    apply Fin.ext
    refine (Pipeline.Window.rect_emb_val (cfg0.win 9) t (ix3 0 s j) a).trans ?_
    have hx : (cfg0.win 9).index t = ![t.val, 0, 0] := (by decide +kernel : ∀ t : Fin grid0.N, cc0_transform_9 (grid0.coords t) = ![t.val, 0, 0]) t
    rw [hx]
    match a with
    | ⟨0, _⟩ => show t.val * 1 + 0 = t.val; omega
    | ⟨1, _⟩ => show 0 * 8 + s.val = s.val; omega
    | ⟨2, _⟩ => show 0 * 2048 + j.val = j.val; omega
  rw [(congrArg _ hy).trans e, ← hR]
  blk_simp
  rw [hy]
  exact left9 m c t s j

end Cert.S5Final
-- ==== Proof.S5Run.lean ====
module

public import proofs.«01_k».proof.Proof.S5Ref
public import proofs.«01_k».proof.Proof.Gen.Reference7Ideal.Run

/-! The s5 mixer's reference, as run: its results are read of the state after 64 steps. -/

@[expose] public section

set_option maxRecDepth 16384

noncomputable section

namespace Cert.S5Run

open Idealize.ShloMosaic Idealize.ShloMosaic.TcCoe Idealize.SL.Sem Idealize.ShloMosaic.StableHlo
open Cert.Reference7Ideal Cert.Reference7Ideal.Gen Cert.Reference7Ideal.Value
open Cert.Reference7Ideal.Step (State step init)

/-- The buffers hold the state, the drives, the multipliers and the step's number. -/
structure Holds (V : Valuation τ sig (Elt Ideal)) (s : State Ideal) (j : ℕ) : Prop where
  lastRe : V (Proc.devRef .tc main_v51_5) = s.main_v51_5
  lastIm : V (Proc.devRef .tc main_v51_6) = s.main_v51_6
  allRe : V (Proc.devRef .tc main_v51_7) = s.main_v51_7
  allIm : V (Proc.devRef .tc main_v51_8) = s.main_v51_8
  driveRe : V (Proc.devRef .tc main_v51_0) = s.main_v51_0
  driveIm : V (Proc.devRef .tc main_v51_1) = s.main_v51_1
  multRe : V (Proc.devRef .tc main_v51_2) = s.main_v51_2
  multIm : V (Proc.devRef .tc main_v51_3) = s.main_v51_3
  number : V (Proc.devRef .tc main_v51_4) = constantI S_ 32 (BitVec.ofNat 32 j)

variable {V : Valuation τ sig (Elt Ideal)} {s : State Ideal} {j : ℕ}

/-- The new state's real parts. -/
theorem new_re (h : Holds V s j) : res_main_while0b_v105 V = (step j s).main_v51_5 := by
  unfold res_main_while0b_v105
  rw [h.driveRe, h.multRe, h.multIm, h.lastRe, h.lastIm, h.number]
  rfl

/-- The new state's imaginary parts. -/
theorem new_im (h : Holds V s j) : res_main_while0b_v113 V = (step j s).main_v51_6 := by
  unfold res_main_while0b_v113
  rw [h.driveIm, h.multRe, h.multIm, h.lastRe, h.lastIm, h.number]
  rfl

/-- The real parts of all states so far. -/
theorem new_all_re (h : Holds V s j) : step_main_v51_7 V = (step j s).main_v51_7 := by
  unfold step_main_v51_7
  rw [new_re h, h.allRe, h.number]
  rfl

/-- The imaginary parts of all states so far. -/
theorem new_all_im (h : Holds V s j) : step_main_v51_8 V = (step j s).main_v51_8 := by
  unfold step_main_v51_8
  rw [new_im h, h.allIm, h.number]
  rfl

/-- The step's number grows by one. -/
theorem new_number (h : Holds V s j) : step_main_v51_4 V = constantI S_ 32 (BitVec.ofNat 32 (j + 1)) := by
  unfold step_main_v51_4
  rw [h.number]
  funext i
  show BitVec.ofNat 32 j + 1#32 = BitVec.ofNat 32 (j + 1)
  simp only [BitVec.ofNat_add]

/-- One step. -/
theorem holds_step (h : Holds V s j) : Holds (STEP V) (step j s) (j + 1) where
  lastRe := (STEP_main_v51_5 V).trans (new_re h)
  lastIm := (STEP_main_v51_6 V).trans (new_im h)
  allRe := (STEP_main_v51_7 V).trans (new_all_re h)
  allIm := (STEP_main_v51_8 V).trans (new_all_im h)
  number := (STEP_main_v51_4 V).trans (new_number h)
  driveRe := (STEP_main_v51_0 V).trans h.driveRe
  driveIm := (STEP_main_v51_1 V).trans h.driveIm
  multRe := (STEP_main_v51_2 V).trans h.multRe
  multIm := (STEP_main_v51_3 V).trans h.multIm

variable (m : (ℓ : Loc nD τ sig) → Buf (Elt Ideal) ℓ) (c : Dev nD)

/-- The state before the first step. -/
abbrev start : State Ideal :=
  init (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxRecDepth 65536 in
set_option maxHeartbeats 600000 in
/-- What the lines before the loop leave. -/
theorem holds_start : Holds (entryContents preI m c) (start m c) 0 := by
  constructor <;> (simp only [entryContents, afterL_cons, afterL_nil]; after_reads_simp) <;> rfl

/-- The buffers after `k` steps. -/
theorem holds_it : ∀ k, Holds (STEP^[k] (entryContents preI m c)) (Cert.S5Ref.it (start m c) k) k
  | 0 => holds_start m c
  | k + 1 => by
    rw [Function.iterate_succ_apply']
    exact holds_step (holds_it k)

/-- The outputs. -/
theorem outputs : out_main_v92 (STEP^[64] (entryContents preI m c)) =
    Cert.Reference7Ideal.Step.R_main_v92 (Cert.S5Ref.it (start m c) 64) (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have h := holds_it m c 64
  unfold out_main_v92 Cert.Reference7Ideal.Step.R_main_v92
  rw [h.allRe, h.allIm, iter_main_arg0 m c 64, iter_main_arg8 m c 64, iter_main_arg9 m c 64, iter_main_arg10 m c 64, iter_main_arg11 m c 64, iter_main_arg12 m c 64]
  rfl

/-- The last states. -/
theorem last_states : out_main_v95 (STEP^[64] (entryContents preI m c)) = Cert.Reference7Ideal.Step.R_main_v95 (Cert.S5Ref.it (start m c) 64) := by
  have h := holds_it m c 64
  unfold out_main_v95 Cert.Reference7Ideal.Step.R_main_v95
  rw [h.lastRe, h.lastIm]

end Cert.S5Run
-- ==== Proof.S5Claim.lean ====
module

public import proofs.«01_k».proof.Defs
public import proofs.«01_k».proof.Proof.S5Final
public import proofs.«01_k».proof.Proof.Gen.Kernel7
public import proofs.«01_k».proof.Proof.Gen.Kernel7.Frame
public import proofs.«01_k».proof.Proof.Gen.Reference7Ideal
public import proofs.«01_k».proof.Proof.S5Run
public import Idealize.ShloMosaic.Lib.Quiescent

/-! The claims about the s5 mixer: the kernel and its reference compute the same outputs and the same last states. -/

@[expose] public section

set_option maxRecDepth 16384

noncomputable section

namespace Cert.S5Claim

open Idealize.ShloMosaic Idealize.SL.Sem Idealize.ShloMosaic.TcCoe

/-- The reference terminates with its arguments unchanged and its semaphores at zero. -/
theorem reference_frame : Cert.quiescent_Reference7Ideal := fun m ρ _ =>
  (θ_run Cert.Reference7Ideal.defs _ _).mono (fun r h => ⟨fun c => (h c).2.2, sem_eq_zero_of_no_sems (by decide) r.2⟩) (Cert.Reference7Ideal.Value.run (F := Ideal) m ρ)

/-- From the same arguments the kernel and the reference end with the same outputs and the same last states. -/
theorem value : Cert.algebraic_Kernel7Ideal_Reference7Ideal := by
  intro m g m' g' h hag
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N,
    Cert.Kernel7Ideal.Value.run_blocks m g,
    (θ_run Cert.Reference7Ideal.defs _ _).mono (fun r hr c => ?_) (Cert.Reference7Ideal.Value.run (F := Ideal) m' g')⟩
  obtain ⟨r0, r1, hargs⟩ := hr c
  obtain ⟨e0, e1, e2, e3, e4, e5, e6, e7, e8, e9, e10, e11, e12⟩ := hag c
  have e : Cert.S5Run.start m' c = Cert.S5Final.start m c := by
    unfold Cert.S5Run.start Cert.S5Final.start
    rw [e0, e1, e2, e3, e4, e5, e6, e7]
  refine ⟨r0.trans (((Cert.S5Run.outputs m' c).trans ?_).trans (Cert.S5Final.final8 m c).symm), r1.trans (((Cert.S5Run.last_states m' c).trans ?_).trans (Cert.S5Final.final9 m c).symm), hargs⟩
  · rw [e, e0, e8, e9, e10, e11, e12]
    rfl
  · rw [e]
    rfl

end Cert.S5Claim
-- ==== Proof.lean ====
module

public import proofs.«01_k».proof.Defs
public import proofs.«01_k».proof.Proof.AttnClaim
public import proofs.«01_k».proof.Proof.ProjClaim
public import proofs.«01_k».proof.Proof.FfnClaim
public import proofs.«01_k».proof.Proof.OutClaim
public import proofs.«01_k».proof.Proof.ConvClaim
public import proofs.«01_k».proof.Proof.CacheClaim
public import proofs.«01_k».proof.Proof.S5Claim
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Step
public import proofs.«01_k».proof.Proof.Gen.Pre_experts_in_range

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.AttnPre.facts, Cert.Pre_experts_in_range.Gen.facts, Cert.CacheClaim.facts,
  fun m ρ _ => Cert.Kernel.Gen.frame m ρ, fun m ρ _ => Cert.KernelIdeal.Gen.frame m ρ, fun m ρ _ => Cert.KernelIdeal.Gen.frame m ρ,
  Cert.AttnClaim.reference_frame, fun m ρ _ => Cert.AttnClaim.reference_frame m ρ trivial,
  fun m ρ _ => Cert.Kernel2.Gen.frame m ρ, fun m ρ _ => Cert.Kernel2Ideal.Gen.frame m ρ, Cert.ProjClaim.reference_frame,
  fun m ρ h => Cert.Kernel3.Gen.frame m ρ (Cert.FfnTable.ok_of_pre m h),
  fun m ρ h => Cert.Kernel3Ideal.Gen.frame m ρ (Cert.FfnTable.ok_of_preI m h),
  Cert.FfnClaim.reference_frame, Cert.FfnClaim.reference_frame_pre,
  fun m ρ _ => Cert.Kernel4.Gen.frame m ρ, fun m ρ _ => Cert.Kernel4Ideal.Gen.frame m ρ, Cert.OutClaim.reference_frame,
  fun m ρ _ => Cert.Kernel5.Gen.frame m ρ, fun m ρ _ => Cert.Kernel5Ideal.Gen.frame m ρ, Cert.ConvClaim.reference_frame,
  fun m ρ _ => Cert.Kernel6.Gen.frame m ρ, fun m ρ _ => Cert.Kernel6Ideal.Gen.frame m ρ, fun m ρ _ => Cert.Kernel6Ideal.Gen.frame m ρ,
  Cert.CacheClaim.reference_frame, fun m ρ _ => Cert.CacheClaim.reference_frame m ρ trivial,
  fun m ρ _ => Cert.Kernel7.Gen.frame m ρ, fun m ρ _ => Cert.Kernel7Ideal.Gen.frame m ρ, Cert.S5Claim.reference_frame,
  trivial, Cert.AttnClaim.value, trivial, Cert.ProjClaim.value, trivial, Cert.FfnClaim.value, trivial, Cert.OutClaim.value, trivial, Cert.ConvClaim.value,
  trivial, Cert.CacheClaim.value, trivial, Cert.S5Claim.value⟩

end Cert.Proof

end
